-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x8960 : Shape := ⟨3, ![3, 256, 8960]⟩
abbrev S_ : Shape := ⟨0, ![]⟩
abbrev S3x256x1536 : Shape := ⟨3, ![3, 256, 1536]⟩
abbrev S8960x1536 : Shape := ⟨2, ![8960, 1536]⟩
abbrev S1 : Shape := ⟨1, ![1]⟩
abbrev S768x8960 : Shape := ⟨2, ![768, 8960]⟩
abbrev S768x1536 : Shape := ⟨2, ![768, 1536]⟩
abbrev S70x128 : Shape := ⟨2, ![70, 128]⟩
abbrev S6x768x256 : Shape := ⟨3, ![6, 768, 256]⟩
abbrev S6x256x1536 : Shape := ⟨3, ![6, 256, 1536]⟩
abbrev S8x256 : Shape := ⟨2, ![8, 256]⟩
abbrev S6 : Shape := ⟨1, ![6]⟩
abbrev S1x768x256 : Shape := ⟨3, ![1, 768, 256]⟩
abbrev S768x256 : Shape := ⟨2, ![768, 256]⟩
abbrev S1x256x1536 : Shape := ⟨3, ![1, 256, 1536]⟩
abbrev S256x1536 : Shape := ⟨2, ![256, 1536]⟩
abbrev S1x32x256 : Shape := ⟨3, ![1, 32, 256]⟩
abbrev S32x256 : Shape := ⟨2, ![32, 256]⟩
abbrev S4x8x256 : Shape := ⟨3, ![4, 8, 256]⟩
abbrev S1x8x256 : Shape := ⟨3, ![1, 8, 256]⟩
abbrev S256 : Shape := ⟨1, ![256]⟩
abbrev S1x256 : Shape := ⟨2, ![1, 256]⟩
abbrev S1x128 : Shape := ⟨2, ![1, 128]⟩
abbrev S1x1x1 : Shape := ⟨3, ![1, 1, 1]⟩
abbrev S8960 : Shape := ⟨1, ![8960]⟩

abbrev nBuf : Space → Nat
  | .hbm => 21
  | .vmem => 9
  | .smem => 4
  | _ => 0

abbrev bufTy : (tb : Table) → Fin (tcTables nBuf tb) → BufTy
  | .hbm, ⟨0, _⟩ => ⟨S3x256x8960, .bf16⟩
  | .hbm, ⟨1, _⟩ => ⟨S_, .f32⟩
  | .hbm, ⟨2, _⟩ => ⟨S3x256x1536, .fp8e4m3⟩
  | .hbm, ⟨3, _⟩ => ⟨S_, .f32⟩
  | .hbm, ⟨4, _⟩ => ⟨S8960x1536, .fp8e4m3⟩
  | .hbm, ⟨5, _⟩ => ⟨S_, .f32⟩
  | .hbm, ⟨6, _⟩ => ⟨S8960x1536, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S768x8960, .bf16⟩
  | .hbm, ⟨11, _⟩ => ⟨S768x1536, .fp8e4m3⟩
  | .hbm, ⟨12, _⟩ => ⟨S768x1536, .bf16⟩
  | .hbm, ⟨13, _⟩ => ⟨S8960x1536, .f32⟩
  | .hbm, ⟨14, _⟩ => ⟨S70x128, .f32⟩
  | .hbm, ⟨15, _⟩ => ⟨S1, .f32⟩
  | .hbm, ⟨16, _⟩ => ⟨S768x8960, .fp8e5m2⟩
  | .hbm, ⟨17, _⟩ => ⟨S3x256x1536, .bf16⟩
  | .hbm, ⟨18, _⟩ => ⟨S8960, .f32⟩
  | .hbm, ⟨19, _⟩ => ⟨S_, .f32⟩
  | .hbm, ⟨20, _⟩ => ⟨S3x256x8960, .fp8e5m2⟩
  | .local _ .vmem, ⟨0, _⟩ => ⟨S70x128, .f32⟩
  | .local _ .vmem, ⟨1, _⟩ => ⟨S6x768x256, .bf16⟩
  | .local _ .vmem, ⟨2, _⟩ => ⟨S6x256x1536, .fp8e4m3⟩
  | .local _ .vmem, ⟨3, _⟩ => ⟨S6x256x1536, .f32⟩
  | .local _ .vmem, ⟨4, _⟩ => ⟨S6x768x256, .fp8e5m2⟩
  | .local _ .vmem, ⟨5, _⟩ => ⟨S768x1536, .fp8e4m3⟩
  | .local _ .vmem, ⟨6, _⟩ => ⟨S768x1536, .f32⟩
  | .local _ .vmem, ⟨7, _⟩ => ⟨S768x1536, .bf16⟩
  | .local _ .vmem, ⟨8, _⟩ => ⟨S8x256, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S3x256x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg3_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg4_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
@[reducible] def k0_t1_loop : Scf.Loop 32 :=
  let c0_i32_64 : BitVec 32 := 0#32
  let c35_i32 : BitVec 32 := 35#32
  let v78 : BitVec 32 := Scalar.addi c0_i32_64 c35_i32
  let c1_i32_65 : BitVec 32 := 1#32
  ⟨c0_i32_64, v78, c1_i32_65⟩
def k0_cond1 (k0_t1 : Fin k0_t1_loop.trips) : BitVec 1 :=
  let c0_i32_64 : BitVec 32 := 0#32
  let c1_i32_65 : BitVec 32 := 1#32
  let arg27 : BitVec 32 := Scf.iv c0_i32_64 c1_i32_65 k0_t1
  let c2_i32_90 : BitVec 32 := 2#32
  let v108 : BitVec 1 := Scalar.cmpi .sge arg27 c2_i32_90
  let v109 : BitVec 32 := Scalar.extui v108
  let c0_i32_91 : BitVec 32 := 0#32
  let v110 : BitVec 1 := Scalar.cmpi .ne v109 c0_i32_91
  v110

def k0_mult5 (k0_t1 : Fin k0_t1_loop.trips) : BitVec 32 :=
  let c0_i32_64 : BitVec 32 := 0#32
  let c1_i32_65 : BitVec 32 := 1#32
  let arg27 : BitVec 32 := Scf.iv c0_i32_64 c1_i32_65 k0_t1
  let c2_i32_315 : BitVec 32 := 2#32
  let v747 : BitVec 32 := Scalar.subi arg27 c2_i32_315
  let c256_i32_317 : BitVec 32 := 256#32
  let v749 : BitVec 32 := Scalar.muli v747 c256_i32_317
  v749
def k0_off1 (k0_t1 : Fin k0_t1_loop.trips) : Fin 1 → Nat :=
  let c0_i32_64 : BitVec 32 := 0#32
  let c1_i32_65 : BitVec 32 := 1#32
  let arg27 : BitVec 32 := Scf.iv c0_i32_64 c1_i32_65 k0_t1
  let c2_i32_315 : BitVec 32 := 2#32
  let v747 : BitVec 32 := Scalar.subi arg27 c2_i32_315
  let c6_i32_316 : BitVec 32 := 6#32
  let v748 : BitVec 32 := Scalar.remsi v747 c6_i32_316
  ![v748.toNat]
def k0_off2 (k0_t1 : Fin k0_t1_loop.trips) : Fin 2 → Nat :=
  let c0_i32_318 : BitVec 32 := 0#32
  let c0_i32_64 : BitVec 32 := 0#32
  let c1_i32_65 : BitVec 32 := 1#32
  let arg27 : BitVec 32 := Scf.iv c0_i32_64 c1_i32_65 k0_t1
  let c2_i32_315 : BitVec 32 := 2#32
  let v747 : BitVec 32 := Scalar.subi arg27 c2_i32_315
  let c256_i32_317 : BitVec 32 := 256#32
  let v749 : BitVec 32 := Scalar.muli v747 c256_i32_317
  let v750 : BitVec 32 := v749
  ![0, v750.toNat]
def k0_off3 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c2_i32_315 : BitVec 32 := 2#32
  let v747 : BitVec 32 := Scalar.subi arg27 c2_i32_315
  let c6_i32_316 : BitVec 32 := 6#32
  let v748 : BitVec 32 := Scalar.remsi v747 c6_i32_316
  let c0_i32_319 : BitVec 32 := 0#32
  let c0_i32_320 : BitVec 32 := 0#32
  ![v748.toNat, 0, 0]
def k0_off4 (k0_t1 : Fin k0_t1_loop.trips) : Fin 2 → Nat :=
  let c0_i32_64 : BitVec 32 := 0#32
  let c1_i32_65 : BitVec 32 := 1#32
  let arg27 : BitVec 32 := Scf.iv c0_i32_64 c1_i32_65 k0_t1
  let c2_i32_315 : BitVec 32 := 2#32
  let v747 : BitVec 32 := Scalar.subi arg27 c2_i32_315
  let c256_i32_317 : BitVec 32 := 256#32
  let v749 : BitVec 32 := Scalar.muli v747 c256_i32_317
  let v750 : BitVec 32 := v749
  let c0_i32_321 : BitVec 32 := 0#32
  ![v750.toNat, 0]
def k0_off5 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c2_i32_315 : BitVec 32 := 2#32
  let v747 : BitVec 32 := Scalar.subi arg27 c2_i32_315
  let c6_i32_316 : BitVec 32 := 6#32
  let v748 : BitVec 32 := Scalar.remsi v747 c6_i32_316
  let c0_i32_322 : BitVec 32 := 0#32
  let c0_i32_323 : BitVec 32 := 0#32
  ![v748.toNat, 0, 0]
def k0_cond2 (k0_t1 : Fin k0_t1_loop.trips) : BitVec 1 :=
  let c0_i32_64 : BitVec 32 := 0#32
  let c1_i32_65 : BitVec 32 := 1#32
  let arg27 : BitVec 32 := Scf.iv c0_i32_64 c1_i32_65 k0_t1
  let c6_i32_92 : BitVec 32 := 6#32
  let v111 : BitVec 32 := Scalar.addi arg27 c6_i32_92
  let c2_i32_93 : BitVec 32 := 2#32
  let v112 : BitVec 32 := Scalar.subi v111 c2_i32_93
  let c35_i32_94 : BitVec 32 := 35#32
  let v113 : BitVec 1 := Scalar.cmpi .slt v112 c35_i32_94
  let v114 : BitVec 32 := Scalar.extui v113
  let c0_i32_95 : BitVec 32 := 0#32
  let v115 : BitVec 1 := Scalar.cmpi .ne v114 c0_i32_95
  v115

def k0_mult6 (k0_t1 : Fin k0_t1_loop.trips) : BitVec 32 :=
  let c0_i32_64 : BitVec 32 := 0#32
  let c1_i32_65 : BitVec 32 := 1#32
  let arg27 : BitVec 32 := Scf.iv c0_i32_64 c1_i32_65 k0_t1
  let c6_i32_92 : BitVec 32 := 6#32
  let v111 : BitVec 32 := Scalar.addi arg27 c6_i32_92
  let c2_i32_93 : BitVec 32 := 2#32
  let v112 : BitVec 32 := Scalar.subi v111 c2_i32_93
  let c256_i32_316 : BitVec 32 := 256#32
  let v748 : BitVec 32 := Scalar.muli v112 c256_i32_316
  v748
def k0_off6 (k0_t1 : Fin k0_t1_loop.trips) : Fin 1 → Nat :=
  let c0_i32_64 : BitVec 32 := 0#32
  let c1_i32_65 : BitVec 32 := 1#32
  let arg27 : BitVec 32 := Scf.iv c0_i32_64 c1_i32_65 k0_t1
  let c6_i32_92 : BitVec 32 := 6#32
  let v111 : BitVec 32 := Scalar.addi arg27 c6_i32_92
  let c2_i32_93 : BitVec 32 := 2#32
  let v112 : BitVec 32 := Scalar.subi v111 c2_i32_93
  let c6_i32_315 : BitVec 32 := 6#32
  let v747 : BitVec 32 := Scalar.remsi v112 c6_i32_315
  ![v747.toNat]
def k0_off7 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32_92 : BitVec 32 := 6#32
  let v111 : BitVec 32 := Scalar.addi arg27 c6_i32_92
  let c2_i32_93 : BitVec 32 := 2#32
  let v112 : BitVec 32 := Scalar.subi v111 c2_i32_93
  let c6_i32_315 : BitVec 32 := 6#32
  let v747 : BitVec 32 := Scalar.remsi v112 c6_i32_315
  let c0_i32_317 : BitVec 32 := 0#32
  let c0_i32_318 : BitVec 32 := 0#32
  ![v747.toNat, 0, 0]
def k0_off8 (k0_t1 : Fin k0_t1_loop.trips) : Fin 2 → Nat :=
  let c0_i32_319 : BitVec 32 := 0#32
  let c0_i32_64 : BitVec 32 := 0#32
  let c1_i32_65 : BitVec 32 := 1#32
  let arg27 : BitVec 32 := Scf.iv c0_i32_64 c1_i32_65 k0_t1
  let c6_i32_92 : BitVec 32 := 6#32
  let v111 : BitVec 32 := Scalar.addi arg27 c6_i32_92
  let c2_i32_93 : BitVec 32 := 2#32
  let v112 : BitVec 32 := Scalar.subi v111 c2_i32_93
  let c256_i32_316 : BitVec 32 := 256#32
  let v748 : BitVec 32 := Scalar.muli v112 c256_i32_316
  let v749 : BitVec 32 := v748
  ![0, v749.toNat]
def k0_off9 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32_92 : BitVec 32 := 6#32
  let v111 : BitVec 32 := Scalar.addi arg27 c6_i32_92
  let c2_i32_93 : BitVec 32 := 2#32
  let v112 : BitVec 32 := Scalar.subi v111 c2_i32_93
  let c6_i32_315 : BitVec 32 := 6#32
  let v747 : BitVec 32 := Scalar.remsi v112 c6_i32_315
  let c0_i32_320 : BitVec 32 := 0#32
  let c0_i32_321 : BitVec 32 := 0#32
  ![v747.toNat, 0, 0]
def k0_off10 (k0_t1 : Fin k0_t1_loop.trips) : Fin 2 → Nat :=
  let c0_i32_64 : BitVec 32 := 0#32
  let c1_i32_65 : BitVec 32 := 1#32
  let arg27 : BitVec 32 := Scf.iv c0_i32_64 c1_i32_65 k0_t1
  let c6_i32_92 : BitVec 32 := 6#32
  let v111 : BitVec 32 := Scalar.addi arg27 c6_i32_92
  let c2_i32_93 : BitVec 32 := 2#32
  let v112 : BitVec 32 := Scalar.subi v111 c2_i32_93
  let c256_i32_316 : BitVec 32 := 256#32
  let v748 : BitVec 32 := Scalar.muli v112 c256_i32_316
  let v749 : BitVec 32 := v748
  let c0_i32_322 : BitVec 32 := 0#32
  ![v749.toNat, 0]
def k0_mult7 (k0_t1 : Fin k0_t1_loop.trips) : BitVec 32 :=
  let c0_i32_64 : BitVec 32 := 0#32
  let c1_i32_65 : BitVec 32 := 1#32
  let arg27 : BitVec 32 := Scf.iv c0_i32_64 c1_i32_65 k0_t1
  let c256_i32_96 : BitVec 32 := 256#32
  let v116 : BitVec 32 := Scalar.muli arg27 c256_i32_96
  v116
def k0_mult8 (k0_t1 : Fin k0_t1_loop.trips) : BitVec 32 :=
  let c0_i32_64 : BitVec 32 := 0#32
  let c1_i32_65 : BitVec 32 := 1#32
  let arg27 : BitVec 32 := Scf.iv c0_i32_64 c1_i32_65 k0_t1
  let c256_i32_97 : BitVec 32 := 256#32
  let v118 : BitVec 32 := Scalar.muli arg27 c256_i32_97
  v118
def k0_off11 (k0_t1 : Fin k0_t1_loop.trips) : Fin 1 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  ![v107.toNat]
def k0_off12 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let c0_i32_98 : BitVec 32 := 0#32
  let c0_i32_99 : BitVec 32 := 0#32
  ![v107.toNat, 0, 0]
def k0_off13 (k0_t1 : Fin k0_t1_loop.trips) : Fin 2 → Nat :=
  let c0_i32_100 : BitVec 32 := 0#32
  let c0_i32_64 : BitVec 32 := 0#32
  let c1_i32_65 : BitVec 32 := 1#32
  let arg27 : BitVec 32 := Scf.iv c0_i32_64 c1_i32_65 k0_t1
  let c256_i32_96 : BitVec 32 := 256#32
  let v116 : BitVec 32 := Scalar.muli arg27 c256_i32_96
  let v117 : BitVec 32 := v116
  ![0, v117.toNat]
def k0_off14 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v127 : Index := Scalar.indexCast v107
  let c0_104 : Index := 0#32
  let c0_105 : Index := 0#32
  ![v127.toNat, 0, 0]
def k0_off15 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v150 : Index := Scalar.indexCast v107
  let c32 : Index := 32#32
  let c0_112 : Index := 0#32
  ![v150.toNat, 32, 0]
def k0_off16 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v173 : Index := Scalar.indexCast v107
  let c64 : Index := 64#32
  let c0_119 : Index := 0#32
  ![v173.toNat, 64, 0]
def k0_off17 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v196 : Index := Scalar.indexCast v107
  let c96 : Index := 96#32
  let c0_126 : Index := 0#32
  ![v196.toNat, 96, 0]
def k0_off18 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v219 : Index := Scalar.indexCast v107
  let c128 : Index := 128#32
  let c0_133 : Index := 0#32
  ![v219.toNat, 128, 0]
def k0_off19 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v242 : Index := Scalar.indexCast v107
  let c160 : Index := 160#32
  let c0_140 : Index := 0#32
  ![v242.toNat, 160, 0]
def k0_off20 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v265 : Index := Scalar.indexCast v107
  let c192 : Index := 192#32
  let c0_147 : Index := 0#32
  ![v265.toNat, 192, 0]
def k0_off21 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v288 : Index := Scalar.indexCast v107
  let c224 : Index := 224#32
  let c0_154 : Index := 0#32
  ![v288.toNat, 224, 0]
def k0_off22 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v311 : Index := Scalar.indexCast v107
  let c256 : Index := 256#32
  let c0_161 : Index := 0#32
  ![v311.toNat, 256, 0]
def k0_off23 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v334 : Index := Scalar.indexCast v107
  let c288 : Index := 288#32
  let c0_168 : Index := 0#32
  ![v334.toNat, 288, 0]
def k0_off24 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v357 : Index := Scalar.indexCast v107
  let c320 : Index := 320#32
  let c0_175 : Index := 0#32
  ![v357.toNat, 320, 0]
def k0_off25 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v380 : Index := Scalar.indexCast v107
  let c352 : Index := 352#32
  let c0_182 : Index := 0#32
  ![v380.toNat, 352, 0]
def k0_off26 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v403 : Index := Scalar.indexCast v107
  let c384 : Index := 384#32
  let c0_189 : Index := 0#32
  ![v403.toNat, 384, 0]
def k0_off27 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v426 : Index := Scalar.indexCast v107
  let c416 : Index := 416#32
  let c0_196 : Index := 0#32
  ![v426.toNat, 416, 0]
def k0_off28 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v449 : Index := Scalar.indexCast v107
  let c448 : Index := 448#32
  let c0_203 : Index := 0#32
  ![v449.toNat, 448, 0]
def k0_off29 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v472 : Index := Scalar.indexCast v107
  let c480 : Index := 480#32
  let c0_210 : Index := 0#32
  ![v472.toNat, 480, 0]
def k0_off30 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v495 : Index := Scalar.indexCast v107
  let c512 : Index := 512#32
  let c0_217 : Index := 0#32
  ![v495.toNat, 512, 0]
def k0_off31 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v518 : Index := Scalar.indexCast v107
  let c544 : Index := 544#32
  let c0_224 : Index := 0#32
  ![v518.toNat, 544, 0]
def k0_off32 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v541 : Index := Scalar.indexCast v107
  let c576 : Index := 576#32
  let c0_231 : Index := 0#32
  ![v541.toNat, 576, 0]
def k0_off33 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v564 : Index := Scalar.indexCast v107
  let c608 : Index := 608#32
  let c0_238 : Index := 0#32
  ![v564.toNat, 608, 0]
def k0_off34 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v587 : Index := Scalar.indexCast v107
  let c640 : Index := 640#32
  let c0_245 : Index := 0#32
  ![v587.toNat, 640, 0]
def k0_off35 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v610 : Index := Scalar.indexCast v107
  let c672 : Index := 672#32
  let c0_252 : Index := 0#32
  ![v610.toNat, 672, 0]
def k0_off36 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v633 : Index := Scalar.indexCast v107
  let c704 : Index := 704#32
  let c0_259 : Index := 0#32
  ![v633.toNat, 704, 0]
def k0_off37 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v656 : Index := Scalar.indexCast v107
  let c736 : Index := 736#32
  let c0_266 : Index := 0#32
  ![v656.toNat, 736, 0]
def k0_off38 (k0_t1 : Fin k0_t1_loop.trips) (c0_i32_277 : BitVec 32) : Fin 2 → Nat :=
  let c0_i32_64 : BitVec 32 := 0#32
  let c1_i32_65 : BitVec 32 := 1#32
  let arg27 : BitVec 32 := Scf.iv c0_i32_64 c1_i32_65 k0_t1
  let c2_i32_276 : BitVec 32 := 2#32
  let v685 : BitVec 32 := Scalar.muli arg27 c2_i32_276
  let v686 : BitVec 32 := Scalar.addi v685 c0_i32_277
  let v687 : Index := Scalar.indexCast v686
  let c0_278 : Index := 0#32
  ![v687.toNat, 0]
def k0_off39 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let c0_i32_285 : BitVec 32 := 0#32
  let c0_i32_286 : BitVec 32 := 0#32
  ![v107.toNat, 0, 0]
def k0_off40 (k0_t1 : Fin k0_t1_loop.trips) : Fin 2 → Nat :=
  let c0_i32_64 : BitVec 32 := 0#32
  let c1_i32_65 : BitVec 32 := 1#32
  let arg27 : BitVec 32 := Scf.iv c0_i32_64 c1_i32_65 k0_t1
  let c256_i32_96 : BitVec 32 := 256#32
  let v116 : BitVec 32 := Scalar.muli arg27 c256_i32_96
  let v117 : BitVec 32 := v116
  let c0_i32_287 : BitVec 32 := 0#32
  ![v117.toNat, 0]
def k0_off41 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v705 : Index := Scalar.indexCast v107
  let c0_290 : Index := 0#32
  let c0_291 : Index := 0#32
  ![v705.toNat, 0, 0]
def k0_off42 (k0_t1 : Fin k0_t1_loop.trips) : Fin 3 → Nat :=
  let c0_i32_64 : BitVec 32 := 0#32
  let c1_i32_65 : BitVec 32 := 1#32
  let arg27 : BitVec 32 := Scf.iv c0_i32_64 c1_i32_65 k0_t1
  let c6_i32 : BitVec 32 := 6#32
  let v107 : BitVec 32 := Scalar.remsi arg27 c6_i32
  let v708 : Index := Scalar.indexCast v107
  let c0_292 : Index := 0#32
  let c0_293 : Index := 0#32
  ![v708.toNat, 0, 0]
def k0_mult9 : BitVec 32 :=
  let c8448_i32 : BitVec 32 := 8448#32
  c8448_i32
def k0_mult10 : BitVec 32 :=
  let c8704_i32 : BitVec 32 := 8704#32
  c8704_i32
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S70x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S3x256x8960 : Shape := ⟨3, ![3, 256, 8960]⟩
abbrev S_ : Shape := ⟨0, ![]⟩
abbrev S3x256x1536 : Shape := ⟨3, ![3, 256, 1536]⟩
abbrev S8960x1536 : Shape := ⟨2, ![8960, 1536]⟩
abbrev S1 : Shape := ⟨1, ![1]⟩
abbrev S8960 : Shape := ⟨1, ![8960]⟩
abbrev S1x3x256x8960 : Shape := ⟨4, ![1, 3, 256, 8960]⟩
abbrev S1x1x1x1 : Shape := ⟨4, ![1, 1, 1, 1]⟩

abbrev nBuf : Space → Nat
  | .hbm => 16
  | .vmem => 8
  | .smem => 4
  | _ => 0

abbrev bufTy : (tb : Table) → Fin (tcTables nBuf tb) → BufTy
  | .hbm, ⟨0, _⟩ => ⟨S3x256x8960, .bf16⟩
  | .hbm, ⟨1, _⟩ => ⟨S_, .f32⟩
  | .hbm, ⟨2, _⟩ => ⟨S3x256x1536, .fp8e4m3⟩
  | .hbm, ⟨3, _⟩ => ⟨S_, .f32⟩
  | .hbm, ⟨4, _⟩ => ⟨S8960x1536, .fp8e4m3⟩
  | .hbm, ⟨5, _⟩ => ⟨S_, .f32⟩
  | .hbm, ⟨6, _⟩ => ⟨S8960x1536, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S3x256x1536, .bf16⟩
  | .hbm, ⟨11, _⟩ => ⟨S8960x1536, .f32⟩
  | .hbm, ⟨12, _⟩ => ⟨S8960, .f32⟩
  | .hbm, ⟨13, _⟩ => ⟨S1, .f32⟩
  | .hbm, ⟨14, _⟩ => ⟨S3x256x8960, .fp8e5m2⟩
  | .hbm, ⟨15, _⟩ => ⟨S_, .f32⟩
  | .local _ .vmem, ⟨0, _⟩ => ⟨S3x256x8960, .bf16⟩
  | .local _ .vmem, ⟨1, _⟩ => ⟨S3x256x1536, .fp8e4m3⟩
  | .local _ .vmem, ⟨2, _⟩ => ⟨S8960x1536, .fp8e4m3⟩
  | .local _ .vmem, ⟨3, _⟩ => ⟨S8960x1536, .f32⟩
  | .local _ .vmem, ⟨4, _⟩ => ⟨S3x256x1536, .bf16⟩
  | .local _ .vmem, ⟨5, _⟩ => ⟨S8960x1536, .f32⟩
  | .local _ .vmem, ⟨6, _⟩ => ⟨S8960, .f32⟩
  | .local _ .vmem, ⟨7, _⟩ => ⟨S3x256x8960, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S3x256x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v4 : Ref sig .tc := ⟨.hbm, 15, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg11_0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg10_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x256x8960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8960x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8960x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8960x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8960 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x256x8960 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Move.lean ====
/-
  Copies between an array and a buffer, for any kernel: what the core holds of a copy in flight, and the
  steps that issue one, wait for one, load and store through a rectangle of a buffer held in part.
-/
module

public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.Transfers

@[expose] public section

noncomputable section

namespace Move

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} {Λ : Labels}

local notation "𝕄" => MT nD τ sig Unit (Elt F) ℕ (Pipeline.UD sig nD τ) ℕ

/-- The elements of the memref `D` are held, and read as `X`. -/
def Holds (c : Dev nD) {sp : Space} {s : Shape} {e : EltTy} (D : Memref sig .tc sp s e) (X : s.Idx → Elt F e) : sProp 𝕄 :=
  iprop(∃ f : Buf (Elt F) (D.view.loc (c : Thread nD τ)), (D.view.loc (c : Thread nD τ) ↦[D.view.set]{fullShare} f) ∗ ⌜D.view.read (Elt F) f = X⌝)

/-- The elements of the memref `D` are held, whatever they are. -/
def Own (c : Dev nD) {sp : Space} {s : Shape} {e : EltTy} (D : Memref sig .tc sp s e) : sProp 𝕄 :=
  iprop(∃ f : Buf (Elt F) (D.view.loc (c : Thread nD τ)), (D.view.loc (c : Thread nD τ) ↦[D.view.set]{fullShare} f))

/-- The waits the core has recorded, whatever they are. -/
def Owes (c : Dev nD) : sProp 𝕄 := iprop(∃ W, owes (c : Thread nD τ) 0 W)

/-- A share of the array that the block `B` is part of. -/
def Tok (c : Dev nD) {s : Shape} {e : EltTy} (B : Memref sig .tc .hbm s e) (q : PosShare TreeShare)
    (fs : Buf (Elt F) (B.view.loc (c : Thread nD τ))) : sProp 𝕄 :=
  (B.view.loc (c : Thread nD τ) ↦[Finset.univ]{q} fs : sProp 𝕄)

/-- A copy of the block `B` into the slot `D` on cell `sm` is in flight; the rest of the array's share is kept. -/
def Fetching (c : Dev nD) {s : Shape} {e : EltTy} (B : Memref sig .tc .hbm s e) (D : Memref sig .tc .vmem s e) (sm : DmaSem sig)
    (q : PosShare TreeShare) (fs : Buf (Elt F) (B.view.loc (c : Thread nD τ))) : sProp 𝕄 :=
  iprop(Transfers.Flight (countersEmb (U := Pipeline.UD sig nD τ)) (c : Thread nD τ) (.dma sm) () (D.view.dmaCredit)
      iprop(Holds c D (B.view.read (Elt F) fs) ∗ (B.view.loc (c : Thread nD τ) ↦[B.view.set]{q} fs))
    ∗ (B.view.loc (c : Thread nD τ) ↦[Finset.univ \ B.view.set]{q} fs))

/-- A copy of the slot `S`, whose elements read as `X`, into the block `B` on cell `sm` is in flight. -/
def Putting (c : Dev nD) {s : Shape} {e : EltTy} (S : Memref sig .tc .vmem s e) (B : Memref sig .tc .hbm s e) (sm : DmaSem sig)
    (X : s.Idx → Elt F e) : sProp 𝕄 :=
  iprop(Transfers.Flight (countersEmb (U := Pipeline.UD sig nD τ)) (c : Thread nD τ) (.dma sm) () (B.view.dmaCredit)
      iprop(Holds c B X ∗ Own c S))

variable {defs : Defs nD τ sig (Elt F) Λ} {𝒱 : Variants} {c : Dev nD} {bd : Option 𝒱.V}
variable {α : Type} {Q : α → sProp (MT nD τ sig Unit (Elt F) ℕ (Pipeline.UD sig nD τ) ℕ)}

theorem Holds.own {sp : Space} {s : Shape} {e : EltTy} {D : Memref sig .tc sp s e} {X : s.Idx → Elt F e} :
    (Holds c D X : sProp 𝕄) ⊢ Own c D := by
  unfold Holds Own
  iintro ⟨%f, Hf, %hf⟩
  iexists f
  iexact Hf

/-- Elements that read as `X` are those of any contents that read as `X`. -/
theorem Holds.to {sp : Space} {s : Shape} {e : EltTy} {D : Memref sig .tc sp s e} {X : s.Idx → Elt F e}
    {G : Buf (Elt F) (D.view.loc (c : Thread nD τ))} (hG : D.view.read (Elt F) G = X) :
    (Holds c D X : sProp 𝕄) ⊢ (D.view.loc (c : Thread nD τ) ↦[D.view.set]{fullShare} G) := by
  unfold Holds
  iintro ⟨%f, Hf, %hf⟩
  have key : ∀ i ∈ D.view.set, f i = G i := by
    intro i hi
    obtain ⟨x, -, rfl⟩ := Finset.mem_map.mp hi
    have := congrFun (hf.trans hG.symm) x
    rw [View.read_apply, View.read_apply] at this
    exact (cast_inj _).mp this
  have e : (D.view.loc (c : Thread nD τ) ↦[D.view.set]{fullShare} f : sProp 𝕄) = (D.view.loc (c : Thread nD τ) ↦[D.view.set]{fullShare} G) :=
    pointsTo_congr key
  rw [← e]
  iexact Hf

theorem Holds.of {sp : Space} {s : Shape} {e : EltTy} {D : Memref sig .tc sp s e}
    (f : Buf (Elt F) (D.view.loc (c : Thread nD τ))) :
    (D.view.loc (c : Thread nD τ) ↦[D.view.set]{fullShare} f : sProp 𝕄) ⊢ Holds c D (D.view.read (Elt F) f) := by
  unfold Holds
  iintro Hf
  iexists f
  isplitl [Hf]
  · iexact Hf
  · ipureintro; rfl

/-- Issuing a copy in. -/
theorem wp_fetch {s : Shape} {e : EltTy} {B : Memref sig .tc .hbm s e} {D : Memref sig .tc .vmem s e} {sm : DmaSem sig}
    {q : PosShare TreeShare} {fs : Buf (Elt F) (B.view.loc (c : Thread nD τ))}
    {hsrc : B.view.WordExact} {hdst : D.view.WordExact} {hsem : (DmaTarget.here (nD := nD) (τ := τ) (p := .tc) D).Typed .hbm (.dma sm)}
    {k : PUnit → Prog (TpuEff nD τ sig (Elt F) Λ .tc) α} (hpos : 0 < s.numel) :
    (iprop(Own c D ∗ semVal ((c : Thread nD τ), .dma sm) 0 ∗ Tok c B q fs) : sProp 𝕄)
      ⊢ iprop((Fetching c B D sm q fs -∗ wp frame (wpE defs 𝒱 (c : Thread nD τ) bd) Set.univ (k ⟨⟩) Q)
          -∗ wp frame (wpE defs 𝒱 (c : Thread nD τ) bd) Set.univ (.op (.enqueueDmaAs B (.here D) .same (.dma sm) hsrc hdst hsem) k) Q) := by
  unfold Own Tok Fetching
  iintro ⟨⟨%fd, Hd⟩, Hv, Hs⟩ Hk
  icases (pointsTo_split_subset (Finset.subset_univ B.view.set)).1 $$ Hs with ⟨Hb, Hr⟩
  iapply (Transfers.wp_dmaLocal (countersEmb (U := Pipeline.UD sig nD τ)) 𝒱 (c : Thread nD τ) bd (src := B) (dst := D) (via := .same) () (D.view.dmaCredit) rfl
    (View.dmaCredit_pos D.view hpos) (Finset.Subset.refl _)) $$ [Hb Hd Hv]
  · isplitl [Hb]; · iexact Hb
    isplitl [Hd]; · iexact Hd
    iexact Hv
  iintro Hfl
  iapply Hk
  isplitl [Hfl]
  · iapply (Transfers.Flight_mono (countersEmb (U := Pipeline.UD sig nD τ)) (c : Thread nD τ) ?_) $$ Hfl
    iintro ⟨Hd, Hs⟩
    isplitl [Hd]
    · unfold Holds
      iexists _
      isplitl [Hd]; · iexact Hd
      ipureintro
      exact View.read_write_univ _ _
    · iexact Hs
  · iexact Hr

/-- Waiting for a copy in. -/
theorem wp_arrive {s : Shape} {e : EltTy} {B : Memref sig .tc .hbm s e} {D : Memref sig .tc .vmem s e} {sm : DmaSem sig}
    {q : PosShare TreeShare} {fs : Buf (Elt F) (B.view.loc (c : Thread nD τ))}
    {hsrc : B.view.WordExact} {hdst : D.view.WordExact}
    {k : PUnit → Prog (TpuEff nD τ sig (Elt F) Λ .tc) α} :
    (iprop(Fetching c B D sm q fs ∗ Owes c) : sProp 𝕄)
      ⊢ iprop((iprop(Holds c D (B.view.read (Elt F) fs) ∗ semVal ((c : Thread nD τ), .dma sm) 0 ∗ Tok c B q fs ∗ Owes c)
            -∗ wp frame (wpE defs 𝒱 (c : Thread nD τ) bd) Set.univ (k ⟨⟩) Q)
          -∗ wp frame (wpE defs 𝒱 (c : Thread nD τ) bd) Set.univ (.op (.waitDma2 sm B D hsrc hdst) k) Q) := by
  unfold Tok Fetching Owes
  iintro ⟨⟨Hfl, Hr⟩, ⟨%W, HW⟩⟩ Hk
  iapply (Transfers.wp_waitLocal (countersEmb (U := Pipeline.UD sig nD τ)) 𝒱 (c : Thread nD τ) bd (srcw := B) (dstw := D) () rfl) $$ [Hfl HW]
  · isplitl [Hfl]; · iexact Hfl
    iexact HW
  iintro ⟨⟨Hd, Hb⟩, Hv, HW⟩
  iapply Hk
  isplitl [Hd]; · iexact Hd
  isplitl [Hv]; · iexact Hv
  isplitl [Hb Hr]
  · iapply (pointsTo_split_subset (Finset.subset_univ B.view.set)).2 $$ [Hb Hr]
    isplitl [Hb]; · iexact Hb
    iexact Hr
  · iexists _; iexact HW

/-- Issuing a copy out. -/
theorem wp_put {s : Shape} {e : EltTy} {S : Memref sig .tc .vmem s e} {B : Memref sig .tc .hbm s e} {sm : DmaSem sig}
    {X : s.Idx → Elt F e}
    {hsrc : S.view.WordExact} {hdst : B.view.WordExact} {hsem : (DmaTarget.here (nD := nD) (τ := τ) (p := .tc) B).Typed .vmem (.dma sm)}
    {k : PUnit → Prog (TpuEff nD τ sig (Elt F) Λ .tc) α} (hpos : 0 < s.numel) :
    (iprop(Holds c S X ∗ semVal ((c : Thread nD τ), .dma sm) 0 ∗ Own c B) : sProp 𝕄)
      ⊢ iprop((Putting c S B sm X -∗ wp frame (wpE defs 𝒱 (c : Thread nD τ) bd) Set.univ (k ⟨⟩) Q)
          -∗ wp frame (wpE defs 𝒱 (c : Thread nD τ) bd) Set.univ (.op (.enqueueDmaAs S (.here B) .same (.dma sm) hsrc hdst hsem) k) Q) := by
  unfold Own Putting
  conv => lhs; unfold Holds
  iintro ⟨⟨%f, Hs, %hf⟩, Hv, ⟨%fd, Hd⟩⟩ Hk
  iapply (Transfers.wp_dmaLocal (countersEmb (U := Pipeline.UD sig nD τ)) 𝒱 (c : Thread nD τ) bd (src := S) (dst := B) (via := .same) () (B.view.dmaCredit) rfl
    (View.dmaCredit_pos B.view hpos) (Finset.Subset.refl _)) $$ [Hs Hd Hv]
  · isplitl [Hs]; · iexact Hs
    isplitl [Hd]; · iexact Hd
    iexact Hv
  iintro Hfl
  iapply Hk
  iapply (Transfers.Flight_mono (countersEmb (U := Pipeline.UD sig nD τ)) (c : Thread nD τ) ?_) $$ Hfl
  iintro ⟨Hd, Hs⟩
  isplitl [Hd]
  · unfold Holds
    iexists _
    isplitl [Hd]; · iexact Hd
    ipureintro
    exact (View.read_write_univ _ _).trans hf
  · unfold Own
    iexists _
    iexact Hs

/-- Waiting for a copy out. -/
theorem wp_landed {s : Shape} {e : EltTy} {S : Memref sig .tc .vmem s e} {B : Memref sig .tc .hbm s e} {sm : DmaSem sig}
    {X : s.Idx → Elt F e}
    {hsrc : S.view.WordExact} {hdst : B.view.WordExact}
    {k : PUnit → Prog (TpuEff nD τ sig (Elt F) Λ .tc) α} :
    (iprop(Putting c S B sm X ∗ Owes c) : sProp 𝕄)
      ⊢ iprop((iprop(Holds c B X ∗ Own c S ∗ semVal ((c : Thread nD τ), .dma sm) 0 ∗ Owes c)
            -∗ wp frame (wpE defs 𝒱 (c : Thread nD τ) bd) Set.univ (k ⟨⟩) Q)
          -∗ wp frame (wpE defs 𝒱 (c : Thread nD τ) bd) Set.univ (.op (.waitDma2 sm S B hsrc hdst) k) Q) := by
  unfold Putting Owes
  iintro ⟨Hfl, ⟨%W, HW⟩⟩ Hk
  iapply (Transfers.wp_waitLocal (countersEmb (U := Pipeline.UD sig nD τ)) 𝒱 (c : Thread nD τ) bd (srcw := S) (dstw := B) () rfl) $$ [Hfl HW]
  · isplitl [Hfl]; · iexact Hfl
    iexact HW
  iintro ⟨⟨Hd, Hb⟩, Hv, HW⟩
  iapply Hk
  isplitl [Hd]; · iexact Hd
  isplitl [Hb]; · iexact Hb
  isplitl [Hv]; · iexact Hv
  iexists _; iexact HW

/-- A block of a buffer, its leading axis of one place dropped. -/
abbrev part {sp : Space} {s : Shape} {e : EltTy} (M : Memref sig .tc sp s e) (R : Rect s) (hR : ∀ a, R.stride a = 1)
    (s' : Shape) (hq : R.shape.Squeezes s') : Memref sig .tc sp s' e := (M.slice R hR).squeeze s' hq

theorem part_set {sp : Space} {s : Shape} {e : EltTy} (M : Memref sig .tc sp s e) (R : Rect s) (hR : ∀ a, R.stride a = 1)
    (s' : Shape) (hq : R.shape.Squeezes s') : (part M R hR s' hq).view.set = R.set.map M.view.emb := by
  show ((M.view.slice R).reshape s' _).set = _
  rw [View.set_reshape, View.set_slice]

/-- Loading a rectangle that lies within a held block of the same buffer. -/
theorem wp_loadIn {cs : CoreSpace} {s s' : Shape} {e : EltTy} {M : Memref sig .tc cs s e} {r R : Rect s} {hR : ∀ a, R.stride a = 1}
    {hq : R.shape.Squeezes s'}
    {X : s'.Idx → Elt F e} {Y : r.shape.Idx → Elt F e} {hl : M.view.LoadsAt r.toLoadRect}
    {k : (r.shape.Idx → Elt F e) → Prog (TpuEff nD τ sig (Elt F) Λ .tc) α}
    (hr : r.set ⊆ R.set)
    (hY : ∀ f : M.view.ty.Contents (Elt F), (part M R hR s' hq).view.read (Elt F) f = X → (M.access r).read (Elt F) f = Y) :
    (Holds c (part M R hR s' hq) X : sProp 𝕄)
      ⊢ iprop((Holds c (part M R hR s' hq) X -∗ wp frame (wpE defs 𝒱 (c : Thread nD τ) bd) Set.univ (k Y) Q)
          -∗ wp frame (wpE defs 𝒱 (c : Thread nD τ) bd) Set.univ (.op (.load M r.toLoadRect hl) k) Q) := by
  unfold Holds
  iintro ⟨%f, Hf, %hf⟩ Hk
  have h3 := hY f hf
  subst h3
  have hS : (M.access r).set ⊆ (part M R hR s' hq).view.set := by
    rw [part_set]
    show (M.view.slice r).set ⊆ _
    rw [View.set_slice]
    exact Finset.map_subset_map.mpr hr
  iapply (wp_load_rect 𝒱 (c : Thread nD τ) bd Set.univ (m := M) (r := r) (S := (part M R hR s' hq).view.set) (f := f) hS) $$ Hf
  iintro Hf
  iapply Hk
  iexists f
  isplitl [Hf]; · iexact Hf
  ipureintro; exact hf

/-- Storing a whole rectangle that lies within a held block of the same buffer. -/
theorem wp_storeIn {cs : CoreSpace} {s s' : Shape} {e : EltTy} {M : Memref sig .tc cs s e} {r R : Rect s} {hR : ∀ a, R.stride a = 1}
    {hq : R.shape.Squeezes s'}
    {X X' : s'.Idx → Elt F e} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ .tc) α}
    (hr : r.set ⊆ R.set)
    (hY : ∀ f : M.view.ty.Contents (Elt F), (part M R hR s' hq).view.read (Elt F) f = X →
      (part M R hR s' hq).view.read (Elt F) ((M.access r).write (Elt F) f w Finset.univ) = X') :
    (Holds c (part M R hR s' hq) X : sProp 𝕄)
      ⊢ iprop((Holds c (part M R hR s' hq) X' -∗ wp frame (wpE defs 𝒱 (c : Thread nD τ) bd) Set.univ (k ⟨⟩) Q)
          -∗ wp frame (wpE defs 𝒱 (c : Thread nD τ) bd) Set.univ (.op (.store M r w Finset.univ hx hm) k) Q) := by
  unfold Holds
  iintro ⟨%f, Hf, %hf⟩ Hk
  have hS : (M.access r).setOn Finset.univ ⊆ (part M R hR s' hq).view.set := by
    rw [part_set]
    show (M.view.slice r).set ⊆ _
    rw [View.set_slice]
    exact Finset.map_subset_map.mpr hr
  iapply (wp_store 𝒱 (c : Thread nD τ) bd Set.univ (m := M) (r := r) (S := (part M R hR s' hq).view.set) (f := f) hS) $$ Hf
  iintro Hf
  iapply Hk
  iexists _
  isplitl [Hf]; · iexact Hf
  ipureintro; exact hY f hf

/-- The elements of `M` whose coordinate on axis `a` is at least `lo` are held, whatever they are. -/
def Rest (c : Dev nD) {sp : Space} {s : Shape} {e : EltTy} (M : Memref sig .tc sp s e) (a : Fin s.rank) (lo : ℕ) : sProp 𝕄 :=
  iprop(∃ f : Buf (Elt F) (M.view.loc (c : Thread nD τ)),
    (M.view.loc (c : Thread nD τ) ↦[(Finset.univ.filter fun x : s.Idx => lo ≤ (x a).val).map M.view.emb]{fullShare} f))

/-- The elements of `M` whose coordinate on axis `a` is below `hi` are held at the contents `G`. -/
def Done (c : Dev nD) {sp : Space} {s : Shape} {e : EltTy} (M : Memref sig .tc sp s e) (a : Fin s.rank) (hi : ℕ)
    (G : Buf (Elt F) (M.view.loc (c : Thread nD τ))) : sProp 𝕄 :=
  (M.view.loc (c : Thread nD τ) ↦[(Finset.univ.filter fun x : s.Idx => (x a).val < hi).map M.view.emb]{fullShare} G : sProp 𝕄)

/-- Taking the next block off the elements still to be written. -/
theorem rest_split {sp : Space} {s : Shape} {e : EltTy} {M : Memref sig .tc sp s e} {a : Fin s.rank} {lo hi : ℕ} {R : Rect s}
    {hR : ∀ a, R.stride a = 1} (hlo : lo ≤ hi) (hset : ∀ x : s.Idx, x ∈ R.set ↔ lo ≤ (x a).val ∧ (x a).val < hi) :
    (Rest c M a lo : sProp 𝕄) ⊢ iprop(Own c (M.slice R hR) ∗ Rest c M a hi) := by
  unfold Rest Own
  iintro ⟨%f, Hf⟩
  have hsub : (M.slice R hR).view.set ⊆ (Finset.univ.filter fun x : s.Idx => lo ≤ (x a).val).map M.view.emb := by
    show (M.view.slice R).set ⊆ _
    rw [View.set_slice]
    exact Finset.map_subset_map.mpr fun x hx => Finset.mem_filter.mpr ⟨Finset.mem_univ _, ((hset x).mp hx).1⟩
  have hrest : ((Finset.univ.filter fun x : s.Idx => lo ≤ (x a).val).map M.view.emb) \ (M.slice R hR).view.set
      = (Finset.univ.filter fun x : s.Idx => hi ≤ (x a).val).map M.view.emb := by
    show _ \ (M.view.slice R).set = _
    rw [View.set_slice, ← Finset.map_sdiff]
    congr 1
    ext x
    simp only [Finset.mem_sdiff, Finset.mem_filter, Finset.mem_univ, true_and, hset]
    omega
  icases (pointsTo_split_subset hsub).1 $$ Hf with ⟨Hb, Hr⟩
  rw [hrest]
  isplitl [Hb]
  · iexists f; iexact Hb
  · iexists f; iexact Hr

/-- Adding the block just written to the elements written before it. -/
theorem done_join {sp : Space} {s : Shape} {e : EltTy} {M : Memref sig .tc sp s e} {a : Fin s.rank} {lo hi : ℕ} {R : Rect s}
    {hR : ∀ a, R.stride a = 1} {G : Buf (Elt F) (M.view.loc (c : Thread nD τ))} {X : R.shape.Idx → Elt F e}
    (hlo : lo ≤ hi) (hset : ∀ x : s.Idx, x ∈ R.set ↔ lo ≤ (x a).val ∧ (x a).val < hi)
    (hG : (M.slice R hR).view.read (Elt F) G = X) :
    (iprop(Done c M a lo G ∗ Holds c (M.slice R hR) X) : sProp 𝕄) ⊢ Done c M a hi G := by
  have hset' : (M.slice R hR).view.set = (Finset.univ.filter fun x : s.Idx => lo ≤ (x a).val ∧ (x a).val < hi).map M.view.emb := by
    show (M.view.slice R).set = _
    rw [View.set_slice]
    congr 1
    ext x
    simp only [Finset.mem_filter, Finset.mem_univ, true_and, hset]
  unfold Done
  iintro ⟨Hd, Hh⟩
  ihave Hh := (Holds.to hG) $$ Hh
  rw [hset']
  have hu : (Finset.univ.filter fun x : s.Idx => (x a).val < hi).map M.view.emb
      = ((Finset.univ.filter fun x : s.Idx => (x a).val < lo).map M.view.emb)
        ∪ ((Finset.univ.filter fun x : s.Idx => lo ≤ (x a).val ∧ (x a).val < hi).map M.view.emb) := by
    rw [← Finset.map_union]
    congr 1
    ext x
    simp only [Finset.mem_union, Finset.mem_filter, Finset.mem_univ, true_and]
    omega
  rw [hu]
  iapply (pointsTo_union (by
    rw [Finset.disjoint_map]
    refine Finset.disjoint_filter.mpr fun x _ h1 h2 => ?_
    omega)).2
  isplitl [Hd]
  · iexact Hd
  · iexact Hh

theorem rest_zero {sp : Space} {s : Shape} {e : EltTy} {M : Memref sig .tc sp s e} {a : Fin s.rank} :
    (Own c M : sProp 𝕄) ⊢ Rest c M a 0 := by
  unfold Rest Own
  have h : (Finset.univ.filter fun x : s.Idx => 0 ≤ (x a).val) = Finset.univ := by ext; simp
  rw [h]
  exact .rfl

theorem done_zero {sp : Space} {s : Shape} {e : EltTy} {M : Memref sig .tc sp s e} {a : Fin s.rank}
    {G : Buf (Elt F) (M.view.loc (c : Thread nD τ))} : (iprop(emp) : sProp 𝕄) ⊢ Done c M a 0 G := by
  unfold Done
  have h : (Finset.univ.filter fun x : s.Idx => (x a).val < 0) = ∅ := by ext; simp
  rw [h, Finset.map_empty, pointsTo_empty]

theorem done_all {sp : Space} {s : Shape} {e : EltTy} {M : Memref sig .tc sp s e} {a : Fin s.rank} {hi : ℕ} (h : s.size a ≤ hi)
    {G : Buf (Elt F) (M.view.loc (c : Thread nD τ))} :
    (Done c M a hi G : sProp 𝕄) ⊢ (M.view.loc (c : Thread nD τ) ↦[M.view.set]{fullShare} G) := by
  unfold Done
  have h : (Finset.univ.filter fun x : s.Idx => (x a).val < hi) = Finset.univ := by
    ext x; simp only [Finset.mem_filter, Finset.mem_univ, true_and, iff_true]; exact lt_of_lt_of_le (x a).isLt h
  rw [h]
  exact .rfl

/-- A step issuing a copy in, its three operands under other spellings. -/
theorem wp_fetch' {s : Shape} {e : EltTy} {B B' : Memref sig .tc .hbm s e} {D D' : Memref sig .tc .vmem s e} {sm sm' : DmaSem sig}
    {q : PosShare TreeShare} {fs : Buf (Elt F) (B.view.loc (c : Thread nD τ))}
    {hsrc : B'.view.WordExact} {hdst : D'.view.WordExact} {hsem : (DmaTarget.here (nD := nD) (τ := τ) (p := .tc) D').Typed .hbm (.dma sm')}
    {k : PUnit → Prog (TpuEff nD τ sig (Elt F) Λ .tc) α} (hB : B' = B) (hD : D' = D) (hs : sm' = sm) (hpos : 0 < s.numel) :
    (iprop(Own c D ∗ semVal ((c : Thread nD τ), .dma sm) 0 ∗ Tok c B q fs) : sProp 𝕄)
      ⊢ iprop((Fetching c B D sm q fs -∗ wp frame (wpE defs 𝒱 (c : Thread nD τ) bd) Set.univ (k ⟨⟩) Q)
          -∗ wp frame (wpE defs 𝒱 (c : Thread nD τ) bd) Set.univ (.op (.enqueueDmaAs B' (.here D') .same (.dma sm') hsrc hdst hsem) k) Q) := by
  subst hB hD hs
  exact wp_fetch hpos

/-- A step waiting for a copy in, its operands under other spellings. -/
theorem wp_arrive' {s : Shape} {e : EltTy} {B B' : Memref sig .tc .hbm s e} {D D' : Memref sig .tc .vmem s e} {sm sm' : DmaSem sig}
    {q : PosShare TreeShare} {fs : Buf (Elt F) (B.view.loc (c : Thread nD τ))}
    {hsrc : B'.view.WordExact} {hdst : D'.view.WordExact}
    {k : PUnit → Prog (TpuEff nD τ sig (Elt F) Λ .tc) α} (hB : B' = B) (hD : D' = D) (hs : sm' = sm) :
    (iprop(Fetching c B D sm q fs ∗ Owes c) : sProp 𝕄)
      ⊢ iprop((iprop(Holds c D (B.view.read (Elt F) fs) ∗ semVal ((c : Thread nD τ), .dma sm) 0 ∗ Tok c B q fs ∗ Owes c)
            -∗ wp frame (wpE defs 𝒱 (c : Thread nD τ) bd) Set.univ (k ⟨⟩) Q)
          -∗ wp frame (wpE defs 𝒱 (c : Thread nD τ) bd) Set.univ (.op (.waitDma2 sm' B' D' hsrc hdst) k) Q) := by
  subst hB hD hs
  exact wp_arrive

/-- A step issuing a copy out, its operands under other spellings. -/
theorem wp_put' {s : Shape} {e : EltTy} {S S' : Memref sig .tc .vmem s e} {B B' : Memref sig .tc .hbm s e} {sm sm' : DmaSem sig}
    {X : s.Idx → Elt F e}
    {hsrc : S'.view.WordExact} {hdst : B'.view.WordExact} {hsem : (DmaTarget.here (nD := nD) (τ := τ) (p := .tc) B').Typed .vmem (.dma sm')}
    {k : PUnit → Prog (TpuEff nD τ sig (Elt F) Λ .tc) α} (hS : S' = S) (hB : B' = B) (hs : sm' = sm) (hpos : 0 < s.numel) :
    (iprop(Holds c S X ∗ semVal ((c : Thread nD τ), .dma sm) 0 ∗ Own c B) : sProp 𝕄)
      ⊢ iprop((Putting c S B sm X -∗ wp frame (wpE defs 𝒱 (c : Thread nD τ) bd) Set.univ (k ⟨⟩) Q)
          -∗ wp frame (wpE defs 𝒱 (c : Thread nD τ) bd) Set.univ (.op (.enqueueDmaAs S' (.here B') .same (.dma sm') hsrc hdst hsem) k) Q) := by
  subst hS hB hs
  exact wp_put hpos

/-- A step waiting for a copy out, its operands under other spellings. -/
theorem wp_landed' {s : Shape} {e : EltTy} {S S' : Memref sig .tc .vmem s e} {B B' : Memref sig .tc .hbm s e} {sm sm' : DmaSem sig}
    {X : s.Idx → Elt F e}
    {hsrc : S'.view.WordExact} {hdst : B'.view.WordExact}
    {k : PUnit → Prog (TpuEff nD τ sig (Elt F) Λ .tc) α} (hS : S' = S) (hB : B' = B) (hs : sm' = sm) :
    (iprop(Putting c S B sm X ∗ Owes c) : sProp 𝕄)
      ⊢ iprop((iprop(Holds c B X ∗ Own c S ∗ semVal ((c : Thread nD τ), .dma sm) 0 ∗ Owes c)
            -∗ wp frame (wpE defs 𝒱 (c : Thread nD τ) bd) Set.univ (k ⟨⟩) Q)
          -∗ wp frame (wpE defs 𝒱 (c : Thread nD τ) bd) Set.univ (.op (.waitDma2 sm' S' B' hsrc hdst) k) Q) := by
  subst hS hB hs
  exact wp_landed

/-- Loading a rectangle of a buffer held whole. -/
theorem wp_loadWhole {cs : CoreSpace} {s : Shape} {e : EltTy} {M : Memref sig .tc cs s e} {r : Rect s}
    {X : s.Idx → Elt F e} {Y : r.shape.Idx → Elt F e} {hl : M.view.LoadsAt r.toLoadRect}
    {k : (r.shape.Idx → Elt F e) → Prog (TpuEff nD τ sig (Elt F) Λ .tc) α} (hY : (fun j => X (r.emb j)) = Y) :
    (Holds c M X : sProp 𝕄)
      ⊢ iprop((Holds c M X -∗ wp frame (wpE defs 𝒱 (c : Thread nD τ) bd) Set.univ (k Y) Q)
          -∗ wp frame (wpE defs 𝒱 (c : Thread nD τ) bd) Set.univ (.op (.load M r.toLoadRect hl) k) Q) := by
  unfold Holds
  iintro ⟨%f, Hf, %hf⟩ Hk
  have h3 : (M.access r).read (Elt F) f = Y := by rw [← hY, ← hf]; rfl
  subst h3
  iapply (wp_load_rect 𝒱 (c : Thread nD τ) bd Set.univ (m := M) (r := r) (S := M.view.set) (f := f) (View.set_slice_subset _ r)) $$ Hf
  iintro Hf
  iapply Hk
  iexists f
  isplitl [Hf]; · iexact Hf
  ipureintro; exact hf

/-- Storing a rectangle of a buffer held whole. -/
theorem wp_storeWhole {cs : CoreSpace} {s : Shape} {e : EltTy} {M : Memref sig .tc cs s e} {r : Rect s}
    {X X' : s.Idx → Elt F e} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ .tc) α}
    (h1 : ∀ j, X' (r.emb j) = w j) (h2 : ∀ x, x ∉ r.set → X' x = X x) :
    (Holds c M X : sProp 𝕄)
      ⊢ iprop((Holds c M X' -∗ wp frame (wpE defs 𝒱 (c : Thread nD τ) bd) Set.univ (k ⟨⟩) Q)
          -∗ wp frame (wpE defs 𝒱 (c : Thread nD τ) bd) Set.univ (.op (.store M r w Finset.univ hx hm) k) Q) := by
  unfold Holds
  iintro ⟨%f, Hf, %hf⟩ Hk
  iapply (wp_store 𝒱 (c : Thread nD τ) bd Set.univ (m := M) (r := r) (S := M.view.set) (f := f) (View.set_slice_subset _ r)) $$ Hf
  iintro Hf
  iapply Hk
  iexists _
  isplitl [Hf]; · iexact Hf
  ipureintro
  funext x
  rw [View.read_apply]
  by_cases hx : x ∈ r.set
  · rw [← Rect.map_emb_univ] at hx
    obtain ⟨j, -, rfl⟩ := Finset.mem_map.mp hx
    rw [h1]
    show _root_.cast _ ((M.access r).write (Elt F) f w Finset.univ ((M.access r).emb j)) = _
    rw [View.write_emb_of_mem _ _ (Finset.mem_univ j)]
    simp
  · rw [h2 x hx, ← hf, View.read_apply]
    rw [View.write_of_not_mem]
    intro hmem
    apply hx
    have : M.view.emb x ∈ (M.view.slice r).set := hmem
    rw [View.set_slice] at this
    exact (Finset.mem_map' _).mp this

/-- A copy of the slot `S`, whose elements read as `X`, into the block `B` on cell `sm` is in flight; half the
slot's share is kept, so the core may go on reading the slot. -/
def Lending (c : Dev nD) {s : Shape} {e : EltTy} (S : Memref sig .tc .vmem s e) (B : Memref sig .tc .hbm s e) (sm : DmaSem sig)
    (X : s.Idx → Elt F e) : sProp 𝕄 :=
  iprop(∃ f : Buf (Elt F) (S.view.loc (c : Thread nD τ)),
    Transfers.Flight (countersEmb (U := Pipeline.UD sig nD τ)) (c : Thread nD τ) (.dma sm) () (B.view.dmaCredit)
      iprop(Holds c B X ∗ (S.view.loc (c : Thread nD τ) ↦[S.view.set]{PosShare.left fullShare} f))
    ∗ (S.view.loc (c : Thread nD τ) ↦[S.view.set]{PosShare.right fullShare} f) ∗ ⌜S.view.read (Elt F) f = X⌝)

/-- Issuing a copy out of a slot that stays readable, its operands under other spellings. -/
theorem wp_lend' {s : Shape} {e : EltTy} {S S' : Memref sig .tc .vmem s e} {B B' : Memref sig .tc .hbm s e} {sm sm' : DmaSem sig}
    {X : s.Idx → Elt F e}
    {hsrc : S'.view.WordExact} {hdst : B'.view.WordExact} {hsem : (DmaTarget.here (nD := nD) (τ := τ) (p := .tc) B').Typed .vmem (.dma sm')}
    {k : PUnit → Prog (TpuEff nD τ sig (Elt F) Λ .tc) α} (hS : S' = S) (hB : B' = B) (hs : sm' = sm) (hpos : 0 < s.numel) :
    (iprop(Holds c S X ∗ semVal ((c : Thread nD τ), .dma sm) 0 ∗ Own c B) : sProp 𝕄)
      ⊢ iprop((Lending c S B sm X -∗ wp frame (wpE defs 𝒱 (c : Thread nD τ) bd) Set.univ (k ⟨⟩) Q)
          -∗ wp frame (wpE defs 𝒱 (c : Thread nD τ) bd) Set.univ (.op (.enqueueDmaAs S' (.here B') .same (.dma sm') hsrc hdst hsem) k) Q) := by
  subst hS hB hs
  unfold Own Lending
  conv => lhs; unfold Holds
  iintro ⟨⟨%f, Hs, %hf⟩, Hv, ⟨%fd, Hd⟩⟩ Hk
  icases (pointsTo_share (PosShare.mem_left_op_right _)).1 $$ Hs with ⟨Hl, Hr⟩
  iapply (Transfers.wp_dmaLocal (countersEmb (U := Pipeline.UD sig nD τ)) 𝒱 (c : Thread nD τ) bd (src := S') (dst := B') (via := .same) () (B'.view.dmaCredit) rfl
    (View.dmaCredit_pos B'.view hpos) (Finset.Subset.refl _)) $$ [Hl Hd Hv]
  · isplitl [Hl]; · iexact Hl
    isplitl [Hd]; · iexact Hd
    iexact Hv
  iintro Hfl
  iapply Hk
  iexists f
  isplitl [Hfl]
  · iapply (Transfers.Flight_mono (countersEmb (U := Pipeline.UD sig nD τ)) (c : Thread nD τ) ?_) $$ Hfl
    iintro ⟨Hd, Hs⟩
    isplitl [Hd]
    · unfold Holds
      iexists _
      isplitl [Hd]; · iexact Hd
      ipureintro
      exact (View.read_write_univ _ _).trans hf
    · iexact Hs
  isplitl [Hr]; · iexact Hr
  ipureintro; exact hf

/-- Waiting for such a copy out. -/
theorem wp_lent' {s : Shape} {e : EltTy} {S S' : Memref sig .tc .vmem s e} {B B' : Memref sig .tc .hbm s e} {sm sm' : DmaSem sig}
    {X : s.Idx → Elt F e}
    {hsrc : S'.view.WordExact} {hdst : B'.view.WordExact}
    {k : PUnit → Prog (TpuEff nD τ sig (Elt F) Λ .tc) α} (hS : S' = S) (hB : B' = B) (hs : sm' = sm) :
    (iprop(Lending c S B sm X ∗ Owes c) : sProp 𝕄)
      ⊢ iprop((iprop(Holds c B X ∗ Own c S ∗ semVal ((c : Thread nD τ), .dma sm) 0 ∗ Owes c)
            -∗ wp frame (wpE defs 𝒱 (c : Thread nD τ) bd) Set.univ (k ⟨⟩) Q)
          -∗ wp frame (wpE defs 𝒱 (c : Thread nD τ) bd) Set.univ (.op (.waitDma2 sm' S' B' hsrc hdst) k) Q) := by
  subst hS hB hs
  unfold Lending Owes
  iintro ⟨⟨%f, Hfl, Hr, %hf⟩, ⟨%W, HW⟩⟩ Hk
  iapply (Transfers.wp_waitLocal (countersEmb (U := Pipeline.UD sig nD τ)) 𝒱 (c : Thread nD τ) bd (srcw := S') (dstw := B') () rfl) $$ [Hfl HW]
  · isplitl [Hfl]; · iexact Hfl
    iexact HW
  iintro ⟨⟨Hd, Hb⟩, Hv, HW⟩
  iapply Hk
  isplitl [Hd]; · iexact Hd
  isplitl [Hb Hr]
  · unfold Own
    iexists f
    iapply (pointsTo_share (PosShare.mem_left_op_right _)).2 $$ [Hb Hr]
    isplitl [Hb]; · iexact Hb
    iexact Hr
  isplitl [Hv]; · iexact Hv
  iexists _; iexact HW

/-- Loading a rectangle that lies within a slot being copied out. -/
theorem wp_loadLent {s s' : Shape} {e : EltTy} {M : Memref sig .tc .vmem s e} {r R : Rect s} {hR : ∀ a, R.stride a = 1}
    {hq : R.shape.Squeezes s'} {B : Memref sig .tc .hbm s' e} {sm : DmaSem sig}
    {X : s'.Idx → Elt F e} {Y : r.shape.Idx → Elt F e} {hl : M.view.LoadsAt r.toLoadRect}
    {k : (r.shape.Idx → Elt F e) → Prog (TpuEff nD τ sig (Elt F) Λ .tc) α}
    (hr : r.set ⊆ R.set)
    (hY : ∀ f : M.view.ty.Contents (Elt F), (part M R hR s' hq).view.read (Elt F) f = X → (M.access r).read (Elt F) f = Y) :
    (Lending c (part M R hR s' hq) B sm X : sProp 𝕄)
      ⊢ iprop((Lending c (part M R hR s' hq) B sm X -∗ wp frame (wpE defs 𝒱 (c : Thread nD τ) bd) Set.univ (k Y) Q)
          -∗ wp frame (wpE defs 𝒱 (c : Thread nD τ) bd) Set.univ (.op (.load M r.toLoadRect hl) k) Q) := by
  unfold Lending
  iintro ⟨%f, Hfl, Hf, %hf⟩ Hk
  have h3 := hY f hf
  subst h3
  have hS : (M.access r).set ⊆ (part M R hR s' hq).view.set := by
    rw [part_set]
    show (M.view.slice r).set ⊆ _
    rw [View.set_slice]
    exact Finset.map_subset_map.mpr hr
  iapply (wp_load_rect 𝒱 (c : Thread nD τ) bd Set.univ (m := M) (r := r) (S := (part M R hR s' hq).view.set) (f := f) hS) $$ Hf
  iintro Hf
  iapply Hk
  iexists f
  isplitl [Hfl]; · iexact Hfl
  isplitl [Hf]; · iexact Hf
  ipureintro; exact hf

end Move
-- ==== Proof.KOffsets.lean ====
/-
  Where trip `k` of the kernel's one counted loop reads and writes: every printed offset is a chain of
  32-bit operations on the trip's counter, and here each is a plain expression in `k`.
-/
module

public import proofs.«01_k».proof.Proof.Gen.Kernel.Skeleton

@[expose] public section

set_option maxRecDepth 100000

namespace Cert.Kernel.Hand

open Cert.Kernel Cert.Kernel.Gen
open Idealize.ShloMosaic

/-- The loop makes 35 trips, one per 256-column block of the gradient. -/
theorem trips_eq : k0_t1_loop.trips = 35 := by decide +kernel

/-- The guard of the trip's first branch says that the trip is not one of the first two. -/
theorem cond1_iff : ∀ k : Fin k0_t1_loop.trips, k0_cond1 k = 1#1 ↔ 2 ≤ k.val := by decide +kernel
/-- The guard of the trip's second branch says that block `k + 4` exists. -/
theorem cond2_iff : ∀ k : Fin k0_t1_loop.trips, k0_cond2 k = 1#1 ↔ k.val + 4 < 35 := by decide +kernel

theorem off1_eq : ∀ k : Fin k0_t1_loop.trips, 2 ≤ k.val → k0_off1 k = ![(k.val + 4) % 6] := by decide +kernel
theorem off2_eq : ∀ k : Fin k0_t1_loop.trips, 2 ≤ k.val → k0_off2 k = ![0, 256 * (k.val - 2)] := by decide +kernel
theorem off3_eq : ∀ k : Fin k0_t1_loop.trips, 2 ≤ k.val → k0_off3 k = ![(k.val + 4) % 6, 0, 0] := by decide +kernel
theorem off4_eq : ∀ k : Fin k0_t1_loop.trips, 2 ≤ k.val → k0_off4 k = ![256 * (k.val - 2), 0] := by decide +kernel
theorem off5_eq : ∀ k : Fin k0_t1_loop.trips, 2 ≤ k.val → k0_off5 k = ![(k.val + 4) % 6, 0, 0] := by decide +kernel
theorem off6_eq : ∀ k : Fin k0_t1_loop.trips, k0_off6 k = ![(k.val + 4) % 6] := by decide +kernel
theorem off7_eq : ∀ k : Fin k0_t1_loop.trips, k0_off7 k = ![(k.val + 4) % 6, 0, 0] := by decide +kernel
theorem off8_eq : ∀ k : Fin k0_t1_loop.trips, k0_off8 k = ![0, 256 * (k.val + 4)] := by decide +kernel
theorem off9_eq : ∀ k : Fin k0_t1_loop.trips, k0_off9 k = ![(k.val + 4) % 6, 0, 0] := by decide +kernel
theorem off10_eq : ∀ k : Fin k0_t1_loop.trips, k0_off10 k = ![256 * (k.val + 4), 0] := by decide +kernel
theorem off11_eq : ∀ k : Fin k0_t1_loop.trips, k0_off11 k = ![k.val % 6] := by decide +kernel
theorem off12_eq : ∀ k : Fin k0_t1_loop.trips, k0_off12 k = ![k.val % 6, 0, 0] := by decide +kernel
theorem off13_eq : ∀ k : Fin k0_t1_loop.trips, k0_off13 k = ![0, 256 * k.val] := by decide +kernel
theorem off14_eq : ∀ k : Fin k0_t1_loop.trips, k0_off14 k = ![k.val % 6, 0, 0] := by decide +kernel
theorem off15_eq : ∀ k : Fin k0_t1_loop.trips, k0_off15 k = ![k.val % 6, 32, 0] := by decide +kernel
theorem off16_eq : ∀ k : Fin k0_t1_loop.trips, k0_off16 k = ![k.val % 6, 64, 0] := by decide +kernel
theorem off17_eq : ∀ k : Fin k0_t1_loop.trips, k0_off17 k = ![k.val % 6, 96, 0] := by decide +kernel
theorem off18_eq : ∀ k : Fin k0_t1_loop.trips, k0_off18 k = ![k.val % 6, 128, 0] := by decide +kernel
theorem off19_eq : ∀ k : Fin k0_t1_loop.trips, k0_off19 k = ![k.val % 6, 160, 0] := by decide +kernel
theorem off20_eq : ∀ k : Fin k0_t1_loop.trips, k0_off20 k = ![k.val % 6, 192, 0] := by decide +kernel
theorem off21_eq : ∀ k : Fin k0_t1_loop.trips, k0_off21 k = ![k.val % 6, 224, 0] := by decide +kernel
theorem off22_eq : ∀ k : Fin k0_t1_loop.trips, k0_off22 k = ![k.val % 6, 256, 0] := by decide +kernel
theorem off23_eq : ∀ k : Fin k0_t1_loop.trips, k0_off23 k = ![k.val % 6, 288, 0] := by decide +kernel
theorem off24_eq : ∀ k : Fin k0_t1_loop.trips, k0_off24 k = ![k.val % 6, 320, 0] := by decide +kernel
theorem off25_eq : ∀ k : Fin k0_t1_loop.trips, k0_off25 k = ![k.val % 6, 352, 0] := by decide +kernel
theorem off26_eq : ∀ k : Fin k0_t1_loop.trips, k0_off26 k = ![k.val % 6, 384, 0] := by decide +kernel
theorem off27_eq : ∀ k : Fin k0_t1_loop.trips, k0_off27 k = ![k.val % 6, 416, 0] := by decide +kernel
theorem off28_eq : ∀ k : Fin k0_t1_loop.trips, k0_off28 k = ![k.val % 6, 448, 0] := by decide +kernel
theorem off29_eq : ∀ k : Fin k0_t1_loop.trips, k0_off29 k = ![k.val % 6, 480, 0] := by decide +kernel
theorem off30_eq : ∀ k : Fin k0_t1_loop.trips, k0_off30 k = ![k.val % 6, 512, 0] := by decide +kernel
theorem off31_eq : ∀ k : Fin k0_t1_loop.trips, k0_off31 k = ![k.val % 6, 544, 0] := by decide +kernel
theorem off32_eq : ∀ k : Fin k0_t1_loop.trips, k0_off32 k = ![k.val % 6, 576, 0] := by decide +kernel
theorem off33_eq : ∀ k : Fin k0_t1_loop.trips, k0_off33 k = ![k.val % 6, 608, 0] := by decide +kernel
theorem off34_eq : ∀ k : Fin k0_t1_loop.trips, k0_off34 k = ![k.val % 6, 640, 0] := by decide +kernel
theorem off35_eq : ∀ k : Fin k0_t1_loop.trips, k0_off35 k = ![k.val % 6, 672, 0] := by decide +kernel
theorem off36_eq : ∀ k : Fin k0_t1_loop.trips, k0_off36 k = ![k.val % 6, 704, 0] := by decide +kernel
theorem off37_eq : ∀ k : Fin k0_t1_loop.trips, k0_off37 k = ![k.val % 6, 736, 0] := by decide +kernel
theorem off38_eq0 : ∀ k : Fin k0_t1_loop.trips, k0_off38 k 0#32 = ![2 * k.val, 0] := by decide +kernel
theorem off38_eq1 : ∀ k : Fin k0_t1_loop.trips, k0_off38 k 1#32 = ![2 * k.val + 1, 0] := by decide +kernel
theorem off39_eq : ∀ k : Fin k0_t1_loop.trips, k0_off39 k = ![k.val % 6, 0, 0] := by decide +kernel
theorem off40_eq : ∀ k : Fin k0_t1_loop.trips, k0_off40 k = ![256 * k.val, 0] := by decide +kernel
theorem off41_eq : ∀ k : Fin k0_t1_loop.trips, k0_off41 k = ![k.val % 6, 0, 0] := by decide +kernel
theorem off42_eq : ∀ k : Fin k0_t1_loop.trips, k0_off42 k = ![k.val % 6, 0, 0] := by decide +kernel

end Cert.Kernel.Hand
-- ==== Proof.KRing.lean ====
/-
  The kernel's rings, slot by slot: the names of their slots, of the cells their copies complete on and of
  the blocks of the arrays they move, and what a load or a store of 32 rows of a slot, or of a whole slot,
  does to the elements of the slot.
-/
module

public import proofs.«01_k».proof.Proof.Move
public import proofs.«01_k».proof.Proof.KOffsets
public import Idealize.ShloMosaic.Lib.ValueLayout
public import proofs.«01_k».proof.Proof.Gen.Kernel.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

/-! ## Names -/

theorem inbA (n : ℕ) : ∀ a, (![n % 6, 0, 0] : Fin 3 → ℕ) a + S1x768x256.size a ≤ S6x768x256.size a := by
  intro a; fin_cases a
  · show n % 6 + 1 ≤ 6; omega
  · show 0 + 768 ≤ 768; omega
  · show 0 + 256 ≤ 256; omega
theorem inbB (n : ℕ) : ∀ a, (![n % 6, 0, 0] : Fin 3 → ℕ) a + S1x256x1536.size a ≤ S6x256x1536.size a := by
  intro a; fin_cases a
  · show n % 6 + 1 ≤ 6; omega
  · show 0 + 256 ≤ 256; omega
  · show 0 + 1536 ≤ 1536; omega
theorem inbC (n : ℕ) : ∀ a, (![n % 6] : Fin 1 → ℕ) a + S1.size a ≤ S6.size a := by
  intro a; fin_cases a
  show n % 6 + 1 ≤ 6; omega
theorem inbCol (n : ℕ) : ∀ a, (![0, 256 * (n % 35)] : Fin 2 → ℕ) a + S768x256.size a ≤ S768x8960.size a := by
  intro a; fin_cases a
  · show 0 + 768 ≤ 768; omega
  · show 256 * (n % 35) + 256 ≤ 8960; omega
theorem inbRow (n : ℕ) : ∀ a, (![256 * (n % 35), 0] : Fin 2 → ℕ) a + S256x1536.size a ≤ S8960x1536.size a := by
  intro a; fin_cases a
  · show 256 * (n % 35) + 256 ≤ 8960; omega
  · show 0 + 1536 ≤ 1536; omega

/-- The rectangle of a 768 × 256 slot. -/
abbrev rectA (n : ℕ) : Rect S6x768x256 := Rect.unit ![n % 6, 0, 0] S1x768x256.size (inbA n)
/-- The rectangle of a 256 × 1536 slot. -/
abbrev rectB (n : ℕ) : Rect S6x256x1536 := Rect.unit ![n % 6, 0, 0] S1x256x1536.size (inbB n)

/-- The slot of a 768 × 256 ring that block `n` uses. -/
abbrev slotA {e : EltTy} (M : Memref sig .tc .vmem S6x768x256 e) (n : ℕ) : Memref sig .tc .vmem S768x256 e :=
  part M (rectA n) (fun _ => rfl) S768x256 squeezes_S1x768x256_S768x256
/-- The slot of a 256 × 1536 ring that block `n` uses. -/
abbrev slotB {e : EltTy} (M : Memref sig .tc .vmem S6x256x1536 e) (n : ℕ) : Memref sig .tc .vmem S256x1536 e :=
  part M (rectB n) (fun _ => rfl) S256x1536 squeezes_S1x256x1536_S256x1536
/-- The cell block `n` uses of a ring's six. -/
abbrev cell (a : DmaSems sig S6) (n : ℕ) : DmaSem sig :=
  ((a.slice (Rect.unit (s := S6) ![n % 6] S1.size (inbC n))).squeeze S_ squeezes_S1_S_).sem
/-- Block `n` of 256 columns. -/
abbrev colBlk {sp : Space} {e : EltTy} (M : Memref sig .tc sp S768x8960 e) (n : ℕ) : Memref sig .tc sp S768x256 e :=
  M.slice (Rect.unit (s := S768x8960) ![0, 256 * (n % 35)] S768x256.size (inbCol n)) (fun _ => rfl)
/-- Block `n` of 256 rows. -/
abbrev rowBlk {sp : Space} {e : EltTy} (M : Memref sig .tc sp S8960x1536 e) (n : ℕ) : Memref sig .tc sp S256x1536 e :=
  M.slice (Rect.unit (s := S8960x1536) ![256 * (n % 35), 0] S256x1536.size (inbRow n)) (fun _ => rfl)

/-! ## Other spellings of the names -/

theorem slotA_of {e : EltTy} (M : Memref sig .tc .vmem S6x768x256 e) {off : Fin 3 → ℕ} {n : ℕ} (h : off = ![n % 6, 0, 0])
    (inb : ∀ a, off a + S1x768x256.size a ≤ S6x768x256.size a) :
    (M.slice (Rect.unit (s := S6x768x256) off S1x768x256.size inb) (fun _ => rfl)).squeeze S768x256 squeezes_S1x768x256_S768x256
      = slotA M n := by subst h; rfl
theorem slotB_of {e : EltTy} (M : Memref sig .tc .vmem S6x256x1536 e) {off : Fin 3 → ℕ} {n : ℕ} (h : off = ![n % 6, 0, 0])
    (inb : ∀ a, off a + S1x256x1536.size a ≤ S6x256x1536.size a) :
    (M.slice (Rect.unit (s := S6x256x1536) off S1x256x1536.size inb) (fun _ => rfl)).squeeze S256x1536 squeezes_S1x256x1536_S256x1536
      = slotB M n := by subst h; rfl
theorem cell_of (a : DmaSems sig S6) {off : Fin 1 → ℕ} {n : ℕ} (h : off = ![n % 6]) (inb : ∀ a, off a + S1.size a ≤ S6.size a) :
    ((a.slice (Rect.unit (s := S6) off S1.size inb)).squeeze S_ squeezes_S1_S_).sem = cell a n := by subst h; rfl
theorem colBlk_of {e : EltTy} (M : Memref sig .tc .hbm S768x8960 e) {off : Fin 2 → ℕ} {n : ℕ} (h : off = ![0, 256 * n]) (hn : n < 35)
    (inb : ∀ a, off a + S768x256.size a ≤ S768x8960.size a) :
    M.slice (Rect.unit (s := S768x8960) off S768x256.size inb) (fun _ => rfl) = colBlk M n := by
  have : off = ![0, 256 * (n % 35)] := by rw [Nat.mod_eq_of_lt hn]; exact h
  subst this; rfl
theorem rowBlk_of {e : EltTy} (M : Memref sig .tc .hbm S8960x1536 e) {off : Fin 2 → ℕ} {n : ℕ} (h : off = ![256 * n, 0]) (hn : n < 35)
    (inb : ∀ a, off a + S256x1536.size a ≤ S8960x1536.size a) :
    M.slice (Rect.unit (s := S8960x1536) off S256x1536.size inb) (fun _ => rfl) = rowBlk M n := by
  have : off = ![256 * (n % 35), 0] := by rw [Nat.mod_eq_of_lt hn]; exact h
  subst this; rfl

theorem slotA_add {e : EltTy} (M : Memref sig .tc .vmem S6x768x256 e) (n : ℕ) : slotA M (n + 6) = slotA M n :=
  slotA_of M (by rw [Nat.add_mod_right]) _
theorem slotB_add {e : EltTy} (M : Memref sig .tc .vmem S6x256x1536 e) (n : ℕ) : slotB M (n + 6) = slotB M n :=
  slotB_of M (by rw [Nat.add_mod_right]) _
theorem cell_add (a : DmaSems sig S6) (n : ℕ) : cell a (n + 6) = cell a n := cell_of a (by rw [Nat.add_mod_right]) _

theorem mem_colRect (n : ℕ) (hn : n < 35) (x : S768x8960.Idx) :
    x ∈ (Rect.unit (s := S768x8960) ![0, 256 * (n % 35)] S768x256.size (inbCol n)).set ↔ 256 * n ≤ (x 1).val ∧ (x 1).val < 256 * (n + 1) := by
  rw [Rect.mem_set_unit, Fin.forall_fin_two, Nat.mod_eq_of_lt hn]
  have h0 : (x 0).val < 768 := (x 0).isLt
  show (0 ≤ (x 0).val ∧ (x 0).val < 0 + 768) ∧ (256 * n ≤ (x 1).val ∧ (x 1).val < 256 * n + 256) ↔ _
  omega
theorem mem_rowRect (n : ℕ) (hn : n < 35) (x : S8960x1536.Idx) :
    x ∈ (Rect.unit (s := S8960x1536) ![256 * (n % 35), 0] S256x1536.size (inbRow n)).set ↔ 256 * n ≤ (x 0).val ∧ (x 0).val < 256 * (n + 1) := by
  rw [Rect.mem_set_unit, Fin.forall_fin_two, Nat.mod_eq_of_lt hn]
  have h0 : (x 1).val < 1536 := (x 1).isLt
  show (256 * n ≤ (x 0).val ∧ (x 0).val < 256 * n + 256) ∧ (0 ≤ (x 1).val ∧ (x 1).val < 0 + 1536) ↔ _
  omega

/-! ## Thirty-two rows of a slot -/

/-- Rows `32 j` to `32 j + 31` of a slot, as the kernel loads them. -/
def chunk {α : Type} (D : S768x256.Idx → α) (j : ℕ) : S1x32x256.Idx → α := fun y =>
  D (ix2 (⟨(32 * j + (y 1).val) % 768, Nat.mod_lt _ (by norm_num)⟩ : Fin 768) (y 2))

/-- A slot of which rows below `32 j` are written and the others not. -/
def upTo {α : Type} (C X : S768x256.Idx → α) (j : ℕ) : S768x256.Idx → α := fun x => if (x 0).val < 32 * j then C x else X x

theorem upTo_zero {α : Type} (C X : S768x256.Idx → α) : upTo C X 0 = X := by
  funext x; unfold upTo; rw [if_neg (by omega)]
theorem upTo_full {α : Type} (C X : S768x256.Idx → α) : upTo C X 24 = C := by
  funext x; unfold upTo; rw [if_pos]; have : (x 0).val < 768 := (x 0).isLt; omega

theorem slotA_emb {e : EltTy} (M : Memref sig .tc .vmem S6x768x256 e) (n : ℕ) (x : S768x256.Idx) :
    (slotA M n).view.emb x = M.view.emb (ix3 (⟨n % 6, Nat.mod_lt _ (by norm_num)⟩ : Fin 6) (x 0) (x 1)) := by
  show M.view.emb ((rectA n).emb (Shape.reshapeEquiv _ x)) = _
  congr 1
  rw [Shape.reshapeEquiv_cons_one]
  funext a
  apply Fin.ext
  rw [Rect.emb_apply]
  fin_cases a
  · show n % 6 + 1 * 0 = n % 6; omega
  · show 0 + 1 * (x 0).val = (x 0).val; omega
  · show 0 + 1 * (x 1).val = (x 1).val; omega

theorem rowsA_emb {off : Fin 3 → ℕ} {n j : ℕ} (h : off = ![n % 6, 32 * j, 0]) (hj : j < 24)
    (inb : ∀ a, off a + S1x32x256.size a ≤ S6x768x256.size a) (y : S1x32x256.Idx) :
    (Rect.unit (s := S6x768x256) off S1x32x256.size inb).emb y
      = ix3 (⟨n % 6, Nat.mod_lt _ (by norm_num)⟩ : Fin 6) (⟨(32 * j + (y 1).val) % 768, Nat.mod_lt _ (by norm_num)⟩ : Fin 768) (y 2) := by
  subst h
  have h0 : (y 0).val < 1 := (y 0).isLt
  have h1 : (y 1).val < 32 := (y 1).isLt
  funext a
  apply Fin.ext
  rw [Rect.emb_apply]
  fin_cases a
  · show n % 6 + 1 * (y 0).val = n % 6; omega
  · show 32 * j + 1 * (y 1).val = (32 * j + (y 1).val) % 768; rw [Nat.mod_eq_of_lt (by omega)]; omega
  · show 0 + 1 * (y 2).val = (y 2).val; omega

theorem rowsA_subset {off : Fin 3 → ℕ} {n j : ℕ} (h : off = ![n % 6, 32 * j, 0]) (hj : j < 24)
    (inb : ∀ a, off a + S1x32x256.size a ≤ S6x768x256.size a) :
    (Rect.unit (s := S6x768x256) off S1x32x256.size inb).set ⊆ (rectA n).set := by
  subst h
  refine Rect.set_subset_of_span _ _ (fun _ => rfl) fun a => ?_
  fin_cases a
  · show n % 6 ≤ n % 6 ∧ n % 6 + 1 * 1 ≤ n % 6 + 1 + (1 - 1); omega
  · show 0 ≤ 32 * j ∧ 32 * j + 1 * 32 ≤ 0 + 768 + (1 - 1); omega
  · show 0 ≤ 0 ∧ 0 + 1 * 256 ≤ 0 + 256 + (1 - 1); omega

variable {𝒱 : Variants} {c : Dev nD} {bd : Option 𝒱.V}
variable {α : Type} {Q : α → sProp (MT nD τ sig Unit (Elt F) ℕ (Pipeline.UD sig nD τ) ℕ)}

/-- Loading 32 rows of a held slot. -/
theorem wp_loadRows {e : EltTy} {M : Memref sig .tc .vmem S6x768x256 e} {n j : ℕ} {D : S768x256.Idx → Elt F e} {off : Fin 3 → ℕ}
    {inb : ∀ a, off a + S1x32x256.size a ≤ S6x768x256.size a}
    {hl : M.view.LoadsAt (Rect.unit (s := S6x768x256) off S1x32x256.size inb).toLoadRect}
    {k : Vec F S1x32x256 e → Prog (TpuEff nD τ sig (Elt F) Λ₀ .tc) α} (h : off = ![n % 6, 32 * j, 0]) (hj : j < 24) :
    (Holds c (slotA M n) D : sProp 𝕄)
      ⊢ iprop((Holds c (slotA M n) D -∗ wp frame (wpE defs₀ 𝒱 (c : Thread nD τ) bd) Set.univ (k (chunk D j)) Q)
          -∗ wp frame (wpE defs₀ 𝒱 (c : Thread nD τ) bd) Set.univ
            (.op (.load M (Rect.unit (s := S6x768x256) off S1x32x256.size inb).toLoadRect hl) k) Q) := by
  refine wp_loadIn (rowsA_subset h hj inb) ?_
  intro f hf
  funext y
  subst hf
  show (M.view.slice _).read (Elt F) f y = (slotA M n).view.read (Elt F) f _
  rw [View.read_apply, View.read_apply, slotA_emb]
  show _root_.cast _ (f (M.view.emb ((Rect.unit (s := S6x768x256) off S1x32x256.size inb).emb y))) = _
  rw [rowsA_emb h hj]
  rfl

/-- Storing 32 rows of a held slot. -/
theorem wp_storeRows {e : EltTy} {M : Memref sig .tc .vmem S6x768x256 e} {n j : ℕ} {C X : S768x256.Idx → Elt F e} {off : Fin 3 → ℕ}
    {inb : ∀ a, off a + S1x32x256.size a ≤ S6x768x256.size a} {w : Vec F S1x32x256 e}
    {hx : (M.access (Rect.unit (s := S6x768x256) off S1x32x256.size inb)).Stores Finset.univ}
    {hm : (Finset.univ : Finset S1x32x256.Idx) = Finset.univ ∨ ∀ a, (Rect.unit (s := S6x768x256) off S1x32x256.size inb).stride a = 1}
    {k : PUnit → Prog (TpuEff nD τ sig (Elt F) Λ₀ .tc) α} (h : off = ![n % 6, 32 * j, 0]) (hj : j < 24) (hw : w = chunk C j) :
    (Holds c (slotA M n) (upTo C X j) : sProp 𝕄)
      ⊢ iprop((Holds c (slotA M n) (upTo C X (j + 1)) -∗ wp frame (wpE defs₀ 𝒱 (c : Thread nD τ) bd) Set.univ (k ⟨⟩) Q)
          -∗ wp frame (wpE defs₀ 𝒱 (c : Thread nD τ) bd) Set.univ
            (.op (.store M (Rect.unit (s := S6x768x256) off S1x32x256.size inb) w Finset.univ hx hm) k) Q) := by
  refine wp_storeIn (rowsA_subset h hj inb) ?_
  intro f hf
  funext x
  have hx1 : (x 0).val < 768 := (x 0).isLt
  rw [View.read_apply, slotA_emb]
  by_cases hlt : 32 * j ≤ (x 0).val ∧ (x 0).val < 32 * (j + 1)
  · have e : ix3 (⟨n % 6, Nat.mod_lt _ (by norm_num)⟩ : Fin 6) (x 0) (x 1)
        = (Rect.unit (s := S6x768x256) off S1x32x256.size inb).emb
          (ix3 (⟨0, Nat.one_pos⟩ : Fin 1) (⟨(x 0).val - 32 * j, by omega⟩ : Fin 32) (x 1)) := by
      rw [rowsA_emb h hj]
      funext a
      fin_cases a
      · rfl
      · apply Fin.ext
        show (x 0).val = (32 * j + ((x 0).val - 32 * j)) % 768
        rw [Nat.mod_eq_of_lt (by omega)]; omega
      · rfl
    erw [e]
    show _root_.cast _ ((M.access (Rect.unit (s := S6x768x256) off S1x32x256.size inb)).write (Elt F) f w Finset.univ
      ((M.access (Rect.unit (s := S6x768x256) off S1x32x256.size inb)).emb _)) = _
    rw [View.write_emb_of_mem _ _ (Finset.mem_univ _)]
    subst hw
    unfold upTo chunk
    rw [if_pos (by omega)]
    simp only [cast_cast, cast_eq]
    congr 1
    funext a
    fin_cases a
    · apply Fin.ext
      show (32 * j + ((x 0).val - 32 * j)) % 768 = (x 0).val
      rw [Nat.mod_eq_of_lt (by omega)]; omega
    · rfl
  · rw [View.write_of_not_mem]
    · have := congrFun hf x
      rw [View.read_apply, slotA_emb] at this
      rw [this]
      unfold upTo
      by_cases h1 : (x 0).val < 32 * j
      · rw [if_pos h1, if_pos (by omega)]
      · rw [if_neg h1, if_neg (by omega)]
    · intro hmem
      have hmem' : M.view.emb (ix3 (⟨n % 6, Nat.mod_lt _ (by norm_num)⟩ : Fin 6) (x 0) (x 1))
          ∈ (M.view.slice (Rect.unit (s := S6x768x256) off S1x32x256.size inb)).set := hmem
      rw [View.set_slice, Finset.mem_map' , Rect.mem_set_unit] at hmem'
      have h1 := hmem' 1
      subst h
      apply hlt
      have h2 : 32 * j ≤ (x 0).val ∧ (x 0).val < 32 * j + 32 := h1
      omega

/-! ## A whole slot -/

/-- A slot's elements with a leading axis of one place, as the kernel loads them. -/
def up3A {β : Type} (X : S768x256.Idx → β) : S1x768x256.Idx → β := fun y => X (ix2 (y 1) (y 2))
def up3B {β : Type} (X : S256x1536.Idx → β) : S1x256x1536.Idx → β := fun y => X (ix2 (y 1) (y 2))
def down3B {β : Type} (Y : S1x256x1536.Idx → β) : S256x1536.Idx → β := fun x => Y (ix3 (⟨0, Nat.one_pos⟩ : Fin 1) (x 0) (x 1))

theorem slotB_emb {e : EltTy} (M : Memref sig .tc .vmem S6x256x1536 e) (n : ℕ) (x : S256x1536.Idx) :
    (slotB M n).view.emb x = M.view.emb ((rectB n).emb (ix3 (⟨0, Nat.one_pos⟩ : Fin 1) (x 0) (x 1))) := by
  show M.view.emb ((rectB n).emb (Shape.reshapeEquiv _ x)) = _
  congr 2
  rw [Shape.reshapeEquiv_cons_one]
  funext a
  fin_cases a <;> rfl

theorem readA {e : EltTy} {M : Memref sig .tc .vmem S6x768x256 e} {n : ℕ} {D : S768x256.Idx → Elt F e} (f : M.view.ty.Contents (Elt F))
    (hf : (slotA M n).view.read (Elt F) f = D) : (M.access (rectA n)).read (Elt F) f = up3A D := by
  funext y
  subst hf
  show (M.view.slice _).read (Elt F) f y = (slotA M n).view.read (Elt F) f _
  rw [View.read_apply, View.read_apply, slotA_emb]
  show _root_.cast _ (f (M.view.emb ((rectA n).emb y))) = _
  congr 3
  have h0 : (y 0).val < 1 := (y 0).isLt
  funext a
  apply Fin.ext
  rw [Rect.emb_apply]
  fin_cases a
  · show n % 6 + 1 * (y 0).val = n % 6; omega
  · show 0 + 1 * (y 1).val = (y 1).val; omega
  · show 0 + 1 * (y 2).val = (y 2).val; omega

theorem wp_loadA {e : EltTy} {M : Memref sig .tc .vmem S6x768x256 e} {n : ℕ} {D : S768x256.Idx → Elt F e} {off : Fin 3 → ℕ}
    {inb : ∀ a, off a + S1x768x256.size a ≤ S6x768x256.size a}
    {hl : M.view.LoadsAt (Rect.unit (s := S6x768x256) off S1x768x256.size inb).toLoadRect}
    {k : Vec F S1x768x256 e → Prog (TpuEff nD τ sig (Elt F) Λ₀ .tc) α} (h : off = ![n % 6, 0, 0]) :
    (Holds c (slotA M n) D : sProp 𝕄)
      ⊢ iprop((Holds c (slotA M n) D -∗ wp frame (wpE defs₀ 𝒱 (c : Thread nD τ) bd) Set.univ (k (up3A D)) Q)
          -∗ wp frame (wpE defs₀ 𝒱 (c : Thread nD τ) bd) Set.univ
            (.op (.load M (Rect.unit (s := S6x768x256) off S1x768x256.size inb).toLoadRect hl) k) Q) := by
  subst h
  exact wp_loadIn (Finset.Subset.refl _) readA

theorem wp_loadLentA {e : EltTy} {M : Memref sig .tc .vmem S6x768x256 e} {n : ℕ} {B : Memref sig .tc .hbm S768x256 e} {sm : DmaSem sig} {D : S768x256.Idx → Elt F e} {off : Fin 3 → ℕ}
    {inb : ∀ a, off a + S1x768x256.size a ≤ S6x768x256.size a}
    {hl : M.view.LoadsAt (Rect.unit (s := S6x768x256) off S1x768x256.size inb).toLoadRect}
    {k : Vec F S1x768x256 e → Prog (TpuEff nD τ sig (Elt F) Λ₀ .tc) α} (h : off = ![n % 6, 0, 0]) :
    (Lending c (slotA M n) B sm D : sProp 𝕄)
      ⊢ iprop((Lending c (slotA M n) B sm D -∗ wp frame (wpE defs₀ 𝒱 (c : Thread nD τ) bd) Set.univ (k (up3A D)) Q)
          -∗ wp frame (wpE defs₀ 𝒱 (c : Thread nD τ) bd) Set.univ
            (.op (.load M (Rect.unit (s := S6x768x256) off S1x768x256.size inb).toLoadRect hl) k) Q) := by
  subst h
  exact wp_loadLent (Finset.Subset.refl _) readA

theorem wp_loadB {e : EltTy} {M : Memref sig .tc .vmem S6x256x1536 e} {n : ℕ} {D : S256x1536.Idx → Elt F e} {off : Fin 3 → ℕ}
    {inb : ∀ a, off a + S1x256x1536.size a ≤ S6x256x1536.size a}
    {hl : M.view.LoadsAt (Rect.unit (s := S6x256x1536) off S1x256x1536.size inb).toLoadRect}
    {k : Vec F S1x256x1536 e → Prog (TpuEff nD τ sig (Elt F) Λ₀ .tc) α} (h : off = ![n % 6, 0, 0]) :
    (Holds c (slotB M n) D : sProp 𝕄)
      ⊢ iprop((Holds c (slotB M n) D -∗ wp frame (wpE defs₀ 𝒱 (c : Thread nD τ) bd) Set.univ (k (up3B D)) Q)
          -∗ wp frame (wpE defs₀ 𝒱 (c : Thread nD τ) bd) Set.univ
            (.op (.load M (Rect.unit (s := S6x256x1536) off S1x256x1536.size inb).toLoadRect hl) k) Q) := by
  subst h
  refine wp_loadIn (Finset.Subset.refl _) ?_
  intro f hf
  funext y
  subst hf
  show (M.view.slice _).read (Elt F) f y = (slotB M n).view.read (Elt F) f _
  rw [View.read_apply, View.read_apply, slotB_emb]
  show _root_.cast _ (f (M.view.emb ((rectB n).emb y))) = _
  congr 4
  have h0 : (y 0).val < 1 := (y 0).isLt
  funext a
  fin_cases a
  · apply Fin.ext; show (y 0).val = 0; omega
  · rfl
  · rfl

theorem wp_storeB {e : EltTy} {M : Memref sig .tc .vmem S6x256x1536 e} {n : ℕ} {D : S256x1536.Idx → Elt F e} {off : Fin 3 → ℕ}
    {inb : ∀ a, off a + S1x256x1536.size a ≤ S6x256x1536.size a} {w : Vec F S1x256x1536 e}
    {hx : (M.access (Rect.unit (s := S6x256x1536) off S1x256x1536.size inb)).Stores Finset.univ}
    {hm : (Finset.univ : Finset S1x256x1536.Idx) = Finset.univ ∨ ∀ a, (Rect.unit (s := S6x256x1536) off S1x256x1536.size inb).stride a = 1}
    {k : PUnit → Prog (TpuEff nD τ sig (Elt F) Λ₀ .tc) α} (h : off = ![n % 6, 0, 0]) :
    (Holds c (slotB M n) D : sProp 𝕄)
      ⊢ iprop((Holds c (slotB M n) (down3B w) -∗ wp frame (wpE defs₀ 𝒱 (c : Thread nD τ) bd) Set.univ (k ⟨⟩) Q)
          -∗ wp frame (wpE defs₀ 𝒱 (c : Thread nD τ) bd) Set.univ
            (.op (.store M (Rect.unit (s := S6x256x1536) off S1x256x1536.size inb) w Finset.univ hx hm) k) Q) := by
  subst h
  refine wp_storeIn (Finset.Subset.refl _) ?_
  intro f hf
  funext x
  rw [View.read_apply, slotB_emb]
  show _root_.cast _ ((M.access (rectB n)).write (Elt F) f w Finset.univ ((M.access (rectB n)).emb _)) = _
  rw [View.write_emb_of_mem _ _ (Finset.mem_univ _)]
  simp only [cast_cast, cast_eq]
  rfl

end Cert.Kernel.Hand
-- ==== Proof.KVals.lean ====
/-
  What one block of 256 weight rows adds, in the kernel's own operations: the codes of the block, the
  column sums, the running maximum, the two products.
-/
module

public import proofs.«01_k».proof.Proof.KRing
public import proofs.«01_k».proof.Proof.Gen.Kernel.Skeleton

@[expose] public section

noncomputable section

namespace Cert.Kernel.Hand

open Cert.Kernel Cert.Kernel.Gen
open Idealize.ShloMosaic Idealize.ShloMosaic.TcCoe Idealize.ShloMosaic.Tactic
open Move Idealize.ShloMosaic.ValueIdx

variable {F : FTy → Type} [FloatOps F]

/-- The codes of 32 rows. -/
def quant (inv : FVec F S8x256 .f32) (d : Vec F S1x32x256 .bf16) : FVec F S1x32x256 .fp8e5m2 := k0_pay7 inv d

/-- The codes of a block, each 32 rows at a time. -/
def codesB (inv : FVec F S8x256 .f32) (D : S768x256.Idx → Elt F .bf16) : S768x256.Idx → Elt F .fp8e5m2 := fun x =>
  quant inv (chunk D ((x 0).val / 32)) (ix3 (⟨0, Nat.one_pos⟩ : Fin 1) (⟨(x 0).val % 32, Nat.mod_lt _ (by norm_num)⟩ : Fin 32) (x 1))

theorem chunk_codesB (inv : FVec F S8x256 .f32) (D : S768x256.Idx → Elt F .bf16) (j : ℕ) (hj : j < 24) :
    quant inv (chunk D j) = chunk (codesB inv D) j := by
  funext y
  have h0 : (y 0).val < 1 := (y 0).isLt
  have h1 : (y 1).val < 32 := (y 1).isLt
  have e : (32 * j + (y 1).val) % 768 = 32 * j + (y 1).val := Nat.mod_eq_of_lt (by omega)
  unfold chunk codesB
  show quant inv (chunk D j) y = quant inv (chunk D (((32 * j + (y 1).val) % 768) / 32))
    (ix3 (⟨0, Nat.one_pos⟩ : Fin 1) (⟨((32 * j + (y 1).val) % 768) % 32, Nat.mod_lt _ (by norm_num)⟩ : Fin 32) (y 2))
  have e1 : ((32 * j + (y 1).val) % 768) / 32 = j := by rw [e]; omega
  have e2 : ((32 * j + (y 1).val) % 768) % 32 = (y 1).val := by rw [e]; omega
  rw [e1]
  congr 1
  funext a
  fin_cases a
  · apply Fin.ext; show (y 0).val = 0; omega
  · apply Fin.ext; exact e2.symm
  · rfl

/-- Eight partial column sums, after the first `j` groups of 32 rows. -/
def biasV (D : S768x256.Idx → Elt F .bf16) : ℕ → FVec F S8x256 .f32
  | 0 => broadcast S8x256 (Scalar.ofBits .f32 0x00000000#32 : F .f32)
  | j + 1 => addf (biasV D j) (multiReduction .add [0] S8x256 (k0_pay6 (chunk D j)) 0x00000000#32 reduces_S4x8x256_S8x256 (.inl rfl) rfl)

/-- The running maximum, after the first `j` groups of 32 rows. -/
def maxV (m : FVec F S8x256 .f32) (D : S768x256.Idx → Elt F .bf16) : ℕ → FVec F S8x256 .f32
  | 0 => m
  | j + 1 => maximumf (maxV m D j) (multiReduction .maximumf [0] S8x256 (absf (k0_pay6 (chunk D j))) 0xFF800000#32 reduces_S4x8x256_S8x256 (.inl rfl) rfl)

/-- The 256 column sums of a block. -/
def sumV (D : S768x256.Idx → Elt F .bf16) : FVec F S1x256 .f32 :=
  shapeCast S1x256 (multiReduction .add [0] S256 (biasV D 24) 0x00000000#32 reduces_S8x256_S256 (.inl rfl) rfl) shapeCasts_S256_S1x256
/-- The first 128 of them, and the other 128. -/
def sumLo (D : S768x256.Idx → Elt F .bf16) : FVec F S1x128 .f32 := extractStridedSlice S1x128 ![0, 0] (sumV D) slices_S1x256_o0_0_S1x128
def sumHi (D : S768x256.Idx → Elt F .bf16) : FVec F S1x128 .f32 := extractStridedSlice S1x128 ![0, 128] (sumV D) slices_S1x256_o0_128_S1x128

/-- What the sums' buffer holds after the first `n` blocks: two rows a block, the rest as it was. -/
def biasBuf (dy : ℕ → S768x256.Idx → Elt F .bf16) (Z : S70x128.Idx → Elt F .f32) (n : ℕ) : S70x128.Idx → Elt F .f32 := fun x =>
  if (x 0).val < 2 * n then
    (if (x 0).val % 2 = 0 then sumLo (dy ((x 0).val / 2)) else sumHi (dy ((x 0).val / 2))) (ix2 (⟨0, Nat.one_pos⟩ : Fin 1) (x 1))
  else Z x

/-- The maximum the core keeps, after the first `n` blocks. -/
def amaxV (dy : ℕ → S768x256.Idx → Elt F .bf16) : ℕ → FVec F S8x256 .f32
  | 0 => k0_pay95
  | n + 1 => shapeCast S8x256 (maxV (amaxV dy n) (dy n) 24) shapeCasts_S8x256_S8x256

/-- The sum of the products of the first `n` blocks' codes with their weight rows. -/
def accV (inv : FVec F S8x256 .f32) (dy : ℕ → S768x256.Idx → Elt F .bf16) (w : ℕ → S256x1536.Idx → Elt F .fp8e4m3) : ℕ → FVec F S768x1536 .f32
  | 0 => k0_pay94
  | n + 1 => k0_pay91 (accV inv dy w n) (up3A (codesB inv (dy n))) (up3B (w n))

/-- The rows of the new master gradient that a block makes. -/
def mgoB (v72 v76 : F .f32) (D : S768x256.Idx → Elt F .bf16) (m : S256x1536.Idx → Elt F .f32) (x : S768x1536.Idx → Elt F .fp8e4m3) :
    S256x1536.Idx → Elt F .f32 :=
  down3B (k0_pay97 v72 v76 (k0_pay93 (up3B m)) (up3A (codesB (k0_pay96 v72) D)) x)

end Cert.Kernel.Hand
-- ==== Proof.KState.lean ====
/-
  What the core holds between two trips of the kernel's loop, ring by ring: the blocks on their way in, the
  slots at rest, the blocks on their way out, the parts of the results already written and still to write.
-/
module

public import proofs.«01_k».proof.Proof.KVals

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable (c : Dev nD)

/-- The cell counts nothing. -/
abbrev Idle (sm : DmaSem sig) : sProp 𝕄 := semVal ((c : Thread nD τ), .dma sm) 0

/-- The share of an input array that the copies into a slot use. -/
def qs (b : ℕ) : PosShare TreeShare := Transfers.shareTokN fullShare (b % 6)

theorem qs_add (b : ℕ) : qs (b + 6) = qs b := by unfold qs; rw [Nat.add_mod_right]

section ins
variable (arg3 : Memref sig .tc .hbm S768x8960 .bf16) (arg5 : Memref sig .tc .hbm S8960x1536 .fp8e4m3)
variable (arg6 arg8 : Memref sig .tc .hbm S8960x1536 .f32) (arg11 : Memref sig .tc .hbm S768x8960 .fp8e5m2)
variable (arg12 : Memref sig .tc .vmem S6x768x256 .bf16) (arg13 : Memref sig .tc .vmem S6x256x1536 .fp8e4m3)
variable (arg14 : Memref sig .tc .vmem S6x256x1536 .f32) (arg15 : Memref sig .tc .vmem S6x768x256 .fp8e5m2)
variable (arg20 arg21 arg22 arg23 arg24 : DmaSems sig S6)
variable (f3 : Buf (Elt F) (arg3.view.loc (c : Thread nD τ))) (f5 : Buf (Elt F) (arg5.view.loc (c : Thread nD τ)))
variable (f6 : Buf (Elt F) (arg6.view.loc (c : Thread nD τ)))

/-- The blocks of the input arrays. -/
abbrev dyB (n : ℕ) : S768x256.Idx → Elt F .bf16 := (colBlk arg3 n).view.read (Elt F) f3
abbrev wB (n : ℕ) : S256x1536.Idx → Elt F .fp8e4m3 := (rowBlk arg5 n).view.read (Elt F) f5
abbrev mgB (n : ℕ) : S256x1536.Idx → Elt F .f32 := (rowBlk arg6 n).view.read (Elt F) f6

/-- The slot block `b` of the gradient uses is at rest. -/
def DyFree (b : ℕ) : sProp 𝕄 :=
  iprop(Own c (slotA arg12 b) ∗ Idle c (cell arg20 b) ∗ Tok c (colBlk arg3 b) (qs b) f3)
/-- Block `b` of the gradient is on its way in, if there is one. -/
def DyRead (b : ℕ) : sProp 𝕄 :=
  if b < 35 then Fetching c (colBlk arg3 b) (slotA arg12 b) (cell arg20 b) (qs b) f3 else DyFree c arg3 arg12 arg20 f3 b

/-- The slot block `b` of the weights uses is at rest. -/
def WFree (b : ℕ) : sProp 𝕄 :=
  iprop(Own c (slotB arg13 b) ∗ Idle c (cell arg21 b) ∗ Tok c (rowBlk arg5 b) (qs b) f5)
/-- Block `b` of the weights is on its way in, if there is one. -/
def WRead (b : ℕ) : sProp 𝕄 :=
  if b < 35 then Fetching c (rowBlk arg5 b) (slotB arg13 b) (cell arg21 b) (qs b) f5 else WFree c arg5 arg13 arg21 f5 b

/-- The slot block `b` of the master gradient uses is at rest. -/
def MgIdle (b : ℕ) : sProp 𝕄 :=
  iprop(Own c (slotB arg14 b) ∗ Idle c (cell arg22 b) ∗ Tok c (rowBlk arg6 b) (qs b) f6 ∗ Idle c (cell arg23 b))
/-- Block `b` of the master gradient is on its way in, if there is one. -/
def MgRead (b : ℕ) : sProp 𝕄 :=
  if b < 35 then iprop(Fetching c (rowBlk arg6 b) (slotB arg14 b) (cell arg22 b) (qs b) f6 ∗ Idle c (cell arg23 b))
  else MgIdle c arg6 arg14 arg22 arg23 f6 b
/-- Block `j - 2` of the new master gradient is on its way out, if there is one. -/
def MgW (M : ℕ → S256x1536.Idx → Elt F .f32) (j : ℕ) : sProp 𝕄 :=
  if 2 ≤ j then iprop(Putting c (slotB arg14 (j + 4)) (rowBlk arg8 (j - 2)) (cell arg23 (j + 4)) (M (j - 2))
    ∗ Idle c (cell arg22 (j + 4)) ∗ Tok c (rowBlk arg6 (j + 4)) (qs (j + 4)) f6)
  else MgIdle c arg6 arg14 arg22 arg23 f6 (j + 4)

/-- The slot block `b` of the codes uses is at rest. -/
def CodesFree (b : ℕ) : sProp 𝕄 := iprop(Own (F := F) c (slotA arg15 b) ∗ Idle c (cell arg24 b))
/-- Block `j - 2` of the codes is on its way out, if there is one. -/
def CodesW (C : ℕ → S768x256.Idx → Elt F .fp8e5m2) (j : ℕ) : sProp 𝕄 :=
  if 2 ≤ j then Lending c (slotA arg15 (j + 4)) (colBlk arg11 (j - 2)) (cell arg24 (j + 4)) (C (j - 2))
  else CodesFree c arg15 arg24 (j + 4)

theorem dyFree_add (b : ℕ) : DyFree c arg3 arg12 arg20 f3 (b + 6) = DyFree c arg3 arg12 arg20 f3 b := by
  show iprop(Own c (slotA arg12 (b + 6)) ∗ Idle c (cell arg20 (b + 6)) ∗ Tok c arg3 (qs (b + 6)) f3) = _
  rw [slotA_add, cell_add, qs_add]; rfl
theorem wFree_add (b : ℕ) : WFree c arg5 arg13 arg21 f5 (b + 6) = WFree c arg5 arg13 arg21 f5 b := by
  show iprop(Own c (slotB arg13 (b + 6)) ∗ Idle c (cell arg21 (b + 6)) ∗ Tok c arg5 (qs (b + 6)) f5) = _
  rw [slotB_add, cell_add, qs_add]; rfl
theorem codesFree_add (b : ℕ) : CodesFree (F := F) c arg15 arg24 (b + 6) = CodesFree c arg15 arg24 b := by
  unfold CodesFree
  rw [slotA_add, cell_add]
theorem mgIdle_add (b : ℕ) : MgIdle c arg6 arg14 arg22 arg23 f6 (b + 6) = MgIdle c arg6 arg14 arg22 arg23 f6 b := by
  show iprop(Own c (slotB arg14 (b + 6)) ∗ Idle c (cell arg22 (b + 6)) ∗ Tok c arg6 (qs (b + 6)) f6 ∗ Idle c (cell arg23 (b + 6))) = _
  rw [slotB_add, cell_add, cell_add, qs_add]; rfl
theorem codesW_out (C : ℕ → S768x256.Idx → Elt F .fp8e5m2) (i : ℕ) :
    CodesW c arg11 arg15 arg24 C (i + 2) = Lending c (slotA arg15 i) (colBlk arg11 i) (cell arg24 i) (C i) := by
  unfold CodesW
  rw [if_pos (by omega), show i + 2 + 4 = i + 6 from by omega, slotA_add, cell_add]
  rfl
theorem mgW_out (M : ℕ → S256x1536.Idx → Elt F .f32) (i : ℕ) :
    MgW c arg6 arg8 arg14 arg22 arg23 f6 M (i + 2)
      = iprop(Putting c (slotB arg14 i) (rowBlk arg8 i) (cell arg23 i) (M i) ∗ Idle c (cell arg22 i) ∗ Tok c (rowBlk arg6 i) (qs i) f6) := by
  unfold MgW
  rw [if_pos (by omega)]
  show iprop(Putting c (slotB arg14 (i + 2 + 4)) (rowBlk arg8 i) (cell arg23 (i + 2 + 4)) (M i)
    ∗ Idle c (cell arg22 (i + 2 + 4)) ∗ Tok c arg6 (qs (i + 2 + 4)) f6) = _
  rw [show i + 2 + 4 = i + 6 from by omega, slotB_add, cell_add, cell_add, qs_add]
  rfl

variable {c} {arg8 arg11}

/-- Taking the next block of columns off those still to be written. -/
theorem col_take {n : ℕ} (hn : n < 35) :
    (Rest c arg11 1 (256 * n) : sProp 𝕄) ⊢ iprop(Own c (colBlk arg11 n) ∗ Rest c arg11 1 (256 * (n + 1))) :=
  rest_split (by omega) (mem_colRect n hn)
/-- Taking the next block of rows off those still to be written. -/
theorem row_take {n : ℕ} (hn : n < 35) :
    (Rest c arg8 0 (256 * n) : sProp 𝕄) ⊢ iprop(Own c (rowBlk arg8 n) ∗ Rest c arg8 0 (256 * (n + 1))) :=
  rest_split (by omega) (mem_rowRect n hn)
/-- Adding a block of columns to those written. -/
theorem col_add {n : ℕ} (hn : n < 35) {G : Buf (Elt F) (arg11.view.loc (c : Thread nD τ))} {X : S768x256.Idx → Elt F .fp8e5m2}
    (hG : (colBlk arg11 n).view.read (Elt F) G = X) :
    (iprop(Done c arg11 1 (256 * n) G ∗ Holds c (colBlk arg11 n) X) : sProp 𝕄) ⊢ Done c arg11 1 (256 * (n + 1)) G :=
  done_join (by omega) (mem_colRect n hn) hG
/-- Adding a block of rows to those written. -/
theorem row_add {n : ℕ} (hn : n < 35) {G : Buf (Elt F) (arg8.view.loc (c : Thread nD τ))} {X : S256x1536.Idx → Elt F .f32}
    (hG : (rowBlk arg8 n).view.read (Elt F) G = X) :
    (iprop(Done c arg8 0 (256 * n) G ∗ Holds c (rowBlk arg8 n) X) : sProp 𝕄) ⊢ Done c arg8 0 (256 * (n + 1)) G :=
  done_join (by omega) (mem_rowRect n hn) hG

variable {arg3 arg5 arg6 arg12 arg13 arg14 arg20 arg21 arg22 arg23 f3 f5 f6}

theorem dyRead_in {b : ℕ} (h : b < 35) :
    DyRead c arg3 arg12 arg20 f3 b ⊢ Fetching c (colBlk arg3 b) (slotA arg12 b) (cell arg20 b) (qs b) f3 := by
  unfold DyRead; rw [if_pos h]
theorem wRead_in {b : ℕ} (h : b < 35) :
    WRead c arg5 arg13 arg21 f5 b ⊢ Fetching c (rowBlk arg5 b) (slotB arg13 b) (cell arg21 b) (qs b) f5 := by
  unfold WRead; rw [if_pos h]
theorem mgRead_in {b : ℕ} (h : b < 35) :
    MgRead c arg6 arg14 arg22 arg23 f6 b
      ⊢ iprop(Fetching c (rowBlk arg6 b) (slotB arg14 b) (cell arg22 b) (qs b) f6 ∗ Idle c (cell arg23 b)) := by
  unfold MgRead; rw [if_pos h]

theorem posA : 0 < S768x256.numel := by decide
theorem posB : 0 < S256x1536.numel := by decide
theorem posC : 0 < S768x1536.numel := by decide
end ins

section single
variable (arg4 : Memref sig .tc .hbm S768x1536 .fp8e4m3) (arg7 : Memref sig .tc .hbm S768x1536 .bf16)
variable (arg16 : Memref sig .tc .vmem S768x1536 .fp8e4m3) (arg18 : Memref sig .tc .vmem S768x1536 .bf16)
variable (arg25 arg26 : DmaSems sig S_)
variable (f4 : Buf (Elt F) (arg4.view.loc (c : Thread nD τ)))

/-- The activations have arrived. -/
def XHeld : sProp 𝕄 :=
  iprop(Holds c arg16 (arg4.view.read (Elt F) f4) ∗ Idle c arg25.sem ∗ Tok c arg4 fullShare f4)
/-- The activations arrive in the first trip. -/
def XAt (i : ℕ) : sProp 𝕄 :=
  if i = 0 then Fetching c arg4 arg16 arg25.sem fullShare f4 else XHeld c arg4 arg16 arg25 f4
/-- The input gradient leaves in the last trip. -/
def DxAt (dx : S768x1536.Idx → Elt F .bf16) (i : ℕ) : sProp 𝕄 :=
  if i = 35 then Putting c arg18 arg7 arg26.sem dx else iprop(Own c arg18 ∗ Own c arg7 ∗ Idle c arg26.sem)
end single

/-- Two ways through a conditional, to one state: the way that does nothing must be in that state already. -/
theorem wp_if {α : Type} {𝒱 : Variants} {bd : Option 𝒱.V} {p : Prop} [Decidable p] {A : p → Prog (TpuEff nD τ sig (Elt F) Λ₀ .tc) α}
    {B : Prog (TpuEff nD τ sig (Elt F) Λ₀ .tc) α} {P R : sProp (MT nD τ sig Unit (Elt F) ℕ (Pipeline.UD sig nD τ) ℕ)}
    {Q : α → sProp (MT nD τ sig Unit (Elt F) ℕ (Pipeline.UD sig nD τ) ℕ)}
    (hA : ∀ h : p, P ⊢ iprop((R -∗ wp frame (wpE defs₀ 𝒱 (c : Thread nD τ) bd) Set.univ B Q)
      -∗ wp frame (wpE defs₀ 𝒱 (c : Thread nD τ) bd) Set.univ (A h) Q))
    (hB : ¬p → P ⊢ R) :
    P ⊢ iprop((R -∗ wp frame (wpE defs₀ 𝒱 (c : Thread nD τ) bd) Set.univ B Q)
      -∗ wp frame (wpE defs₀ 𝒱 (c : Thread nD τ) bd) Set.univ (if h : p then A h else B) Q) := by
  by_cases h : p
  · rw [dif_pos h]; exact hA h
  · rw [dif_neg h]
    iintro HP HQ
    iapply HQ
    iapply (hB h) $$ HP

end Cert.Kernel.Hand
-- ==== Proof.KTrip.lean ====
/-
  The two ends of a trip of the kernel's loop: before the 24 groups of rows, and after them.
-/
module

public import proofs.«01_k».proof.Proof.KState

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}
variable {C : ℕ → S768x256.Idx → Elt F .fp8e5m2} {M : ℕ → S256x1536.Idx → Elt F .f32}

theorem trip_lt (k : Fin k0_t1_loop.trips) : k.val < 35 := lt_of_lt_of_eq k.isLt trips_eq

/-- A load of a whole buffer of rank two is the buffer. -/
theorem load_whole2 {s : Shape} {α : Type} (X : s.Idx → α) {off : Fin s.rank → ℕ} {inb : ∀ a, off a + s.size a ≤ s.size a} :
    (fun j => X ((Rect.unit (s := s) off s.size inb).emb j)) = X := by
  funext j
  congr 1
  funext a
  apply Fin.ext
  rw [Rect.emb_apply]
  have := inb a
  show off a + 1 * (j a).val = (j a).val
  omega

set_option maxHeartbeats 1000000 in
/-- Before the 24 groups: the oldest copies out have left, the newest copies in are issued, the block has arrived. -/
theorem part1_spec (k : Fin k0_t1_loop.trips) (inv : FVec F S8x256 .f32) (m : FVec F S8x256 .f32) (c0 c1 : BitVec 32) {Q}
    (hG11 : ∀ n < 35, (colBlk arg11 n).view.read (Elt F) G11 = C n) (hG8 : ∀ n < 35, (rowBlk arg8 n).view.read (Elt F) G8 = M n) :
    (iprop(CodesW c arg11 arg15 arg24 C k.val ∗ Done c arg11 1 (256 * (k.val - 2)) G11
        ∗ MgW c arg6 arg8 arg14 arg22 arg23 f6 M k.val ∗ Done c arg8 0 (256 * (k.val - 2)) G8 ∗ Owes c
        ∗ DyFree c arg3 arg12 arg20 f3 (k.val + 4) ∗ WFree c arg5 arg13 arg21 f5 (k.val + 4) ∗ DyRead c arg3 arg12 arg20 f3 k.val
        ∗ Holds c arg19 m) : sProp 𝕄)
      ⊢ iprop((iprop(CodesFree c arg15 arg24 (k.val + 4) ∗ Done c arg11 1 (256 * (k.val + 1 - 2)) G11
            ∗ Done c arg8 0 (256 * (k.val + 1 - 2)) G8 ∗ Owes c
            ∗ DyRead c arg3 arg12 arg20 f3 (k.val + 4) ∗ WRead c arg5 arg13 arg21 f5 (k.val + 4) ∗ MgRead c arg6 arg14 arg22 arg23 f6 (k.val + 4)
            ∗ Holds c (slotA arg12 k.val) (dyB c arg3 f3 k.val) ∗ Idle c (cell arg20 k.val) ∗ Tok c (colBlk arg3 k.val) (qs k.val) f3
            ∗ Holds c arg19 m)
          -∗ Q ⟨Scf.iv c0 c1 k, Scalar.remsi (Scf.iv c0 c1 k) 6#32, k0_pay2 (chunk (dyB c arg3 f3 k.val) 0), k0_pay3 m (chunk (dyB c arg3 f3 k.val) 0),
              Scalar.ofBits .f32 0x47600000#32, k0_pay4 inv (chunk (dyB c arg3 f3 k.val) 0)⟩)
        -∗ wp frame (wpE defs₀ 𝒱 (c : Thread nD τ) bd) Set.univ (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv c0 c1 k) Q) := by
  have hk := trip_lt k
  rw [k0_part1_eq_skeleton]
  unfold k0_part1_skel
  iintro ⟨HC, HD11, HM, HD8, HO, HdF, HwF, Hd, H19⟩ Hk
  iapply (wp_if c (P := iprop(CodesW c arg11 arg15 arg24 C k.val ∗ Done c arg11 1 (256 * (k.val - 2)) G11
        ∗ MgW c arg6 arg8 arg14 arg22 arg23 f6 M k.val ∗ Done c arg8 0 (256 * (k.val - 2)) G8 ∗ Owes c))
      (R := iprop(CodesFree c arg15 arg24 (k.val + 4) ∗ Done c arg11 1 (256 * (k.val + 1 - 2)) G11
        ∗ MgIdle c arg6 arg14 arg22 arg23 f6 (k.val + 4) ∗ Done c arg8 0 (256 * (k.val + 1 - 2)) G8 ∗ Owes c)) ?hA ?hB) $$ [HC HD11 HM HD8 HO]
  case hA =>
    intro h1
    have h2 := (cond1_iff k).mp h1
    unfold CodesW MgW
    rw [if_pos h2, if_pos h2]
    iintro ⟨HC, HD11, ⟨HM, Hv22, HT6⟩, HD8, HO⟩ Hk
    iapply (wp_lent' (slotA_of arg15 (off3_eq k h2) _) (colBlk_of arg11 (off2_eq k h2) (by omega) _) (cell_of arg24 (off1_eq k h2) _)) $$ [HC HO]
    · isplitl [HC]; · iexact HC
      iexact HO
    iintro ⟨HB, HS, Hv, HO⟩
    iapply (wp_landed' (slotB_of arg14 (off5_eq k h2) _) (rowBlk_of arg8 (off4_eq k h2) (by omega) _) (cell_of arg23 (off1_eq k h2) _)) $$ [HM HO]
    · isplitl [HM]; · iexact HM
      iexact HO
    iintro ⟨HB8, HS14, Hv23, HO⟩
    iapply Hk
    isplitl [HS Hv]
    · unfold CodesFree; isplitl [HS]; · iexact HS
      iexact Hv
    isplitl [HD11 HB]
    · rw [show k.val + 1 - 2 = (k.val - 2) + 1 by omega]
      iapply (col_add (n := k.val - 2) (by omega) (hG11 (k.val - 2) (by omega))) $$ [HD11 HB]
      isplitl [HD11]; · iexact HD11
      iexact HB
    isplitl [HS14 Hv22 HT6 Hv23]
    · unfold MgIdle
      isplitl [HS14]; · iexact HS14
      isplitl [Hv22]; · iexact Hv22
      isplitl [HT6]; · iexact HT6
      iexact Hv23
    isplitl [HD8 HB8]
    · rw [show k.val + 1 - 2 = (k.val - 2) + 1 by omega]
      iapply (row_add (n := k.val - 2) (by omega) (hG8 (k.val - 2) (by omega))) $$ [HD8 HB8]
      isplitl [HD8]; · iexact HD8
      iexact HB8
    iexact HO
  case hB =>
    intro h1
    have h2 : ¬ 2 ≤ k.val := fun h => h1 ((cond1_iff k).mpr h)
    unfold CodesW MgW
    rw [if_neg h2, if_neg h2, show k.val - 2 = 0 by omega, show k.val + 1 - 2 = 0 by omega]
  · isplitl [HC]; · iexact HC
    isplitl [HD11]; · iexact HD11
    isplitl [HM]; · iexact HM
    isplitl [HD8]; · iexact HD8
    iexact HO
  iintro ⟨HCF, HD11, HMI, HD8, HO⟩
  iapply (wp_if c (P := iprop(DyFree c arg3 arg12 arg20 f3 (k.val + 4) ∗ WFree c arg5 arg13 arg21 f5 (k.val + 4) ∗ MgIdle c arg6 arg14 arg22 arg23 f6 (k.val + 4)))
      (R := iprop(DyRead c arg3 arg12 arg20 f3 (k.val + 4) ∗ WRead c arg5 arg13 arg21 f5 (k.val + 4) ∗ MgRead c arg6 arg14 arg22 arg23 f6 (k.val + 4))) ?hA ?hB) $$ [HdF HwF HMI]
  case hA =>
    intro h1
    have h2 := (cond2_iff k).mp h1
    unfold DyRead WRead MgRead
    rw [if_pos h2, if_pos h2, if_pos h2]
    unfold DyFree WFree MgIdle
    iintro ⟨⟨HS12, Hv20, HT3⟩, ⟨HS13, Hv21, HT5⟩, ⟨HS14, Hv22, HT6, Hv23⟩⟩ Hk
    iapply (wp_fetch' (c := c) (B := colBlk arg3 (k.val + 4)) (D := slotA arg12 (k.val + 4)) (sm := cell arg20 (k.val + 4)) (q := qs (k.val + 4)) (fs := f3) (colBlk_of arg3 (off8_eq k) h2 _) (slotA_of arg12 (off7_eq k) _) (cell_of arg20 (off6_eq k) _) posA) $$ [HS12 Hv20 HT3]
    · isplitl [HS12]; · iexact HS12
      isplitl [Hv20]; · iexact Hv20
      iexact HT3
    iintro Hdy
    iapply (wp_fetch' (c := c) (B := rowBlk arg5 (k.val + 4)) (D := slotB arg13 (k.val + 4)) (sm := cell arg21 (k.val + 4)) (q := qs (k.val + 4)) (fs := f5) (rowBlk_of arg5 (off10_eq k) h2 _) (slotB_of arg13 (off9_eq k) _) (cell_of arg21 (off6_eq k) _) posB) $$ [HS13 Hv21 HT5]
    · isplitl [HS13]; · iexact HS13
      isplitl [Hv21]; · iexact Hv21
      iexact HT5
    iintro Hw
    iapply (wp_fetch' (c := c) (B := rowBlk arg6 (k.val + 4)) (D := slotB arg14 (k.val + 4)) (sm := cell arg22 (k.val + 4)) (q := qs (k.val + 4)) (fs := f6) (rowBlk_of arg6 (off10_eq k) h2 _) (slotB_of arg14 (off9_eq k) _) (cell_of arg22 (off6_eq k) _) posB) $$ [HS14 Hv22 HT6]
    · isplitl [HS14]; · iexact HS14
      isplitl [Hv22]; · iexact Hv22
      iexact HT6
    iintro Hm
    iapply Hk
    isplitl [Hdy]; · iexact Hdy
    isplitl [Hw]; · iexact Hw
    isplitl [Hm]; · iexact Hm
    iexact Hv23
  case hB =>
    intro h1
    have h2 : ¬ k.val + 4 < 35 := fun h => h1 ((cond2_iff k).mpr h)
    unfold DyRead WRead MgRead
    rw [if_neg h2, if_neg h2, if_neg h2]
  · isplitl [HdF]; · iexact HdF
    isplitl [HwF]; · iexact HwF
    iexact HMI
  iintro ⟨HdR, HwR, HmR⟩
  ihave Hd := (dyRead_in hk) $$ Hd
  iapply (wp_arrive' (colBlk_of arg3 (off13_eq k) hk _) (slotA_of arg12 (off12_eq k) _) (cell_of arg20 (off11_eq k) _)) $$ [Hd HO]
  · isplitl [Hd]; · iexact Hd
    iexact HO
  iintro ⟨Hd, Hv, HT, HO⟩
  iapply (wp_loadWhole (Y := m) (load_whole2 (inb := inb_S8x256_S8x256_0_0) m)) $$ H19
  iintro H19
  iapply (wp_loadRows (j := 0) (off14_eq k) (by decide)) $$ Hd; iintro Hd
  iapply (le_wp_ret frame (wpE defs₀ 𝒱 (c : Thread nD τ) bd))
  iapply Hk
  isplitl [HCF]; · iexact HCF
  isplitl [HD11]; · iexact HD11
  isplitl [HD8]; · iexact HD8
  isplitl [HO]; · iexact HO
  isplitl [HdR]; · iexact HdR
  isplitl [HwR]; · iexact HwR
  isplitl [HmR]; · iexact HmR
  isplitl [Hd]; · iexact Hd
  isplitl [Hv]; · iexact Hv
  isplitl [HT]; · iexact HT
  iexact H19

end Cert.Kernel.Hand
-- ==== Proof.KTripEnd.lean ====
/-
  The end of a trip of the kernel's loop: the last group of rows, the sums and the maximum stored, the codes
  sent out, the weights' product added, and in the first and last trips the activations and the input gradient.
-/
module

public import proofs.«01_k».proof.Proof.KTrip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}

/-- Elements held are held as something. -/
theorem own_holds {sp : Space} {s : Shape} {e : EltTy} {D : Memref sig .tc sp s e} :
    (Own c D : sProp 𝕄) ⊢ iprop(∃ X, Holds c D X) := by
  unfold Own
  iintro ⟨%f, Hf⟩
  iexists _
  iapply (Holds.of f) $$ Hf

/-- Storing a whole buffer. -/
theorem wp_storeAll {α : Type} {Q : α → sProp (MT nD τ sig Unit (Elt F) ℕ (Pipeline.UD sig nD τ) ℕ)} {cs : CoreSpace} {s : Shape} {e : EltTy}
    {M : Memref sig .tc cs s e} {X w : s.Idx → Elt F e} {off : Fin s.rank → ℕ}
    {inb : ∀ a, off a + s.size a ≤ s.size a} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} :
    (Holds c M X : sProp 𝕄)
      ⊢ iprop((Holds c M w -∗ wp frame (wpE defs₀ 𝒱 (c : Thread nD τ) bd) Set.univ (k ⟨⟩) Q)
          -∗ wp frame (wpE defs₀ 𝒱 (c : Thread nD τ) bd) Set.univ (.op (.store M (Rect.unit (s := s) off s.size inb) w Finset.univ hx hm) k) Q) := by
  refine wp_storeWhole (fun j => congrFun (load_whole2 w) j) fun x hx => absurd ?_ hx
  rw [Rect.mem_set_unit]
  intro a
  have := inb a
  have := (x a).isLt
  omega

/-- A buffer with one row replaced. -/
def rowSet {β : Type} (X : S70x128.Idx → β) (r : ℕ) (w : S1x128.Idx → β) : S70x128.Idx → β := fun x =>
  if (x 0).val = r then w (ix2 (⟨0, Nat.one_pos⟩ : Fin 1) (x 1)) else X x

theorem wp_storeRow {α : Type} {Q : α → sProp (MT nD τ sig Unit (Elt F) ℕ (Pipeline.UD sig nD τ) ℕ)}
    {M : Memref sig .tc .vmem S70x128 .f32} {X : S70x128.Idx → Elt F .f32} {off : Fin 2 → ℕ} {r : ℕ} (h : off = ![r, 0])
    {inb : ∀ a, off a + S1x128.size a ≤ S70x128.size a} {w : Vec F S1x128 .f32}
    {hx : (M.access (Rect.unit (s := S70x128) off S1x128.size inb)).Stores Finset.univ}
    {hm : (Finset.univ : Finset S1x128.Idx) = Finset.univ ∨ ∀ a, (Rect.unit (s := S70x128) off S1x128.size inb).stride a = 1}
    {k : PUnit → Prog (TpuEff nD τ sig (Elt F) Λ₀ .tc) α} :
    (Holds c M X : sProp 𝕄)
      ⊢ iprop((Holds c M (rowSet X r w) -∗ wp frame (wpE defs₀ 𝒱 (c : Thread nD τ) bd) Set.univ (k ⟨⟩) Q)
          -∗ wp frame (wpE defs₀ 𝒱 (c : Thread nD τ) bd) Set.univ (.op (.store M (Rect.unit (s := S70x128) off S1x128.size inb) w Finset.univ hx hm) k) Q) := by
  subst h
  refine wp_storeWhole (fun j => ?_) fun x hx => ?_
  · have h0 : (j 0).val < 1 := (j 0).isLt
    unfold rowSet
    rw [if_pos (by show r + 1 * (j 0).val = r; omega)]
    congr 1
    funext a
    fin_cases a
    · apply Fin.ext; show 0 = (j 0).val; omega
    · apply Fin.ext; show 0 + 1 * (j 1).val = (j 1).val; omega
  · unfold rowSet
    rw [if_neg]
    intro h0
    apply hx
    rw [Rect.mem_set_unit, Fin.forall_fin_two]
    have h1 : (x 1).val < 128 := (x 1).isLt
    show (r ≤ (x 0).val ∧ (x 0).val < r + 1) ∧ (0 ≤ (x 1).val ∧ (x 1).val < 0 + 128)
    omega

theorem biasBuf_succ (dy : ℕ → S768x256.Idx → Elt F .bf16) (Z : S70x128.Idx → Elt F .f32) (n : ℕ) :
    rowSet (rowSet (biasBuf dy Z n) (2 * n) (sumLo (dy n))) (2 * n + 1) (sumHi (dy n)) = biasBuf dy Z (n + 1) := by
  funext x
  unfold rowSet biasBuf
  by_cases h1 : (x 0).val = 2 * n + 1
  · rw [if_pos h1, if_pos (by omega), if_neg (by omega), show (x 0).val / 2 = n by omega]
  · rw [if_neg h1]
    by_cases h2 : (x 0).val = 2 * n
    · rw [if_pos h2, if_pos (by omega), if_pos (by omega), show (x 0).val / 2 = n by omega]
    · rw [if_neg h2]
      by_cases h3 : (x 0).val < 2 * n
      · rw [if_pos h3, if_pos (show (x 0).val < 2 * (n + 1) by omega)]
      · rw [if_neg h3, if_neg (show ¬ (x 0).val < 2 * (n + 1) by omega)]

/-- The last group of rows. -/
theorem part14_spec (k : Fin k0_t1_loop.trips) (inv : FVec F S8x256 .f32) (dy : ℕ → S768x256.Idx → Elt F .bf16)
    (X : S768x256.Idx → Elt F .fp8e5m2) (Z : S70x128.Idx → Elt F .f32) (m : FVec F S8x256 .f32) (a27 v107 : BitVec 32) (v639 v642 : FVec F S8x256 .f32) {Q}
    (h88 : k0_pay88 v639 (k0_pay84 (chunk (dy k.val) 23)) = sumV (dy k.val)) :
    (iprop(Holds c (slotA arg12 k.val) (dy k.val) ∗ Holds c (slotA arg15 k.val) (upTo (codesB inv (dy k.val)) X 23)
        ∗ Holds c arg19 m ∗ Holds c arg9 (biasBuf dy Z k.val)) : sProp 𝕄)
      ⊢ iprop((iprop(Holds c (slotA arg12 k.val) (dy k.val) ∗ Holds c (slotA arg15 k.val) (codesB inv (dy k.val))
            ∗ Holds c arg19 (k0_pay87 v642 (k0_pay84 (chunk (dy k.val) 23))) ∗ Holds c arg9 (biasBuf dy Z (k.val + 1)))
          -∗ Q ⟨⟩)
        -∗ wp frame (wpE defs₀ 𝒱 (c : Thread nD τ) bd) Set.univ (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k a27 v107 v639 v642 (k0_pay84 (chunk (dy k.val) 23))) Q) := by
  have e89 : k0_pay89 v639 (k0_pay84 (chunk (dy k.val) 23)) = sumLo (dy k.val) := by
    show extractStridedSlice S1x128 ![0, 0] (k0_pay88 v639 (k0_pay84 (chunk (dy k.val) 23))) slices_S1x256_o0_0_S1x128 = _
    rw [h88]; rfl
  have e90 : k0_pay90 v639 (k0_pay84 (chunk (dy k.val) 23)) = sumHi (dy k.val) := by
    show extractStridedSlice S1x128 ![0, 128] (k0_pay88 v639 (k0_pay84 (chunk (dy k.val) 23))) slices_S1x256_o0_128_S1x128 = _
    rw [h88]; rfl
  rw [k0_part14_eq_skeleton]
  unfold k0_part14_skel
  rw [e89, e90, ← biasBuf_succ]
  have eU : (Holds c (slotA arg15 k.val) (upTo (codesB inv (dy k.val)) X (23 + 1)) : sProp 𝕄) ⊢ Holds c (slotA arg15 k.val) (codesB inv (dy k.val)) := by
    rw [upTo_full]
  iintro ⟨HD, HC, H19, H9⟩ Hk
  iapply (wp_loadRows (j := 23) (off37_eq k) (by decide)) $$ HC; iintro HC
  iapply (wp_storeRows (j := 23) (off37_eq k) (by decide) (chunk_codesB inv (dy k.val) 23 (by decide))) $$ HC; iintro HC
  iapply (wp_loadWhole rfl) $$ H19; iintro H19
  iapply (wp_storeAll) $$ H19; iintro H19
  iapply (wp_loadWhole rfl) $$ H9; iintro H9
  iapply (wp_storeRow (off38_eq0 k)) $$ H9; iintro H9
  iapply (wp_loadWhole rfl) $$ H9; iintro H9
  iapply (wp_storeRow (off38_eq1 k)) $$ H9; iintro H9
  iapply (le_wp_ret frame (wpE defs₀ 𝒱 (c : Thread nD τ) bd))
  iapply Hk
  isplitl [HD]; · iexact HD
  isplitl [HC]; · iapply eU $$ HC
  isplitl [H19]; · iexact H19
  iexact H9

theorem first_iff (k : Fin k0_t1_loop.trips) :
    Scalar.cmpi .ne (Scalar.extui (Scalar.cmpi .eq (Scf.iv 0#32 1#32 k) 0#32) : BitVec 32) 0#32 = 1#1 ↔ k.val = 0 := by
  revert k; decide +kernel
theorem last_iff (k : Fin k0_t1_loop.trips) :
    Scalar.cmpi .ne (Scalar.extui (Scalar.cmpi .eq (Scf.iv 0#32 1#32 k) 34#32) : BitVec 32) 0#32 = 1#1 ↔ k.val = 34 := by
  revert k; decide +kernel

/-- The word an array of one word holds. -/
def one {β : Type} (s : S1.Idx → β) : β := s (Shape.Idx.first (by decide))

set_option maxHeartbeats 1000000 in
/-- The codes leave, the weights arrive and their product is added; in the first trip the activations arrive, in
the last the input gradient leaves; the master gradient's block arrives. -/
theorem part15_spec (k : Fin k0_t1_loop.trips) (C : S768x256.Idx → Elt F .fp8e5m2) (A : FVec F S768x1536 .f32) (v72 : F .f32)
    (s2 : S1.Idx → Elt F .f32) (dx : S768x1536.Idx → Elt F .bf16) (v107 : BitVec 32) {Q}
    (hdx : k.val = 34 → k0_pay92 v72 (k0_pay91 A (up3A C) (up3B (wB c arg5 f5 k.val))) (one s2) = dx) :
    (iprop(Holds c (slotA arg15 k.val) C ∗ Idle c (cell arg24 k.val) ∗ Rest c arg11 1 (256 * k.val) ∗ Owes c
        ∗ WRead c arg5 arg13 arg21 f5 k.val ∗ Holds c arg17 A ∗ XAt c arg4 arg16 arg25 f4 k.val ∗ Holds c arg2 s2
        ∗ DxAt c arg7 arg18 arg26 dx k.val ∗ MgRead c arg6 arg14 arg22 arg23 f6 k.val) : sProp 𝕄)
      ⊢ iprop((iprop(Lending c (slotA arg15 k.val) (colBlk arg11 k.val) (cell arg24 k.val) C ∗ Rest c arg11 1 (256 * (k.val + 1)) ∗ Owes c
            ∗ WFree c arg5 arg13 arg21 f5 k.val ∗ Holds c arg17 (k0_pay91 A (up3A C) (up3B (wB c arg5 f5 k.val)))
            ∗ XHeld c arg4 arg16 arg25 f4 ∗ Holds c arg2 s2 ∗ DxAt c arg7 arg18 arg26 dx (k.val + 1)
            ∗ Holds c (slotB arg14 k.val) (mgB c arg6 f6 k.val) ∗ Idle c (cell arg22 k.val) ∗ Tok c (rowBlk arg6 k.val) (qs k.val) f6 ∗ Idle c (cell arg23 k.val))
          -∗ Q (k0_pay93 (up3B (mgB c arg6 f6 k.val))))
        -∗ wp frame (wpE defs₀ 𝒱 (c : Thread nD τ) bd) Set.univ (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 v72 k (Scf.iv 0#32 1#32 k) v107) Q) := by
  have hk := trip_lt k
  rw [k0_part15_eq_skeleton]
  unfold k0_part15_skel
  iintro ⟨HC, Hv24, HR, HO, HW, H17, HX, H2, HDx, HM⟩ Hk
  icases (col_take hk) $$ HR with ⟨HB, HR⟩
  iapply (wp_lend' (c := c) (S := slotA arg15 k.val) (B := colBlk arg11 k.val) (sm := cell arg24 k.val) (slotA_of arg15 (off12_eq k) _)
    (colBlk_of arg11 (off13_eq k) hk _) (cell_of arg24 (off11_eq k) _) posA) $$ [HC Hv24 HB]
  · isplitl [HC]; · iexact HC
    isplitl [Hv24]; · iexact Hv24
    iexact HB
  iintro HL
  ihave HW := (wRead_in hk) $$ HW
  iapply (wp_arrive' (rowBlk_of arg5 (off40_eq k) hk _) (slotB_of arg13 (off39_eq k) _) (cell_of arg21 (off11_eq k) _)) $$ [HW HO]
  · isplitl [HW]; · iexact HW
    iexact HO
  iintro ⟨HW, Hv21, HT5, HO⟩
  iapply (wp_loadWhole (load_whole2 A)) $$ H17; iintro H17
  iapply (wp_loadLentA (off41_eq k)) $$ HL; iintro HL
  iapply (wp_loadB (off42_eq k)) $$ HW; iintro HW
  iapply (wp_loadWhole rfl) $$ H17; iintro H17
  iapply (wp_storeAll) $$ H17; iintro H17
  iapply (wp_if c (P := iprop(XAt c arg4 arg16 arg25 f4 k.val ∗ Owes c)) (R := iprop(XHeld c arg4 arg16 arg25 f4 ∗ Owes c)) ?hA ?hB) $$ [HX HO]
  case hA =>
    intro h1
    have h2 := (first_iff k).mp h1
    unfold XAt
    rw [if_pos h2]
    iintro ⟨HX, HO⟩ Hk
    iapply (wp_arrive' rfl rfl rfl) $$ [HX HO]
    · isplitl [HX]; · iexact HX
      iexact HO
    iintro ⟨HX, Hv, HT, HO⟩
    iapply Hk
    isplitl [HX Hv HT]
    · unfold XHeld
      isplitl [HX]; · iexact HX
      isplitl [Hv]; · iexact Hv
      iexact HT
    iexact HO
  case hB =>
    intro h1
    have h2 : ¬ k.val = 0 := fun h => h1 ((first_iff k).mpr h)
    unfold XAt
    rw [if_neg h2]
  · isplitl [HX]; · iexact HX
    iexact HO
  iintro ⟨HX, HO⟩
  iapply (wp_if c (P := iprop(Holds c arg17 (k0_pay91 A (up3A C) (up3B (wB c arg5 f5 k.val))) ∗ Holds c arg2 s2 ∗ DxAt c arg7 arg18 arg26 dx k.val))
    (R := iprop(Holds c arg17 (k0_pay91 A (up3A C) (up3B (wB c arg5 f5 k.val))) ∗ Holds c arg2 s2 ∗ DxAt c arg7 arg18 arg26 dx (k.val + 1))) ?hA ?hB) $$ [H17 H2 HDx]
  case hA =>
    intro h1
    have h2 := (last_iff k).mp h1
    have h3 := hdx h2
    subst h3
    unfold DxAt
    rw [if_neg (by omega), if_pos (by omega)]
    iintro ⟨H17, H2, ⟨H18, H7, Hv⟩⟩ Hk
    icases (own_holds) $$ H18 with ⟨%Y, H18⟩
    iapply (wp_loadWhole (load_whole2 _)) $$ H17; iintro H17
    iapply (wp_loadWhole (load_whole2 s2)) $$ H2; iintro H2
    iapply (wp_loadWhole rfl) $$ H18; iintro H18
    iapply (wp_storeAll) $$ H18; iintro H18
    iapply (wp_put' (c := c) (S := arg18) (B := arg7) (sm := arg26.sem) rfl rfl rfl posC) $$ [H18 Hv H7]
    · isplitl [H18]; · iexact H18
      isplitl [Hv]; · iexact Hv
      iexact H7
    iintro HP
    iapply Hk
    isplitl [H17]; · iexact H17
    isplitl [H2]; · iexact H2
    iexact HP
  case hB =>
    intro h1
    have h2 : ¬ k.val = 34 := fun h => h1 ((last_iff k).mpr h)
    unfold DxAt
    rw [if_neg (by omega), if_neg (by omega)]
  · isplitl [H17]; · iexact H17
    isplitl [H2]; · iexact H2
    iexact HDx
  iintro ⟨H17, H2, HDx⟩
  icases (mgRead_in hk) $$ HM with ⟨HM, Hv23⟩
  iapply (wp_arrive' (rowBlk_of arg6 (off40_eq k) hk _) (slotB_of arg14 (off39_eq k) _) (cell_of arg22 (off11_eq k) _)) $$ [HM HO]
  · isplitl [HM]; · iexact HM
    iexact HO
  iintro ⟨HM, Hv22, HT6, HO⟩
  iapply (wp_loadB (off42_eq k)) $$ HM; iintro HM
  iapply (le_wp_ret frame (wpE defs₀ 𝒱 (c : Thread nD τ) bd))
  iapply Hk
  isplitl [HL]; · iexact HL
  isplitl [HR]; · iexact HR
  isplitl [HO]; · iexact HO
  isplitl [HW Hv21 HT5]
  · unfold WFree
    isplitl [HW]; · iapply Holds.own $$ HW
    isplitl [Hv21]; · iexact Hv21
    iexact HT5
  isplitl [H17]; · iexact H17
  isplitl [HX]; · iexact HX
  isplitl [H2]; · iexact H2
  isplitl [HDx]; · iexact HDx
  isplitl [HM]; · iexact HM
  isplitl [Hv22]; · iexact Hv22
  isplitl [HT6]; · iexact HT6
  iexact Hv23

end Cert.Kernel.Hand
-- ==== Proof.KChunks.lean ====
/-
  The 24 groups of 32 rows of a block, in the order the kernel goes through them: each group is loaded, its
  codes stored, its rows added to the column sums and its largest magnitude taken.
-/
module

public import proofs.«01_k».proof.Proof.KVals

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}

theorem part2_spec (k : Fin k0_t1_loop.trips) (inv : FVec F S8x256 .f32) (D : S768x256.Idx → Elt F .bf16)
    (X : S768x256.Idx → Elt F .fp8e5m2) (v107 : BitVec 32) (v133 : FVec F S8x256 .f32) (v136 : FVec F S8x256 .f32) {Q} :
    (iprop(Holds c (slotA arg12 k.val) D ∗ Holds c (slotA arg15 k.val) (upTo (codesB inv D) X 0)) : sProp 𝕄)
      ⊢ iprop((iprop(Holds c (slotA arg12 k.val) D ∗ Holds c (slotA arg15 k.val) (upTo (codesB inv D) X 2))
          -∗ Q ⟨k0_pay9 v133 (chunk D 1) (chunk D 2), k0_pay10 v136 (chunk D 1) (chunk D 2), k0_pay11 inv (chunk D 2)⟩)
        -∗ wp frame (wpE defs₀ 𝒱 (c : Thread nD τ) bd) Set.univ (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v133 v136 (Scalar.ofBits .f32 0x47600000#32) (k0_pay4 inv (chunk D 0))) Q) := by
  rw [k0_part2_eq_skeleton]
  unfold k0_part2_skel
  iintro ⟨HD, HC⟩ Hk
  iapply (wp_loadRows (j := 0) (off14_eq k) (by decide)) $$ HC; iintro HC
  iapply (wp_storeRows (j := 0) (off14_eq k) (by decide) (chunk_codesB inv D 0 (by decide))) $$ HC; iintro HC
  iapply (wp_loadRows (j := 1) (off15_eq k) (by decide)) $$ HD; iintro HD
  iapply (wp_loadRows (j := 1) (off15_eq k) (by decide)) $$ HC; iintro HC
  iapply (wp_storeRows (j := 1) (off15_eq k) (by decide) (chunk_codesB inv D 1 (by decide))) $$ HC; iintro HC
  iapply (wp_loadRows (j := 2) (off16_eq k) (by decide)) $$ HD; iintro HD
  iapply (le_wp_ret frame (wpE defs₀ 𝒱 (c : Thread nD τ) bd))
  iapply Hk
  isplitl [HD]
  · iexact HD
  · iexact HC

theorem part3_spec (k : Fin k0_t1_loop.trips) (inv : FVec F S8x256 .f32) (D : S768x256.Idx → Elt F .bf16)
    (X : S768x256.Idx → Elt F .fp8e5m2) (v107 : BitVec 32) (v179 : FVec F S8x256 .f32) (v182 : FVec F S8x256 .f32) {Q} :
    (iprop(Holds c (slotA arg12 k.val) D ∗ Holds c (slotA arg15 k.val) (upTo (codesB inv D) X 2)) : sProp 𝕄)
      ⊢ iprop((iprop(Holds c (slotA arg12 k.val) D ∗ Holds c (slotA arg15 k.val) (upTo (codesB inv D) X 4))
          -∗ Q ⟨k0_pay14 v182 (chunk D 3), k0_pay16 (chunk D 4), k0_pay17 v179 (chunk D 3) (chunk D 4), k0_pay18 (chunk D 4)⟩)
        -∗ wp frame (wpE defs₀ 𝒱 (c : Thread nD τ) bd) Set.univ (k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v179 v182 (k0_pay11 inv (chunk D 2))) Q) := by
  rw [k0_part3_eq_skeleton]
  unfold k0_part3_skel
  iintro ⟨HD, HC⟩ Hk
  iapply (wp_loadRows (j := 2) (off16_eq k) (by decide)) $$ HC; iintro HC
  iapply (wp_storeRows (j := 2) (off16_eq k) (by decide) (chunk_codesB inv D 2 (by decide))) $$ HC; iintro HC
  iapply (wp_loadRows (j := 3) (off17_eq k) (by decide)) $$ HD; iintro HD
  iapply (wp_loadRows (j := 3) (off17_eq k) (by decide)) $$ HC; iintro HC
  iapply (wp_storeRows (j := 3) (off17_eq k) (by decide) (chunk_codesB inv D 3 (by decide))) $$ HC; iintro HC
  iapply (wp_loadRows (j := 4) (off18_eq k) (by decide)) $$ HD; iintro HD
  iapply (le_wp_ret frame (wpE defs₀ 𝒱 (c : Thread nD τ) bd))
  iapply Hk
  isplitl [HD]
  · iexact HD
  · iexact HC

theorem part4_spec (k : Fin k0_t1_loop.trips) (inv : FVec F S8x256 .f32) (D : S768x256.Idx → Elt F .bf16)
    (X : S768x256.Idx → Elt F .fp8e5m2) (v107 : BitVec 32) (v205 : FVec F S8x256 .f32) (v225 : FVec F S8x256 .f32) {Q} :
    (iprop(Holds c (slotA arg12 k.val) D ∗ Holds c (slotA arg15 k.val) (upTo (codesB inv D) X 4)) : sProp 𝕄)
      ⊢ iprop((iprop(Holds c (slotA arg12 k.val) D ∗ Holds c (slotA arg15 k.val) (upTo (codesB inv D) X 6))
          -∗ Q ⟨k0_pay21 v225 (chunk D 5), k0_pay22 v205 (k0_pay18 (chunk D 4)) (chunk D 5), k0_pay24 (chunk D 6), k0_pay25 (chunk D 6)⟩)
        -∗ wp frame (wpE defs₀ 𝒱 (c : Thread nD τ) bd) Set.univ (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v205 (k0_pay16 (chunk D 4)) v225 (k0_pay18 (chunk D 4))) Q) := by
  rw [k0_part4_eq_skeleton]
  unfold k0_part4_skel
  iintro ⟨HD, HC⟩ Hk
  iapply (wp_loadRows (j := 4) (off18_eq k) (by decide)) $$ HC; iintro HC
  iapply (wp_storeRows (j := 4) (off18_eq k) (by decide) (chunk_codesB inv D 4 (by decide))) $$ HC; iintro HC
  iapply (wp_loadRows (j := 5) (off19_eq k) (by decide)) $$ HD; iintro HD
  iapply (wp_loadRows (j := 5) (off19_eq k) (by decide)) $$ HC; iintro HC
  iapply (wp_storeRows (j := 5) (off19_eq k) (by decide) (chunk_codesB inv D 5 (by decide))) $$ HC; iintro HC
  iapply (wp_loadRows (j := 6) (off20_eq k) (by decide)) $$ HD; iintro HD
  iapply (le_wp_ret frame (wpE defs₀ 𝒱 (c : Thread nD τ) bd))
  iapply Hk
  isplitl [HD]
  · iexact HD
  · iexact HC

theorem part5_spec (k : Fin k0_t1_loop.trips) (inv : FVec F S8x256 .f32) (D : S768x256.Idx → Elt F .bf16)
    (X : S768x256.Idx → Elt F .fp8e5m2) (v107 : BitVec 32) (v248 : FVec F S8x256 .f32) (v251 : FVec F S8x256 .f32) {Q} :
    (iprop(Holds c (slotA arg12 k.val) D ∗ Holds c (slotA arg15 k.val) (upTo (codesB inv D) X 6)) : sProp 𝕄)
      ⊢ iprop((iprop(Holds c (slotA arg12 k.val) D ∗ Holds c (slotA arg15 k.val) (upTo (codesB inv D) X 8))
          -∗ Q ⟨k0_pay28 v248 (k0_pay25 (chunk D 6)) (chunk D 7), k0_pay29 v251 (k0_pay24 (chunk D 6)) (chunk D 7), k0_pay31 (chunk D 8)⟩)
        -∗ wp frame (wpE defs₀ 𝒱 (c : Thread nD τ) bd) Set.univ (k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v248 v251 (k0_pay24 (chunk D 6)) (k0_pay25 (chunk D 6))) Q) := by
  rw [k0_part5_eq_skeleton]
  unfold k0_part5_skel
  iintro ⟨HD, HC⟩ Hk
  iapply (wp_loadRows (j := 6) (off20_eq k) (by decide)) $$ HC; iintro HC
  iapply (wp_storeRows (j := 6) (off20_eq k) (by decide) (chunk_codesB inv D 6 (by decide))) $$ HC; iintro HC
  iapply (wp_loadRows (j := 7) (off21_eq k) (by decide)) $$ HD; iintro HD
  iapply (wp_loadRows (j := 7) (off21_eq k) (by decide)) $$ HC; iintro HC
  iapply (wp_storeRows (j := 7) (off21_eq k) (by decide) (chunk_codesB inv D 7 (by decide))) $$ HC; iintro HC
  iapply (wp_loadRows (j := 8) (off22_eq k) (by decide)) $$ HD; iintro HD
  iapply (le_wp_ret frame (wpE defs₀ 𝒱 (c : Thread nD τ) bd))
  iapply Hk
  isplitl [HD]
  · iexact HD
  · iexact HC

theorem part6_spec (k : Fin k0_t1_loop.trips) (inv : FVec F S8x256 .f32) (D : S768x256.Idx → Elt F .bf16)
    (X : S768x256.Idx → Elt F .fp8e5m2) (v107 : BitVec 32) (v294 : FVec F S8x256 .f32) (v297 : FVec F S8x256 .f32) {Q} :
    (iprop(Holds c (slotA arg12 k.val) D ∗ Holds c (slotA arg15 k.val) (upTo (codesB inv D) X 8)) : sProp 𝕄)
      ⊢ iprop((iprop(Holds c (slotA arg12 k.val) D ∗ Holds c (slotA arg15 k.val) (upTo (codesB inv D) X 10))
          -∗ Q ⟨k0_pay35 v294 (k0_pay31 (chunk D 8)) (chunk D 9), k0_pay36 v297 (k0_pay31 (chunk D 8)) (chunk D 9)⟩)
        -∗ wp frame (wpE defs₀ 𝒱 (c : Thread nD τ) bd) Set.univ (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v294 v297 (k0_pay31 (chunk D 8))) Q) := by
  rw [k0_part6_eq_skeleton]
  unfold k0_part6_skel
  iintro ⟨HD, HC⟩ Hk
  iapply (wp_loadRows (j := 8) (off22_eq k) (by decide)) $$ HC; iintro HC
  iapply (wp_storeRows (j := 8) (off22_eq k) (by decide) (chunk_codesB inv D 8 (by decide))) $$ HC; iintro HC
  iapply (wp_loadRows (j := 9) (off23_eq k) (by decide)) $$ HD; iintro HD
  iapply (wp_loadRows (j := 9) (off23_eq k) (by decide)) $$ HC; iintro HC
  iapply (wp_storeRows (j := 9) (off23_eq k) (by decide) (chunk_codesB inv D 9 (by decide))) $$ HC; iintro HC
  iapply (le_wp_ret frame (wpE defs₀ 𝒱 (c : Thread nD τ) bd))
  iapply Hk
  isplitl [HD]
  · iexact HD
  · iexact HC

theorem part7_spec (k : Fin k0_t1_loop.trips) (inv : FVec F S8x256 .f32) (D : S768x256.Idx → Elt F .bf16)
    (X : S768x256.Idx → Elt F .fp8e5m2) (v107 : BitVec 32) (v340 : FVec F S8x256 .f32) (v343 : FVec F S8x256 .f32) {Q} :
    (iprop(Holds c (slotA arg12 k.val) D ∗ Holds c (slotA arg15 k.val) (upTo (codesB inv D) X 10)) : sProp 𝕄)
      ⊢ iprop((iprop(Holds c (slotA arg12 k.val) D ∗ Holds c (slotA arg15 k.val) (upTo (codesB inv D) X 11))
          -∗ Q ⟨k0_pay41 v340 (chunk D 10) (chunk D 11), k0_pay42 v343 (chunk D 10) (chunk D 11), k0_pay43 inv (chunk D 11), (chunk (upTo (codesB inv D) X 11) 11)⟩)
        -∗ wp frame (wpE defs₀ 𝒱 (c : Thread nD τ) bd) Set.univ (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v340 v343) Q) := by
  rw [k0_part7_eq_skeleton]
  unfold k0_part7_skel
  iintro ⟨HD, HC⟩ Hk
  iapply (wp_loadRows (j := 10) (off24_eq k) (by decide)) $$ HD; iintro HD
  iapply (wp_loadRows (j := 10) (off24_eq k) (by decide)) $$ HC; iintro HC
  iapply (wp_storeRows (j := 10) (off24_eq k) (by decide) (chunk_codesB inv D 10 (by decide))) $$ HC; iintro HC
  iapply (wp_loadRows (j := 11) (off25_eq k) (by decide)) $$ HD; iintro HD
  iapply (wp_loadRows (j := 11) (off25_eq k) (by decide)) $$ HC; iintro HC
  iapply (le_wp_ret frame (wpE defs₀ 𝒱 (c : Thread nD τ) bd))
  iapply Hk
  isplitl [HD]
  · iexact HD
  · iexact HC

theorem part8_spec (k : Fin k0_t1_loop.trips) (inv : FVec F S8x256 .f32) (D : S768x256.Idx → Elt F .bf16)
    (X : S768x256.Idx → Elt F .fp8e5m2) (v107 : BitVec 32) (v386 : FVec F S8x256 .f32) (v389 : FVec F S8x256 .f32) (v400 : Vec F S1x32x256 .fp8e5m2) {Q} :
    (iprop(Holds c (slotA arg12 k.val) D ∗ Holds c (slotA arg15 k.val) (upTo (codesB inv D) X 11)) : sProp 𝕄)
      ⊢ iprop((iprop(Holds c (slotA arg12 k.val) D ∗ Holds c (slotA arg15 k.val) (upTo (codesB inv D) X 13))
          -∗ Q ⟨k0_pay48 v386 (chunk D 12) (chunk D 13), k0_pay49 v389 (chunk D 12) (chunk D 13), k0_pay50 inv (chunk D 13)⟩)
        -∗ wp frame (wpE defs₀ 𝒱 (c : Thread nD τ) bd) Set.univ (k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v386 v389 (k0_pay43 inv (chunk D 11)) v400) Q) := by
  rw [k0_part8_eq_skeleton]
  unfold k0_part8_skel
  iintro ⟨HD, HC⟩ Hk
  iapply (wp_storeRows (j := 11) (off25_eq k) (by decide) (chunk_codesB inv D 11 (by decide))) $$ HC; iintro HC
  iapply (wp_loadRows (j := 12) (off26_eq k) (by decide)) $$ HD; iintro HD
  iapply (wp_loadRows (j := 12) (off26_eq k) (by decide)) $$ HC; iintro HC
  iapply (wp_storeRows (j := 12) (off26_eq k) (by decide) (chunk_codesB inv D 12 (by decide))) $$ HC; iintro HC
  iapply (wp_loadRows (j := 13) (off27_eq k) (by decide)) $$ HD; iintro HD
  iapply (le_wp_ret frame (wpE defs₀ 𝒱 (c : Thread nD τ) bd))
  iapply Hk
  isplitl [HD]
  · iexact HD
  · iexact HC

theorem part9_spec (k : Fin k0_t1_loop.trips) (inv : FVec F S8x256 .f32) (D : S768x256.Idx → Elt F .bf16)
    (X : S768x256.Idx → Elt F .fp8e5m2) (v107 : BitVec 32) (v432 : FVec F S8x256 .f32) (v435 : FVec F S8x256 .f32) {Q} :
    (iprop(Holds c (slotA arg12 k.val) D ∗ Holds c (slotA arg15 k.val) (upTo (codesB inv D) X 13)) : sProp 𝕄)
      ⊢ iprop((iprop(Holds c (slotA arg12 k.val) D ∗ Holds c (slotA arg15 k.val) (upTo (codesB inv D) X 15))
          -∗ Q ⟨k0_pay55 v432 (chunk D 14) (chunk D 15), k0_pay56 v435 (chunk D 14) (chunk D 15), (Scalar.ofBits .f32 0x47600000#32), k0_pay57 inv (chunk D 15)⟩)
        -∗ wp frame (wpE defs₀ 𝒱 (c : Thread nD τ) bd) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v432 v435 (k0_pay50 inv (chunk D 13))) Q) := by
  rw [k0_part9_eq_skeleton]
  unfold k0_part9_skel
  iintro ⟨HD, HC⟩ Hk
  iapply (wp_loadRows (j := 13) (off27_eq k) (by decide)) $$ HC; iintro HC
  iapply (wp_storeRows (j := 13) (off27_eq k) (by decide) (chunk_codesB inv D 13 (by decide))) $$ HC; iintro HC
  iapply (wp_loadRows (j := 14) (off28_eq k) (by decide)) $$ HD; iintro HD
  iapply (wp_loadRows (j := 14) (off28_eq k) (by decide)) $$ HC; iintro HC
  iapply (wp_storeRows (j := 14) (off28_eq k) (by decide) (chunk_codesB inv D 14 (by decide))) $$ HC; iintro HC
  iapply (wp_loadRows (j := 15) (off29_eq k) (by decide)) $$ HD; iintro HD
  iapply (le_wp_ret frame (wpE defs₀ 𝒱 (c : Thread nD τ) bd))
  iapply Hk
  isplitl [HD]
  · iexact HD
  · iexact HC

theorem part10_spec (k : Fin k0_t1_loop.trips) (inv : FVec F S8x256 .f32) (D : S768x256.Idx → Elt F .bf16)
    (X : S768x256.Idx → Elt F .fp8e5m2) (v107 : BitVec 32) (v478 : FVec F S8x256 .f32) (v481 : FVec F S8x256 .f32) {Q} :
    (iprop(Holds c (slotA arg12 k.val) D ∗ Holds c (slotA arg15 k.val) (upTo (codesB inv D) X 15)) : sProp 𝕄)
      ⊢ iprop((iprop(Holds c (slotA arg12 k.val) D ∗ Holds c (slotA arg15 k.val) (upTo (codesB inv D) X 17))
          -∗ Q ⟨k0_pay62 v478 (chunk D 16) (chunk D 17), k0_pay63 v481 (chunk D 16) (chunk D 17), k0_pay64 inv (chunk D 17)⟩)
        -∗ wp frame (wpE defs₀ 𝒱 (c : Thread nD τ) bd) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v478 v481 (Scalar.ofBits .f32 0x47600000#32) (k0_pay57 inv (chunk D 15))) Q) := by
  rw [k0_part10_eq_skeleton]
  unfold k0_part10_skel
  iintro ⟨HD, HC⟩ Hk
  iapply (wp_loadRows (j := 15) (off29_eq k) (by decide)) $$ HC; iintro HC
  iapply (wp_storeRows (j := 15) (off29_eq k) (by decide) (chunk_codesB inv D 15 (by decide))) $$ HC; iintro HC
  iapply (wp_loadRows (j := 16) (off30_eq k) (by decide)) $$ HD; iintro HD
  iapply (wp_loadRows (j := 16) (off30_eq k) (by decide)) $$ HC; iintro HC
  iapply (wp_storeRows (j := 16) (off30_eq k) (by decide) (chunk_codesB inv D 16 (by decide))) $$ HC; iintro HC
  iapply (wp_loadRows (j := 17) (off31_eq k) (by decide)) $$ HD; iintro HD
  iapply (le_wp_ret frame (wpE defs₀ 𝒱 (c : Thread nD τ) bd))
  iapply Hk
  isplitl [HD]
  · iexact HD
  · iexact HC

theorem part11_spec (k : Fin k0_t1_loop.trips) (inv : FVec F S8x256 .f32) (D : S768x256.Idx → Elt F .bf16)
    (X : S768x256.Idx → Elt F .fp8e5m2) (v107 : BitVec 32) (v524 : FVec F S8x256 .f32) (v527 : FVec F S8x256 .f32) {Q} :
    (iprop(Holds c (slotA arg12 k.val) D ∗ Holds c (slotA arg15 k.val) (upTo (codesB inv D) X 17)) : sProp 𝕄)
      ⊢ iprop((iprop(Holds c (slotA arg12 k.val) D ∗ Holds c (slotA arg15 k.val) (upTo (codesB inv D) X 19))
          -∗ Q ⟨k0_pay67 v527 (chunk D 18), k0_pay69 (chunk D 19), k0_pay70 v524 (chunk D 18) (chunk D 19), k0_pay71 (chunk D 19)⟩)
        -∗ wp frame (wpE defs₀ 𝒱 (c : Thread nD τ) bd) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v524 v527 (k0_pay64 inv (chunk D 17))) Q) := by
  rw [k0_part11_eq_skeleton]
  unfold k0_part11_skel
  iintro ⟨HD, HC⟩ Hk
  iapply (wp_loadRows (j := 17) (off31_eq k) (by decide)) $$ HC; iintro HC
  iapply (wp_storeRows (j := 17) (off31_eq k) (by decide) (chunk_codesB inv D 17 (by decide))) $$ HC; iintro HC
  iapply (wp_loadRows (j := 18) (off32_eq k) (by decide)) $$ HD; iintro HD
  iapply (wp_loadRows (j := 18) (off32_eq k) (by decide)) $$ HC; iintro HC
  iapply (wp_storeRows (j := 18) (off32_eq k) (by decide) (chunk_codesB inv D 18 (by decide))) $$ HC; iintro HC
  iapply (wp_loadRows (j := 19) (off33_eq k) (by decide)) $$ HD; iintro HD
  iapply (le_wp_ret frame (wpE defs₀ 𝒱 (c : Thread nD τ) bd))
  iapply Hk
  isplitl [HD]
  · iexact HD
  · iexact HC

theorem part12_spec (k : Fin k0_t1_loop.trips) (inv : FVec F S8x256 .f32) (D : S768x256.Idx → Elt F .bf16)
    (X : S768x256.Idx → Elt F .fp8e5m2) (v107 : BitVec 32) (v550 : FVec F S8x256 .f32) (v570 : FVec F S8x256 .f32) {Q} :
    (iprop(Holds c (slotA arg12 k.val) D ∗ Holds c (slotA arg15 k.val) (upTo (codesB inv D) X 19)) : sProp 𝕄)
      ⊢ iprop((iprop(Holds c (slotA arg12 k.val) D ∗ Holds c (slotA arg15 k.val) (upTo (codesB inv D) X 21))
          -∗ Q ⟨k0_pay74 v570 (chunk D 20), k0_pay75 v550 (k0_pay71 (chunk D 19)) (chunk D 20), k0_pay77 (chunk D 21), k0_pay78 (chunk D 21)⟩)
        -∗ wp frame (wpE defs₀ 𝒱 (c : Thread nD τ) bd) Set.univ (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v550 (k0_pay69 (chunk D 19)) v570 (k0_pay71 (chunk D 19))) Q) := by
  rw [k0_part12_eq_skeleton]
  unfold k0_part12_skel
  iintro ⟨HD, HC⟩ Hk
  iapply (wp_loadRows (j := 19) (off33_eq k) (by decide)) $$ HC; iintro HC
  iapply (wp_storeRows (j := 19) (off33_eq k) (by decide) (chunk_codesB inv D 19 (by decide))) $$ HC; iintro HC
  iapply (wp_loadRows (j := 20) (off34_eq k) (by decide)) $$ HD; iintro HD
  iapply (wp_loadRows (j := 20) (off34_eq k) (by decide)) $$ HC; iintro HC
  iapply (wp_storeRows (j := 20) (off34_eq k) (by decide) (chunk_codesB inv D 20 (by decide))) $$ HC; iintro HC
  iapply (wp_loadRows (j := 21) (off35_eq k) (by decide)) $$ HD; iintro HD
  iapply (le_wp_ret frame (wpE defs₀ 𝒱 (c : Thread nD τ) bd))
  iapply Hk
  isplitl [HD]
  · iexact HD
  · iexact HC

theorem part13_spec (k : Fin k0_t1_loop.trips) (inv : FVec F S8x256 .f32) (D : S768x256.Idx → Elt F .bf16)
    (X : S768x256.Idx → Elt F .fp8e5m2) (v107 : BitVec 32) (v593 : FVec F S8x256 .f32) (v596 : FVec F S8x256 .f32) {Q} :
    (iprop(Holds c (slotA arg12 k.val) D ∗ Holds c (slotA arg15 k.val) (upTo (codesB inv D) X 21)) : sProp 𝕄)
      ⊢ iprop((iprop(Holds c (slotA arg12 k.val) D ∗ Holds c (slotA arg15 k.val) (upTo (codesB inv D) X 23))
          -∗ Q ⟨k0_pay81 v593 (k0_pay78 (chunk D 21)) (chunk D 22), k0_pay82 v596 (k0_pay77 (chunk D 21)) (chunk D 22), k0_pay84 (chunk D 23)⟩)
        -∗ wp frame (wpE defs₀ 𝒱 (c : Thread nD τ) bd) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v593 v596 (k0_pay77 (chunk D 21)) (k0_pay78 (chunk D 21))) Q) := by
  rw [k0_part13_eq_skeleton]
  unfold k0_part13_skel
  iintro ⟨HD, HC⟩ Hk
  iapply (wp_loadRows (j := 21) (off35_eq k) (by decide)) $$ HC; iintro HC
  iapply (wp_storeRows (j := 21) (off35_eq k) (by decide) (chunk_codesB inv D 21 (by decide))) $$ HC; iintro HC
  iapply (wp_loadRows (j := 22) (off36_eq k) (by decide)) $$ HD; iintro HD
  iapply (wp_loadRows (j := 22) (off36_eq k) (by decide)) $$ HC; iintro HC
  iapply (wp_storeRows (j := 22) (off36_eq k) (by decide) (chunk_codesB inv D 22 (by decide))) $$ HC; iintro HC
  iapply (wp_loadRows (j := 23) (off37_eq k) (by decide)) $$ HD; iintro HD
  iapply (le_wp_ret frame (wpE defs₀ 𝒱 (c : Thread nD τ) bd))
  iapply Hk
  isplitl [HD]
  · iexact HD
  · iexact HC

end Cert.Kernel.Hand
-- ==== Proof.KLoop.lean ====
/-
  One trip of the kernel's loop: what holds before a trip holds, one block further, after it.
-/
module

public import proofs.«01_k».proof.Proof.KTripEnd
public import proofs.«01_k».proof.Proof.KChunks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

/-- The codes of block `n`. -/
abbrev codesN (c : Dev nD) (arg3 : Memref sig .tc .hbm S768x8960 .bf16) (f3 : Buf (Elt F) (arg3.view.loc (c : Thread nD τ)))
    (v72 : F .f32) (n : ℕ) : S768x256.Idx → Elt F .fp8e5m2 := codesB (k0_pay96 v72) (dyB c arg3 f3 n)
/-- The rows of the new master gradient that block `n` makes. -/
abbrev mgoN (c : Dev nD) (arg3 : Memref sig .tc .hbm S768x8960 .bf16) (f3 : Buf (Elt F) (arg3.view.loc (c : Thread nD τ)))
    (arg4 : Memref sig .tc .hbm S768x1536 .fp8e4m3) (f4 : Buf (Elt F) (arg4.view.loc (c : Thread nD τ)))
    (arg6 : Memref sig .tc .hbm S8960x1536 .f32) (f6 : Buf (Elt F) (arg6.view.loc (c : Thread nD τ)))
    (v72 v76 : F .f32) (n : ℕ) : S256x1536.Idx → Elt F .f32 :=
  mgoB v72 v76 (dyB c arg3 f3 n) (mgB c arg6 f6 n) (arg4.view.read (Elt F) f4)

section rings
variable (c)
variable (arg3 : Memref sig .tc .hbm S768x8960 .bf16) (arg5 : Memref sig .tc .hbm S8960x1536 .fp8e4m3)
variable (arg6 arg8 : Memref sig .tc .hbm S8960x1536 .f32) (arg11 : Memref sig .tc .hbm S768x8960 .fp8e5m2)
variable (arg12 : Memref sig .tc .vmem S6x768x256 .bf16) (arg13 : Memref sig .tc .vmem S6x256x1536 .fp8e4m3)
variable (arg14 : Memref sig .tc .vmem S6x256x1536 .f32) (arg15 : Memref sig .tc .vmem S6x768x256 .fp8e5m2)
variable (arg20 arg21 arg22 arg23 arg24 : DmaSems sig S6)
variable (f3 : Buf (Elt F) (arg3.view.loc (c : Thread nD τ))) (f5 : Buf (Elt F) (arg5.view.loc (c : Thread nD τ)))
variable (f6 : Buf (Elt F) (arg6.view.loc (c : Thread nD τ)))
variable (C : ℕ → S768x256.Idx → Elt F .fp8e5m2) (M : ℕ → S256x1536.Idx → Elt F .f32)

/-- The gradient's six slots before trip `i`: four blocks on their way in. -/
def DyRing (i : ℕ) : sProp 𝕄 := iprop(DyRead c arg3 arg12 arg20 f3 i ∗ DyRead c arg3 arg12 arg20 f3 (i + 1)
  ∗ DyRead c arg3 arg12 arg20 f3 (i + 2) ∗ DyRead c arg3 arg12 arg20 f3 (i + 3)
  ∗ DyFree c arg3 arg12 arg20 f3 (i + 4) ∗ DyFree c arg3 arg12 arg20 f3 (i + 5))
/-- The weights' six slots before trip `i`. -/
def WRing (i : ℕ) : sProp 𝕄 := iprop(WRead c arg5 arg13 arg21 f5 i ∗ WRead c arg5 arg13 arg21 f5 (i + 1)
  ∗ WRead c arg5 arg13 arg21 f5 (i + 2) ∗ WRead c arg5 arg13 arg21 f5 (i + 3)
  ∗ WFree c arg5 arg13 arg21 f5 (i + 4) ∗ WFree c arg5 arg13 arg21 f5 (i + 5))
/-- The master gradient's six slots before trip `i`: four blocks on their way in, two on their way out. -/
def MgRing (i : ℕ) : sProp 𝕄 := iprop(MgRead c arg6 arg14 arg22 arg23 f6 i ∗ MgRead c arg6 arg14 arg22 arg23 f6 (i + 1)
  ∗ MgRead c arg6 arg14 arg22 arg23 f6 (i + 2) ∗ MgRead c arg6 arg14 arg22 arg23 f6 (i + 3)
  ∗ MgW c arg6 arg8 arg14 arg22 arg23 f6 M i ∗ MgW c arg6 arg8 arg14 arg22 arg23 f6 M (i + 1))
/-- The codes' six slots before trip `i`: four at rest, two on their way out. -/
def CodesRing (i : ℕ) : sProp 𝕄 := iprop(CodesFree (F := F) c arg15 arg24 i ∗ CodesFree (F := F) c arg15 arg24 (i + 1)
  ∗ CodesFree (F := F) c arg15 arg24 (i + 2) ∗ CodesFree (F := F) c arg15 arg24 (i + 3)
  ∗ CodesW c arg11 arg15 arg24 C i ∗ CodesW c arg11 arg15 arg24 C (i + 1))
end rings

section inv
variable (c)
variable (arg2 : Memref sig .tc .smem S1 .f32)
variable (arg3 : Memref sig .tc .hbm S768x8960 .bf16) (arg4 : Memref sig .tc .hbm S768x1536 .fp8e4m3) (arg5 : Memref sig .tc .hbm S8960x1536 .fp8e4m3)
variable (arg6 : Memref sig .tc .hbm S8960x1536 .f32) (arg7 : Memref sig .tc .hbm S768x1536 .bf16) (arg8 : Memref sig .tc .hbm S8960x1536 .f32)
variable (arg9 : Memref sig .tc .vmem S70x128 .f32) (arg11 : Memref sig .tc .hbm S768x8960 .fp8e5m2)
variable (arg12 : Memref sig .tc .vmem S6x768x256 .bf16) (arg13 : Memref sig .tc .vmem S6x256x1536 .fp8e4m3)
variable (arg14 : Memref sig .tc .vmem S6x256x1536 .f32) (arg15 : Memref sig .tc .vmem S6x768x256 .fp8e5m2)
variable (arg16 : Memref sig .tc .vmem S768x1536 .fp8e4m3) (arg17 : Memref sig .tc .vmem S768x1536 .f32)
variable (arg18 : Memref sig .tc .vmem S768x1536 .bf16) (arg19 : Memref sig .tc .vmem S8x256 .f32)
variable (arg20 arg21 arg22 arg23 arg24 : DmaSems sig S6) (arg25 arg26 : DmaSems sig S_)
variable (f3 : Buf (Elt F) (arg3.view.loc (c : Thread nD τ))) (f4 : Buf (Elt F) (arg4.view.loc (c : Thread nD τ)))
variable (f5 : Buf (Elt F) (arg5.view.loc (c : Thread nD τ))) (f6 : Buf (Elt F) (arg6.view.loc (c : Thread nD τ)))
variable (G8 : Buf (Elt F) (arg8.view.loc (c : Thread nD τ))) (G11 : Buf (Elt F) (arg11.view.loc (c : Thread nD τ)))

/-- What holds before trip `i`. -/
def Inv (v72 v76 : F .f32) (s2 : S1.Idx → Elt F .f32) (Z : S70x128.Idx → Elt F .f32) (dx : S768x1536.Idx → Elt F .bf16) (i : ℕ) : sProp 𝕄 :=
  iprop(DyRing c arg3 arg12 arg20 f3 i ∗ WRing c arg5 arg13 arg21 f5 i
    ∗ MgRing c arg6 arg8 arg14 arg22 arg23 f6 (mgoN c arg3 f3 arg4 f4 arg6 f6 v72 v76) i
    ∗ CodesRing c arg11 arg15 arg24 (codesN c arg3 f3 v72) i
    ∗ Rest c arg11 1 (256 * i) ∗ Done c arg11 1 (256 * (i - 2)) G11
    ∗ Rest c arg8 0 (256 * i) ∗ Done c arg8 0 (256 * (i - 2)) G8
    ∗ XAt c arg4 arg16 arg25 f4 i ∗ DxAt c arg7 arg18 arg26 dx i
    ∗ Holds c arg17 (accV (k0_pay96 v72) (dyB c arg3 f3) (wB c arg5 f5) i)
    ∗ Holds c arg19 (amaxV (dyB c arg3 f3) i) ∗ Holds c arg9 (biasBuf (dyB c arg3 f3) Z i)
    ∗ Holds c arg2 s2 ∗ Owes c)
end inv

theorem wp_bindI {α β : Type} {p : Prog (TpuEff nD τ sig (Elt F) Λ₀ .tc) α} {kk : α → Prog (TpuEff nD τ sig (Elt F) Λ₀ .tc) β}
    {Q : β → sProp (MT nD τ sig Unit (Elt F) ℕ (Pipeline.UD sig nD τ) ℕ)} :
    wp frame (wpE defs₀ 𝒱 (c : Thread nD τ) bd) Set.univ p (fun a => wp frame (wpE defs₀ 𝒱 (c : Thread nD τ) bd) Set.univ (kk a) Q)
      ⊢ wp frame (wpE defs₀ 𝒱 (c : Thread nD τ) bd) Set.univ (p >>= kk) Q := by
  rw [wp_bind]

/-- The slot of the codes before its first rows are written. -/
theorem codes_start {b : ℕ} {Cn : S768x256.Idx → Elt F .fp8e5m2} {X : S768x256.Idx → Elt F .fp8e5m2} :
    (Holds c (slotA arg15 b) X : sProp 𝕄) ⊢ Holds c (slotA arg15 b) (upTo Cn X 0) := by
  rw [upTo_zero]

theorem xAt_succ {i : ℕ} : (XHeld c arg4 arg16 arg25 f4 : sProp 𝕄) ⊢ XAt c arg4 arg16 arg25 f4 (i + 1) := by
  unfold XAt; rw [if_neg (by omega)]

theorem mgW_in {M : ℕ → S256x1536.Idx → Elt F .f32} {i : ℕ} :
    (iprop(Putting c (slotB arg14 i) (rowBlk arg8 i) (cell arg23 i) (M i) ∗ Idle c (cell arg22 i) ∗ Tok c (rowBlk arg6 i) (qs i) f6) : sProp 𝕄)
      ⊢ MgW c arg6 arg8 arg14 arg22 arg23 f6 M (i + 2) := by
  rw [mgW_out]
theorem codesW_in {C : ℕ → S768x256.Idx → Elt F .fp8e5m2} {i : ℕ} :
    (Lending c (slotA arg15 i) (colBlk arg11 i) (cell arg24 i) (C i) : sProp 𝕄) ⊢ CodesW c arg11 arg15 arg24 C (i + 2) := by
  rw [codesW_out]
theorem dyFree_in {b : ℕ} : (DyFree c arg3 arg12 arg20 f3 b : sProp 𝕄) ⊢ DyFree c arg3 arg12 arg20 f3 (b + 6) := by rw [dyFree_add]
theorem wFree_in {b : ℕ} : (WFree c arg5 arg13 arg21 f5 b : sProp 𝕄) ⊢ WFree c arg5 arg13 arg21 f5 (b + 6) := by rw [wFree_add]

set_option maxHeartbeats 4000000 in
/-- One trip takes what holds before it to what holds before the next. -/
theorem trip (k : Fin k0_t1_loop.trips) (v72 v76 : F .f32) (s2 : S1.Idx → Elt F .f32) (Z : S70x128.Idx → Elt F .f32)
    (hG11 : ∀ n < 35, (colBlk arg11 n).view.read (Elt F) G11 = codesN c arg3 f3 v72 n)
    (hG8 : ∀ n < 35, (rowBlk arg8 n).view.read (Elt F) G8 = mgoN c arg3 f3 arg4 f4 arg6 f6 v72 v76 n)
    (dx : S768x1536.Idx → Elt F .bf16) (hdx : k0_pay92 v72 (accV (k0_pay96 v72) (dyB c arg3 f3) (wB c arg5 f5) 35) (one s2) = dx) :
    Inv c arg2 arg3 arg4 arg5 arg6 arg7 arg8 arg9 arg11 arg12 arg13 arg14 arg15 arg16 arg17 arg18 arg19 arg20 arg21 arg22 arg23 arg24 arg25 arg26 f3 f4 f5 f6 G8 G11 v72 v76 s2 Z dx k.val
      ⊢ wp frame (wpE defs₀ 𝒱 (c : Thread nD τ) bd) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 v72 v76 k ())
        (fun _ => Inv c arg2 arg3 arg4 arg5 arg6 arg7 arg8 arg9 arg11 arg12 arg13 arg14 arg15 arg16 arg17 arg18 arg19 arg20 arg21 arg22 arg23 arg24 arg25 arg26 f3 f4 f5 f6 G8 G11 v72 v76 s2 Z dx (k.val + 1)) := by
  have hk := trip_lt k
  unfold k0_t1_body
  unfold Inv DyRing WRing MgRing CodesRing
  iintro ⟨⟨HD0, HD1, HD2, HD3, HD4, HD5⟩, ⟨HW0, HW1, HW2, HW3, HW4, HW5⟩, ⟨HM0, HM1, HM2, HM3, HM4, HM5⟩, ⟨HC0, HC1, HC2, HC3, HC4, HC5⟩,
    HR11, HG11, HR8, HG8, HX, HDx, H17, H19, H9, H2, HO⟩
  dsimp only
  iapply wp_bindI
  iapply (part1_spec (C := codesN c arg3 f3 v72) (M := mgoN c arg3 f3 arg4 f4 arg6 f6 v72 v76) (f3 := f3) (f5 := f5) (f6 := f6) (G8 := G8) (G11 := G11)
    k (k0_pay96 v72) (amaxV (dyB c arg3 f3) k.val) 0#32 1#32 hG11 hG8) $$ [HC4 HG11 HM4 HG8 HO HD4 HW4 HD0 H19]
  · isplitl [HC4]; · iexact HC4
    isplitl [HG11]; · iexact HG11
    isplitl [HM4]; · iexact HM4
    isplitl [HG8]; · iexact HG8
    isplitl [HO]; · iexact HO
    isplitl [HD4]; · iexact HD4
    isplitl [HW4]; · iexact HW4
    isplitl [HD0]; · iexact HD0
    iexact H19
  iintro ⟨HC4, HG11, HG8, HO, HD4, HW4, HM4, HD, Hv20, HT3, H19⟩
  unfold CodesFree
  icases HC0 with ⟨HC, Hv24⟩
  icases (own_holds) $$ HC with ⟨%X, HC⟩
  ihave HC := (codes_start (Cn := codesB (k0_pay96 v72) (dyB c arg3 f3 k.val))) $$ HC
  iapply wp_bindI
  iapply (part2_spec k (k0_pay96 v72) (dyB c arg3 f3 k.val) X _ _ _) $$ [HD HC]
  · isplitl [HD] <;> iassumption
  iintro ⟨HD, HC⟩
  iapply wp_bindI
  iapply (part3_spec k (k0_pay96 v72) (dyB c arg3 f3 k.val) X _ _ _) $$ [HD HC]
  · isplitl [HD] <;> iassumption
  iintro ⟨HD, HC⟩
  iapply wp_bindI
  iapply (part4_spec k (k0_pay96 v72) (dyB c arg3 f3 k.val) X _ _ _) $$ [HD HC]
  · isplitl [HD] <;> iassumption
  iintro ⟨HD, HC⟩
  iapply wp_bindI
  iapply (part5_spec k (k0_pay96 v72) (dyB c arg3 f3 k.val) X _ _ _) $$ [HD HC]
  · isplitl [HD] <;> iassumption
  iintro ⟨HD, HC⟩
  iapply wp_bindI
  iapply (part6_spec k (k0_pay96 v72) (dyB c arg3 f3 k.val) X _ _ _) $$ [HD HC]
  · isplitl [HD] <;> iassumption
  iintro ⟨HD, HC⟩
  iapply wp_bindI
  iapply (part7_spec k (k0_pay96 v72) (dyB c arg3 f3 k.val) X _ _ _) $$ [HD HC]
  · isplitl [HD] <;> iassumption
  iintro ⟨HD, HC⟩
  iapply wp_bindI
  iapply (part8_spec k (k0_pay96 v72) (dyB c arg3 f3 k.val) X _ _ _ _) $$ [HD HC]
  · isplitl [HD] <;> iassumption
  iintro ⟨HD, HC⟩
  iapply wp_bindI
  iapply (part9_spec k (k0_pay96 v72) (dyB c arg3 f3 k.val) X _ _ _) $$ [HD HC]
  · isplitl [HD] <;> iassumption
  iintro ⟨HD, HC⟩
  iapply wp_bindI
  iapply (part10_spec k (k0_pay96 v72) (dyB c arg3 f3 k.val) X _ _ _) $$ [HD HC]
  · isplitl [HD] <;> iassumption
  iintro ⟨HD, HC⟩
  iapply wp_bindI
  iapply (part11_spec k (k0_pay96 v72) (dyB c arg3 f3 k.val) X _ _ _) $$ [HD HC]
  · isplitl [HD] <;> iassumption
  iintro ⟨HD, HC⟩
  iapply wp_bindI
  iapply (part12_spec k (k0_pay96 v72) (dyB c arg3 f3 k.val) X _ _ _) $$ [HD HC]
  · isplitl [HD] <;> iassumption
  iintro ⟨HD, HC⟩
  iapply wp_bindI
  iapply (part13_spec k (k0_pay96 v72) (dyB c arg3 f3 k.val) X _ _ _) $$ [HD HC]
  · isplitl [HD] <;> iassumption
  iintro ⟨HD, HC⟩
  iapply wp_bindI
  iapply (part14_spec k (k0_pay96 v72) (dyB c arg3 f3) X Z (amaxV (dyB c arg3 f3) k.val) _ _ _ _ rfl) $$ [HD HC H19 H9]
  · isplitl [HD]; · iexact HD
    isplitl [HC]; · iexact HC
    isplitl [H19]; · iexact H19
    iexact H9
  iintro ⟨HD, HC, H19, H9⟩
  dsimp only
  iapply wp_bindI
  iapply (part15_spec (f4 := f4) (f5 := f5) (f6 := f6) k (codesN c arg3 f3 v72 k.val) (accV (k0_pay96 v72) (dyB c arg3 f3) (wB c arg5 f5) k.val) v72 s2 dx _ ?hdx)
    $$ [HC Hv24 HR11 HO HW0 H17 HX H2 HDx HM0]
  case hdx =>
    intro h
    rw [← hdx]
    rw [h]; rfl
  · isplitl [HC]; · iexact HC
    isplitl [Hv24]; · iexact Hv24
    isplitl [HR11]; · iexact HR11
    isplitl [HO]; · iexact HO
    isplitl [HW0]; · iexact HW0
    isplitl [H17]; · iexact H17
    isplitl [HX]; · iexact HX
    isplitl [H2]; · iexact H2
    isplitl [HDx]; · iexact HDx
    iexact HM0
  iintro ⟨HC, HR11, HO, HW, H17, HX, H2, HDx, HM, Hv22, HT6, Hv23⟩
  unfold XHeld
  icases HX with ⟨HX, Hv25, HT4⟩
  icases (row_take hk) $$ HR8 with ⟨HB, HR8⟩
  iapply (wp_loadLentA (off41_eq k)) $$ HC; iintro HC
  iapply (wp_loadWhole (load_whole2 _)) $$ HX; iintro HX
  iapply (wp_loadB (off42_eq k)) $$ HM; iintro HM
  iapply (wp_storeB (off42_eq k)) $$ HM; iintro HM
  iapply (wp_put' (c := c) (S := slotB arg14 k.val) (B := rowBlk arg8 k.val) (sm := cell arg23 k.val) (slotB_of arg14 (off39_eq k) _)
    (rowBlk_of arg8 (off40_eq k) hk _) (cell_of arg23 (off11_eq k) _) posB) $$ [HM Hv23 HB]
  · isplitl [HM]; · iexact HM
    isplitl [Hv23]; · iexact Hv23
    iexact HB
  iintro HP
  iapply (le_wp_ret frame (wpE defs₀ 𝒱 (c : Thread nD τ) bd))
  isplitl [HD1 HD2 HD3 HD4 HD5 HD Hv20 HT3]
  · isplitl [HD1]; · iexact HD1
    isplitl [HD2]; · iexact HD2
    isplitl [HD3]; · iexact HD3
    isplitl [HD4]; · iexact HD4
    isplitl [HD5]; · iexact HD5
    iapply dyFree_in
    unfold DyFree
    isplitl [HD]; · iapply Holds.own $$ HD
    isplitl [Hv20]; · iexact Hv20
    iexact HT3
  isplitl [HW1 HW2 HW3 HW4 HW5 HW]
  · isplitl [HW1]; · iexact HW1
    isplitl [HW2]; · iexact HW2
    isplitl [HW3]; · iexact HW3
    isplitl [HW4]; · iexact HW4
    isplitl [HW5]; · iexact HW5
    iapply wFree_in $$ HW
  isplitl [HM1 HM2 HM3 HM4 HM5 HP Hv22 HT6]
  · isplitl [HM1]; · iexact HM1
    isplitl [HM2]; · iexact HM2
    isplitl [HM3]; · iexact HM3
    isplitl [HM4]; · iexact HM4
    isplitl [HM5]; · iexact HM5
    iapply (mgW_in (M := mgoN c arg3 f3 arg4 f4 arg6 f6 v72 v76) (i := k.val))
    isplitl [HP]; · iexact HP
    isplitl [Hv22]; · iexact Hv22
    iexact HT6
  isplitl [HC1 HC2 HC3 HC4 HC5 HC]
  · isplitl [HC1]; · iexact HC1
    isplitl [HC2]; · iexact HC2
    isplitl [HC3]; · iexact HC3
    isplitl [HC4]; · iexact HC4
    isplitl [HC5]; · iexact HC5
    iapply (codesW_in (C := codesN c arg3 f3 v72) (i := k.val)) $$ HC
  isplitl [HR11]; · iexact HR11
  isplitl [HG11]; · iexact HG11
  isplitl [HR8]; · iexact HR8
  isplitl [HG8]; · iexact HG8
  isplitl [HX Hv25 HT4]
  · iapply xAt_succ
    unfold XHeld
    isplitl [HX]; · iexact HX
    isplitl [Hv25]; · iexact Hv25
    iexact HT4
  isplitl [HDx]; · iexact HDx
  isplitl [H17]; · iexact H17
  isplitl [H19]; · iexact H19
  isplitl [H9]; · iexact H9
  isplitl [H2]; · iexact H2
  iexact HO

end Cert.Kernel.Hand
-- ==== Proof.KSix.lean ====
/-
  A ring of six slots as a whole: its buffer is its slots, its input array's share is six shares and a rest, and
  the ring at rest before the first trip and after the last.
-/
module

public import proofs.«01_k».proof.Proof.KLoop
public import Idealize.ShloMosaic.Lib.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {c : Dev nD}

/-- One thing for each of a ring's six slots. -/
def six (P : ℕ → sProp 𝕄) : sProp 𝕄 := iprop(P 0 ∗ P 1 ∗ P 2 ∗ P 3 ∗ P 4 ∗ P 5)

theorem six_eq (P : ℕ → sProp (MT nD τ sig Unit (Elt F) ℕ (Pipeline.UD sig nD τ) ℕ)) : six P = bigSep (Finset.univ : Finset (Fin 6)) (fun b => P b.val) := by
  rw [bigSep_univ_eq_bigSepL [(0 : Fin 6), 1, 2, 3, 4, 5] (by decide) (by decide)]
  rfl

theorem six_mono {P Q : ℕ → sProp (MT nD τ sig Unit (Elt F) ℕ (Pipeline.UD sig nD τ) ℕ)} (h : ∀ b, P b ⊢ Q b) : six P ⊢ six Q :=
  BIClass.sep_mono (h 0) (BIClass.sep_mono (h 1) (BIClass.sep_mono (h 2) (BIClass.sep_mono (h 3) (BIClass.sep_mono (h 4) (h 5)))))

theorem six_sep {P Q : ℕ → sProp (MT nD τ sig Unit (Elt F) ℕ (Pipeline.UD sig nD τ) ℕ)} : iprop(six P ∗ six Q) ⊢ six (fun b => iprop(P b ∗ Q b)) := by
  unfold six
  iintro ⟨⟨P0, P1, P2, P3, P4, P5⟩, ⟨Q0, Q1, Q2, Q3, Q4, Q5⟩⟩
  isplitl [P0 Q0]
  · isplitl [P0] <;> iassumption
  isplitl [P1 Q1]
  · isplitl [P1] <;> iassumption
  isplitl [P2 Q2]
  · isplitl [P2] <;> iassumption
  isplitl [P3 Q3]
  · isplitl [P3] <;> iassumption
  isplitl [P4 Q4]
  · isplitl [P4] <;> iassumption
  isplitl [P5] <;> iassumption

theorem six_unsep {P Q : ℕ → sProp (MT nD τ sig Unit (Elt F) ℕ (Pipeline.UD sig nD τ) ℕ)} : six (fun b => iprop(P b ∗ Q b)) ⊢ iprop(six P ∗ six Q) := by
  unfold six
  iintro ⟨⟨P0, Q0⟩, ⟨P1, Q1⟩, ⟨P2, Q2⟩, ⟨P3, Q3⟩, ⟨P4, Q4⟩, ⟨P5, Q5⟩⟩
  isplitl [P0 P1 P2 P3 P4 P5]
  · isplitl [P0]; · iexact P0
    isplitl [P1]; · iexact P1
    isplitl [P2]; · iexact P2
    isplitl [P3]; · iexact P3
    isplitl [P4]; · iexact P4
    iexact P5
  isplitl [Q0]; · iexact Q0
  isplitl [Q1]; · iexact Q1
  isplitl [Q2]; · iexact Q2
  isplitl [Q3]; · iexact Q3
  isplitl [Q4]; · iexact Q4
  iexact Q5

/-- The slots' element sets are disjoint and make up the buffer's. -/
theorem ring_sets {sp : Space} {n a b : ℕ} {e : EltTy} (M : Memref sig .tc sp ⟨3, ![6, a, b]⟩ e) (R : ℕ → Finset (Shape.Idx ⟨3, ![6, a, b]⟩))
    (hR : ∀ n x, x ∈ R n ↔ (x 0).val = n % 6) (I : Fin 6 → Finset M.view.ty.Idx) (hI : ∀ i, I i = (R i.val).map M.view.emb) :
    (∀ i j : Fin 6, i ≠ j → Disjoint (I i) (I j)) ∧ (Finset.univ : Finset (Fin 6)).biUnion I = M.view.set := by
  obtain rfl : I = fun i => (R i.val).map M.view.emb := funext hI
  constructor
  · intro i j hij
    rw [Finset.disjoint_map, Finset.disjoint_left]
    intro x h1 h2
    rw [hR] at h1 h2
    exact hij (Fin.ext (by omega))
  · ext y
    simp only [Finset.mem_biUnion, Finset.mem_univ, true_and, Finset.mem_map]
    constructor
    · rintro ⟨i, x, -, rfl⟩
      exact Finset.mem_map_of_mem _ (Finset.mem_univ _)
    · intro hy
      obtain ⟨x, -, rfl⟩ := Finset.mem_map.mp hy
      refine ⟨⟨(x 0).val, (x 0).isLt⟩, x, ?_, rfl⟩
      rw [hR]
      have : (x 0).val < 6 := (x 0).isLt
      show (x 0).val = (x 0).val % 6
      omega

theorem mem_rectA (n : ℕ) (x : S6x768x256.Idx) : x ∈ (rectA n).set ↔ (x 0).val = n % 6 := by
  rw [Rect.mem_set_unit]
  constructor
  · intro h
    have := h 0
    change n % 6 ≤ (x 0).val ∧ (x 0).val < n % 6 + 1 at this
    omega
  · intro h a
    have h1 : (x 1).val < 768 := (x 1).isLt
    have h2 : (x 2).val < 256 := (x 2).isLt
    fin_cases a
    · show n % 6 ≤ (x 0).val ∧ (x 0).val < n % 6 + 1; omega
    · show 0 ≤ (x 1).val ∧ (x 1).val < 0 + 768; omega
    · show 0 ≤ (x 2).val ∧ (x 2).val < 0 + 256; omega
theorem mem_rectB (n : ℕ) (x : S6x256x1536.Idx) : x ∈ (rectB n).set ↔ (x 0).val = n % 6 := by
  rw [Rect.mem_set_unit]
  constructor
  · intro h
    have := h 0
    change n % 6 ≤ (x 0).val ∧ (x 0).val < n % 6 + 1 at this
    omega
  · intro h a
    have h1 : (x 1).val < 256 := (x 1).isLt
    have h2 : (x 2).val < 1536 := (x 2).isLt
    fin_cases a
    · show n % 6 ≤ (x 0).val ∧ (x 0).val < n % 6 + 1; omega
    · show 0 ≤ (x 1).val ∧ (x 1).val < 0 + 256; omega
    · show 0 ≤ (x 2).val ∧ (x 2).val < 0 + 1536; omega

/-- What is held on a set, cut into a family of six. -/
theorem own_cut {ℓ : Loc nD τ sig} {I : Fin 6 → Finset (Idx ℓ)} {S : Finset (Idx ℓ)} (hd : ∀ b b', b ≠ b' → Disjoint (I b) (I b'))
    (hS : Finset.univ.biUnion I = S) :
    (iprop(∃ f : Buf (Elt F) ℓ, (ℓ ↦[S]{fullShare} f)) : sProp 𝕄) ⊢ bigSep Finset.univ (fun b => iprop(∃ f : Buf (Elt F) ℓ, (ℓ ↦[I b]{fullShare} f))) := by
  iintro ⟨%f, H⟩
  have e3 : ∀ b, (ℓ ↦[I b]{fullShare} f : sProp 𝕄) ⊢ iprop(∃ f : Buf (Elt F) ℓ, (ℓ ↦[I b]{fullShare} f)) := by
    intro b
    iintro H
    iexists f
    iexact H
  have e2 : (ℓ ↦[S]{fullShare} f : sProp 𝕄) ⊢ bigSep Finset.univ (fun b => iprop(∃ f : Buf (Elt F) ℓ, (ℓ ↦[I b]{fullShare} f))) := by
    rw [Ring.pointsTo_sub_blocks I hd S hS f]
    exact bigSep_mono fun b _ => e3 b
  iapply e2 $$ H

theorem setsA {e : EltTy} (M : Memref sig .tc .vmem S6x768x256 e) :
    (∀ i j : Fin 6, i ≠ j → Disjoint (slotA M i.val).view.set (slotA M j.val).view.set)
      ∧ (Finset.univ : Finset (Fin 6)).biUnion (fun i => (slotA M i.val).view.set) = M.view.set := by
  exact ring_sets (n := 0) M (fun b => (rectA b).set) mem_rectA _ (fun i => part_set M (rectA i.val) (fun _ => rfl) _ _)
/-- A ring's buffer is its six slots. -/
theorem ringA_split {e : EltTy} {M : Memref sig .tc .vmem S6x768x256 e} : (Own c M : sProp 𝕄) ⊢ six (fun b => Own c (slotA M b)) := by
  rw [six_eq]
  exact own_cut (ℓ := M.view.loc (c : Thread nD τ)) (I := fun b => (slotA M b.val).view.set) (setsA M).1 (setsA M).2
theorem ringA_join {e : EltTy} {M : Memref sig .tc .vmem S6x768x256 e} : six (fun b => Own c (slotA M b)) ⊢ (Own c M : sProp 𝕄) := by
  rw [six_eq]
  exact Ring.pointsTo_sub_blocks_join_exists (ℓ := M.view.loc (c : Thread nD τ)) (fun b : Fin 6 => (slotA M b.val).view.set) (setsA M).1 M.view.set (setsA M).2 (q := fullShare) M.view.junk

theorem setsB {e : EltTy} (M : Memref sig .tc .vmem S6x256x1536 e) :
    (∀ i j : Fin 6, i ≠ j → Disjoint (slotB M i.val).view.set (slotB M j.val).view.set)
      ∧ (Finset.univ : Finset (Fin 6)).biUnion (fun i => (slotB M i.val).view.set) = M.view.set := by
  exact ring_sets (n := 0) M (fun b => (rectB b).set) mem_rectB _ (fun i => part_set M (rectB i.val) (fun _ => rfl) _ _)
/-- A ring's buffer is its six slots. -/
theorem ringB_split {e : EltTy} {M : Memref sig .tc .vmem S6x256x1536 e} : (Own c M : sProp 𝕄) ⊢ six (fun b => Own c (slotB M b)) := by
  rw [six_eq]
  exact own_cut (ℓ := M.view.loc (c : Thread nD τ)) (I := fun b => (slotB M b.val).view.set) (setsB M).1 (setsB M).2
theorem ringB_join {e : EltTy} {M : Memref sig .tc .vmem S6x256x1536 e} : six (fun b => Own c (slotB M b)) ⊢ (Own c M : sProp 𝕄) := by
  rw [six_eq]
  exact Ring.pointsTo_sub_blocks_join_exists (ℓ := M.view.loc (c : Thread nD τ)) (fun b : Fin 6 => (slotB M b.val).view.set) (setsB M).1 M.view.set (setsB M).2 (q := fullShare) M.view.junk

/-- The six cells of a ring count nothing. -/
def Cells (c : Dev nD) (a : DmaSems sig S6) : sProp 𝕄 := six (fun b => Idle c (cell a b))

/-- An input array's share is one for each slot, and a rest. -/
theorem toks_split {s : Shape} {e : EltTy} {B : Memref sig .tc .hbm s e} {f : Buf (Elt F) (B.view.loc (c : Thread nD τ))} :
    (Tok c B fullShare f : sProp 𝕄) ⊣⊢ iprop(Tok c B (Transfers.shareDrop fullShare 6) f ∗ six (fun b => Tok c B (qs b) f)) := by
  unfold Tok
  have h := Transfers.pointsTo_toks_range (Ix := Unit) (Val := Elt F) (Name := ℕ) (U := Pipeline.UD sig nD τ) (Lvl := ℕ)
    (ℓ := B.view.loc (c : Thread nD τ)) (S := Finset.univ) (f := f) fullShare 6
  rw [bigSep_eq_bigSepL_of_eq [0, 1, 2, 3, 4, 5] (by decide) (by decide)] at h
  exact h

end Cert.Kernel.Hand
-- ==== Proof.KStart.lean ====
/-
  The kernel before its loop and after it: the first copies in, the buffers set to zero; the last copies out.
-/
module

public import proofs.«01_k».proof.Proof.KSix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

section fetch
variable {α : Type} {Q : α → sProp (MT nD τ sig Unit (Elt F) ℕ (Pipeline.UD sig nD τ) ℕ)}

theorem dy_fetch {b : ℕ} (hb : b < 35) {B' : Memref sig .tc .hbm S768x256 .bf16} {D' : Memref sig .tc .vmem S768x256 .bf16} {sm' : DmaSem sig}
    {hsrc : B'.view.WordExact} {hdst : D'.view.WordExact} {hsem : (DmaTarget.here (nD := nD) (τ := τ) (p := .tc) D').Typed .hbm (.dma sm')}
    {k : PUnit → Prog (TpuEff nD τ sig (Elt F) Λ₀ .tc) α} (hB : B' = colBlk arg3 b) (hD : D' = slotA arg12 b) (hs : sm' = cell arg20 b) :
    (DyFree c arg3 arg12 arg20 f3 b : sProp 𝕄)
      ⊢ iprop((DyRead c arg3 arg12 arg20 f3 b -∗ wp frame (wpE defs₀ 𝒱 (c : Thread nD τ) bd) Set.univ (k ⟨⟩) Q)
          -∗ wp frame (wpE defs₀ 𝒱 (c : Thread nD τ) bd) Set.univ (.op (.enqueueDmaAs B' (.here D') .same (.dma sm') hsrc hdst hsem) k) Q) := by
  unfold DyFree DyRead
  rw [if_pos hb]
  iintro ⟨HS, Hv, HT⟩ Hk
  iapply (wp_fetch' (c := c) (B := colBlk arg3 b) (D := slotA arg12 b) (sm := cell arg20 b) (q := qs b) (fs := f3) hB hD hs posA) $$ [HS Hv HT]
  · isplitl [HS]; · iexact HS
    isplitl [Hv]; · iexact Hv
    iexact HT
  iintro HF
  iapply Hk
  iexact HF

theorem w_fetch {b : ℕ} (hb : b < 35) {B' : Memref sig .tc .hbm S256x1536 .fp8e4m3} {D' : Memref sig .tc .vmem S256x1536 .fp8e4m3} {sm' : DmaSem sig}
    {hsrc : B'.view.WordExact} {hdst : D'.view.WordExact} {hsem : (DmaTarget.here (nD := nD) (τ := τ) (p := .tc) D').Typed .hbm (.dma sm')}
    {k : PUnit → Prog (TpuEff nD τ sig (Elt F) Λ₀ .tc) α} (hB : B' = rowBlk arg5 b) (hD : D' = slotB arg13 b) (hs : sm' = cell arg21 b) :
    (WFree c arg5 arg13 arg21 f5 b : sProp 𝕄)
      ⊢ iprop((WRead c arg5 arg13 arg21 f5 b -∗ wp frame (wpE defs₀ 𝒱 (c : Thread nD τ) bd) Set.univ (k ⟨⟩) Q)
          -∗ wp frame (wpE defs₀ 𝒱 (c : Thread nD τ) bd) Set.univ (.op (.enqueueDmaAs B' (.here D') .same (.dma sm') hsrc hdst hsem) k) Q) := by
  unfold WFree WRead
  rw [if_pos hb]
  iintro ⟨HS, Hv, HT⟩ Hk
  iapply (wp_fetch' (c := c) (B := rowBlk arg5 b) (D := slotB arg13 b) (sm := cell arg21 b) (q := qs b) (fs := f5) hB hD hs posB) $$ [HS Hv HT]
  · isplitl [HS]; · iexact HS
    isplitl [Hv]; · iexact Hv
    iexact HT
  iintro HF
  iapply Hk
  iexact HF

theorem mg_fetch {b : ℕ} (hb : b < 35) {B' : Memref sig .tc .hbm S256x1536 .f32} {D' : Memref sig .tc .vmem S256x1536 .f32} {sm' : DmaSem sig}
    {hsrc : B'.view.WordExact} {hdst : D'.view.WordExact} {hsem : (DmaTarget.here (nD := nD) (τ := τ) (p := .tc) D').Typed .hbm (.dma sm')}
    {k : PUnit → Prog (TpuEff nD τ sig (Elt F) Λ₀ .tc) α} (hB : B' = rowBlk arg6 b) (hD : D' = slotB arg14 b) (hs : sm' = cell arg22 b) :
    (MgIdle c arg6 arg14 arg22 arg23 f6 b : sProp 𝕄)
      ⊢ iprop((MgRead c arg6 arg14 arg22 arg23 f6 b -∗ wp frame (wpE defs₀ 𝒱 (c : Thread nD τ) bd) Set.univ (k ⟨⟩) Q)
          -∗ wp frame (wpE defs₀ 𝒱 (c : Thread nD τ) bd) Set.univ (.op (.enqueueDmaAs B' (.here D') .same (.dma sm') hsrc hdst hsem) k) Q) := by
  unfold MgIdle MgRead
  rw [if_pos hb]
  iintro ⟨HS, Hv, HT, Hv2⟩ Hk
  iapply (wp_fetch' (c := c) (B := rowBlk arg6 b) (D := slotB arg14 b) (sm := cell arg22 b) (q := qs b) (fs := f6) hB hD hs posB) $$ [HS Hv HT]
  · isplitl [HS]; · iexact HS
    isplitl [Hv]; · iexact Hv
    iexact HT
  iintro HF
  iapply Hk
  isplitl [HF]; · iexact HF
  iexact Hv2

end fetch

/-- The activations' buffer before their copy in. -/
def XIdle (c : Dev nD) (arg4 : Memref sig .tc .hbm S768x1536 .fp8e4m3) (arg16 : Memref sig .tc .vmem S768x1536 .fp8e4m3) (arg25 : DmaSems sig S_)
    (f4 : Buf (Elt F) (arg4.view.loc (c : Thread nD τ))) : sProp 𝕄 := iprop(Own c arg16 ∗ Idle c arg25.sem ∗ Tok c arg4 fullShare f4)

/-- The first copies in. -/
theorem part16_spec {Q : PUnit → sProp (MT nD τ sig Unit (Elt F) ℕ (Pipeline.UD sig nD τ) ℕ)} :
    (iprop(DyFree c arg3 arg12 arg20 f3 0 ∗ WFree c arg5 arg13 arg21 f5 0 ∗ MgIdle c arg6 arg14 arg22 arg23 f6 0 ∗ XIdle c arg4 arg16 arg25 f4 ∗ DyFree c arg3 arg12 arg20 f3 1 ∗ WFree c arg5 arg13 arg21 f5 1) : sProp 𝕄)
      ⊢ iprop((iprop(DyRead c arg3 arg12 arg20 f3 0 ∗ WRead c arg5 arg13 arg21 f5 0 ∗ MgRead c arg6 arg14 arg22 arg23 f6 0 ∗ XAt c arg4 arg16 arg25 f4 0 ∗ DyRead c arg3 arg12 arg20 f3 1 ∗ WRead c arg5 arg13 arg21 f5 1) -∗ Q ⟨⟩)
          -∗ wp frame (wpE defs₀ 𝒱 (c : Thread nD τ) bd) Set.univ (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26) Q) := by
  rw [k0_part16_eq_skeleton]
  unfold k0_part16_skel XIdle
  iintro ⟨D0, W0, M0, ⟨H16, Hv, HT⟩, D1, W1⟩ Hk
  iapply (dy_fetch (b := 0) (by decide) (colBlk_of arg3 rfl (by decide) _) (slotA_of arg12 rfl _) (cell_of arg20 rfl _)) $$ D0; iintro D0
  iapply (w_fetch (b := 0) (by decide) (rowBlk_of arg5 rfl (by decide) _) (slotB_of arg13 rfl _) (cell_of arg21 rfl _)) $$ W0; iintro W0
  iapply (mg_fetch (b := 0) (by decide) (rowBlk_of arg6 rfl (by decide) _) (slotB_of arg14 rfl _) (cell_of arg22 rfl _)) $$ M0; iintro M0
  iapply (wp_fetch' (c := c) (B := arg4) (D := arg16) (sm := arg25.sem) (q := fullShare) (fs := f4) rfl rfl rfl posC) $$ [H16 Hv HT]
  · isplitl [H16]; · iexact H16
    isplitl [Hv]; · iexact Hv
    iexact HT
  iintro HX
  iapply (dy_fetch (b := 1) (by decide) (colBlk_of arg3 rfl (by decide) _) (slotA_of arg12 rfl _) (cell_of arg20 rfl _)) $$ D1; iintro D1
  iapply (w_fetch (b := 1) (by decide) (rowBlk_of arg5 rfl (by decide) _) (slotB_of arg13 rfl _) (cell_of arg21 rfl _)) $$ W1; iintro W1
  iapply (le_wp_ret frame (wpE defs₀ 𝒱 (c : Thread nD τ) bd))
  iapply Hk
  isplitl [D0]; · iexact D0
  isplitl [W0]; · iexact W0
  isplitl [M0]; · iexact M0
  isplitl [HX]; · unfold XAt; rw [if_pos rfl]; iexact HX
  isplitl [D1]; · iexact D1
  iexact W1

/-- The copies in of the next blocks. -/
theorem part17_spec {Q : PUnit → sProp (MT nD τ sig Unit (Elt F) ℕ (Pipeline.UD sig nD τ) ℕ)} :
    (iprop(MgIdle c arg6 arg14 arg22 arg23 f6 1 ∗ DyFree c arg3 arg12 arg20 f3 2 ∗ WFree c arg5 arg13 arg21 f5 2 ∗ MgIdle c arg6 arg14 arg22 arg23 f6 2 ∗ DyFree c arg3 arg12 arg20 f3 3) : sProp 𝕄)
      ⊢ iprop((iprop(MgRead c arg6 arg14 arg22 arg23 f6 1 ∗ DyRead c arg3 arg12 arg20 f3 2 ∗ WRead c arg5 arg13 arg21 f5 2 ∗ MgRead c arg6 arg14 arg22 arg23 f6 2 ∗ DyRead c arg3 arg12 arg20 f3 3) -∗ Q ⟨⟩)
          -∗ wp frame (wpE defs₀ 𝒱 (c : Thread nD τ) bd) Set.univ (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26) Q) := by
  rw [k0_part17_eq_skeleton]
  unfold k0_part17_skel
  iintro ⟨M1, D2, W2, M2, D3⟩ Hk
  iapply (mg_fetch (b := 1) (by decide) (rowBlk_of arg6 rfl (by decide) _) (slotB_of arg14 rfl _) (cell_of arg22 rfl _)) $$ M1; iintro M1
  iapply (dy_fetch (b := 2) (by decide) (colBlk_of arg3 rfl (by decide) _) (slotA_of arg12 rfl _) (cell_of arg20 rfl _)) $$ D2; iintro D2
  iapply (w_fetch (b := 2) (by decide) (rowBlk_of arg5 rfl (by decide) _) (slotB_of arg13 rfl _) (cell_of arg21 rfl _)) $$ W2; iintro W2
  iapply (mg_fetch (b := 2) (by decide) (rowBlk_of arg6 rfl (by decide) _) (slotB_of arg14 rfl _) (cell_of arg22 rfl _)) $$ M2; iintro M2
  iapply (dy_fetch (b := 3) (by decide) (colBlk_of arg3 rfl (by decide) _) (slotA_of arg12 rfl _) (cell_of arg20 rfl _)) $$ D3; iintro D3
  iapply (le_wp_ret frame (wpE defs₀ 𝒱 (c : Thread nD τ) bd))
  iapply Hk
  isplitl [M1]; · iexact M1
  isplitl [D2]; · iexact D2
  isplitl [W2]; · iexact W2
  isplitl [M2]; · iexact M2
  iexact D3

theorem acc_zero {inv : FVec F S8x256 .f32} {dy : ℕ → S768x256.Idx → Elt F .bf16} {w : ℕ → S256x1536.Idx → Elt F .fp8e4m3} :
    (Holds c arg17 (k0_pay94 (F := F)) : sProp 𝕄) ⊢ Holds c arg17 (accV inv dy w 0) := .rfl
theorem amax_zero {dy : ℕ → S768x256.Idx → Elt F .bf16} :
    (Holds c arg19 (k0_pay95 (F := F)) : sProp 𝕄) ⊢ Holds c arg19 (amaxV dy 0) := .rfl
theorem bias_zero {dy : ℕ → S768x256.Idx → Elt F .bf16} {Z : S70x128.Idx → Elt F .f32} :
    (Holds c arg9 Z : sProp 𝕄) ⊢ Holds c arg9 (biasBuf dy Z 0) := by
  rw [show biasBuf dy Z 0 = Z from by funext x; unfold biasBuf; rw [if_neg (by omega)]]

set_option maxHeartbeats 1000000 in
/-- The last of the first copies in, the sums set to zero, the scales read, and the loop. -/
theorem part18_spec (s0 s1 s2 : S1.Idx → Elt F .f32) (Z : S70x128.Idx → Elt F .f32)
    (hG11 : ∀ n < 35, (colBlk arg11 n).view.read (Elt F) G11 = codesN c arg3 f3 (one s0) n)
    (hG8 : ∀ n < 35, (rowBlk arg8 n).view.read (Elt F) G8 = mgoN c arg3 f3 arg4 f4 arg6 f6 (one s0) (one s1) n)
    (dx : S768x1536.Idx → Elt F .bf16) (hdx : k0_pay92 (one s0) (accV (k0_pay96 (one s0)) (dyB c arg3 f3) (wB c arg5 f5) 35) (one s2) = dx)
    {Q : F .f32 → sProp (MT nD τ sig Unit (Elt F) ℕ (Pipeline.UD sig nD τ) ℕ)} :
    (iprop((Holds c arg0 s0 ∗ Holds c arg1 s1 ∗ Holds c arg2 s2 ∗ Holds c arg9 Z ∗ Own c arg17 ∗ Own c arg19 ∗ Owes c)
      ∗ (DyRead c arg3 arg12 arg20 f3 0 ∗ DyRead c arg3 arg12 arg20 f3 1 ∗ DyRead c arg3 arg12 arg20 f3 2 ∗ DyRead c arg3 arg12 arg20 f3 3 ∗ DyFree c arg3 arg12 arg20 f3 4 ∗ DyFree c arg3 arg12 arg20 f3 5)
      ∗ (WRead c arg5 arg13 arg21 f5 0 ∗ WRead c arg5 arg13 arg21 f5 1 ∗ WRead c arg5 arg13 arg21 f5 2 ∗ WFree c arg5 arg13 arg21 f5 3 ∗ WFree c arg5 arg13 arg21 f5 4 ∗ WFree c arg5 arg13 arg21 f5 5)
      ∗ (MgRead c arg6 arg14 arg22 arg23 f6 0 ∗ MgRead c arg6 arg14 arg22 arg23 f6 1 ∗ MgRead c arg6 arg14 arg22 arg23 f6 2 ∗ MgIdle c arg6 arg14 arg22 arg23 f6 3 ∗ MgIdle c arg6 arg14 arg22 arg23 f6 4 ∗ MgIdle c arg6 arg14 arg22 arg23 f6 5)
      ∗ six (CodesFree (F := F) c arg15 arg24) ∗ Own c arg11 ∗ Own c arg8 ∗ XAt c arg4 arg16 arg25 f4 0 ∗ Own c arg18 ∗ Own c arg7 ∗ Idle c arg26.sem) : sProp 𝕄)
      ⊢ iprop((iprop(Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx 35 ∗ Holds c arg0 s0 ∗ Holds c arg1 s1) -∗ Q (k0_pay98 (amaxV (dyB c arg3 f3) 35)))
          -∗ wp frame (wpE defs₀ 𝒱 (c : Thread nD τ) bd) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26) Q) := by
  rw [k0_part18_eq_skeleton]
  unfold k0_part18_skel
  iintro ⟨⟨H0, H1, H2, H9, H17, H19, HO⟩, ⟨D0, D1, D2, D3, D4, D5⟩, ⟨W0, W1, W2, W3, W4, W5⟩, ⟨M0, M1, M2, M3, M4, M5⟩, HC, H11, H8, HX, H18, H7, Hv⟩ Hk
  iapply (w_fetch (b := 3) (by decide) (rowBlk_of arg5 rfl (by decide) _) (slotB_of arg13 rfl _) (cell_of arg21 rfl _)) $$ W3; iintro W3
  iapply (mg_fetch (b := 3) (by decide) (rowBlk_of arg6 rfl (by decide) _) (slotB_of arg14 rfl _) (cell_of arg22 rfl _)) $$ M3; iintro M3
  icases (own_holds) $$ H17 with ⟨%X17, H17⟩
  icases (own_holds) $$ H19 with ⟨%X19, H19⟩
  iapply (wp_loadWhole rfl) $$ H17; iintro H17
  iapply (wp_storeAll) $$ H17; iintro H17
  iapply (wp_loadWhole rfl) $$ H19; iintro H19
  iapply (wp_storeAll) $$ H19; iintro H19
  iapply (wp_loadWhole (load_whole2 s0)) $$ H0; iintro H0
  iapply (wp_loadWhole (load_whole2 s1)) $$ H1; iintro H1
  ihave H17 := (acc_zero (inv := k0_pay96 (one s0)) (dy := dyB c arg3 f3) (w := wB c arg5 f5)) $$ H17
  ihave H19 := (amax_zero (dy := dyB c arg3 f3)) $$ H19
  ihave H9 := (bias_zero (dy := dyB c arg3 f3)) $$ H9
  ihave H11 := (rest_zero (a := 1)) $$ H11
  ihave H8 := (rest_zero (a := 0)) $$ H8
  unfold six
  icases HC with ⟨C0, C1, C2, C3, C4, C5⟩
  iapply (Scf.wp_for_bind frame (wpE (defs₀ (F := F)) 𝒱 (c : Thread nD τ) bd) Set.univ _ _ _ k0_t1_ok _ _
    (fun i _ => Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx i) (fun k _ => trip k (one s0) (one s1) s2 Z hG11 hG8 dx hdx)) $$ [D0 D1 D2 D3 D4 D5 W0 W1 W2 W3 W4 W5 M0 M1 M2 M3 M4 M5 C0 C1 C2 C3 C4 C5 H11 H8 HX H18 H7 Hv H17 H19 H9 H2 HO]
  · unfold Inv DyRing WRing MgRing CodesRing
    isplitl [D0 D1 D2 D3 D4 D5]
    · isplitl [D0]; · iexact D0
      isplitl [D1]; · iexact D1
      isplitl [D2]; · iexact D2
      isplitl [D3]; · iexact D3
      isplitl [D4]; · iexact D4
      iexact D5
    isplitl [W0 W1 W2 W3 W4 W5]
    · isplitl [W0]; · iexact W0
      isplitl [W1]; · iexact W1
      isplitl [W2]; · iexact W2
      isplitl [W3]; · iexact W3
      isplitl [W4]; · iexact W4
      iexact W5
    isplitl [M0 M1 M2 M3 M4 M5]
    · isplitl [M0]; · iexact M0
      isplitl [M1]; · iexact M1
      isplitl [M2]; · iexact M2
      isplitl [M3]; · iexact M3
      isplitl [M4]; · unfold MgW; rw [if_neg (by omega)]; iexact M4
      unfold MgW; rw [if_neg (by omega)]; iexact M5
    isplitl [C0 C1 C2 C3 C4 C5]
    · isplitl [C0]; · iexact C0
      isplitl [C1]; · iexact C1
      isplitl [C2]; · iexact C2
      isplitl [C3]; · iexact C3
      isplitl [C4]; · unfold CodesW; rw [if_neg (by omega)]; iexact C4
      unfold CodesW; rw [if_neg (by omega)]; iexact C5
    isplitl [H11]; · iexact H11
    isplitl []; · iapply done_zero; itrivial
    isplitl [H8]; · iexact H8
    isplitl []; · iapply done_zero; itrivial
    isplitl [HX]; · iexact HX
    isplitl [H18 H7 Hv]
    · unfold DxAt
      rw [if_neg (by omega)]
      isplitl [H18]; · iexact H18
      isplitl [H7]; · iexact H7
      iexact Hv
    isplitl [H17]; · iexact H17
    isplitl [H19]; · iexact H19
    isplitl [H9]; · iexact H9
    isplitl [H2]; · iexact H2
    iexact HO
  iintro %acc HI
  have e : Scf.trips k0_t1_loop.lb k0_t1_loop.ub k0_t1_loop.st = 35 := trips_eq
  have e' : Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx (Scf.trips k0_t1_loop.lb k0_t1_loop.ub k0_t1_loop.st) ⊢ Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx 35 := by rw [e]
  ihave HI := e' $$ HI
  unfold Inv
  icases HI with ⟨A1, A2, A3, A4, A5, A6, A7, A8, A9, A10, A11, H19, A13⟩
  iapply (wp_loadWhole (load_whole2 _)) $$ H19; iintro H19
  iapply (le_wp_ret frame (wpE defs₀ 𝒱 (c : Thread nD τ) bd))
  iapply Hk
  isplitr [H0 H1]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [H19]; · iexact H19
    iexact A13
  isplitl [H0]; · iexact H0
  iexact H1

end Cert.Kernel.Hand
-- ==== Proof.KRun.lean ====
/-
  The whole kernel: from its buffers, its cells and its arrays to the five results.
-/
module

public import proofs.«01_k».proof.Proof.KStart

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

/-- A slot at rest is named by its block or by its place in the ring. -/
theorem dyFree_mod (b : ℕ) : DyFree c arg3 arg12 arg20 f3 b = DyFree c arg3 arg12 arg20 f3 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, dyFree_add, ih]
theorem wFree_mod (b : ℕ) : WFree c arg5 arg13 arg21 f5 b = WFree c arg5 arg13 arg21 f5 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, wFree_add, ih]
theorem mgIdle_mod (b : ℕ) : MgIdle c arg6 arg14 arg22 arg23 f6 b = MgIdle c arg6 arg14 arg22 arg23 f6 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, mgIdle_add, ih]
theorem codesFree_mod (b : ℕ) : CodesFree (F := F) c arg15 arg24 b = CodesFree (F := F) c arg15 arg24 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, codesFree_add, ih]

/-- The gradient's ring after the loop is at rest. -/
theorem dyRing_end : (DyRing c arg3 arg12 arg20 f3 35 : sProp 𝕄) ⊢ six (DyFree c arg3 arg12 arg20 f3) := by
  unfold DyRing DyRead six
  rw [if_neg (by omega), if_neg (by omega), if_neg (by omega), if_neg (by omega),
    dyFree_mod 35, dyFree_mod (35 + 1), dyFree_mod (35 + 2), dyFree_mod (35 + 3), dyFree_mod (35 + 4), dyFree_mod (35 + 5)]
  iintro ⟨H5, H0, H1, H2, H3, H4⟩
  isplitl [H0]; · iexact H0
  isplitl [H1]; · iexact H1
  isplitl [H2]; · iexact H2
  isplitl [H3]; · iexact H3
  isplitl [H4]; · iexact H4
  iexact H5
/-- The weights' ring after the loop is at rest. -/
theorem wRing_end : (WRing c arg5 arg13 arg21 f5 35 : sProp 𝕄) ⊢ six (WFree c arg5 arg13 arg21 f5) := by
  unfold WRing WRead six
  rw [if_neg (by omega), if_neg (by omega), if_neg (by omega), if_neg (by omega),
    wFree_mod 35, wFree_mod (35 + 1), wFree_mod (35 + 2), wFree_mod (35 + 3), wFree_mod (35 + 4), wFree_mod (35 + 5)]
  iintro ⟨H5, H0, H1, H2, H3, H4⟩
  isplitl [H0]; · iexact H0
  isplitl [H1]; · iexact H1
  isplitl [H2]; · iexact H2
  isplitl [H3]; · iexact H3
  isplitl [H4]; · iexact H4
  iexact H5
/-- The master gradient's ring after the loop: two blocks on their way out. -/
theorem mgRing_end {M : ℕ → S256x1536.Idx → Elt F .f32} : (MgRing c arg6 arg8 arg14 arg22 arg23 f6 M 35 : sProp 𝕄) ⊢
    iprop(MgIdle c arg6 arg14 arg22 arg23 f6 5 ∗ MgIdle c arg6 arg14 arg22 arg23 f6 0 ∗ MgIdle c arg6 arg14 arg22 arg23 f6 1 ∗ MgIdle c arg6 arg14 arg22 arg23 f6 2
      ∗ (Putting c (slotB arg14 33) (rowBlk arg8 33) (cell arg23 33) (M 33) ∗ Idle c (cell arg22 33) ∗ Tok c (rowBlk arg6 33) (qs 33) f6)
      ∗ (Putting c (slotB arg14 34) (rowBlk arg8 34) (cell arg23 34) (M 34) ∗ Idle c (cell arg22 34) ∗ Tok c (rowBlk arg6 34) (qs 34) f6)) := by
  unfold MgRing MgRead
  rw [if_neg (by omega), if_neg (by omega), if_neg (by omega), if_neg (by omega),
    mgIdle_mod 35, mgIdle_mod (35 + 1), mgIdle_mod (35 + 2), mgIdle_mod (35 + 3), show MgW c arg6 arg8 arg14 arg22 arg23 f6 M 35 = _ from mgW_out c arg6 arg8 arg14 arg22 arg23 f6 M 33, show MgW c arg6 arg8 arg14 arg22 arg23 f6 M (35 + 1) = _ from mgW_out c arg6 arg8 arg14 arg22 arg23 f6 M 34]
/-- The codes' ring after the loop: two blocks on their way out. -/
theorem codesRing_end {C : ℕ → S768x256.Idx → Elt F .fp8e5m2} : (CodesRing c arg11 arg15 arg24 C 35 : sProp 𝕄) ⊢
    iprop(CodesFree c arg15 arg24 5 ∗ CodesFree c arg15 arg24 0 ∗ CodesFree c arg15 arg24 1 ∗ CodesFree c arg15 arg24 2
      ∗ Lending c (slotA arg15 33) (colBlk arg11 33) (cell arg24 33) (C 33) ∗ Lending c (slotA arg15 34) (colBlk arg11 34) (cell arg24 34) (C 34)) := by
  unfold CodesRing
  rw [codesFree_mod 35, codesFree_mod (35 + 1), codesFree_mod (35 + 2), codesFree_mod (35 + 3), show CodesW c arg11 arg15 arg24 C 35 = _ from codesW_out c arg11 arg15 arg24 C 33, show CodesW c arg11 arg15 arg24 C (35 + 1) = _ from codesW_out c arg11 arg15 arg24 C 34]
theorem xAt_end : (XAt c arg4 arg16 arg25 f4 35 : sProp 𝕄) ⊢ XHeld c arg4 arg16 arg25 f4 := by
  unfold XAt; rw [if_neg (by omega)]
theorem dxAt_end {dx : S768x1536.Idx → Elt F .bf16} : (DxAt c arg7 arg18 arg26 dx 35 : sProp 𝕄) ⊢ Putting c arg18 arg7 arg26.sem dx := by
  unfold DxAt; rw [if_pos rfl]
theorem xHeld_idle : (XHeld c arg4 arg16 arg25 f4 : sProp 𝕄) ⊢ XIdle c arg4 arg16 arg25 f4 := by
  unfold XHeld XIdle
  iintro ⟨H, Hv, HT⟩
  isplitl [H]; · iapply Holds.own $$ H
  isplitl [Hv]; · iexact Hv
  iexact HT
/-- A slot of the master gradient back at rest. -/
theorem mgIdle_back (b : ℕ) : (iprop(Own c (slotB arg14 b) ∗ Idle c (cell arg22 b) ∗ Tok c (rowBlk arg6 b) (qs b) f6 ∗ Idle c (cell arg23 b)) : sProp 𝕄)
    ⊢ MgIdle c arg6 arg14 arg22 arg23 f6 (b % 6) := by
  rw [← mgIdle_mod]; exact .rfl
/-- A slot of the codes back at rest. -/
theorem codesFree_back (b : ℕ) : (iprop(Own c (slotA arg15 b) ∗ Idle c (cell arg24 b)) : sProp 𝕄) ⊢ CodesFree c arg15 arg24 (b % 6) := by
  rw [← codesFree_mod]; exact .rfl

set_option maxHeartbeats 2000000 in
/-- The kernel takes its buffers, its cells and its arrays to the five results. -/
theorem kernel_spec (s0 s1 s2 : S1.Idx → Elt F .f32) (Z : S70x128.Idx → Elt F .f32)
    (hG11 : ∀ n < 35, (colBlk arg11 n).view.read (Elt F) G11 = codesN c arg3 f3 (one s0) n)
    (hG8 : ∀ n < 35, (rowBlk arg8 n).view.read (Elt F) G8 = mgoN c arg3 f3 arg4 f4 arg6 f6 (one s0) (one s1) n)
    (dx : S768x1536.Idx → Elt F .bf16) (hdx : k0_pay92 (one s0) (accV (k0_pay96 (one s0)) (dyB c arg3 f3) (wB c arg5 f5) 35) (one s2) = dx) :
    (iprop((Holds c arg0 s0 ∗ Holds c arg1 s1 ∗ Holds c arg2 s2 ∗ Holds c arg9 Z ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ Own c arg11 ∗ Own c arg8 ∗ XIdle c arg4 arg16 arg25 f4 ∗ Own c arg18 ∗ Own c arg7 ∗ Idle c arg26.sem ∗ Own c arg10) : sProp 𝕄)
      ⊢ wp frame (wpE defs₀ 𝒱 (c : Thread nD τ) bd) Set.univ (cc0_fp8_linear_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26)
        (fun _ => iprop((Holds c arg0 s0 ∗ Holds c arg1 s1 ∗ Holds c arg2 s2 ∗ Holds c arg9 (biasBuf (dyB c arg3 f3) Z 35) ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ (arg11.view.loc (c : Thread nD τ) ↦[arg11.view.set]{fullShare} G11) ∗ (arg8.view.loc (c : Thread nD τ) ↦[arg8.view.set]{fullShare} G8)
      ∗ XIdle c arg4 arg16 arg25 f4 ∗ Own c arg18 ∗ Holds c arg7 dx ∗ Idle c arg26.sem ∗ Holds c arg10 (fun _ => k0_pay98 (amaxV (dyB c arg3 f3) 35)))) := by
  rw [cc0_fp8_linear_bwd_eq_skeleton]
  unfold cc0_fp8_linear_bwd_skel
  conv => lhs; unfold six
  iintro ⟨H00, ⟨D0, D1, D2, D3, D4, D5⟩, ⟨W0, W1, W2, W3, W4, W5⟩, ⟨M0, M1, M2, M3, M4, M5⟩, HC, H11, H8, HX, H18, H7, Hv, H10⟩
  iapply wp_bindI
  iapply (part16_spec (f3 := f3) (f4 := f4) (f5 := f5) (f6 := f6)) $$ [D0 W0 M0 HX D1 W1]
  · isplitl [D0]; · iexact D0
    isplitl [W0]; · iexact W0
    isplitl [M0]; · iexact M0
    isplitl [HX]; · iexact HX
    isplitl [D1]; · iexact D1
    iexact W1
  iintro ⟨D0, W0, M0, HX, D1, W1⟩
  iapply wp_bindI
  iapply (part17_spec (f3 := f3) (f5 := f5) (f6 := f6)) $$ [M1 D2 W2 M2 D3]
  · isplitl [M1]; · iexact M1
    isplitl [D2]; · iexact D2
    isplitl [W2]; · iexact W2
    isplitl [M2]; · iexact M2
    iexact D3
  iintro ⟨M1, D2, W2, M2, D3⟩
  iapply wp_bindI
  iapply (part18_spec (f3 := f3) (f4 := f4) (f5 := f5) (f6 := f6) (G8 := G8) (G11 := G11) s0 s1 s2 Z hG11 hG8 dx hdx)
    $$ [H00 D0 D1 D2 D3 D4 D5 W0 W1 W2 W3 W4 W5 M0 M1 M2 M3 M4 M5 HC H11 H8 HX H18 H7 Hv]
  · isplitl [H00]; · iexact H00
    isplitl [D0 D1 D2 D3 D4 D5]
    · isplitl [D0]; · iexact D0
      isplitl [D1]; · iexact D1
      isplitl [D2]; · iexact D2
      isplitl [D3]; · iexact D3
      isplitl [D4]; · iexact D4
      iexact D5
    isplitl [W0 W1 W2 W3 W4 W5]
    · isplitl [W0]; · iexact W0
      isplitl [W1]; · iexact W1
      isplitl [W2]; · iexact W2
      isplitl [W3]; · iexact W3
      isplitl [W4]; · iexact W4
      iexact W5
    isplitl [M0 M1 M2 M3 M4 M5]
    · isplitl [M0]; · iexact M0
      isplitl [M1]; · iexact M1
      isplitl [M2]; · iexact M2
      isplitl [M3]; · iexact M3
      isplitl [M4]; · iexact M4
      iexact M5
    isplitl [HC]; · unfold six; iexact HC
    isplitl [H11]; · iexact H11
    isplitl [H8]; · iexact H8
    isplitl [HX]; · iexact HX
    isplitl [H18]; · iexact H18
    isplitl [H7]; · iexact H7
    iexact Hv
  iintro ⟨HI, H0, H1⟩
  unfold Inv
  icases HI with ⟨D, W, M, C, HR11, H11, HR8, H8, HX, HDx, H17, H19, H9, H2, HO⟩
  ihave D := (dyRing_end) $$ D
  ihave W := (wRing_end) $$ W
  icases (mgRing_end) $$ M with ⟨M5, M0, M1, M2, ⟨P3, V3, T3⟩, ⟨P4, V4, T4⟩⟩
  icases (codesRing_end) $$ C with ⟨C5, C0, C1, C2, L3, L4⟩
  ihave HX := (xAt_end) $$ HX
  ihave HDx := (dxAt_end) $$ HDx
  icases (own_holds) $$ H10 with ⟨%X10, H10⟩
  iapply (wp_loadWhole (load_whole2 X10)) $$ H10; iintro H10
  iapply (wp_storeAll) $$ H10; iintro H10
  iapply (wp_lent' (c := c) (S := slotA arg15 33) (B := colBlk arg11 33) (sm := cell arg24 33) (slotA_of arg15 rfl _) (colBlk_of arg11 rfl (by decide) _) (cell_of arg24 rfl _)) $$ [L3 HO]
  · isplitl [L3]; · iexact L3
    iexact HO
  iintro ⟨B3, S3, U3, HO⟩
  ihave H11 := (col_add (n := 33) (by decide) (hG11 33 (by decide))) $$ [H11 B3]
  · isplitl [H11]; · iexact H11
    iexact B3
  iapply (wp_landed' (c := c) (S := slotB arg14 33) (B := rowBlk arg8 33) (sm := cell arg23 33) (slotB_of arg14 rfl _) (rowBlk_of arg8 rfl (by decide) _) (cell_of arg23 rfl _)) $$ [P3 HO]
  · isplitl [P3]; · iexact P3
    iexact HO
  iintro ⟨B3, P3, O3, HO⟩
  ihave H8 := (row_add (n := 33) (by decide) (hG8 33 (by decide))) $$ [H8 B3]
  · isplitl [H8]; · iexact H8
    iexact B3
  iapply (wp_lent' (c := c) (S := slotA arg15 34) (B := colBlk arg11 34) (sm := cell arg24 34) (slotA_of arg15 rfl _) (colBlk_of arg11 rfl (by decide) _) (cell_of arg24 rfl _)) $$ [L4 HO]
  · isplitl [L4]; · iexact L4
    iexact HO
  iintro ⟨B4, S4, U4, HO⟩
  ihave H11 := (col_add (n := 34) (by decide) (hG11 34 (by decide))) $$ [H11 B4]
  · isplitl [H11]; · iexact H11
    iexact B4
  iapply (wp_landed' (c := c) (S := slotB arg14 34) (B := rowBlk arg8 34) (sm := cell arg23 34) (slotB_of arg14 rfl _) (rowBlk_of arg8 rfl (by decide) _) (cell_of arg23 rfl _)) $$ [P4 HO]
  · isplitl [P4]; · iexact P4
    iexact HO
  iintro ⟨B4, P4, O4, HO⟩
  ihave H8 := (row_add (n := 34) (by decide) (hG8 34 (by decide))) $$ [H8 B4]
  · isplitl [H8]; · iexact H8
    iexact B4
  iapply (wp_landed' (c := c) (S := arg18) (B := arg7) (sm := arg26.sem) rfl rfl rfl) $$ [HDx HO]
  · isplitl [HDx]; · iexact HDx
    iexact HO
  iintro ⟨H7, H18, Hv, HO⟩
  iapply (le_wp_ret frame (wpE defs₀ 𝒱 (c : Thread nD τ) bd))
  isplitl [H0 H1 H2 H9 H17 H19 HO]
  · isplitl [H0]; · iexact H0
    isplitl [H1]; · iexact H1
    isplitl [H2]; · iexact H2
    isplitl [H9]; · iexact H9
    isplitl [H17]; · iapply Holds.own $$ H17
    isplitl [H19]; · iapply Holds.own $$ H19
    iexact HO
  isplitl [D]; · iexact D
  isplitl [W]; · iexact W
  unfold six
  isplitl [M0 M1 M2 M5 P3 V3 T3 O3 P4 V4 T4 O4]
  · isplitl [M0]; · iexact M0
    isplitl [M1]; · iexact M1
    isplitl [M2]; · iexact M2
    isplitl [P3 V3 T3 O3]
    · iapply (mgIdle_back 33)
      isplitl [P3]; · iexact P3
      isplitl [V3]; · iexact V3
      isplitl [T3]; · iexact T3
      iexact O3
    isplitl [P4 V4 T4 O4]
    · iapply (mgIdle_back 34)
      isplitl [P4]; · iexact P4
      isplitl [V4]; · iexact V4
      isplitl [T4]; · iexact T4
      iexact O4
    iexact M5
  isplitl [C0 C1 C2 C5 S3 U3 S4 U4]
  · isplitl [C0]; · iexact C0
    isplitl [C1]; · iexact C1
    isplitl [C2]; · iexact C2
    isplitl [S3 U3]
    · iapply (codesFree_back 33)
      isplitl [S3]; · iexact S3
      iexact U3
    isplitl [S4 U4]
    · iapply (codesFree_back 34)
      isplitl [S4]; · iexact S4
      iexact U4
    iexact C5
  isplitl [H11]; · iapply (done_all (a := 1) (by decide)) $$ H11
  isplitl [H8]; · iapply (done_all (a := 0) (by decide)) $$ H8
  isplitl [HX]
  · iapply xHeld_idle $$ HX
  isplitl [H18]; · iexact H18
  isplitl [H7]; · iexact H7
  isplitl [Hv]; · iexact Hv
  iexact H10

end Cert.Kernel.Hand
-- ==== Proof.KMount.lean ====
/-
  The kernel from what it is given whole: buffers, cells and arrays, each in one piece, to the same with the results.
-/
module

public import proofs.«01_k».proof.Proof.KRun

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

/-- The ring of a kind that only reads, at rest, from its buffer, its cells and its array. -/
theorem dy_mount : (iprop(Own c arg12 ∗ Cells c arg20 ∗ Tok c arg3 fullShare f3) : sProp 𝕄)
    ⊢ iprop(six (DyFree c arg3 arg12 arg20 f3) ∗ Tok c arg3 (Transfers.shareDrop fullShare 6) f3) := by
  unfold Cells
  iintro ⟨HB, HC, HT⟩
  ihave HS := ringA_split $$ HB
  ihave ⟨HR, HQ⟩ := toks_split.1 $$ HT
  isplitr [HR]
  · iapply six_sep (Q := fun b => iprop(Idle c (cell arg20 b) ∗ Tok c arg3 (qs b) f3))
    isplitl [HS]; · iexact HS
    iapply six_sep
    isplitl [HC]; · iexact HC
    iexact HQ
  · iexact HR
theorem dy_unmount : iprop(six (DyFree c arg3 arg12 arg20 f3) ∗ Tok c arg3 (Transfers.shareDrop fullShare 6) f3)
    ⊢ (iprop(Own c arg12 ∗ Cells c arg20 ∗ Tok c arg3 fullShare f3) : sProp 𝕄) := by
  unfold Cells
  iintro ⟨HS, HR⟩
  have e : six (DyFree c arg3 arg12 arg20 f3) ⊢ iprop(six (fun b => Own (F := F) c (slotA arg12 b)) ∗ six (fun b => iprop(Idle c (cell arg20 b) ∗ Tok c arg3 (qs b) f3))) := six_unsep
  ihave ⟨HB, HS⟩ := e $$ HS
  ihave ⟨HC, HQ⟩ := six_unsep $$ HS
  isplitl [HB]
  · iapply ringA_join $$ HB
  isplitl [HC]; · iexact HC
  iapply toks_split.2
  isplitl [HR]; · iexact HR
  iexact HQ

theorem w_mount : (iprop(Own c arg13 ∗ Cells c arg21 ∗ Tok c arg5 fullShare f5) : sProp 𝕄)
    ⊢ iprop(six (WFree c arg5 arg13 arg21 f5) ∗ Tok c arg5 (Transfers.shareDrop fullShare 6) f5) := by
  unfold Cells
  iintro ⟨HB, HC, HT⟩
  ihave HS := ringB_split $$ HB
  ihave ⟨HR, HQ⟩ := toks_split.1 $$ HT
  isplitr [HR]
  · iapply six_sep (Q := fun b => iprop(Idle c (cell arg21 b) ∗ Tok c arg5 (qs b) f5))
    isplitl [HS]; · iexact HS
    iapply six_sep
    isplitl [HC]; · iexact HC
    iexact HQ
  · iexact HR
theorem w_unmount : iprop(six (WFree c arg5 arg13 arg21 f5) ∗ Tok c arg5 (Transfers.shareDrop fullShare 6) f5)
    ⊢ (iprop(Own c arg13 ∗ Cells c arg21 ∗ Tok c arg5 fullShare f5) : sProp 𝕄) := by
  unfold Cells
  iintro ⟨HS, HR⟩
  have e : six (WFree c arg5 arg13 arg21 f5) ⊢ iprop(six (fun b => Own (F := F) c (slotB arg13 b)) ∗ six (fun b => iprop(Idle c (cell arg21 b) ∗ Tok c arg5 (qs b) f5))) := six_unsep
  ihave ⟨HB, HS⟩ := e $$ HS
  ihave ⟨HC, HQ⟩ := six_unsep $$ HS
  isplitl [HB]
  · iapply ringB_join $$ HB
  isplitl [HC]; · iexact HC
  iapply toks_split.2
  isplitl [HR]; · iexact HR
  iexact HQ

/-- The ring that reads and is written back from, at rest. -/
theorem mg_mount : (iprop(Own c arg14 ∗ Cells c arg22 ∗ Cells c arg23 ∗ Tok c arg6 fullShare f6) : sProp 𝕄)
    ⊢ iprop(six (MgIdle c arg6 arg14 arg22 arg23 f6) ∗ Tok c arg6 (Transfers.shareDrop fullShare 6) f6) := by
  unfold Cells
  iintro ⟨HB, HC, HE, HT⟩
  ihave HS := ringB_split $$ HB
  ihave ⟨HR, HQ⟩ := toks_split.1 $$ HT
  isplitr [HR]
  · iapply six_sep (Q := fun b => iprop(Idle c (cell arg22 b) ∗ Tok c arg6 (qs b) f6 ∗ Idle c (cell arg23 b)))
    isplitl [HS]; · iexact HS
    iapply six_sep (Q := fun b => iprop(Tok c arg6 (qs b) f6 ∗ Idle c (cell arg23 b)))
    isplitl [HC]; · iexact HC
    iapply six_sep
    isplitl [HQ]; · iexact HQ
    iexact HE
  · iexact HR
theorem mg_unmount : iprop(six (MgIdle c arg6 arg14 arg22 arg23 f6) ∗ Tok c arg6 (Transfers.shareDrop fullShare 6) f6)
    ⊢ (iprop(Own c arg14 ∗ Cells c arg22 ∗ Cells c arg23 ∗ Tok c arg6 fullShare f6) : sProp 𝕄) := by
  unfold Cells
  iintro ⟨HS, HR⟩
  have e : six (MgIdle c arg6 arg14 arg22 arg23 f6) ⊢ iprop(six (fun b => Own (F := F) c (slotB arg14 b)) ∗ six (fun b => iprop(Idle c (cell arg22 b) ∗ Tok c arg6 (qs b) f6 ∗ Idle c (cell arg23 b)))) := six_unsep
  ihave ⟨HB, HS⟩ := e $$ HS
  ihave ⟨HC, HS⟩ := (six_unsep (Q := fun b => iprop(Tok c arg6 (qs b) f6 ∗ Idle c (cell arg23 b)))) $$ HS
  ihave ⟨HQ, HE⟩ := six_unsep $$ HS
  isplitl [HB]
  · iapply ringB_join $$ HB
  isplitl [HC]; · iexact HC
  isplitl [HE]; · iexact HE
  iapply toks_split.2
  isplitl [HR]; · iexact HR
  iexact HQ

/-- The ring that only writes, at rest. -/
theorem codes_mount : (iprop(Own c arg15 ∗ Cells c arg24) : sProp 𝕄) ⊢ six (CodesFree (F := F) c arg15 arg24) := by
  unfold Cells
  iintro ⟨HB, HC⟩
  ihave HS := ringA_split $$ HB
  iapply six_sep
  isplitl [HS]; · iexact HS
  iexact HC
theorem codes_unmount : six (CodesFree (F := F) c arg15 arg24) ⊢ (iprop(Own c arg15 ∗ Cells c arg24) : sProp 𝕄) := by
  unfold Cells
  iintro HS
  have e : six (CodesFree (F := F) c arg15 arg24) ⊢ iprop(six (fun b => Own (F := F) c (slotA arg15 b)) ∗ six (fun b => Idle c (cell arg24 b))) := six_unsep
  ihave ⟨HB, HC⟩ := e $$ HS
  isplitl [HB]
  · iapply ringA_join $$ HB
  iexact HC

/-- All that the kernel is given, in the pieces it works with. -/
theorem mount (s0 s1 s2 : S1.Idx → Elt F .f32) (Z : S70x128.Idx → Elt F .f32) : (iprop((Holds c arg0 s0 ∗ Holds c arg1 s1 ∗ Holds c arg2 s2 ∗ Holds c arg9 Z ∗ Own c arg10)
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Own c arg7 ∗ Own c arg8 ∗ Own c arg11)) : sProp 𝕄)
    ⊢ iprop(((Holds c arg0 s0 ∗ Holds c arg1 s1 ∗ Holds c arg2 s2 ∗ Holds c arg9 Z ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ Own c arg11 ∗ Own c arg8 ∗ XIdle c arg4 arg16 arg25 f4 ∗ Own c arg18 ∗ Own c arg7 ∗ Idle c arg26.sem ∗ Own c arg10)
      ∗ Tok c arg3 (Transfers.shareDrop fullShare 6) f3 ∗ Tok c arg5 (Transfers.shareDrop fullShare 6) f5 ∗ Tok c arg6 (Transfers.shareDrop fullShare 6) f6) := by
  iintro ⟨⟨H0, H1, H2, H9, H10⟩, HO, ⟨H12, H13, H14, H15, H16, H17, H18, H19⟩, ⟨C0, C1, C2, C3, C4, C5, C6⟩, ⟨T3, T4, T5, T6⟩, ⟨H7, H8, H11⟩⟩
  ihave ⟨HD, R3⟩ := dy_mount $$ [H12 C0 T3]
  · isplitl [H12]; · iexact H12
    isplitl [C0]; · iexact C0
    iexact T3
  ihave ⟨HW, R5⟩ := w_mount $$ [H13 C1 T5]
  · isplitl [H13]; · iexact H13
    isplitl [C1]; · iexact C1
    iexact T5
  ihave ⟨HM, R6⟩ := mg_mount $$ [H14 C2 C3 T6]
  · isplitl [H14]; · iexact H14
    isplitl [C2]; · iexact C2
    isplitl [C3]; · iexact C3
    iexact T6
  ihave HC := codes_mount $$ [H15 C4]
  · isplitl [H15]; · iexact H15
    iexact C4
  isplitr [R3 R5 R6]
  · isplitl [H0 H1 H2 H9 H17 H19 HO]
    · isplitl [H0]; · iexact H0
      isplitl [H1]; · iexact H1
      isplitl [H2]; · iexact H2
      isplitl [H9]; · iexact H9
      isplitl [H17]; · iexact H17
      isplitl [H19]; · iexact H19
      iexact HO
    isplitl [HD]; · iexact HD
    isplitl [HW]; · iexact HW
    isplitl [HM]; · iexact HM
    isplitl [HC]; · iexact HC
    isplitl [H11]; · iexact H11
    isplitl [H8]; · iexact H8
    isplitl [H16 C5 T4]
    · unfold XIdle
      isplitl [H16]; · iexact H16
      isplitl [C5]; · iexact C5
      iexact T4
    isplitl [H18]; · iexact H18
    isplitl [H7]; · iexact H7
    isplitl [C6]; · iexact C6
    iexact H10
  · isplitl [R3]; · iexact R3
    isplitl [R5]; · iexact R5
    iexact R6

/-- And back, with the results in place. -/
theorem unmount (s0 s1 s2 : S1.Idx → Elt F .f32) (Z : S70x128.Idx → Elt F .f32) (dx : S768x1536.Idx → Elt F .bf16) : iprop(((Holds c arg0 s0 ∗ Holds c arg1 s1 ∗ Holds c arg2 s2 ∗ Holds c arg9 (biasBuf (dyB c arg3 f3) Z 35) ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ (arg11.view.loc (c : Thread nD τ) ↦[arg11.view.set]{fullShare} G11) ∗ (arg8.view.loc (c : Thread nD τ) ↦[arg8.view.set]{fullShare} G8)
      ∗ XIdle c arg4 arg16 arg25 f4 ∗ Own c arg18 ∗ Holds c arg7 dx ∗ Idle c arg26.sem ∗ Holds c arg10 (fun _ => k0_pay98 (amaxV (dyB c arg3 f3) 35)))
      ∗ Tok c arg3 (Transfers.shareDrop fullShare 6) f3 ∗ Tok c arg5 (Transfers.shareDrop fullShare 6) f5 ∗ Tok c arg6 (Transfers.shareDrop fullShare 6) f6)
    ⊢ (iprop((Holds c arg0 s0 ∗ Holds c arg1 s1 ∗ Holds c arg2 s2 ∗ Holds c arg9 (biasBuf (dyB c arg3 f3) Z 35) ∗ Holds c arg10 (fun _ => k0_pay98 (amaxV (dyB c arg3 f3) 35)))
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Holds c arg7 dx ∗ (arg8.view.loc (c : Thread nD τ) ↦[arg8.view.set]{fullShare} G8)
        ∗ (arg11.view.loc (c : Thread nD τ) ↦[arg11.view.set]{fullShare} G11))) : sProp 𝕄) := by
  iintro ⟨⟨⟨H0, H1, H2, H9, H17, H19, HO⟩, HD, HW, HM, HC, H11, H8, HX, H18, H7, C6, H10⟩, ⟨R3, R5, R6⟩⟩
  ihave ⟨H12, C0, T3⟩ := dy_unmount $$ [HD R3]
  · isplitl [HD]; · iexact HD
    iexact R3
  ihave ⟨H13, C1, T5⟩ := w_unmount $$ [HW R5]
  · isplitl [HW]; · iexact HW
    iexact R5
  ihave ⟨H14, C2, C3, T6⟩ := mg_unmount $$ [HM R6]
  · isplitl [HM]; · iexact HM
    iexact R6
  ihave ⟨H15, C4⟩ := codes_unmount $$ HC
  unfold XIdle
  icases HX with ⟨H16, C5, T4⟩
  isplitl [H0 H1 H2 H9 H10]
  · isplitl [H0]; · iexact H0
    isplitl [H1]; · iexact H1
    isplitl [H2]; · iexact H2
    isplitl [H9]; · iexact H9
    iexact H10
  isplitl [HO]; · iexact HO
  isplitl [H12 H13 H14 H15 H16 H17 H18 H19]
  · isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [T3 T4 T5 T6]
  · isplitl [T3]; · iexact T3
    isplitl [T4]; · iexact T4
    isplitl [T5]; · iexact T5
    iexact T6
  isplitl [H7]; · iexact H7
  isplitl [H8]; · iexact H8
  iexact H11

/-- The kernel, from all it is given to the same with the five results. -/
theorem kernel_whole (s0 s1 s2 : S1.Idx → Elt F .f32) (Z : S70x128.Idx → Elt F .f32)
    (hG11 : ∀ n < 35, (colBlk arg11 n).view.read (Elt F) G11 = codesN c arg3 f3 (one s0) n)
    (hG8 : ∀ n < 35, (rowBlk arg8 n).view.read (Elt F) G8 = mgoN c arg3 f3 arg4 f4 arg6 f6 (one s0) (one s1) n)
    (dx : S768x1536.Idx → Elt F .bf16) (hdx : k0_pay92 (one s0) (accV (k0_pay96 (one s0)) (dyB c arg3 f3) (wB c arg5 f5) 35) (one s2) = dx) :
    (iprop((Holds c arg0 s0 ∗ Holds c arg1 s1 ∗ Holds c arg2 s2 ∗ Holds c arg9 Z ∗ Own c arg10)
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Own c arg7 ∗ Own c arg8 ∗ Own c arg11)) : sProp 𝕄)
      ⊢ wp frame (wpE defs₀ 𝒱 (c : Thread nD τ) bd) Set.univ (cc0_fp8_linear_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26)
        (fun _ => iprop((Holds c arg0 s0 ∗ Holds c arg1 s1 ∗ Holds c arg2 s2 ∗ Holds c arg9 (biasBuf (dyB c arg3 f3) Z 35) ∗ Holds c arg10 (fun _ => k0_pay98 (amaxV (dyB c arg3 f3) 35)))
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Holds c arg7 dx ∗ (arg8.view.loc (c : Thread nD τ) ↦[arg8.view.set]{fullShare} G8)
        ∗ (arg11.view.loc (c : Thread nD τ) ↦[arg11.view.set]{fullShare} G11)))) :=
  (mount s0 s1 s2 Z).trans ((BIClass.sep_mono (kernel_spec s0 s1 s2 Z hG11 hG8 dx hdx) .rfl).trans
    ((wp_frame_r frame (wpE defs₀ 𝒱 (c : Thread nD τ) bd) Set.univ).trans
      (wp_mono frame (wpE defs₀ 𝒱 (c : Thread nD τ) bd) Set.univ fun _ => unmount s0 s1 s2 Z dx)))

end Cert.Kernel.Hand
-- ==== Proof.KOut.lean ====
/-
  What the kernel leaves in its five results, as whole arrays, and the proof data of its one launch.
-/
module

public import proofs.«01_k».proof.Proof.KMount
public import proofs.«01_k».proof.Proof.Gen.Kernel.Frame
public import Idealize.ShloMosaic.Lib.Pipeline.FrameSuffixV

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The three scales, as the kernel reads them. -/
abbrev dyS (c : Dev nD) : F .f32 := one (iblk m c 0 t0_0 : S1.Idx → Elt F .f32)
abbrev xS (c : Dev nD) : F .f32 := one (iblk m c 1 t0_0 : S1.Idx → Elt F .f32)
abbrev wS (c : Dev nD) : F .f32 := one (iblk m c 2 t0_0 : S1.Idx → Elt F .f32)
/-- The blocks of its arrays. -/
abbrev dyN (c : Dev nD) : ℕ → S768x256.Idx → Elt F .bf16 := dyB c (Memref.whole main_v3) (V m c main_v3)
abbrev wN (c : Dev nD) : ℕ → S256x1536.Idx → Elt F .fp8e4m3 := wB c (Memref.whole main_arg4) (V m c main_arg4)
abbrev codesBlk (c : Dev nD) : ℕ → S768x256.Idx → Elt F .fp8e5m2 := codesN c (Memref.whole main_v3) (V m c main_v3) (dyS m c)
abbrev mgoBlk (c : Dev nD) : ℕ → S256x1536.Idx → Elt F .f32 :=
  mgoN c (Memref.whole main_v3) (V m c main_v3) (Memref.whole main_v4) (V m c main_v4) (Memref.whole main_arg6) (V m c main_arg6) (dyS m c) (xS m c)

/-- The codes of the whole gradient. -/
def codesG (c : Dev nD) : S768x8960.Idx → Elt F .fp8e5m2 := fun x =>
  codesBlk m c ((x 1).val / 256) (ix2 (x 0) (⟨(x 1).val % 256, Nat.mod_lt _ (by norm_num)⟩ : Fin 256))
/-- The whole new master gradient. -/
def mgoG (c : Dev nD) : S8960x1536.Idx → Elt F .f32 := fun x =>
  mgoBlk m c ((x 0).val / 256) (ix2 (⟨(x 0).val % 256, Nat.mod_lt _ (by norm_num)⟩ : Fin 256) (x 1))
/-- The gradient of the input. -/
def dxG (c : Dev nD) : S768x1536.Idx → Elt F .bf16 := k0_pay92 (dyS m c) (accV (k0_pay96 (dyS m c)) (dyN m c) (wN m c) 35) (wS m c)
/-- The sums, two rows a block. -/
def biasG (c : Dev nD) : S70x128.Idx → Elt F .f32 := fun x =>
  (if (x 0).val % 2 = 0 then sumLo (dyN m c ((x 0).val / 2)) else sumHi (dyN m c ((x 0).val / 2))) (ix2 (⟨0, Nat.one_pos⟩ : Fin 1) (x 1))
/-- The maximum. -/
def amaxG (c : Dev nD) : S1.Idx → Elt F .f32 := fun _ => k0_pay98 (amaxV (dyN m c) 35)

theorem biasBuf_all (c : Dev nD) (Z : S70x128.Idx → Elt F .f32) : biasBuf (dyN m c) Z 35 = biasG m c := by
  funext x
  have h : (x 0).val < 2 * 35 := (x 0).isLt
  unfold biasBuf biasG
  rw [if_pos h]

theorem codesG_blk (c : Dev nD) : ∀ n < 35, (colBlk (Memref.whole main_v5_4) n).view.read (Elt F) (codesG m c) = codesBlk m c n := by
  intro n hn
  funext x
  have h1 : (x 1).val < 256 := (x 1).isLt
  have e : 256 * (n % 35) + (x 1).val = 256 * n + (x 1).val := by rw [Nat.mod_eq_of_lt hn]
  have hx : ∀ q : Fin 768, ∀ k (hk : k < 8960), q = x 0 → k = 256 * n + (x 1).val → codesG m c (ix2 q (⟨k, hk⟩ : Fin 8960)) = codesBlk m c n x := by
    rintro q k hk rfl rfl
    show codesBlk m c ((256 * n + (x 1).val) / 256) (ix2 (x 0) (⟨(256 * n + (x 1).val) % 256, Nat.mod_lt _ (by norm_num)⟩ : Fin 256)) = codesBlk m c n x
    rw [show (256 * n + (x 1).val) / 256 = n by omega]
    congr 1
    funext a
    fin_cases a
    · rfl
    · apply Fin.ext
      show (256 * n + (x 1).val) % 256 = (x 1).val
      omega
  refine Eq.trans ?_ (hx (x 0) (256 * n + (x 1).val) (by omega) rfl rfl)
  show codesG m c _ = _
  congr 1
  funext a
  fin_cases a
  · apply Fin.ext
    show 0 + 1 * (x 0).val = (x 0).val
    omega
  · apply Fin.ext
    show 256 * (n % 35) + 1 * (x 1).val = 256 * n + (x 1).val
    omega

theorem mgoG_blk (c : Dev nD) : ∀ n < 35, (rowBlk (Memref.whole main_v5_1) n).view.read (Elt F) (mgoG m c) = mgoBlk m c n := by
  intro n hn
  funext x
  have h0 : (x 0).val < 256 := (x 0).isLt
  have e : 256 * (n % 35) + (x 0).val = 256 * n + (x 0).val := by rw [Nat.mod_eq_of_lt hn]
  have hx : ∀ q : Fin 1536, ∀ k (hk : k < 8960), q = x 1 → k = 256 * n + (x 0).val → mgoG m c (ix2 (⟨k, hk⟩ : Fin 8960) q) = mgoBlk m c n x := by
    rintro q k hk rfl rfl
    show mgoBlk m c ((256 * n + (x 0).val) / 256) (ix2 (⟨(256 * n + (x 0).val) % 256, Nat.mod_lt _ (by norm_num)⟩ : Fin 256) (x 1)) = mgoBlk m c n x
    rw [show (256 * n + (x 0).val) / 256 = n by omega]
    congr 1
    funext a
    fin_cases a
    · apply Fin.ext
      show (256 * n + (x 0).val) % 256 = (x 0).val
      omega
    · rfl
  refine Eq.trans ?_ (hx (x 1) (256 * n + (x 0).val) (by omega) rfl rfl)
  show mgoG m c _ = _
  congr 1
  funext a
  fin_cases a
  · apply Fin.ext
    show 256 * (n % 35) + 1 * (x 0).val = 256 * n + (x 0).val
    omega
  · apply Fin.ext
    show 0 + 1 * (x 1).val = (x 1).val
    omega

/-! ## The launch's proof data -/

/-- The cells the kernel uses itself. -/
abbrev osem0 : Fin 32 → SemLoc sig :=
  ![.dma 5, .dma 6, .dma 7, .dma 8, .dma 9, .dma 10, .dma 11, .dma 12, .dma 13, .dma 14, .dma 15, .dma 16, .dma 17, .dma 18, .dma 19, .dma 20,
    .dma 21, .dma 22, .dma 23, .dma 24, .dma 25, .dma 26, .dma 27, .dma 28, .dma 29, .dma 30, .dma 31, .dma 32, .dma 33, .dma 34, .dma 35, .dma 36]
theorem ownSemFacts0 : Pipeline.OwnSemFacts spec0 osem0 := by decide
/-- The arrays the kernel reads by its own copies, and those it writes. -/
def H0 : Finset (Ref sig .tc) := {main_v3, main_v4, main_arg4, main_arg6}
def R0 : Finset (Ref sig .tc) := {main_v5_0, main_v5_1, main_v5_4}
theorem H0_sub : H0 ⊆ Pipeline.restRefs sig spec0 := by decide
theorem R0_sub : R0 ⊆ Pipeline.restRefs sig spec0 \ H0 := by decide

/-- What the arrays it writes hold afterwards. -/
def G (c : Dev nD) : (b : Ref sig .tc) → Buf (Elt F) ((c.tc : Thread nD τ).loc b) :=
  Function.update (Function.update (Function.update (V m c) main_v5_0 (dxG m c)) main_v5_1 (mgoG m c)) main_v5_4 (codesG m c)
theorem G_dx (c : Dev nD) : G m c main_v5_0 = dxG m c := by
  unfold G
  rw [Function.update_of_ne (by decide), Function.update_of_ne (by decide), Function.update_self]
theorem G_mgo (c : Dev nD) : G m c main_v5_1 = mgoG m c := by
  unfold G
  rw [Function.update_of_ne (by decide), Function.update_self]
theorem G_codes (c : Dev nD) : G m c main_v5_4 = codesG m c := by
  unfold G
  rw [Function.update_self]

/-- All the kernel holds but its windows, the written arrays at `G`. -/
abbrev Held (Gc : (c : Dev nD) → (b : Ref sig .tc) → Buf (Elt F) ((c.tc : Thread nD τ).loc b)) (c : Dev nD) : sProp 𝕄 :=
  Pipeline.ΦDRV osem0 spec0 H0 R0 (V m) Gc c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => biasG m c
    | ⟨4, _⟩ => amaxG m c
  Φ t := if t.val = 0 then Held m (V m) c else Held m (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = biasG m c := by dsimp only [dats]
theorem after0_4 (c : Dev nD) (t : Fin cfg0.N) : (dats m 0 c).after 4 t = amaxG m c := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans (by unfold Dat.fetched Dat.blockOf iblk; rw [A_eq]; rfl)

end Cert.Kernel.Hand
-- ==== Proof.KFrame.lean ====
/-
  The kernel's one launch: the proof of its body at its one grid point, the run, the frame, and what the results hold.
-/
module

public import proofs.«01_k».proof.Proof.KOut

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

theorem own_whole (c : Dev nD) (r : Ref sig .tc) : (Own c (Memref.whole r) : sProp 𝕄)
    = iprop(∃ f : Buf (Elt F) ((c : Thread nD τ).loc r), ((c : Thread nD τ).loc r) ↦{fullShare} f) := by
  unfold Own
  rw [(Memref.isWhole_whole r).set_eq_univ]

/-- The cells, one after the other. -/
theorem ownSems00_eq (c : Dev nD) : (Pipeline.ownSems0 (Ix := Unit) (Name := ℕ) (U := Pipeline.UD sig nD τ) (Lvl := ℕ) (Val := Elt F) (τ := τ) osem0 c : sProp 𝕄)
    = iprop(Idle (F := F) c (cell cc0_scratch8 0) ∗ Idle (F := F) c (cell cc0_scratch8 1) ∗ Idle (F := F) c (cell cc0_scratch8 2) ∗ Idle (F := F) c (cell cc0_scratch8 3) ∗ Idle (F := F) c (cell cc0_scratch8 4) ∗ Idle (F := F) c (cell cc0_scratch8 5) ∗ Idle (F := F) c (cell cc0_scratch9 0) ∗ Idle (F := F) c (cell cc0_scratch9 1) ∗ Idle (F := F) c (cell cc0_scratch9 2) ∗ Idle (F := F) c (cell cc0_scratch9 3) ∗ Idle (F := F) c (cell cc0_scratch9 4) ∗ Idle (F := F) c (cell cc0_scratch9 5) ∗ Idle (F := F) c (cell cc0_scratch10 0) ∗ Idle (F := F) c (cell cc0_scratch10 1) ∗ Idle (F := F) c (cell cc0_scratch10 2) ∗ Idle (F := F) c (cell cc0_scratch10 3) ∗ Idle (F := F) c (cell cc0_scratch10 4) ∗ Idle (F := F) c (cell cc0_scratch10 5) ∗ Idle (F := F) c (cell cc0_scratch11 0) ∗ Idle (F := F) c (cell cc0_scratch11 1) ∗ Idle (F := F) c (cell cc0_scratch11 2) ∗ Idle (F := F) c (cell cc0_scratch11 3) ∗ Idle (F := F) c (cell cc0_scratch11 4) ∗ Idle (F := F) c (cell cc0_scratch11 5) ∗ Idle (F := F) c (cell cc0_scratch12 0) ∗ Idle (F := F) c (cell cc0_scratch12 1) ∗ Idle (F := F) c (cell cc0_scratch12 2) ∗ Idle (F := F) c (cell cc0_scratch12 3) ∗ Idle (F := F) c (cell cc0_scratch12 4) ∗ Idle (F := F) c (cell cc0_scratch12 5) ∗ Idle c cc0_scratch13.sem ∗ Idle c cc0_scratch14.sem) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl
theorem cells_in (c : Dev nD) : (Pipeline.ownSems0 (Ix := Unit) (Name := ℕ) (U := Pipeline.UD sig nD τ) (Lvl := ℕ) (Val := Elt F) (τ := τ) osem0 c : sProp 𝕄)
    ⊢ iprop(Cells (F := F) c cc0_scratch8 ∗ Cells (F := F) c cc0_scratch9 ∗ Cells (F := F) c cc0_scratch10 ∗ Cells (F := F) c cc0_scratch11 ∗ Cells (F := F) c cc0_scratch12 ∗ Idle c cc0_scratch13.sem ∗ Idle c cc0_scratch14.sem) := by
  rw [ownSems00_eq]
  iintro ⟨A0, A1, A2, A3, A4, A5, A6, A7, A8, A9, A10, A11, A12, A13, A14, A15, A16, A17, A18, A19, A20, A21, A22, A23, A24, A25, A26, A27, A28, A29, A30, A31⟩
  isplitl [A0 A1 A2 A3 A4 A5]
  · unfold Cells six
    isplitl [A0]; · iexact A0
    isplitl [A1]; · iexact A1
    isplitl [A2]; · iexact A2
    isplitl [A3]; · iexact A3
    isplitl [A4]; · iexact A4
    iexact A5
  isplitl [A6 A7 A8 A9 A10 A11]
  · unfold Cells six
    isplitl [A6]; · iexact A6
    isplitl [A7]; · iexact A7
    isplitl [A8]; · iexact A8
    isplitl [A9]; · iexact A9
    isplitl [A10]; · iexact A10
    iexact A11
  isplitl [A12 A13 A14 A15 A16 A17]
  · unfold Cells six
    isplitl [A12]; · iexact A12
    isplitl [A13]; · iexact A13
    isplitl [A14]; · iexact A14
    isplitl [A15]; · iexact A15
    isplitl [A16]; · iexact A16
    iexact A17
  isplitl [A18 A19 A20 A21 A22 A23]
  · unfold Cells six
    isplitl [A18]; · iexact A18
    isplitl [A19]; · iexact A19
    isplitl [A20]; · iexact A20
    isplitl [A21]; · iexact A21
    isplitl [A22]; · iexact A22
    iexact A23
  isplitl [A24 A25 A26 A27 A28 A29]
  · unfold Cells six
    isplitl [A24]; · iexact A24
    isplitl [A25]; · iexact A25
    isplitl [A26]; · iexact A26
    isplitl [A27]; · iexact A27
    isplitl [A28]; · iexact A28
    iexact A29
  isplitl [A30]; · iexact A30
  iexact A31

theorem cells_out (c : Dev nD) : (iprop(Cells (F := F) c cc0_scratch8 ∗ Cells (F := F) c cc0_scratch9 ∗ Cells (F := F) c cc0_scratch10 ∗ Cells (F := F) c cc0_scratch11 ∗ Cells (F := F) c cc0_scratch12 ∗ Idle c cc0_scratch13.sem ∗ Idle c cc0_scratch14.sem) : sProp 𝕄)
    ⊢ Pipeline.ownSems0 (Ix := Unit) (Name := ℕ) (U := Pipeline.UD sig nD τ) (Lvl := ℕ) (Val := Elt F) (τ := τ) osem0 c := by
  rw [ownSems00_eq]
  unfold Cells six
  iintro ⟨⟨A0, A1, A2, A3, A4, A5⟩, ⟨A6, A7, A8, A9, A10, A11⟩, ⟨A12, A13, A14, A15, A16, A17⟩, ⟨A18, A19, A20, A21, A22, A23⟩, ⟨A24, A25, A26, A27, A28, A29⟩, A30, A31⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem hbm_eq (c : Dev nD) : (bigSep H0 fun b => ((c.tc : Thread nD τ).loc b) ↦{fullShare} V m c b : sProp 𝕄)
    = iprop(Tok c (Memref.whole main_v3) fullShare (V m c main_v3) ∗ Tok c (Memref.whole main_v4) fullShare (V m c main_v4) ∗ Tok c (Memref.whole main_arg4) fullShare (V m c main_arg4) ∗ Tok c (Memref.whole main_arg6) fullShare (V m c main_arg6)) := by
  rw [BI.bigSep_eq_bigSepL_of_eq [main_v3, main_v4, main_arg4, main_arg6] (by decide) (by decide)]; rfl
theorem out_eq (Gc : (c : Dev nD) → (b : Ref sig .tc) → Buf (Elt F) ((c.tc : Thread nD τ).loc b)) (c : Dev nD) :
    (bigSep R0 fun b => ((c.tc : Thread nD τ).loc b) ↦{fullShare} Gc c b : sProp 𝕄)
    = iprop((((c.tc : Thread nD τ).loc main_v5_0) ↦{fullShare} Gc c main_v5_0) ∗ (((c.tc : Thread nD τ).loc main_v5_1) ↦{fullShare} Gc c main_v5_1)
      ∗ (((c.tc : Thread nD τ).loc main_v5_4) ↦{fullShare} Gc c main_v5_4)) := by
  rw [BI.bigSep_eq_bigSepL_of_eq [main_v5_0, main_v5_1, main_v5_4] (by decide) (by decide)]; rfl

theorem scr_eq (c : Dev nD) : (Pipeline.scopedRest (Ix := Unit) (Name := ℕ) (U := Pipeline.UD sig nD τ) (Lvl := ℕ) (Val := Elt F) spec0 c : sProp 𝕄)
    = iprop(Own (F := F) c (Memref.whole cc0_scratch0) ∗ Own (F := F) c (Memref.whole cc0_scratch1) ∗ Own (F := F) c (Memref.whole cc0_scratch2) ∗ Own (F := F) c (Memref.whole cc0_scratch3) ∗ Own (F := F) c (Memref.whole cc0_scratch4) ∗ Own (F := F) c (Memref.whole cc0_scratch5) ∗ Own (F := F) c (Memref.whole cc0_scratch6) ∗ Own (F := F) c (Memref.whole cc0_scratch7)) := by
  rw [scopedRest0_eq]
  simp only [own_whole]

theorem own_of_pts (c : Dev nD) (r : Ref sig .tc) (f : Buf (Elt F) ((c : Thread nD τ).loc r)) :
    (((c : Thread nD τ).loc r) ↦{fullShare} f : sProp 𝕄) ⊢ Own c (Memref.whole r) := by
  rw [own_whole]
  iintro H
  iexists f
  iexact H
theorem pts_of_set (c : Dev nD) (r : Ref sig .tc) (f : Buf (Elt F) ((c : Thread nD τ).loc r)) :
    ((Memref.whole r).view.loc (c : Thread nD τ) ↦[(Memref.whole r).view.set]{fullShare} f : sProp 𝕄) ⊢ (((c : Thread nD τ).loc r) ↦{fullShare} f) := by
  rw [(Memref.isWhole_whole r).set_eq_univ]
theorem pts_of_dx (c : Dev nD) (X : S768x1536.Idx → Elt F .bf16) :
    (Holds c (Memref.whole main_v5_0) X : sProp 𝕄) ⊢ (((c : Thread nD τ).loc main_v5_0) ↦{fullShare} X) := by
  unfold Holds
  iintro ⟨%f, H, %hf⟩
  have e : f = X := hf
  subst e
  iapply pts_of_set $$ H

theorem holds_of_owns {sp : Space} {s : Shape} {e : EltTy} (c : Dev nD) (M : Memref sig .tc sp s e) (X : s.Idx → Elt F e) :
    (owns (c : Thread nD τ) M fullShare X : sProp 𝕄) ⊢ Holds c M X := by
  unfold owns Holds
  iintro ⟨%f, %hf, H⟩
  iexists f
  isplitl [H]; · iexact H
  ipureintro; exact hf
theorem owns_of_holds {sp : Space} {s : Shape} {e : EltTy} (c : Dev nD) (M : Memref sig .tc sp s e) (X : s.Idx → Elt F e) :
    (Holds c M X : sProp 𝕄) ⊢ owns (c : Thread nD τ) M fullShare X := by
  unfold owns Holds
  iintro ⟨%f, H, %hf⟩
  iexists f
  isplitr
  · ipureintro; exact hf
  iexact H
theorem own_of_holds {sp : Space} {s : Shape} {e : EltTy} (c : Dev nD) (M : Memref sig .tc sp s e) (X : s.Idx → Elt F e) :
    (Holds c M X : sProp 𝕄) ⊢ Own c M := by
  unfold Own Holds
  iintro ⟨%f, H, %hf⟩
  iexists f
  iexact H

theorem owes_out (c : Dev nD) : (Owes c : sProp 𝕄) ⊢ iprop(∃ W, owes (c : Thread nD τ) 0 W) := .rfl

abbrev ms0 (t : Fin cfg0.N) := (cfg0.win 0).stage (cfg0.slots t 0)
abbrev ms1 (t : Fin cfg0.N) := (cfg0.win 1).stage (cfg0.slots t 1)
abbrev ms2 (t : Fin cfg0.N) := (cfg0.win 2).stage (cfg0.slots t 2)
abbrev ms3 (t : Fin cfg0.N) := (cfg0.win 3).stage (cfg0.slots t 3)
abbrev ms4 (t : Fin cfg0.N) := (cfg0.win 4).stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The kernel's arguments and what it holds, in and out of the launch's terms. -/
abbrev Given (c : Dev nD) (Gc : (c : Dev nD) → (b : Ref sig .tc) → Buf (Elt F) ((c.tc : Thread nD τ).loc b)) : sProp 𝕄 :=
  iprop((Own (F := F) c (Memref.whole cc0_scratch0) ∗ Own (F := F) c (Memref.whole cc0_scratch1) ∗ Own (F := F) c (Memref.whole cc0_scratch2) ∗ Own (F := F) c (Memref.whole cc0_scratch3) ∗ Own (F := F) c (Memref.whole cc0_scratch4) ∗ Own (F := F) c (Memref.whole cc0_scratch5) ∗ Own (F := F) c (Memref.whole cc0_scratch6) ∗ Own (F := F) c (Memref.whole cc0_scratch7)) ∗ (Cells (F := F) c cc0_scratch8 ∗ Cells (F := F) c cc0_scratch9 ∗ Cells (F := F) c cc0_scratch10 ∗ Cells (F := F) c cc0_scratch11 ∗ Cells (F := F) c cc0_scratch12 ∗ Idle c cc0_scratch13.sem ∗ Idle c cc0_scratch14.sem)
    ∗ (Tok c (Memref.whole main_v3) fullShare (V m c main_v3) ∗ Tok c (Memref.whole main_v4) fullShare (V m c main_v4) ∗ Tok c (Memref.whole main_arg4) fullShare (V m c main_arg4) ∗ Tok c (Memref.whole main_arg6) fullShare (V m c main_arg6))
    ∗ ((((c.tc : Thread nD τ).loc main_v5_0) ↦{fullShare} Gc c main_v5_0) ∗ (((c.tc : Thread nD τ).loc main_v5_1) ↦{fullShare} Gc c main_v5_1)
      ∗ (((c.tc : Thread nD τ).loc main_v5_4) ↦{fullShare} Gc c main_v5_4)))
theorem held_in (c : Dev nD) (Gc : (c : Dev nD) → (b : Ref sig .tc) → Buf (Elt F) ((c.tc : Thread nD τ).loc b)) : Held m Gc c ⊢ Given m c Gc := by
  unfold Held Pipeline.ΦDRV
  rw [hbm_eq, out_eq, scr_eq]
  exact BIClass.sep_mono .rfl (BIClass.sep_mono (cells_in c) .rfl)
theorem held_out (c : Dev nD) (Gc : (c : Dev nD) → (b : Ref sig .tc) → Buf (Elt F) ((c.tc : Thread nD τ).loc b)) : Given m c Gc ⊢ Held m Gc c := by
  unfold Held Pipeline.ΦDRV
  rw [hbm_eq, out_eq, scr_eq]
  exact BIClass.sep_mono .rfl (BIClass.sep_mono (cells_out c) .rfl)

theorem Phi_in (c : Dev nD) : (dats m 0 c).Φ (t0_0 : Fin cfg0.N).castSucc = Held m (V m) c := by
  dsimp only [dats]
  exact if_pos rfl
theorem Phi_out (c : Dev nD) : (dats m 0 c).Φ (t0_0 : Fin cfg0.N).succ = Held m (G m) c := by
  dsimp only [dats]
  exact if_neg (by decide)

set_option maxHeartbeats 1000000 in
theorem sound_body0 (c : Dev nD) :
    bodyPre m c t0_0 ⊢ wp frame (wpE (defs₀ (F := F)) Variants.none c none) Set.univ (bodyAt0 t0_0) (fun _ => bodyPost m c t0_0) := by
  unfold bodyPre bodyPost bodyAt0
  rw [Phi_in, Phi_out, after0_0, after0_1, after0_2, after0_3, after0_4]
  simp only [before0_0, before0_1, before0_2]
  unfold Dat.owesAt Pipeline.owesWithin
  rw [show (dats m 0 c).owed (t0_0 : Fin cfg0.N).castSucc = 0 from rfl, show (dats m 0 c).owed (t0_0 : Fin cfg0.N).succ = 0 from rfl]
  iintro ⟨HK, ⟨%W, -, HW⟩, ⟨%d0, H0⟩, ⟨%d1, H1⟩, ⟨%d2, H2⟩, ⟨%d3, H3⟩, ⟨%d4, H4⟩⟩
  ihave ⟨HS, HC, HT, ⟨O0, O1, O2⟩⟩ := (held_in m c (V m)) $$ HK
  have HH := fun Z => kernel_whole (𝒱 := Variants.none) (c := c) (bd := none)
    (arg0 := win0_0.stage (cfg0.slots t0_0 0)) (harg0 := hstage0_0 0) (arg1 := win0_1.stage (cfg0.slots t0_0 1)) (harg1 := hstage0_1 0)
    (arg2 := win0_2.stage (cfg0.slots t0_0 2)) (harg2 := hstage0_2 0)
    (arg3 := Memref.whole main_v3) (harg3 := Memref.isWhole_whole main_v3)
    (arg4 := Memref.whole main_v4) (harg4 := Memref.isWhole_whole main_v4)
    (arg5 := Memref.whole main_arg4) (harg5 := Memref.isWhole_whole main_arg4)
    (arg6 := Memref.whole main_arg6) (harg6 := Memref.isWhole_whole main_arg6)
    (arg7 := Memref.whole main_v5_0) (harg7 := Memref.isWhole_whole main_v5_0)
    (arg8 := Memref.whole main_v5_1) (harg8 := Memref.isWhole_whole main_v5_1)
    (arg9 := win0_3.stage (cfg0.slots t0_0 3)) (harg9 := hstage0_3 0) (arg10 := win0_4.stage (cfg0.slots t0_0 4)) (harg10 := hstage0_4 0)
    (arg11 := Memref.whole main_v5_4) (harg11 := Memref.isWhole_whole main_v5_4)
    (arg12 := Memref.whole cc0_scratch0) (harg12 := Memref.isWhole_whole cc0_scratch0)
    (arg13 := Memref.whole cc0_scratch1) (harg13 := Memref.isWhole_whole cc0_scratch1)
    (arg14 := Memref.whole cc0_scratch2) (harg14 := Memref.isWhole_whole cc0_scratch2)
    (arg15 := Memref.whole cc0_scratch3) (harg15 := Memref.isWhole_whole cc0_scratch3)
    (arg16 := Memref.whole cc0_scratch4) (harg16 := Memref.isWhole_whole cc0_scratch4)
    (arg17 := Memref.whole cc0_scratch5) (harg17 := Memref.isWhole_whole cc0_scratch5)
    (arg18 := Memref.whole cc0_scratch6) (harg18 := Memref.isWhole_whole cc0_scratch6)
    (arg19 := Memref.whole cc0_scratch7) (harg19 := Memref.isWhole_whole cc0_scratch7)
    (arg20 := cc0_scratch8) (arg21 := cc0_scratch9) (arg22 := cc0_scratch10) (arg23 := cc0_scratch11) (arg24 := cc0_scratch12) (arg25 := cc0_scratch13) (arg26 := cc0_scratch14)
    (f3 := V m c main_v3) (f4 := V m c main_v4) (f5 := V m c main_arg4) (f6 := V m c main_arg6) (G8 := mgoG m c) (G11 := codesG m c)
    (iblk m c 0 t0_0) (iblk m c 1 t0_0) (iblk m c 2 t0_0) Z (codesG_blk m c) (mgoG_blk m c) (dxG m c) rfl
  iapply wp_wand_r frame (wpE (defs₀ (F := F)) Variants.none c none) Set.univ
  isplitl [HS HC HT O0 O1 O2 HW H0 H1 H2 H3 H4]
  · iapply (HH ((dats m 0 c).before 3 t0_0 d3))
    isplitl [H0 H1 H2 H3 H4]
    · isplitl [H0]; · iapply holds_of_owns $$ H0
      isplitl [H1]; · iapply holds_of_owns $$ H1
      isplitl [H2]; · iapply holds_of_owns $$ H2
      isplitl [H3]; · iapply holds_of_owns $$ H3
      ihave H4 := holds_of_owns $$ H4
      iapply own_of_holds $$ H4
    isplitl [HW]
    · unfold Move.Owes
      iexists W
      iexact HW
    isplitl [HS]; · iexact HS
    isplitl [HC]; · iexact HC
    isplitl [HT]; · iexact HT
    isplitl [O0]; · iapply own_of_pts $$ O0
    isplitl [O1]; · iapply own_of_pts $$ O1
    iapply own_of_pts $$ O2
  iintro %u ⟨⟨H0, H1, H2, H3, H4⟩, HO, HS, HC, HT, ⟨O0, O1, O2⟩⟩
  ihave ⟨%W', HW'⟩ := owes_out c $$ HO
  isplitl [HS HC HT O0 O1 O2]
  · iapply held_out m c (G m)
    isplitl [HS]; · iexact HS
    isplitl [HC]; · iexact HC
    isplitl [HT]; · iexact HT
    rw [G_dx, G_mgo, G_codes]
    isplitl [O0]; · iapply pts_of_dx $$ O0
    isplitl [O1]; · iapply pts_of_set $$ O1
    iapply pts_of_set $$ O2
  isplitl [HW']
  · iexists W'; isplitr; · ipureintro; exact fun _ _ => Or.inl trivial
    iexact HW'
  isplitl [H0]; · iapply owns_of_holds $$ H0
  isplitl [H1]; · iapply owns_of_holds $$ H1
  isplitl [H2]; · iapply owns_of_holds $$ H2
  rw [← biasBuf_all m c ((dats m 0 c).before 3 t0_0 d3)]
  isplitl [H3]; · iapply owns_of_holds $$ H3
  iapply owns_of_holds $$ H4

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  exact sound_body0 m c

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmain' (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What every buffer holds after the last line. -/
abbrev Wv (c : Dev nD) : Valuation τ sig (Elt F) :=
  StableHlo.after (List.flatten [hostOps1]) (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD, ∀ b ∈ Pipeline.restRefs sig spec0,
    r.2.mem ((c.tc : Thread nD τ).loc b) = Wv m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain' m Variants.none) (hA := A_eq m)
    (hin := fun c => by rw [show (dats m 0 c).Φ 0 = Held m (V m) c from Phi_in m c])
    (hout := fun c => by rw [show (dats m 0 c).Φ (Fin.last cfg0.N) = Held m (G m) c from Phi_out m c])
    (Q' := _) (hQ' := fun r h => ⟨fun c b hb => (h.1 c).2 b hb, h.2⟩)

/-- A buffer that no line after the launch writes, that is no window's and that the kernel does not write, holds what it held before. -/
theorem Wv_keeps (c : Dev nD) (b : Ref sig .tc) (h1 : (List.flatten [hostOps1 (F := F)]).Forall fun op => Proc.devRef .tc b ∉ op.writes)
    (h2 : ∀ w, Pipeline.arrRef spec0 w ≠ b) (h3 : b ∉ R0) : Wv m c (Proc.devRef .tc b) = V m c b := by
  unfold Wv
  rw [StableHlo.after_of_forall_not_mem (b := Proc.devRef .tc b) _ _ (List.forall_iff_forall_mem.mp h1),
    Pipeline.withArrays_of_ne _ c _ _ b h2, Pipeline.withR_of_not_mem _ _ _ _ b h3]

theorem Wv_main_arg0 (c : Dev nD) : Wv m c (Proc.devRef .tc main_arg0) = m ((c : Thread nD τ).loc main_arg0) :=
  (Wv_keeps m c main_arg0 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg0 m c)
theorem Wv_main_arg1 (c : Dev nD) : Wv m c (Proc.devRef .tc main_arg1) = m ((c : Thread nD τ).loc main_arg1) :=
  (Wv_keeps m c main_arg1 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg1 m c)
theorem Wv_main_arg2 (c : Dev nD) : Wv m c (Proc.devRef .tc main_arg2) = m ((c : Thread nD τ).loc main_arg2) :=
  (Wv_keeps m c main_arg2 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg2 m c)
theorem Wv_main_arg3 (c : Dev nD) : Wv m c (Proc.devRef .tc main_arg3) = m ((c : Thread nD τ).loc main_arg3) :=
  (Wv_keeps m c main_arg3 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg3 m c)
theorem Wv_main_arg4 (c : Dev nD) : Wv m c (Proc.devRef .tc main_arg4) = m ((c : Thread nD τ).loc main_arg4) :=
  (Wv_keeps m c main_arg4 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg4 m c)
theorem Wv_main_arg5 (c : Dev nD) : Wv m c (Proc.devRef .tc main_arg5) = m ((c : Thread nD τ).loc main_arg5) :=
  (Wv_keeps m c main_arg5 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg5 m c)
theorem Wv_main_arg6 (c : Dev nD) : Wv m c (Proc.devRef .tc main_arg6) = m ((c : Thread nD τ).loc main_arg6) :=
  (Wv_keeps m c main_arg6 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg6 m c)

/-- The program runs, its arguments end as they began, and nothing is left in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hz⟩ => ⟨fun c => ⟨
    (h c main_arg0 (Pipeline.mem_restRefs_of main_arg0 (by decide) (by decide))).trans (Wv_main_arg0 m c),
    (h c main_arg1 (Pipeline.mem_restRefs_of main_arg1 (by decide) (by decide))).trans (Wv_main_arg1 m c),
    (h c main_arg2 (Pipeline.mem_restRefs_of main_arg2 (by decide) (by decide))).trans (Wv_main_arg2 m c),
    (h c main_arg3 (Pipeline.mem_restRefs_of main_arg3 (by decide) (by decide))).trans (Wv_main_arg3 m c),
    (h c main_arg4 (Pipeline.mem_restRefs_of main_arg4 (by decide) (by decide))).trans (Wv_main_arg4 m c),
    (h c main_arg5 (Pipeline.mem_restRefs_of main_arg5 (by decide) (by decide))).trans (Wv_main_arg5 m c),
    (h c main_arg6 (Pipeline.mem_restRefs_of main_arg6 (by decide) (by decide))).trans (Wv_main_arg6 m c)⟩, hz⟩) (run_main m ρ)

end Cert.Kernel.Hand
-- ==== Proof.KIOffsets.lean ====
/-
  Where trip `k` of the kernel's one counted loop reads and writes: every printed offset is a chain of
  32-bit operations on the trip's counter, and here each is a plain expression in `k`.
-/
module

public import proofs.«01_k».proof.Proof.Gen.KernelIdeal.Skeleton

@[expose] public section

set_option maxRecDepth 100000

namespace Cert.KernelIdeal.Hand

open Cert.KernelIdeal Cert.KernelIdeal.Gen
open Idealize.ShloMosaic

/-- The loop makes 35 trips, one per 256-column block of the gradient. -/
theorem trips_eq : k0_t1_loop.trips = 35 := by decide +kernel

/-- The guard of the trip's first branch says that the trip is not one of the first two. -/
theorem cond1_iff : ∀ k : Fin k0_t1_loop.trips, k0_cond1 k = 1#1 ↔ 2 ≤ k.val := by decide +kernel
/-- The guard of the trip's second branch says that block `k + 4` exists. -/
theorem cond2_iff : ∀ k : Fin k0_t1_loop.trips, k0_cond2 k = 1#1 ↔ k.val + 4 < 35 := by decide +kernel

theorem off1_eq : ∀ k : Fin k0_t1_loop.trips, 2 ≤ k.val → k0_off1 k = ![(k.val + 4) % 6] := by decide +kernel
theorem off2_eq : ∀ k : Fin k0_t1_loop.trips, 2 ≤ k.val → k0_off2 k = ![0, 256 * (k.val - 2)] := by decide +kernel
theorem off3_eq : ∀ k : Fin k0_t1_loop.trips, 2 ≤ k.val → k0_off3 k = ![(k.val + 4) % 6, 0, 0] := by decide +kernel
theorem off4_eq : ∀ k : Fin k0_t1_loop.trips, 2 ≤ k.val → k0_off4 k = ![256 * (k.val - 2), 0] := by decide +kernel
theorem off5_eq : ∀ k : Fin k0_t1_loop.trips, 2 ≤ k.val → k0_off5 k = ![(k.val + 4) % 6, 0, 0] := by decide +kernel
theorem off6_eq : ∀ k : Fin k0_t1_loop.trips, k0_off6 k = ![(k.val + 4) % 6] := by decide +kernel
theorem off7_eq : ∀ k : Fin k0_t1_loop.trips, k0_off7 k = ![(k.val + 4) % 6, 0, 0] := by decide +kernel
theorem off8_eq : ∀ k : Fin k0_t1_loop.trips, k0_off8 k = ![0, 256 * (k.val + 4)] := by decide +kernel
theorem off9_eq : ∀ k : Fin k0_t1_loop.trips, k0_off9 k = ![(k.val + 4) % 6, 0, 0] := by decide +kernel
theorem off10_eq : ∀ k : Fin k0_t1_loop.trips, k0_off10 k = ![256 * (k.val + 4), 0] := by decide +kernel
theorem off11_eq : ∀ k : Fin k0_t1_loop.trips, k0_off11 k = ![k.val % 6] := by decide +kernel
theorem off12_eq : ∀ k : Fin k0_t1_loop.trips, k0_off12 k = ![k.val % 6, 0, 0] := by decide +kernel
theorem off13_eq : ∀ k : Fin k0_t1_loop.trips, k0_off13 k = ![0, 256 * k.val] := by decide +kernel
theorem off14_eq : ∀ k : Fin k0_t1_loop.trips, k0_off14 k = ![k.val % 6, 0, 0] := by decide +kernel
theorem off15_eq : ∀ k : Fin k0_t1_loop.trips, k0_off15 k = ![k.val % 6, 32, 0] := by decide +kernel
theorem off16_eq : ∀ k : Fin k0_t1_loop.trips, k0_off16 k = ![k.val % 6, 64, 0] := by decide +kernel
theorem off17_eq : ∀ k : Fin k0_t1_loop.trips, k0_off17 k = ![k.val % 6, 96, 0] := by decide +kernel
theorem off18_eq : ∀ k : Fin k0_t1_loop.trips, k0_off18 k = ![k.val % 6, 128, 0] := by decide +kernel
theorem off19_eq : ∀ k : Fin k0_t1_loop.trips, k0_off19 k = ![k.val % 6, 160, 0] := by decide +kernel
theorem off20_eq : ∀ k : Fin k0_t1_loop.trips, k0_off20 k = ![k.val % 6, 192, 0] := by decide +kernel
theorem off21_eq : ∀ k : Fin k0_t1_loop.trips, k0_off21 k = ![k.val % 6, 224, 0] := by decide +kernel
theorem off22_eq : ∀ k : Fin k0_t1_loop.trips, k0_off22 k = ![k.val % 6, 256, 0] := by decide +kernel
theorem off23_eq : ∀ k : Fin k0_t1_loop.trips, k0_off23 k = ![k.val % 6, 288, 0] := by decide +kernel
theorem off24_eq : ∀ k : Fin k0_t1_loop.trips, k0_off24 k = ![k.val % 6, 320, 0] := by decide +kernel
theorem off25_eq : ∀ k : Fin k0_t1_loop.trips, k0_off25 k = ![k.val % 6, 352, 0] := by decide +kernel
theorem off26_eq : ∀ k : Fin k0_t1_loop.trips, k0_off26 k = ![k.val % 6, 384, 0] := by decide +kernel
theorem off27_eq : ∀ k : Fin k0_t1_loop.trips, k0_off27 k = ![k.val % 6, 416, 0] := by decide +kernel
theorem off28_eq : ∀ k : Fin k0_t1_loop.trips, k0_off28 k = ![k.val % 6, 448, 0] := by decide +kernel
theorem off29_eq : ∀ k : Fin k0_t1_loop.trips, k0_off29 k = ![k.val % 6, 480, 0] := by decide +kernel
theorem off30_eq : ∀ k : Fin k0_t1_loop.trips, k0_off30 k = ![k.val % 6, 512, 0] := by decide +kernel
theorem off31_eq : ∀ k : Fin k0_t1_loop.trips, k0_off31 k = ![k.val % 6, 544, 0] := by decide +kernel
theorem off32_eq : ∀ k : Fin k0_t1_loop.trips, k0_off32 k = ![k.val % 6, 576, 0] := by decide +kernel
theorem off33_eq : ∀ k : Fin k0_t1_loop.trips, k0_off33 k = ![k.val % 6, 608, 0] := by decide +kernel
theorem off34_eq : ∀ k : Fin k0_t1_loop.trips, k0_off34 k = ![k.val % 6, 640, 0] := by decide +kernel
theorem off35_eq : ∀ k : Fin k0_t1_loop.trips, k0_off35 k = ![k.val % 6, 672, 0] := by decide +kernel
theorem off36_eq : ∀ k : Fin k0_t1_loop.trips, k0_off36 k = ![k.val % 6, 704, 0] := by decide +kernel
theorem off37_eq : ∀ k : Fin k0_t1_loop.trips, k0_off37 k = ![k.val % 6, 736, 0] := by decide +kernel
theorem off38_eq0 : ∀ k : Fin k0_t1_loop.trips, k0_off38 k 0#32 = ![2 * k.val, 0] := by decide +kernel
theorem off38_eq1 : ∀ k : Fin k0_t1_loop.trips, k0_off38 k 1#32 = ![2 * k.val + 1, 0] := by decide +kernel
theorem off39_eq : ∀ k : Fin k0_t1_loop.trips, k0_off39 k = ![k.val % 6, 0, 0] := by decide +kernel
theorem off40_eq : ∀ k : Fin k0_t1_loop.trips, k0_off40 k = ![256 * k.val, 0] := by decide +kernel
theorem off41_eq : ∀ k : Fin k0_t1_loop.trips, k0_off41 k = ![k.val % 6, 0, 0] := by decide +kernel
theorem off42_eq : ∀ k : Fin k0_t1_loop.trips, k0_off42 k = ![k.val % 6, 0, 0] := by decide +kernel

end Cert.KernelIdeal.Hand
-- ==== Proof.KIRing.lean ====
/-
  The kernel's rings, slot by slot: the names of their slots, of the cells their copies complete on and of
  the blocks of the arrays they move, and what a load or a store of 32 rows of a slot, or of a whole slot,
  does to the elements of the slot.
-/
module

public import proofs.«01_k».proof.Proof.Move
public import proofs.«01_k».proof.Proof.KIOffsets
public import Idealize.ShloMosaic.Lib.ValueLayout
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

/-! ## Names -/

theorem inbA (n : ℕ) : ∀ a, (![n % 6, 0, 0] : Fin 3 → ℕ) a + S1x768x256.size a ≤ S6x768x256.size a := by
  intro a; fin_cases a
  · show n % 6 + 1 ≤ 6; omega
  · show 0 + 768 ≤ 768; omega
  · show 0 + 256 ≤ 256; omega
theorem inbB (n : ℕ) : ∀ a, (![n % 6, 0, 0] : Fin 3 → ℕ) a + S1x256x1536.size a ≤ S6x256x1536.size a := by
  intro a; fin_cases a
  · show n % 6 + 1 ≤ 6; omega
  · show 0 + 256 ≤ 256; omega
  · show 0 + 1536 ≤ 1536; omega
theorem inbC (n : ℕ) : ∀ a, (![n % 6] : Fin 1 → ℕ) a + S1.size a ≤ S6.size a := by
  intro a; fin_cases a
  show n % 6 + 1 ≤ 6; omega
theorem inbCol (n : ℕ) : ∀ a, (![0, 256 * (n % 35)] : Fin 2 → ℕ) a + S768x256.size a ≤ S768x8960.size a := by
  intro a; fin_cases a
  · show 0 + 768 ≤ 768; omega
  · show 256 * (n % 35) + 256 ≤ 8960; omega
theorem inbRow (n : ℕ) : ∀ a, (![256 * (n % 35), 0] : Fin 2 → ℕ) a + S256x1536.size a ≤ S8960x1536.size a := by
  intro a; fin_cases a
  · show 256 * (n % 35) + 256 ≤ 8960; omega
  · show 0 + 1536 ≤ 1536; omega

/-- The rectangle of a 768 × 256 slot. -/
abbrev rectA (n : ℕ) : Rect S6x768x256 := Rect.unit ![n % 6, 0, 0] S1x768x256.size (inbA n)
/-- The rectangle of a 256 × 1536 slot. -/
abbrev rectB (n : ℕ) : Rect S6x256x1536 := Rect.unit ![n % 6, 0, 0] S1x256x1536.size (inbB n)

/-- The slot of a 768 × 256 ring that block `n` uses. -/
abbrev slotA {e : EltTy} (M : Memref sig .tc .vmem S6x768x256 e) (n : ℕ) : Memref sig .tc .vmem S768x256 e :=
  part M (rectA n) (fun _ => rfl) S768x256 squeezes_S1x768x256_S768x256
/-- The slot of a 256 × 1536 ring that block `n` uses. -/
abbrev slotB {e : EltTy} (M : Memref sig .tc .vmem S6x256x1536 e) (n : ℕ) : Memref sig .tc .vmem S256x1536 e :=
  part M (rectB n) (fun _ => rfl) S256x1536 squeezes_S1x256x1536_S256x1536
/-- The cell block `n` uses of a ring's six. -/
abbrev cell (a : DmaSems sig S6) (n : ℕ) : DmaSem sig :=
  ((a.slice (Rect.unit (s := S6) ![n % 6] S1.size (inbC n))).squeeze S_ squeezes_S1_S_).sem
/-- Block `n` of 256 columns. -/
abbrev colBlk {sp : Space} {e : EltTy} (M : Memref sig .tc sp S768x8960 e) (n : ℕ) : Memref sig .tc sp S768x256 e :=
  M.slice (Rect.unit (s := S768x8960) ![0, 256 * (n % 35)] S768x256.size (inbCol n)) (fun _ => rfl)
/-- Block `n` of 256 rows. -/
abbrev rowBlk {sp : Space} {e : EltTy} (M : Memref sig .tc sp S8960x1536 e) (n : ℕ) : Memref sig .tc sp S256x1536 e :=
  M.slice (Rect.unit (s := S8960x1536) ![256 * (n % 35), 0] S256x1536.size (inbRow n)) (fun _ => rfl)

/-! ## Other spellings of the names -/

theorem slotA_of {e : EltTy} (M : Memref sig .tc .vmem S6x768x256 e) {off : Fin 3 → ℕ} {n : ℕ} (h : off = ![n % 6, 0, 0])
    (inb : ∀ a, off a + S1x768x256.size a ≤ S6x768x256.size a) :
    (M.slice (Rect.unit (s := S6x768x256) off S1x768x256.size inb) (fun _ => rfl)).squeeze S768x256 squeezes_S1x768x256_S768x256
      = slotA M n := by subst h; rfl
theorem slotB_of {e : EltTy} (M : Memref sig .tc .vmem S6x256x1536 e) {off : Fin 3 → ℕ} {n : ℕ} (h : off = ![n % 6, 0, 0])
    (inb : ∀ a, off a + S1x256x1536.size a ≤ S6x256x1536.size a) :
    (M.slice (Rect.unit (s := S6x256x1536) off S1x256x1536.size inb) (fun _ => rfl)).squeeze S256x1536 squeezes_S1x256x1536_S256x1536
      = slotB M n := by subst h; rfl
theorem cell_of (a : DmaSems sig S6) {off : Fin 1 → ℕ} {n : ℕ} (h : off = ![n % 6]) (inb : ∀ a, off a + S1.size a ≤ S6.size a) :
    ((a.slice (Rect.unit (s := S6) off S1.size inb)).squeeze S_ squeezes_S1_S_).sem = cell a n := by subst h; rfl
theorem colBlk_of {e : EltTy} (M : Memref sig .tc .hbm S768x8960 e) {off : Fin 2 → ℕ} {n : ℕ} (h : off = ![0, 256 * n]) (hn : n < 35)
    (inb : ∀ a, off a + S768x256.size a ≤ S768x8960.size a) :
    M.slice (Rect.unit (s := S768x8960) off S768x256.size inb) (fun _ => rfl) = colBlk M n := by
  have : off = ![0, 256 * (n % 35)] := by rw [Nat.mod_eq_of_lt hn]; exact h
  subst this; rfl
theorem rowBlk_of {e : EltTy} (M : Memref sig .tc .hbm S8960x1536 e) {off : Fin 2 → ℕ} {n : ℕ} (h : off = ![256 * n, 0]) (hn : n < 35)
    (inb : ∀ a, off a + S256x1536.size a ≤ S8960x1536.size a) :
    M.slice (Rect.unit (s := S8960x1536) off S256x1536.size inb) (fun _ => rfl) = rowBlk M n := by
  have : off = ![256 * (n % 35), 0] := by rw [Nat.mod_eq_of_lt hn]; exact h
  subst this; rfl

theorem slotA_add {e : EltTy} (M : Memref sig .tc .vmem S6x768x256 e) (n : ℕ) : slotA M (n + 6) = slotA M n :=
  slotA_of M (by rw [Nat.add_mod_right]) _
theorem slotB_add {e : EltTy} (M : Memref sig .tc .vmem S6x256x1536 e) (n : ℕ) : slotB M (n + 6) = slotB M n :=
  slotB_of M (by rw [Nat.add_mod_right]) _
theorem cell_add (a : DmaSems sig S6) (n : ℕ) : cell a (n + 6) = cell a n := cell_of a (by rw [Nat.add_mod_right]) _

theorem mem_colRect (n : ℕ) (hn : n < 35) (x : S768x8960.Idx) :
    x ∈ (Rect.unit (s := S768x8960) ![0, 256 * (n % 35)] S768x256.size (inbCol n)).set ↔ 256 * n ≤ (x 1).val ∧ (x 1).val < 256 * (n + 1) := by
  rw [Rect.mem_set_unit, Fin.forall_fin_two, Nat.mod_eq_of_lt hn]
  have h0 : (x 0).val < 768 := (x 0).isLt
  show (0 ≤ (x 0).val ∧ (x 0).val < 0 + 768) ∧ (256 * n ≤ (x 1).val ∧ (x 1).val < 256 * n + 256) ↔ _
  omega
theorem mem_rowRect (n : ℕ) (hn : n < 35) (x : S8960x1536.Idx) :
    x ∈ (Rect.unit (s := S8960x1536) ![256 * (n % 35), 0] S256x1536.size (inbRow n)).set ↔ 256 * n ≤ (x 0).val ∧ (x 0).val < 256 * (n + 1) := by
  rw [Rect.mem_set_unit, Fin.forall_fin_two, Nat.mod_eq_of_lt hn]
  have h0 : (x 1).val < 1536 := (x 1).isLt
  show (256 * n ≤ (x 0).val ∧ (x 0).val < 256 * n + 256) ∧ (0 ≤ (x 1).val ∧ (x 1).val < 0 + 1536) ↔ _
  omega

/-! ## Thirty-two rows of a slot -/

/-- Rows `32 j` to `32 j + 31` of a slot, as the kernel loads them. -/
def chunk {α : Type} (D : S768x256.Idx → α) (j : ℕ) : S1x32x256.Idx → α := fun y =>
  D (ix2 (⟨(32 * j + (y 1).val) % 768, Nat.mod_lt _ (by norm_num)⟩ : Fin 768) (y 2))

/-- A slot of which rows below `32 j` are written and the others not. -/
def upTo {α : Type} (C X : S768x256.Idx → α) (j : ℕ) : S768x256.Idx → α := fun x => if (x 0).val < 32 * j then C x else X x

theorem upTo_zero {α : Type} (C X : S768x256.Idx → α) : upTo C X 0 = X := by
  funext x; unfold upTo; rw [if_neg (by omega)]
theorem upTo_full {α : Type} (C X : S768x256.Idx → α) : upTo C X 24 = C := by
  funext x; unfold upTo; rw [if_pos]; have : (x 0).val < 768 := (x 0).isLt; omega

theorem slotA_emb {e : EltTy} (M : Memref sig .tc .vmem S6x768x256 e) (n : ℕ) (x : S768x256.Idx) :
    (slotA M n).view.emb x = M.view.emb (ix3 (⟨n % 6, Nat.mod_lt _ (by norm_num)⟩ : Fin 6) (x 0) (x 1)) := by
  show M.view.emb ((rectA n).emb (Shape.reshapeEquiv _ x)) = _
  congr 1
  rw [Shape.reshapeEquiv_cons_one]
  funext a
  apply Fin.ext
  rw [Rect.emb_apply]
  fin_cases a
  · show n % 6 + 1 * 0 = n % 6; omega
  · show 0 + 1 * (x 0).val = (x 0).val; omega
  · show 0 + 1 * (x 1).val = (x 1).val; omega

theorem rowsA_emb {off : Fin 3 → ℕ} {n j : ℕ} (h : off = ![n % 6, 32 * j, 0]) (hj : j < 24)
    (inb : ∀ a, off a + S1x32x256.size a ≤ S6x768x256.size a) (y : S1x32x256.Idx) :
    (Rect.unit (s := S6x768x256) off S1x32x256.size inb).emb y
      = ix3 (⟨n % 6, Nat.mod_lt _ (by norm_num)⟩ : Fin 6) (⟨(32 * j + (y 1).val) % 768, Nat.mod_lt _ (by norm_num)⟩ : Fin 768) (y 2) := by
  subst h
  have h0 : (y 0).val < 1 := (y 0).isLt
  have h1 : (y 1).val < 32 := (y 1).isLt
  funext a
  apply Fin.ext
  rw [Rect.emb_apply]
  fin_cases a
  · show n % 6 + 1 * (y 0).val = n % 6; omega
  · show 32 * j + 1 * (y 1).val = (32 * j + (y 1).val) % 768; rw [Nat.mod_eq_of_lt (by omega)]; omega
  · show 0 + 1 * (y 2).val = (y 2).val; omega

theorem rowsA_subset {off : Fin 3 → ℕ} {n j : ℕ} (h : off = ![n % 6, 32 * j, 0]) (hj : j < 24)
    (inb : ∀ a, off a + S1x32x256.size a ≤ S6x768x256.size a) :
    (Rect.unit (s := S6x768x256) off S1x32x256.size inb).set ⊆ (rectA n).set := by
  subst h
  refine Rect.set_subset_of_span _ _ (fun _ => rfl) fun a => ?_
  fin_cases a
  · show n % 6 ≤ n % 6 ∧ n % 6 + 1 * 1 ≤ n % 6 + 1 + (1 - 1); omega
  · show 0 ≤ 32 * j ∧ 32 * j + 1 * 32 ≤ 0 + 768 + (1 - 1); omega
  · show 0 ≤ 0 ∧ 0 + 1 * 256 ≤ 0 + 256 + (1 - 1); omega

variable {𝒱 : Variants} {c : Dev nD} {bd : Option 𝒱.V}
variable {α : Type} {Q : α → sProp (MT nD τ sig Unit (Elt F) ℕ (Pipeline.UD sig nD τ) ℕ)}

/-- Loading 32 rows of a held slot. -/
theorem wp_loadRows {e : EltTy} {M : Memref sig .tc .vmem S6x768x256 e} {n j : ℕ} {D : S768x256.Idx → Elt F e} {off : Fin 3 → ℕ}
    {inb : ∀ a, off a + S1x32x256.size a ≤ S6x768x256.size a}
    {hl : M.view.LoadsAt (Rect.unit (s := S6x768x256) off S1x32x256.size inb).toLoadRect}
    {k : Vec F S1x32x256 e → Prog (TpuEff nD τ sig (Elt F) Λ₀ .tc) α} (h : off = ![n % 6, 32 * j, 0]) (hj : j < 24) :
    (Holds c (slotA M n) D : sProp 𝕄)
      ⊢ iprop((Holds c (slotA M n) D -∗ wp frame (wpE defs₀ 𝒱 (c : Thread nD τ) bd) Set.univ (k (chunk D j)) Q)
          -∗ wp frame (wpE defs₀ 𝒱 (c : Thread nD τ) bd) Set.univ
            (.op (.load M (Rect.unit (s := S6x768x256) off S1x32x256.size inb).toLoadRect hl) k) Q) := by
  refine wp_loadIn (rowsA_subset h hj inb) ?_
  intro f hf
  funext y
  subst hf
  show (M.view.slice _).read (Elt F) f y = (slotA M n).view.read (Elt F) f _
  rw [View.read_apply, View.read_apply, slotA_emb]
  show _root_.cast _ (f (M.view.emb ((Rect.unit (s := S6x768x256) off S1x32x256.size inb).emb y))) = _
  rw [rowsA_emb h hj]
  rfl

/-- Storing 32 rows of a held slot. -/
theorem wp_storeRows {e : EltTy} {M : Memref sig .tc .vmem S6x768x256 e} {n j : ℕ} {C X : S768x256.Idx → Elt F e} {off : Fin 3 → ℕ}
    {inb : ∀ a, off a + S1x32x256.size a ≤ S6x768x256.size a} {w : Vec F S1x32x256 e}
    {hx : (M.access (Rect.unit (s := S6x768x256) off S1x32x256.size inb)).Stores Finset.univ}
    {hm : (Finset.univ : Finset S1x32x256.Idx) = Finset.univ ∨ ∀ a, (Rect.unit (s := S6x768x256) off S1x32x256.size inb).stride a = 1}
    {k : PUnit → Prog (TpuEff nD τ sig (Elt F) Λ₀ .tc) α} (h : off = ![n % 6, 32 * j, 0]) (hj : j < 24) (hw : w = chunk C j) :
    (Holds c (slotA M n) (upTo C X j) : sProp 𝕄)
      ⊢ iprop((Holds c (slotA M n) (upTo C X (j + 1)) -∗ wp frame (wpE defs₀ 𝒱 (c : Thread nD τ) bd) Set.univ (k ⟨⟩) Q)
          -∗ wp frame (wpE defs₀ 𝒱 (c : Thread nD τ) bd) Set.univ
            (.op (.store M (Rect.unit (s := S6x768x256) off S1x32x256.size inb) w Finset.univ hx hm) k) Q) := by
  refine wp_storeIn (rowsA_subset h hj inb) ?_
  intro f hf
  funext x
  have hx1 : (x 0).val < 768 := (x 0).isLt
  rw [View.read_apply, slotA_emb]
  by_cases hlt : 32 * j ≤ (x 0).val ∧ (x 0).val < 32 * (j + 1)
  · have e : ix3 (⟨n % 6, Nat.mod_lt _ (by norm_num)⟩ : Fin 6) (x 0) (x 1)
        = (Rect.unit (s := S6x768x256) off S1x32x256.size inb).emb
          (ix3 (⟨0, Nat.one_pos⟩ : Fin 1) (⟨(x 0).val - 32 * j, by omega⟩ : Fin 32) (x 1)) := by
      rw [rowsA_emb h hj]
      funext a
      fin_cases a
      · rfl
      · apply Fin.ext
        show (x 0).val = (32 * j + ((x 0).val - 32 * j)) % 768
        rw [Nat.mod_eq_of_lt (by omega)]; omega
      · rfl
    erw [e]
    show _root_.cast _ ((M.access (Rect.unit (s := S6x768x256) off S1x32x256.size inb)).write (Elt F) f w Finset.univ
      ((M.access (Rect.unit (s := S6x768x256) off S1x32x256.size inb)).emb _)) = _
    rw [View.write_emb_of_mem _ _ (Finset.mem_univ _)]
    subst hw
    unfold upTo chunk
    rw [if_pos (by omega)]
    simp only [cast_cast, cast_eq]
    congr 1
    funext a
    fin_cases a
    · apply Fin.ext
      show (32 * j + ((x 0).val - 32 * j)) % 768 = (x 0).val
      rw [Nat.mod_eq_of_lt (by omega)]; omega
    · rfl
  · rw [View.write_of_not_mem]
    · have := congrFun hf x
      rw [View.read_apply, slotA_emb] at this
      rw [this]
      unfold upTo
      by_cases h1 : (x 0).val < 32 * j
      · rw [if_pos h1, if_pos (by omega)]
      · rw [if_neg h1, if_neg (by omega)]
    · intro hmem
      have hmem' : M.view.emb (ix3 (⟨n % 6, Nat.mod_lt _ (by norm_num)⟩ : Fin 6) (x 0) (x 1))
          ∈ (M.view.slice (Rect.unit (s := S6x768x256) off S1x32x256.size inb)).set := hmem
      rw [View.set_slice, Finset.mem_map' , Rect.mem_set_unit] at hmem'
      have h1 := hmem' 1
      subst h
      apply hlt
      have h2 : 32 * j ≤ (x 0).val ∧ (x 0).val < 32 * j + 32 := h1
      omega

/-! ## A whole slot -/

/-- A slot's elements with a leading axis of one place, as the kernel loads them. -/
def up3A {β : Type} (X : S768x256.Idx → β) : S1x768x256.Idx → β := fun y => X (ix2 (y 1) (y 2))
def up3B {β : Type} (X : S256x1536.Idx → β) : S1x256x1536.Idx → β := fun y => X (ix2 (y 1) (y 2))
def down3B {β : Type} (Y : S1x256x1536.Idx → β) : S256x1536.Idx → β := fun x => Y (ix3 (⟨0, Nat.one_pos⟩ : Fin 1) (x 0) (x 1))

theorem slotB_emb {e : EltTy} (M : Memref sig .tc .vmem S6x256x1536 e) (n : ℕ) (x : S256x1536.Idx) :
    (slotB M n).view.emb x = M.view.emb ((rectB n).emb (ix3 (⟨0, Nat.one_pos⟩ : Fin 1) (x 0) (x 1))) := by
  show M.view.emb ((rectB n).emb (Shape.reshapeEquiv _ x)) = _
  congr 2
  rw [Shape.reshapeEquiv_cons_one]
  funext a
  fin_cases a <;> rfl

theorem readA {e : EltTy} {M : Memref sig .tc .vmem S6x768x256 e} {n : ℕ} {D : S768x256.Idx → Elt F e} (f : M.view.ty.Contents (Elt F))
    (hf : (slotA M n).view.read (Elt F) f = D) : (M.access (rectA n)).read (Elt F) f = up3A D := by
  funext y
  subst hf
  show (M.view.slice _).read (Elt F) f y = (slotA M n).view.read (Elt F) f _
  rw [View.read_apply, View.read_apply, slotA_emb]
  show _root_.cast _ (f (M.view.emb ((rectA n).emb y))) = _
  congr 3
  have h0 : (y 0).val < 1 := (y 0).isLt
  funext a
  apply Fin.ext
  rw [Rect.emb_apply]
  fin_cases a
  · show n % 6 + 1 * (y 0).val = n % 6; omega
  · show 0 + 1 * (y 1).val = (y 1).val; omega
  · show 0 + 1 * (y 2).val = (y 2).val; omega

theorem wp_loadA {e : EltTy} {M : Memref sig .tc .vmem S6x768x256 e} {n : ℕ} {D : S768x256.Idx → Elt F e} {off : Fin 3 → ℕ}
    {inb : ∀ a, off a + S1x768x256.size a ≤ S6x768x256.size a}
    {hl : M.view.LoadsAt (Rect.unit (s := S6x768x256) off S1x768x256.size inb).toLoadRect}
    {k : Vec F S1x768x256 e → Prog (TpuEff nD τ sig (Elt F) Λ₀ .tc) α} (h : off = ![n % 6, 0, 0]) :
    (Holds c (slotA M n) D : sProp 𝕄)
      ⊢ iprop((Holds c (slotA M n) D -∗ wp frame (wpE defs₀ 𝒱 (c : Thread nD τ) bd) Set.univ (k (up3A D)) Q)
          -∗ wp frame (wpE defs₀ 𝒱 (c : Thread nD τ) bd) Set.univ
            (.op (.load M (Rect.unit (s := S6x768x256) off S1x768x256.size inb).toLoadRect hl) k) Q) := by
  subst h
  exact wp_loadIn (Finset.Subset.refl _) readA

theorem wp_loadLentA {e : EltTy} {M : Memref sig .tc .vmem S6x768x256 e} {n : ℕ} {B : Memref sig .tc .hbm S768x256 e} {sm : DmaSem sig} {D : S768x256.Idx → Elt F e} {off : Fin 3 → ℕ}
    {inb : ∀ a, off a + S1x768x256.size a ≤ S6x768x256.size a}
    {hl : M.view.LoadsAt (Rect.unit (s := S6x768x256) off S1x768x256.size inb).toLoadRect}
    {k : Vec F S1x768x256 e → Prog (TpuEff nD τ sig (Elt F) Λ₀ .tc) α} (h : off = ![n % 6, 0, 0]) :
    (Lending c (slotA M n) B sm D : sProp 𝕄)
      ⊢ iprop((Lending c (slotA M n) B sm D -∗ wp frame (wpE defs₀ 𝒱 (c : Thread nD τ) bd) Set.univ (k (up3A D)) Q)
          -∗ wp frame (wpE defs₀ 𝒱 (c : Thread nD τ) bd) Set.univ
            (.op (.load M (Rect.unit (s := S6x768x256) off S1x768x256.size inb).toLoadRect hl) k) Q) := by
  subst h
  exact wp_loadLent (Finset.Subset.refl _) readA

theorem wp_loadB {e : EltTy} {M : Memref sig .tc .vmem S6x256x1536 e} {n : ℕ} {D : S256x1536.Idx → Elt F e} {off : Fin 3 → ℕ}
    {inb : ∀ a, off a + S1x256x1536.size a ≤ S6x256x1536.size a}
    {hl : M.view.LoadsAt (Rect.unit (s := S6x256x1536) off S1x256x1536.size inb).toLoadRect}
    {k : Vec F S1x256x1536 e → Prog (TpuEff nD τ sig (Elt F) Λ₀ .tc) α} (h : off = ![n % 6, 0, 0]) :
    (Holds c (slotB M n) D : sProp 𝕄)
      ⊢ iprop((Holds c (slotB M n) D -∗ wp frame (wpE defs₀ 𝒱 (c : Thread nD τ) bd) Set.univ (k (up3B D)) Q)
          -∗ wp frame (wpE defs₀ 𝒱 (c : Thread nD τ) bd) Set.univ
            (.op (.load M (Rect.unit (s := S6x256x1536) off S1x256x1536.size inb).toLoadRect hl) k) Q) := by
  subst h
  refine wp_loadIn (Finset.Subset.refl _) ?_
  intro f hf
  funext y
  subst hf
  show (M.view.slice _).read (Elt F) f y = (slotB M n).view.read (Elt F) f _
  rw [View.read_apply, View.read_apply, slotB_emb]
  show _root_.cast _ (f (M.view.emb ((rectB n).emb y))) = _
  congr 4
  have h0 : (y 0).val < 1 := (y 0).isLt
  funext a
  fin_cases a
  · apply Fin.ext; show (y 0).val = 0; omega
  · rfl
  · rfl

theorem wp_storeB {e : EltTy} {M : Memref sig .tc .vmem S6x256x1536 e} {n : ℕ} {D : S256x1536.Idx → Elt F e} {off : Fin 3 → ℕ}
    {inb : ∀ a, off a + S1x256x1536.size a ≤ S6x256x1536.size a} {w : Vec F S1x256x1536 e}
    {hx : (M.access (Rect.unit (s := S6x256x1536) off S1x256x1536.size inb)).Stores Finset.univ}
    {hm : (Finset.univ : Finset S1x256x1536.Idx) = Finset.univ ∨ ∀ a, (Rect.unit (s := S6x256x1536) off S1x256x1536.size inb).stride a = 1}
    {k : PUnit → Prog (TpuEff nD τ sig (Elt F) Λ₀ .tc) α} (h : off = ![n % 6, 0, 0]) :
    (Holds c (slotB M n) D : sProp 𝕄)
      ⊢ iprop((Holds c (slotB M n) (down3B w) -∗ wp frame (wpE defs₀ 𝒱 (c : Thread nD τ) bd) Set.univ (k ⟨⟩) Q)
          -∗ wp frame (wpE defs₀ 𝒱 (c : Thread nD τ) bd) Set.univ
            (.op (.store M (Rect.unit (s := S6x256x1536) off S1x256x1536.size inb) w Finset.univ hx hm) k) Q) := by
  subst h
  refine wp_storeIn (Finset.Subset.refl _) ?_
  intro f hf
  funext x
  rw [View.read_apply, slotB_emb]
  show _root_.cast _ ((M.access (rectB n)).write (Elt F) f w Finset.univ ((M.access (rectB n)).emb _)) = _
  rw [View.write_emb_of_mem _ _ (Finset.mem_univ _)]
  simp only [cast_cast, cast_eq]
  rfl

end Cert.KernelIdeal.Hand
-- ==== Proof.KIVals.lean ====
/-
  What one block of 256 weight rows adds, in the kernel's own operations: the codes of the block, the
  column sums, the running maximum, the two products.
-/
module

public import proofs.«01_k».proof.Proof.KIRing
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Move Idealize.ShloMosaic.ValueIdx

variable {F : FTy → Type} [FloatOps F]

/-- The codes of 32 rows. -/
def quant (inv : FVec F S8x256 .f32) (d : Vec F S1x32x256 .bf16) : FVec F S1x32x256 .fp8e5m2 := k0_pay7 inv d

/-- The codes of a block, each 32 rows at a time. -/
def codesB (inv : FVec F S8x256 .f32) (D : S768x256.Idx → Elt F .bf16) : S768x256.Idx → Elt F .fp8e5m2 := fun x =>
  quant inv (chunk D ((x 0).val / 32)) (ix3 (⟨0, Nat.one_pos⟩ : Fin 1) (⟨(x 0).val % 32, Nat.mod_lt _ (by norm_num)⟩ : Fin 32) (x 1))

theorem chunk_codesB (inv : FVec F S8x256 .f32) (D : S768x256.Idx → Elt F .bf16) (j : ℕ) (hj : j < 24) :
    quant inv (chunk D j) = chunk (codesB inv D) j := by
  funext y
  have h0 : (y 0).val < 1 := (y 0).isLt
  have h1 : (y 1).val < 32 := (y 1).isLt
  have e : (32 * j + (y 1).val) % 768 = 32 * j + (y 1).val := Nat.mod_eq_of_lt (by omega)
  unfold chunk codesB
  show quant inv (chunk D j) y = quant inv (chunk D (((32 * j + (y 1).val) % 768) / 32))
    (ix3 (⟨0, Nat.one_pos⟩ : Fin 1) (⟨((32 * j + (y 1).val) % 768) % 32, Nat.mod_lt _ (by norm_num)⟩ : Fin 32) (y 2))
  have e1 : ((32 * j + (y 1).val) % 768) / 32 = j := by rw [e]; omega
  have e2 : ((32 * j + (y 1).val) % 768) % 32 = (y 1).val := by rw [e]; omega
  rw [e1]
  congr 1
  funext a
  fin_cases a
  · apply Fin.ext; show (y 0).val = 0; omega
  · apply Fin.ext; exact e2.symm
  · rfl

/-- Eight partial column sums, after the first `j` groups of 32 rows. -/
def biasV (D : S768x256.Idx → Elt F .bf16) : ℕ → FVec F S8x256 .f32
  | 0 => broadcast S8x256 (Scalar.ofBits .f32 0x00000000#32 : F .f32)
  | j + 1 => addf (biasV D j) (multiReduction .add [0] S8x256 (k0_pay6 (chunk D j)) 0x00000000#32 reduces_S4x8x256_S8x256 (.inl rfl) rfl)

/-- The running maximum, after the first `j` groups of 32 rows. -/
def maxV (m : FVec F S8x256 .f32) (D : S768x256.Idx → Elt F .bf16) : ℕ → FVec F S8x256 .f32
  | 0 => m
  | j + 1 => maximumf (maxV m D j) (multiReduction .maximumf [0] S8x256 (absf (k0_pay6 (chunk D j))) 0xFF800000#32 reduces_S4x8x256_S8x256 (.inl rfl) rfl)

/-- The 256 column sums of a block. -/
def sumV (D : S768x256.Idx → Elt F .bf16) : FVec F S1x256 .f32 :=
  shapeCast S1x256 (multiReduction .add [0] S256 (biasV D 24) 0x00000000#32 reduces_S8x256_S256 (.inl rfl) rfl) shapeCasts_S256_S1x256
/-- The first 128 of them, and the other 128. -/
def sumLo (D : S768x256.Idx → Elt F .bf16) : FVec F S1x128 .f32 := extractStridedSlice S1x128 ![0, 0] (sumV D) slices_S1x256_o0_0_S1x128
def sumHi (D : S768x256.Idx → Elt F .bf16) : FVec F S1x128 .f32 := extractStridedSlice S1x128 ![0, 128] (sumV D) slices_S1x256_o0_128_S1x128

/-- What the sums' buffer holds after the first `n` blocks: two rows a block, the rest as it was. -/
def biasBuf (dy : ℕ → S768x256.Idx → Elt F .bf16) (Z : S70x128.Idx → Elt F .f32) (n : ℕ) : S70x128.Idx → Elt F .f32 := fun x =>
  if (x 0).val < 2 * n then
    (if (x 0).val % 2 = 0 then sumLo (dy ((x 0).val / 2)) else sumHi (dy ((x 0).val / 2))) (ix2 (⟨0, Nat.one_pos⟩ : Fin 1) (x 1))
  else Z x

/-- The maximum the core keeps, after the first `n` blocks. -/
def amaxV (dy : ℕ → S768x256.Idx → Elt F .bf16) : ℕ → FVec F S8x256 .f32
  | 0 => k0_pay95
  | n + 1 => shapeCast S8x256 (maxV (amaxV dy n) (dy n) 24) shapeCasts_S8x256_S8x256

/-- The sum of the products of the first `n` blocks' codes with their weight rows. -/
def accV (inv : FVec F S8x256 .f32) (dy : ℕ → S768x256.Idx → Elt F .bf16) (w : ℕ → S256x1536.Idx → Elt F .fp8e4m3) : ℕ → FVec F S768x1536 .f32
  | 0 => k0_pay94
  | n + 1 => k0_pay91 (accV inv dy w n) (up3A (codesB inv (dy n))) (up3B (w n))

/-- The rows of the new master gradient that a block makes. -/
def mgoB (v72 v76 : F .f32) (D : S768x256.Idx → Elt F .bf16) (m : S256x1536.Idx → Elt F .f32) (x : S768x1536.Idx → Elt F .fp8e4m3) :
    S256x1536.Idx → Elt F .f32 :=
  down3B (k0_pay97 v72 v76 (k0_pay93 (up3B m)) (up3A (codesB (k0_pay96 v72) D)) x)

end Cert.KernelIdeal.Hand
-- ==== Proof.KIState.lean ====
/-
  What the core holds between two trips of the kernel's loop, ring by ring: the blocks on their way in, the
  slots at rest, the blocks on their way out, the parts of the results already written and still to write.
-/
module

public import proofs.«01_k».proof.Proof.KIVals

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable (c : Dev nD)

/-- The cell counts nothing. -/
abbrev Idle (sm : DmaSem sig) : sProp 𝕄 := semVal ((c : Thread nD τ), .dma sm) 0

/-- The share of an input array that the copies into a slot use. -/
def qs (b : ℕ) : PosShare TreeShare := Transfers.shareTokN fullShare (b % 6)

theorem qs_add (b : ℕ) : qs (b + 6) = qs b := by unfold qs; rw [Nat.add_mod_right]

section ins
variable (arg3 : Memref sig .tc .hbm S768x8960 .bf16) (arg5 : Memref sig .tc .hbm S8960x1536 .fp8e4m3)
variable (arg6 arg8 : Memref sig .tc .hbm S8960x1536 .f32) (arg11 : Memref sig .tc .hbm S768x8960 .fp8e5m2)
variable (arg12 : Memref sig .tc .vmem S6x768x256 .bf16) (arg13 : Memref sig .tc .vmem S6x256x1536 .fp8e4m3)
variable (arg14 : Memref sig .tc .vmem S6x256x1536 .f32) (arg15 : Memref sig .tc .vmem S6x768x256 .fp8e5m2)
variable (arg20 arg21 arg22 arg23 arg24 : DmaSems sig S6)
variable (f3 : Buf (Elt F) (arg3.view.loc (c : Thread nD τ))) (f5 : Buf (Elt F) (arg5.view.loc (c : Thread nD τ)))
variable (f6 : Buf (Elt F) (arg6.view.loc (c : Thread nD τ)))

/-- The blocks of the input arrays. -/
abbrev dyB (n : ℕ) : S768x256.Idx → Elt F .bf16 := (colBlk arg3 n).view.read (Elt F) f3
abbrev wB (n : ℕ) : S256x1536.Idx → Elt F .fp8e4m3 := (rowBlk arg5 n).view.read (Elt F) f5
abbrev mgB (n : ℕ) : S256x1536.Idx → Elt F .f32 := (rowBlk arg6 n).view.read (Elt F) f6

/-- The slot block `b` of the gradient uses is at rest. -/
def DyFree (b : ℕ) : sProp 𝕄 :=
  iprop(Own c (slotA arg12 b) ∗ Idle c (cell arg20 b) ∗ Tok c (colBlk arg3 b) (qs b) f3)
/-- Block `b` of the gradient is on its way in, if there is one. -/
def DyRead (b : ℕ) : sProp 𝕄 :=
  if b < 35 then Fetching c (colBlk arg3 b) (slotA arg12 b) (cell arg20 b) (qs b) f3 else DyFree c arg3 arg12 arg20 f3 b

/-- The slot block `b` of the weights uses is at rest. -/
def WFree (b : ℕ) : sProp 𝕄 :=
  iprop(Own c (slotB arg13 b) ∗ Idle c (cell arg21 b) ∗ Tok c (rowBlk arg5 b) (qs b) f5)
/-- Block `b` of the weights is on its way in, if there is one. -/
def WRead (b : ℕ) : sProp 𝕄 :=
  if b < 35 then Fetching c (rowBlk arg5 b) (slotB arg13 b) (cell arg21 b) (qs b) f5 else WFree c arg5 arg13 arg21 f5 b

/-- The slot block `b` of the master gradient uses is at rest. -/
def MgIdle (b : ℕ) : sProp 𝕄 :=
  iprop(Own c (slotB arg14 b) ∗ Idle c (cell arg22 b) ∗ Tok c (rowBlk arg6 b) (qs b) f6 ∗ Idle c (cell arg23 b))
/-- Block `b` of the master gradient is on its way in, if there is one. -/
def MgRead (b : ℕ) : sProp 𝕄 :=
  if b < 35 then iprop(Fetching c (rowBlk arg6 b) (slotB arg14 b) (cell arg22 b) (qs b) f6 ∗ Idle c (cell arg23 b))
  else MgIdle c arg6 arg14 arg22 arg23 f6 b
/-- Block `j - 2` of the new master gradient is on its way out, if there is one. -/
def MgW (M : ℕ → S256x1536.Idx → Elt F .f32) (j : ℕ) : sProp 𝕄 :=
  if 2 ≤ j then iprop(Putting c (slotB arg14 (j + 4)) (rowBlk arg8 (j - 2)) (cell arg23 (j + 4)) (M (j - 2))
    ∗ Idle c (cell arg22 (j + 4)) ∗ Tok c (rowBlk arg6 (j + 4)) (qs (j + 4)) f6)
  else MgIdle c arg6 arg14 arg22 arg23 f6 (j + 4)

/-- The slot block `b` of the codes uses is at rest. -/
def CodesFree (b : ℕ) : sProp 𝕄 := iprop(Own (F := F) c (slotA arg15 b) ∗ Idle c (cell arg24 b))
/-- Block `j - 2` of the codes is on its way out, if there is one. -/
def CodesW (C : ℕ → S768x256.Idx → Elt F .fp8e5m2) (j : ℕ) : sProp 𝕄 :=
  if 2 ≤ j then Lending c (slotA arg15 (j + 4)) (colBlk arg11 (j - 2)) (cell arg24 (j + 4)) (C (j - 2))
  else CodesFree c arg15 arg24 (j + 4)

theorem dyFree_add (b : ℕ) : DyFree c arg3 arg12 arg20 f3 (b + 6) = DyFree c arg3 arg12 arg20 f3 b := by
  show iprop(Own c (slotA arg12 (b + 6)) ∗ Idle c (cell arg20 (b + 6)) ∗ Tok c arg3 (qs (b + 6)) f3) = _
  rw [slotA_add, cell_add, qs_add]; rfl
theorem wFree_add (b : ℕ) : WFree c arg5 arg13 arg21 f5 (b + 6) = WFree c arg5 arg13 arg21 f5 b := by
  show iprop(Own c (slotB arg13 (b + 6)) ∗ Idle c (cell arg21 (b + 6)) ∗ Tok c arg5 (qs (b + 6)) f5) = _
  rw [slotB_add, cell_add, qs_add]; rfl
theorem codesFree_add (b : ℕ) : CodesFree (F := F) c arg15 arg24 (b + 6) = CodesFree c arg15 arg24 b := by
  unfold CodesFree
  rw [slotA_add, cell_add]
theorem mgIdle_add (b : ℕ) : MgIdle c arg6 arg14 arg22 arg23 f6 (b + 6) = MgIdle c arg6 arg14 arg22 arg23 f6 b := by
  show iprop(Own c (slotB arg14 (b + 6)) ∗ Idle c (cell arg22 (b + 6)) ∗ Tok c arg6 (qs (b + 6)) f6 ∗ Idle c (cell arg23 (b + 6))) = _
  rw [slotB_add, cell_add, cell_add, qs_add]; rfl
theorem codesW_out (C : ℕ → S768x256.Idx → Elt F .fp8e5m2) (i : ℕ) :
    CodesW c arg11 arg15 arg24 C (i + 2) = Lending c (slotA arg15 i) (colBlk arg11 i) (cell arg24 i) (C i) := by
  unfold CodesW
  rw [if_pos (by omega), show i + 2 + 4 = i + 6 from by omega, slotA_add, cell_add]
  rfl
theorem mgW_out (M : ℕ → S256x1536.Idx → Elt F .f32) (i : ℕ) :
    MgW c arg6 arg8 arg14 arg22 arg23 f6 M (i + 2)
      = iprop(Putting c (slotB arg14 i) (rowBlk arg8 i) (cell arg23 i) (M i) ∗ Idle c (cell arg22 i) ∗ Tok c (rowBlk arg6 i) (qs i) f6) := by
  unfold MgW
  rw [if_pos (by omega)]
  show iprop(Putting c (slotB arg14 (i + 2 + 4)) (rowBlk arg8 i) (cell arg23 (i + 2 + 4)) (M i)
    ∗ Idle c (cell arg22 (i + 2 + 4)) ∗ Tok c arg6 (qs (i + 2 + 4)) f6) = _
  rw [show i + 2 + 4 = i + 6 from by omega, slotB_add, cell_add, cell_add, qs_add]
  rfl

variable {c} {arg8 arg11}

/-- Taking the next block of columns off those still to be written. -/
theorem col_take {n : ℕ} (hn : n < 35) :
    (Rest c arg11 1 (256 * n) : sProp 𝕄) ⊢ iprop(Own c (colBlk arg11 n) ∗ Rest c arg11 1 (256 * (n + 1))) :=
  rest_split (by omega) (mem_colRect n hn)
/-- Taking the next block of rows off those still to be written. -/
theorem row_take {n : ℕ} (hn : n < 35) :
    (Rest c arg8 0 (256 * n) : sProp 𝕄) ⊢ iprop(Own c (rowBlk arg8 n) ∗ Rest c arg8 0 (256 * (n + 1))) :=
  rest_split (by omega) (mem_rowRect n hn)
/-- Adding a block of columns to those written. -/
theorem col_add {n : ℕ} (hn : n < 35) {G : Buf (Elt F) (arg11.view.loc (c : Thread nD τ))} {X : S768x256.Idx → Elt F .fp8e5m2}
    (hG : (colBlk arg11 n).view.read (Elt F) G = X) :
    (iprop(Done c arg11 1 (256 * n) G ∗ Holds c (colBlk arg11 n) X) : sProp 𝕄) ⊢ Done c arg11 1 (256 * (n + 1)) G :=
  done_join (by omega) (mem_colRect n hn) hG
/-- Adding a block of rows to those written. -/
theorem row_add {n : ℕ} (hn : n < 35) {G : Buf (Elt F) (arg8.view.loc (c : Thread nD τ))} {X : S256x1536.Idx → Elt F .f32}
    (hG : (rowBlk arg8 n).view.read (Elt F) G = X) :
    (iprop(Done c arg8 0 (256 * n) G ∗ Holds c (rowBlk arg8 n) X) : sProp 𝕄) ⊢ Done c arg8 0 (256 * (n + 1)) G :=
  done_join (by omega) (mem_rowRect n hn) hG

variable {arg3 arg5 arg6 arg12 arg13 arg14 arg20 arg21 arg22 arg23 f3 f5 f6}

theorem dyRead_in {b : ℕ} (h : b < 35) :
    DyRead c arg3 arg12 arg20 f3 b ⊢ Fetching c (colBlk arg3 b) (slotA arg12 b) (cell arg20 b) (qs b) f3 := by
  unfold DyRead; rw [if_pos h]
theorem wRead_in {b : ℕ} (h : b < 35) :
    WRead c arg5 arg13 arg21 f5 b ⊢ Fetching c (rowBlk arg5 b) (slotB arg13 b) (cell arg21 b) (qs b) f5 := by
  unfold WRead; rw [if_pos h]
theorem mgRead_in {b : ℕ} (h : b < 35) :
    MgRead c arg6 arg14 arg22 arg23 f6 b
      ⊢ iprop(Fetching c (rowBlk arg6 b) (slotB arg14 b) (cell arg22 b) (qs b) f6 ∗ Idle c (cell arg23 b)) := by
  unfold MgRead; rw [if_pos h]

theorem posA : 0 < S768x256.numel := by decide
theorem posB : 0 < S256x1536.numel := by decide
theorem posC : 0 < S768x1536.numel := by decide
end ins

section single
variable (arg4 : Memref sig .tc .hbm S768x1536 .fp8e4m3) (arg7 : Memref sig .tc .hbm S768x1536 .bf16)
variable (arg16 : Memref sig .tc .vmem S768x1536 .fp8e4m3) (arg18 : Memref sig .tc .vmem S768x1536 .bf16)
variable (arg25 arg26 : DmaSems sig S_)
variable (f4 : Buf (Elt F) (arg4.view.loc (c : Thread nD τ)))

/-- The activations have arrived. -/
def XHeld : sProp 𝕄 :=
  iprop(Holds c arg16 (arg4.view.read (Elt F) f4) ∗ Idle c arg25.sem ∗ Tok c arg4 fullShare f4)
/-- The activations arrive in the first trip. -/
def XAt (i : ℕ) : sProp 𝕄 :=
  if i = 0 then Fetching c arg4 arg16 arg25.sem fullShare f4 else XHeld c arg4 arg16 arg25 f4
/-- The input gradient leaves in the last trip. -/
def DxAt (dx : S768x1536.Idx → Elt F .bf16) (i : ℕ) : sProp 𝕄 :=
  if i = 35 then Putting c arg18 arg7 arg26.sem dx else iprop(Own c arg18 ∗ Own c arg7 ∗ Idle c arg26.sem)
end single

/-- Two ways through a conditional, to one state: the way that does nothing must be in that state already. -/
theorem wp_if {α : Type} {𝒱 : Variants} {bd : Option 𝒱.V} {p : Prop} [Decidable p] {A : p → Prog (TpuEff nD τ sig (Elt F) Λ₀ .tc) α}
    {B : Prog (TpuEff nD τ sig (Elt F) Λ₀ .tc) α} {P R : sProp (MT nD τ sig Unit (Elt F) ℕ (Pipeline.UD sig nD τ) ℕ)}
    {Q : α → sProp (MT nD τ sig Unit (Elt F) ℕ (Pipeline.UD sig nD τ) ℕ)}
    (hA : ∀ h : p, P ⊢ iprop((R -∗ wp frame (wpE defs₀ 𝒱 (c : Thread nD τ) bd) Set.univ B Q)
      -∗ wp frame (wpE defs₀ 𝒱 (c : Thread nD τ) bd) Set.univ (A h) Q))
    (hB : ¬p → P ⊢ R) :
    P ⊢ iprop((R -∗ wp frame (wpE defs₀ 𝒱 (c : Thread nD τ) bd) Set.univ B Q)
      -∗ wp frame (wpE defs₀ 𝒱 (c : Thread nD τ) bd) Set.univ (if h : p then A h else B) Q) := by
  by_cases h : p
  · rw [dif_pos h]; exact hA h
  · rw [dif_neg h]
    iintro HP HQ
    iapply HQ
    iapply (hB h) $$ HP

end Cert.KernelIdeal.Hand
-- ==== Proof.KITrip.lean ====
/-
  The two ends of a trip of the kernel's loop: before the 24 groups of rows, and after them.
-/
module

public import proofs.«01_k».proof.Proof.KIState

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}
variable {C : ℕ → S768x256.Idx → Elt F .fp8e5m2} {M : ℕ → S256x1536.Idx → Elt F .f32}

theorem trip_lt (k : Fin k0_t1_loop.trips) : k.val < 35 := lt_of_lt_of_eq k.isLt trips_eq

/-- A load of a whole buffer of rank two is the buffer. -/
theorem load_whole2 {s : Shape} {α : Type} (X : s.Idx → α) {off : Fin s.rank → ℕ} {inb : ∀ a, off a + s.size a ≤ s.size a} :
    (fun j => X ((Rect.unit (s := s) off s.size inb).emb j)) = X := by
  funext j
  congr 1
  funext a
  apply Fin.ext
  rw [Rect.emb_apply]
  have := inb a
  show off a + 1 * (j a).val = (j a).val
  omega

set_option maxHeartbeats 1000000 in
/-- Before the 24 groups: the oldest copies out have left, the newest copies in are issued, the block has arrived. -/
theorem part1_spec (k : Fin k0_t1_loop.trips) (inv : FVec F S8x256 .f32) (m : FVec F S8x256 .f32) (c0 c1 : BitVec 32) {Q}
    (hG11 : ∀ n < 35, (colBlk arg11 n).view.read (Elt F) G11 = C n) (hG8 : ∀ n < 35, (rowBlk arg8 n).view.read (Elt F) G8 = M n) :
    (iprop(CodesW c arg11 arg15 arg24 C k.val ∗ Done c arg11 1 (256 * (k.val - 2)) G11
        ∗ MgW c arg6 arg8 arg14 arg22 arg23 f6 M k.val ∗ Done c arg8 0 (256 * (k.val - 2)) G8 ∗ Owes c
        ∗ DyFree c arg3 arg12 arg20 f3 (k.val + 4) ∗ WFree c arg5 arg13 arg21 f5 (k.val + 4) ∗ DyRead c arg3 arg12 arg20 f3 k.val
        ∗ Holds c arg19 m) : sProp 𝕄)
      ⊢ iprop((iprop(CodesFree c arg15 arg24 (k.val + 4) ∗ Done c arg11 1 (256 * (k.val + 1 - 2)) G11
            ∗ Done c arg8 0 (256 * (k.val + 1 - 2)) G8 ∗ Owes c
            ∗ DyRead c arg3 arg12 arg20 f3 (k.val + 4) ∗ WRead c arg5 arg13 arg21 f5 (k.val + 4) ∗ MgRead c arg6 arg14 arg22 arg23 f6 (k.val + 4)
            ∗ Holds c (slotA arg12 k.val) (dyB c arg3 f3 k.val) ∗ Idle c (cell arg20 k.val) ∗ Tok c (colBlk arg3 k.val) (qs k.val) f3
            ∗ Holds c arg19 m)
          -∗ Q ⟨Scf.iv c0 c1 k, Scalar.remsi (Scf.iv c0 c1 k) 6#32, k0_pay2 (chunk (dyB c arg3 f3 k.val) 0), k0_pay3 m (chunk (dyB c arg3 f3 k.val) 0),
              Scalar.ofBits .f32 0x47600000#32, k0_pay4 inv (chunk (dyB c arg3 f3 k.val) 0)⟩)
        -∗ wp frame (wpE defs₀ 𝒱 (c : Thread nD τ) bd) Set.univ (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv c0 c1 k) Q) := by
  have hk := trip_lt k
  rw [k0_part1_eq_skeleton]
  unfold k0_part1_skel
  iintro ⟨HC, HD11, HM, HD8, HO, HdF, HwF, Hd, H19⟩ Hk
  iapply (wp_if c (P := iprop(CodesW c arg11 arg15 arg24 C k.val ∗ Done c arg11 1 (256 * (k.val - 2)) G11
        ∗ MgW c arg6 arg8 arg14 arg22 arg23 f6 M k.val ∗ Done c arg8 0 (256 * (k.val - 2)) G8 ∗ Owes c))
      (R := iprop(CodesFree c arg15 arg24 (k.val + 4) ∗ Done c arg11 1 (256 * (k.val + 1 - 2)) G11
        ∗ MgIdle c arg6 arg14 arg22 arg23 f6 (k.val + 4) ∗ Done c arg8 0 (256 * (k.val + 1 - 2)) G8 ∗ Owes c)) ?hA ?hB) $$ [HC HD11 HM HD8 HO]
  case hA =>
    intro h1
    have h2 := (cond1_iff k).mp h1
    unfold CodesW MgW
    rw [if_pos h2, if_pos h2]
    iintro ⟨HC, HD11, ⟨HM, Hv22, HT6⟩, HD8, HO⟩ Hk
    iapply (wp_lent' (slotA_of arg15 (off3_eq k h2) _) (colBlk_of arg11 (off2_eq k h2) (by omega) _) (cell_of arg24 (off1_eq k h2) _)) $$ [HC HO]
    · isplitl [HC]; · iexact HC
      iexact HO
    iintro ⟨HB, HS, Hv, HO⟩
    iapply (wp_landed' (slotB_of arg14 (off5_eq k h2) _) (rowBlk_of arg8 (off4_eq k h2) (by omega) _) (cell_of arg23 (off1_eq k h2) _)) $$ [HM HO]
    · isplitl [HM]; · iexact HM
      iexact HO
    iintro ⟨HB8, HS14, Hv23, HO⟩
    iapply Hk
    isplitl [HS Hv]
    · unfold CodesFree; isplitl [HS]; · iexact HS
      iexact Hv
    isplitl [HD11 HB]
    · rw [show k.val + 1 - 2 = (k.val - 2) + 1 by omega]
      iapply (col_add (n := k.val - 2) (by omega) (hG11 (k.val - 2) (by omega))) $$ [HD11 HB]
      isplitl [HD11]; · iexact HD11
      iexact HB
    isplitl [HS14 Hv22 HT6 Hv23]
    · unfold MgIdle
      isplitl [HS14]; · iexact HS14
      isplitl [Hv22]; · iexact Hv22
      isplitl [HT6]; · iexact HT6
      iexact Hv23
    isplitl [HD8 HB8]
    · rw [show k.val + 1 - 2 = (k.val - 2) + 1 by omega]
      iapply (row_add (n := k.val - 2) (by omega) (hG8 (k.val - 2) (by omega))) $$ [HD8 HB8]
      isplitl [HD8]; · iexact HD8
      iexact HB8
    iexact HO
  case hB =>
    intro h1
    have h2 : ¬ 2 ≤ k.val := fun h => h1 ((cond1_iff k).mpr h)
    unfold CodesW MgW
    rw [if_neg h2, if_neg h2, show k.val - 2 = 0 by omega, show k.val + 1 - 2 = 0 by omega]
  · isplitl [HC]; · iexact HC
    isplitl [HD11]; · iexact HD11
    isplitl [HM]; · iexact HM
    isplitl [HD8]; · iexact HD8
    iexact HO
  iintro ⟨HCF, HD11, HMI, HD8, HO⟩
  iapply (wp_if c (P := iprop(DyFree c arg3 arg12 arg20 f3 (k.val + 4) ∗ WFree c arg5 arg13 arg21 f5 (k.val + 4) ∗ MgIdle c arg6 arg14 arg22 arg23 f6 (k.val + 4)))
      (R := iprop(DyRead c arg3 arg12 arg20 f3 (k.val + 4) ∗ WRead c arg5 arg13 arg21 f5 (k.val + 4) ∗ MgRead c arg6 arg14 arg22 arg23 f6 (k.val + 4))) ?hA ?hB) $$ [HdF HwF HMI]
  case hA =>
    intro h1
    have h2 := (cond2_iff k).mp h1
    unfold DyRead WRead MgRead
    rw [if_pos h2, if_pos h2, if_pos h2]
    unfold DyFree WFree MgIdle
    iintro ⟨⟨HS12, Hv20, HT3⟩, ⟨HS13, Hv21, HT5⟩, ⟨HS14, Hv22, HT6, Hv23⟩⟩ Hk
    iapply (wp_fetch' (c := c) (B := colBlk arg3 (k.val + 4)) (D := slotA arg12 (k.val + 4)) (sm := cell arg20 (k.val + 4)) (q := qs (k.val + 4)) (fs := f3) (colBlk_of arg3 (off8_eq k) h2 _) (slotA_of arg12 (off7_eq k) _) (cell_of arg20 (off6_eq k) _) posA) $$ [HS12 Hv20 HT3]
    · isplitl [HS12]; · iexact HS12
      isplitl [Hv20]; · iexact Hv20
      iexact HT3
    iintro Hdy
    iapply (wp_fetch' (c := c) (B := rowBlk arg5 (k.val + 4)) (D := slotB arg13 (k.val + 4)) (sm := cell arg21 (k.val + 4)) (q := qs (k.val + 4)) (fs := f5) (rowBlk_of arg5 (off10_eq k) h2 _) (slotB_of arg13 (off9_eq k) _) (cell_of arg21 (off6_eq k) _) posB) $$ [HS13 Hv21 HT5]
    · isplitl [HS13]; · iexact HS13
      isplitl [Hv21]; · iexact Hv21
      iexact HT5
    iintro Hw
    iapply (wp_fetch' (c := c) (B := rowBlk arg6 (k.val + 4)) (D := slotB arg14 (k.val + 4)) (sm := cell arg22 (k.val + 4)) (q := qs (k.val + 4)) (fs := f6) (rowBlk_of arg6 (off10_eq k) h2 _) (slotB_of arg14 (off9_eq k) _) (cell_of arg22 (off6_eq k) _) posB) $$ [HS14 Hv22 HT6]
    · isplitl [HS14]; · iexact HS14
      isplitl [Hv22]; · iexact Hv22
      iexact HT6
    iintro Hm
    iapply Hk
    isplitl [Hdy]; · iexact Hdy
    isplitl [Hw]; · iexact Hw
    isplitl [Hm]; · iexact Hm
    iexact Hv23
  case hB =>
    intro h1
    have h2 : ¬ k.val + 4 < 35 := fun h => h1 ((cond2_iff k).mpr h)
    unfold DyRead WRead MgRead
    rw [if_neg h2, if_neg h2, if_neg h2]
  · isplitl [HdF]; · iexact HdF
    isplitl [HwF]; · iexact HwF
    iexact HMI
  iintro ⟨HdR, HwR, HmR⟩
  ihave Hd := (dyRead_in hk) $$ Hd
  iapply (wp_arrive' (colBlk_of arg3 (off13_eq k) hk _) (slotA_of arg12 (off12_eq k) _) (cell_of arg20 (off11_eq k) _)) $$ [Hd HO]
  · isplitl [Hd]; · iexact Hd
    iexact HO
  iintro ⟨Hd, Hv, HT, HO⟩
  iapply (wp_loadWhole (Y := m) (load_whole2 (inb := inb_S8x256_S8x256_0_0) m)) $$ H19
  iintro H19
  iapply (wp_loadRows (j := 0) (off14_eq k) (by decide)) $$ Hd; iintro Hd
  iapply (le_wp_ret frame (wpE defs₀ 𝒱 (c : Thread nD τ) bd))
  iapply Hk
  isplitl [HCF]; · iexact HCF
  isplitl [HD11]; · iexact HD11
  isplitl [HD8]; · iexact HD8
  isplitl [HO]; · iexact HO
  isplitl [HdR]; · iexact HdR
  isplitl [HwR]; · iexact HwR
  isplitl [HmR]; · iexact HmR
  isplitl [Hd]; · iexact Hd
  isplitl [Hv]; · iexact Hv
  isplitl [HT]; · iexact HT
  iexact H19

end Cert.KernelIdeal.Hand
-- ==== Proof.KITripEnd.lean ====
/-
  The end of a trip of the kernel's loop: the last group of rows, the sums and the maximum stored, the codes
  sent out, the weights' product added, and in the first and last trips the activations and the input gradient.
-/
module

public import proofs.«01_k».proof.Proof.KITrip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}

/-- Elements held are held as something. -/
theorem own_holds {sp : Space} {s : Shape} {e : EltTy} {D : Memref sig .tc sp s e} :
    (Own c D : sProp 𝕄) ⊢ iprop(∃ X, Holds c D X) := by
  unfold Own
  iintro ⟨%f, Hf⟩
  iexists _
  iapply (Holds.of f) $$ Hf

/-- Storing a whole buffer. -/
theorem wp_storeAll {α : Type} {Q : α → sProp (MT nD τ sig Unit (Elt F) ℕ (Pipeline.UD sig nD τ) ℕ)} {cs : CoreSpace} {s : Shape} {e : EltTy}
    {M : Memref sig .tc cs s e} {X w : s.Idx → Elt F e} {off : Fin s.rank → ℕ}
    {inb : ∀ a, off a + s.size a ≤ s.size a} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} :
    (Holds c M X : sProp 𝕄)
      ⊢ iprop((Holds c M w -∗ wp frame (wpE defs₀ 𝒱 (c : Thread nD τ) bd) Set.univ (k ⟨⟩) Q)
          -∗ wp frame (wpE defs₀ 𝒱 (c : Thread nD τ) bd) Set.univ (.op (.store M (Rect.unit (s := s) off s.size inb) w Finset.univ hx hm) k) Q) := by
  refine wp_storeWhole (fun j => congrFun (load_whole2 w) j) fun x hx => absurd ?_ hx
  rw [Rect.mem_set_unit]
  intro a
  have := inb a
  have := (x a).isLt
  omega

/-- A buffer with one row replaced. -/
def rowSet {β : Type} (X : S70x128.Idx → β) (r : ℕ) (w : S1x128.Idx → β) : S70x128.Idx → β := fun x =>
  if (x 0).val = r then w (ix2 (⟨0, Nat.one_pos⟩ : Fin 1) (x 1)) else X x

theorem wp_storeRow {α : Type} {Q : α → sProp (MT nD τ sig Unit (Elt F) ℕ (Pipeline.UD sig nD τ) ℕ)}
    {M : Memref sig .tc .vmem S70x128 .f32} {X : S70x128.Idx → Elt F .f32} {off : Fin 2 → ℕ} {r : ℕ} (h : off = ![r, 0])
    {inb : ∀ a, off a + S1x128.size a ≤ S70x128.size a} {w : Vec F S1x128 .f32}
    {hx : (M.access (Rect.unit (s := S70x128) off S1x128.size inb)).Stores Finset.univ}
    {hm : (Finset.univ : Finset S1x128.Idx) = Finset.univ ∨ ∀ a, (Rect.unit (s := S70x128) off S1x128.size inb).stride a = 1}
    {k : PUnit → Prog (TpuEff nD τ sig (Elt F) Λ₀ .tc) α} :
    (Holds c M X : sProp 𝕄)
      ⊢ iprop((Holds c M (rowSet X r w) -∗ wp frame (wpE defs₀ 𝒱 (c : Thread nD τ) bd) Set.univ (k ⟨⟩) Q)
          -∗ wp frame (wpE defs₀ 𝒱 (c : Thread nD τ) bd) Set.univ (.op (.store M (Rect.unit (s := S70x128) off S1x128.size inb) w Finset.univ hx hm) k) Q) := by
  subst h
  refine wp_storeWhole (fun j => ?_) fun x hx => ?_
  · have h0 : (j 0).val < 1 := (j 0).isLt
    unfold rowSet
    rw [if_pos (by show r + 1 * (j 0).val = r; omega)]
    congr 1
    funext a
    fin_cases a
    · apply Fin.ext; show 0 = (j 0).val; omega
    · apply Fin.ext; show 0 + 1 * (j 1).val = (j 1).val; omega
  · unfold rowSet
    rw [if_neg]
    intro h0
    apply hx
    rw [Rect.mem_set_unit, Fin.forall_fin_two]
    have h1 : (x 1).val < 128 := (x 1).isLt
    show (r ≤ (x 0).val ∧ (x 0).val < r + 1) ∧ (0 ≤ (x 1).val ∧ (x 1).val < 0 + 128)
    omega

theorem biasBuf_succ (dy : ℕ → S768x256.Idx → Elt F .bf16) (Z : S70x128.Idx → Elt F .f32) (n : ℕ) :
    rowSet (rowSet (biasBuf dy Z n) (2 * n) (sumLo (dy n))) (2 * n + 1) (sumHi (dy n)) = biasBuf dy Z (n + 1) := by
  funext x
  unfold rowSet biasBuf
  by_cases h1 : (x 0).val = 2 * n + 1
  · rw [if_pos h1, if_pos (by omega), if_neg (by omega), show (x 0).val / 2 = n by omega]
  · rw [if_neg h1]
    by_cases h2 : (x 0).val = 2 * n
    · rw [if_pos h2, if_pos (by omega), if_pos (by omega), show (x 0).val / 2 = n by omega]
    · rw [if_neg h2]
      by_cases h3 : (x 0).val < 2 * n
      · rw [if_pos h3, if_pos (show (x 0).val < 2 * (n + 1) by omega)]
      · rw [if_neg h3, if_neg (show ¬ (x 0).val < 2 * (n + 1) by omega)]

/-- The last group of rows. -/
theorem part14_spec (k : Fin k0_t1_loop.trips) (inv : FVec F S8x256 .f32) (dy : ℕ → S768x256.Idx → Elt F .bf16)
    (X : S768x256.Idx → Elt F .fp8e5m2) (Z : S70x128.Idx → Elt F .f32) (m : FVec F S8x256 .f32) (a27 v107 : BitVec 32) (v639 v642 : FVec F S8x256 .f32) {Q}
    (h88 : k0_pay88 v639 (k0_pay84 (chunk (dy k.val) 23)) = sumV (dy k.val)) :
    (iprop(Holds c (slotA arg12 k.val) (dy k.val) ∗ Holds c (slotA arg15 k.val) (upTo (codesB inv (dy k.val)) X 23)
        ∗ Holds c arg19 m ∗ Holds c arg9 (biasBuf dy Z k.val)) : sProp 𝕄)
      ⊢ iprop((iprop(Holds c (slotA arg12 k.val) (dy k.val) ∗ Holds c (slotA arg15 k.val) (codesB inv (dy k.val))
            ∗ Holds c arg19 (k0_pay87 v642 (k0_pay84 (chunk (dy k.val) 23))) ∗ Holds c arg9 (biasBuf dy Z (k.val + 1)))
          -∗ Q ⟨⟩)
        -∗ wp frame (wpE defs₀ 𝒱 (c : Thread nD τ) bd) Set.univ (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k a27 v107 v639 v642 (k0_pay84 (chunk (dy k.val) 23))) Q) := by
  have e89 : k0_pay89 v639 (k0_pay84 (chunk (dy k.val) 23)) = sumLo (dy k.val) := by
    show extractStridedSlice S1x128 ![0, 0] (k0_pay88 v639 (k0_pay84 (chunk (dy k.val) 23))) slices_S1x256_o0_0_S1x128 = _
    rw [h88]; rfl
  have e90 : k0_pay90 v639 (k0_pay84 (chunk (dy k.val) 23)) = sumHi (dy k.val) := by
    show extractStridedSlice S1x128 ![0, 128] (k0_pay88 v639 (k0_pay84 (chunk (dy k.val) 23))) slices_S1x256_o0_128_S1x128 = _
    rw [h88]; rfl
  rw [k0_part14_eq_skeleton]
  unfold k0_part14_skel
  rw [e89, e90, ← biasBuf_succ]
  have eU : (Holds c (slotA arg15 k.val) (upTo (codesB inv (dy k.val)) X (23 + 1)) : sProp 𝕄) ⊢ Holds c (slotA arg15 k.val) (codesB inv (dy k.val)) := by
    rw [upTo_full]
  iintro ⟨HD, HC, H19, H9⟩ Hk
  iapply (wp_loadRows (j := 23) (off37_eq k) (by decide)) $$ HC; iintro HC
  iapply (wp_storeRows (j := 23) (off37_eq k) (by decide) (chunk_codesB inv (dy k.val) 23 (by decide))) $$ HC; iintro HC
  iapply (wp_loadWhole rfl) $$ H19; iintro H19
  iapply (wp_storeAll) $$ H19; iintro H19
  iapply (wp_loadWhole rfl) $$ H9; iintro H9
  iapply (wp_storeRow (off38_eq0 k)) $$ H9; iintro H9
  iapply (wp_loadWhole rfl) $$ H9; iintro H9
  iapply (wp_storeRow (off38_eq1 k)) $$ H9; iintro H9
  iapply (le_wp_ret frame (wpE defs₀ 𝒱 (c : Thread nD τ) bd))
  iapply Hk
  isplitl [HD]; · iexact HD
  isplitl [HC]; · iapply eU $$ HC
  isplitl [H19]; · iexact H19
  iexact H9

theorem first_iff (k : Fin k0_t1_loop.trips) :
    Scalar.cmpi .ne (Scalar.extui (Scalar.cmpi .eq (Scf.iv 0#32 1#32 k) 0#32) : BitVec 32) 0#32 = 1#1 ↔ k.val = 0 := by
  revert k; decide +kernel
theorem last_iff (k : Fin k0_t1_loop.trips) :
    Scalar.cmpi .ne (Scalar.extui (Scalar.cmpi .eq (Scf.iv 0#32 1#32 k) 34#32) : BitVec 32) 0#32 = 1#1 ↔ k.val = 34 := by
  revert k; decide +kernel

/-- The word an array of one word holds. -/
def one {β : Type} (s : S1.Idx → β) : β := s (Shape.Idx.first (by decide))

set_option maxHeartbeats 1000000 in
/-- The codes leave, the weights arrive and their product is added; in the first trip the activations arrive, in
the last the input gradient leaves; the master gradient's block arrives. -/
theorem part15_spec (k : Fin k0_t1_loop.trips) (C : S768x256.Idx → Elt F .fp8e5m2) (A : FVec F S768x1536 .f32) (v72 : F .f32)
    (s2 : S1.Idx → Elt F .f32) (dx : S768x1536.Idx → Elt F .bf16) (v107 : BitVec 32) {Q}
    (hdx : k.val = 34 → k0_pay92 v72 (k0_pay91 A (up3A C) (up3B (wB c arg5 f5 k.val))) (one s2) = dx) :
    (iprop(Holds c (slotA arg15 k.val) C ∗ Idle c (cell arg24 k.val) ∗ Rest c arg11 1 (256 * k.val) ∗ Owes c
        ∗ WRead c arg5 arg13 arg21 f5 k.val ∗ Holds c arg17 A ∗ XAt c arg4 arg16 arg25 f4 k.val ∗ Holds c arg2 s2
        ∗ DxAt c arg7 arg18 arg26 dx k.val ∗ MgRead c arg6 arg14 arg22 arg23 f6 k.val) : sProp 𝕄)
      ⊢ iprop((iprop(Lending c (slotA arg15 k.val) (colBlk arg11 k.val) (cell arg24 k.val) C ∗ Rest c arg11 1 (256 * (k.val + 1)) ∗ Owes c
            ∗ WFree c arg5 arg13 arg21 f5 k.val ∗ Holds c arg17 (k0_pay91 A (up3A C) (up3B (wB c arg5 f5 k.val)))
            ∗ XHeld c arg4 arg16 arg25 f4 ∗ Holds c arg2 s2 ∗ DxAt c arg7 arg18 arg26 dx (k.val + 1)
            ∗ Holds c (slotB arg14 k.val) (mgB c arg6 f6 k.val) ∗ Idle c (cell arg22 k.val) ∗ Tok c (rowBlk arg6 k.val) (qs k.val) f6 ∗ Idle c (cell arg23 k.val))
          -∗ Q (k0_pay93 (up3B (mgB c arg6 f6 k.val))))
        -∗ wp frame (wpE defs₀ 𝒱 (c : Thread nD τ) bd) Set.univ (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 v72 k (Scf.iv 0#32 1#32 k) v107) Q) := by
  have hk := trip_lt k
  rw [k0_part15_eq_skeleton]
  unfold k0_part15_skel
  iintro ⟨HC, Hv24, HR, HO, HW, H17, HX, H2, HDx, HM⟩ Hk
  icases (col_take hk) $$ HR with ⟨HB, HR⟩
  iapply (wp_lend' (c := c) (S := slotA arg15 k.val) (B := colBlk arg11 k.val) (sm := cell arg24 k.val) (slotA_of arg15 (off12_eq k) _)
    (colBlk_of arg11 (off13_eq k) hk _) (cell_of arg24 (off11_eq k) _) posA) $$ [HC Hv24 HB]
  · isplitl [HC]; · iexact HC
    isplitl [Hv24]; · iexact Hv24
    iexact HB
  iintro HL
  ihave HW := (wRead_in hk) $$ HW
  iapply (wp_arrive' (rowBlk_of arg5 (off40_eq k) hk _) (slotB_of arg13 (off39_eq k) _) (cell_of arg21 (off11_eq k) _)) $$ [HW HO]
  · isplitl [HW]; · iexact HW
    iexact HO
  iintro ⟨HW, Hv21, HT5, HO⟩
  iapply (wp_loadWhole (load_whole2 A)) $$ H17; iintro H17
  iapply (wp_loadLentA (off41_eq k)) $$ HL; iintro HL
  iapply (wp_loadB (off42_eq k)) $$ HW; iintro HW
  iapply (wp_loadWhole rfl) $$ H17; iintro H17
  iapply (wp_storeAll) $$ H17; iintro H17
  iapply (wp_if c (P := iprop(XAt c arg4 arg16 arg25 f4 k.val ∗ Owes c)) (R := iprop(XHeld c arg4 arg16 arg25 f4 ∗ Owes c)) ?hA ?hB) $$ [HX HO]
  case hA =>
    intro h1
    have h2 := (first_iff k).mp h1
    unfold XAt
    rw [if_pos h2]
    iintro ⟨HX, HO⟩ Hk
    iapply (wp_arrive' rfl rfl rfl) $$ [HX HO]
    · isplitl [HX]; · iexact HX
      iexact HO
    iintro ⟨HX, Hv, HT, HO⟩
    iapply Hk
    isplitl [HX Hv HT]
    · unfold XHeld
      isplitl [HX]; · iexact HX
      isplitl [Hv]; · iexact Hv
      iexact HT
    iexact HO
  case hB =>
    intro h1
    have h2 : ¬ k.val = 0 := fun h => h1 ((first_iff k).mpr h)
    unfold XAt
    rw [if_neg h2]
  · isplitl [HX]; · iexact HX
    iexact HO
  iintro ⟨HX, HO⟩
  iapply (wp_if c (P := iprop(Holds c arg17 (k0_pay91 A (up3A C) (up3B (wB c arg5 f5 k.val))) ∗ Holds c arg2 s2 ∗ DxAt c arg7 arg18 arg26 dx k.val))
    (R := iprop(Holds c arg17 (k0_pay91 A (up3A C) (up3B (wB c arg5 f5 k.val))) ∗ Holds c arg2 s2 ∗ DxAt c arg7 arg18 arg26 dx (k.val + 1))) ?hA ?hB) $$ [H17 H2 HDx]
  case hA =>
    intro h1
    have h2 := (last_iff k).mp h1
    have h3 := hdx h2
    subst h3
    unfold DxAt
    rw [if_neg (by omega), if_pos (by omega)]
    iintro ⟨H17, H2, ⟨H18, H7, Hv⟩⟩ Hk
    icases (own_holds) $$ H18 with ⟨%Y, H18⟩
    iapply (wp_loadWhole (load_whole2 _)) $$ H17; iintro H17
    iapply (wp_loadWhole (load_whole2 s2)) $$ H2; iintro H2
    iapply (wp_loadWhole rfl) $$ H18; iintro H18
    iapply (wp_storeAll) $$ H18; iintro H18
    iapply (wp_put' (c := c) (S := arg18) (B := arg7) (sm := arg26.sem) rfl rfl rfl posC) $$ [H18 Hv H7]
    · isplitl [H18]; · iexact H18
      isplitl [Hv]; · iexact Hv
      iexact H7
    iintro HP
    iapply Hk
    isplitl [H17]; · iexact H17
    isplitl [H2]; · iexact H2
    iexact HP
  case hB =>
    intro h1
    have h2 : ¬ k.val = 34 := fun h => h1 ((last_iff k).mpr h)
    unfold DxAt
    rw [if_neg (by omega), if_neg (by omega)]
  · isplitl [H17]; · iexact H17
    isplitl [H2]; · iexact H2
    iexact HDx
  iintro ⟨H17, H2, HDx⟩
  icases (mgRead_in hk) $$ HM with ⟨HM, Hv23⟩
  iapply (wp_arrive' (rowBlk_of arg6 (off40_eq k) hk _) (slotB_of arg14 (off39_eq k) _) (cell_of arg22 (off11_eq k) _)) $$ [HM HO]
  · isplitl [HM]; · iexact HM
    iexact HO
  iintro ⟨HM, Hv22, HT6, HO⟩
  iapply (wp_loadB (off42_eq k)) $$ HM; iintro HM
  iapply (le_wp_ret frame (wpE defs₀ 𝒱 (c : Thread nD τ) bd))
  iapply Hk
  isplitl [HL]; · iexact HL
  isplitl [HR]; · iexact HR
  isplitl [HO]; · iexact HO
  isplitl [HW Hv21 HT5]
  · unfold WFree
    isplitl [HW]; · iapply Holds.own $$ HW
    isplitl [Hv21]; · iexact Hv21
    iexact HT5
  isplitl [H17]; · iexact H17
  isplitl [HX]; · iexact HX
  isplitl [H2]; · iexact H2
  isplitl [HDx]; · iexact HDx
  isplitl [HM]; · iexact HM
  isplitl [Hv22]; · iexact Hv22
  isplitl [HT6]; · iexact HT6
  iexact Hv23

end Cert.KernelIdeal.Hand
-- ==== Proof.KIChunks.lean ====
/-
  The 24 groups of 32 rows of a block, in the order the kernel goes through them: each group is loaded, its
  codes stored, its rows added to the column sums and its largest magnitude taken.
-/
module

public import proofs.«01_k».proof.Proof.KIVals

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}

theorem part2_spec (k : Fin k0_t1_loop.trips) (inv : FVec F S8x256 .f32) (D : S768x256.Idx → Elt F .bf16)
    (X : S768x256.Idx → Elt F .fp8e5m2) (v107 : BitVec 32) (v133 : FVec F S8x256 .f32) (v136 : FVec F S8x256 .f32) {Q} :
    (iprop(Holds c (slotA arg12 k.val) D ∗ Holds c (slotA arg15 k.val) (upTo (codesB inv D) X 0)) : sProp 𝕄)
      ⊢ iprop((iprop(Holds c (slotA arg12 k.val) D ∗ Holds c (slotA arg15 k.val) (upTo (codesB inv D) X 2))
          -∗ Q ⟨k0_pay9 v133 (chunk D 1) (chunk D 2), k0_pay10 v136 (chunk D 1) (chunk D 2), k0_pay11 inv (chunk D 2)⟩)
        -∗ wp frame (wpE defs₀ 𝒱 (c : Thread nD τ) bd) Set.univ (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v133 v136 (Scalar.ofBits .f32 0x47600000#32) (k0_pay4 inv (chunk D 0))) Q) := by
  rw [k0_part2_eq_skeleton]
  unfold k0_part2_skel
  iintro ⟨HD, HC⟩ Hk
  iapply (wp_loadRows (j := 0) (off14_eq k) (by decide)) $$ HC; iintro HC
  iapply (wp_storeRows (j := 0) (off14_eq k) (by decide) (chunk_codesB inv D 0 (by decide))) $$ HC; iintro HC
  iapply (wp_loadRows (j := 1) (off15_eq k) (by decide)) $$ HD; iintro HD
  iapply (wp_loadRows (j := 1) (off15_eq k) (by decide)) $$ HC; iintro HC
  iapply (wp_storeRows (j := 1) (off15_eq k) (by decide) (chunk_codesB inv D 1 (by decide))) $$ HC; iintro HC
  iapply (wp_loadRows (j := 2) (off16_eq k) (by decide)) $$ HD; iintro HD
  iapply (le_wp_ret frame (wpE defs₀ 𝒱 (c : Thread nD τ) bd))
  iapply Hk
  isplitl [HD]
  · iexact HD
  · iexact HC

theorem part3_spec (k : Fin k0_t1_loop.trips) (inv : FVec F S8x256 .f32) (D : S768x256.Idx → Elt F .bf16)
    (X : S768x256.Idx → Elt F .fp8e5m2) (v107 : BitVec 32) (v179 : FVec F S8x256 .f32) (v182 : FVec F S8x256 .f32) {Q} :
    (iprop(Holds c (slotA arg12 k.val) D ∗ Holds c (slotA arg15 k.val) (upTo (codesB inv D) X 2)) : sProp 𝕄)
      ⊢ iprop((iprop(Holds c (slotA arg12 k.val) D ∗ Holds c (slotA arg15 k.val) (upTo (codesB inv D) X 4))
          -∗ Q ⟨k0_pay14 v182 (chunk D 3), k0_pay16 (chunk D 4), k0_pay17 v179 (chunk D 3) (chunk D 4), k0_pay18 (chunk D 4)⟩)
        -∗ wp frame (wpE defs₀ 𝒱 (c : Thread nD τ) bd) Set.univ (k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v179 v182 (k0_pay11 inv (chunk D 2))) Q) := by
  rw [k0_part3_eq_skeleton]
  unfold k0_part3_skel
  iintro ⟨HD, HC⟩ Hk
  iapply (wp_loadRows (j := 2) (off16_eq k) (by decide)) $$ HC; iintro HC
  iapply (wp_storeRows (j := 2) (off16_eq k) (by decide) (chunk_codesB inv D 2 (by decide))) $$ HC; iintro HC
  iapply (wp_loadRows (j := 3) (off17_eq k) (by decide)) $$ HD; iintro HD
  iapply (wp_loadRows (j := 3) (off17_eq k) (by decide)) $$ HC; iintro HC
  iapply (wp_storeRows (j := 3) (off17_eq k) (by decide) (chunk_codesB inv D 3 (by decide))) $$ HC; iintro HC
  iapply (wp_loadRows (j := 4) (off18_eq k) (by decide)) $$ HD; iintro HD
  iapply (le_wp_ret frame (wpE defs₀ 𝒱 (c : Thread nD τ) bd))
  iapply Hk
  isplitl [HD]
  · iexact HD
  · iexact HC

theorem part4_spec (k : Fin k0_t1_loop.trips) (inv : FVec F S8x256 .f32) (D : S768x256.Idx → Elt F .bf16)
    (X : S768x256.Idx → Elt F .fp8e5m2) (v107 : BitVec 32) (v205 : FVec F S8x256 .f32) (v225 : FVec F S8x256 .f32) {Q} :
    (iprop(Holds c (slotA arg12 k.val) D ∗ Holds c (slotA arg15 k.val) (upTo (codesB inv D) X 4)) : sProp 𝕄)
      ⊢ iprop((iprop(Holds c (slotA arg12 k.val) D ∗ Holds c (slotA arg15 k.val) (upTo (codesB inv D) X 6))
          -∗ Q ⟨k0_pay21 v225 (chunk D 5), k0_pay22 v205 (k0_pay18 (chunk D 4)) (chunk D 5), k0_pay24 (chunk D 6), k0_pay25 (chunk D 6)⟩)
        -∗ wp frame (wpE defs₀ 𝒱 (c : Thread nD τ) bd) Set.univ (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v205 (k0_pay16 (chunk D 4)) v225 (k0_pay18 (chunk D 4))) Q) := by
  rw [k0_part4_eq_skeleton]
  unfold k0_part4_skel
  iintro ⟨HD, HC⟩ Hk
  iapply (wp_loadRows (j := 4) (off18_eq k) (by decide)) $$ HC; iintro HC
  iapply (wp_storeRows (j := 4) (off18_eq k) (by decide) (chunk_codesB inv D 4 (by decide))) $$ HC; iintro HC
  iapply (wp_loadRows (j := 5) (off19_eq k) (by decide)) $$ HD; iintro HD
  iapply (wp_loadRows (j := 5) (off19_eq k) (by decide)) $$ HC; iintro HC
  iapply (wp_storeRows (j := 5) (off19_eq k) (by decide) (chunk_codesB inv D 5 (by decide))) $$ HC; iintro HC
  iapply (wp_loadRows (j := 6) (off20_eq k) (by decide)) $$ HD; iintro HD
  iapply (le_wp_ret frame (wpE defs₀ 𝒱 (c : Thread nD τ) bd))
  iapply Hk
  isplitl [HD]
  · iexact HD
  · iexact HC

theorem part5_spec (k : Fin k0_t1_loop.trips) (inv : FVec F S8x256 .f32) (D : S768x256.Idx → Elt F .bf16)
    (X : S768x256.Idx → Elt F .fp8e5m2) (v107 : BitVec 32) (v248 : FVec F S8x256 .f32) (v251 : FVec F S8x256 .f32) {Q} :
    (iprop(Holds c (slotA arg12 k.val) D ∗ Holds c (slotA arg15 k.val) (upTo (codesB inv D) X 6)) : sProp 𝕄)
      ⊢ iprop((iprop(Holds c (slotA arg12 k.val) D ∗ Holds c (slotA arg15 k.val) (upTo (codesB inv D) X 8))
          -∗ Q ⟨k0_pay28 v248 (k0_pay25 (chunk D 6)) (chunk D 7), k0_pay29 v251 (k0_pay24 (chunk D 6)) (chunk D 7), k0_pay31 (chunk D 8)⟩)
        -∗ wp frame (wpE defs₀ 𝒱 (c : Thread nD τ) bd) Set.univ (k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v248 v251 (k0_pay24 (chunk D 6)) (k0_pay25 (chunk D 6))) Q) := by
  rw [k0_part5_eq_skeleton]
  unfold k0_part5_skel
  iintro ⟨HD, HC⟩ Hk
  iapply (wp_loadRows (j := 6) (off20_eq k) (by decide)) $$ HC; iintro HC
  iapply (wp_storeRows (j := 6) (off20_eq k) (by decide) (chunk_codesB inv D 6 (by decide))) $$ HC; iintro HC
  iapply (wp_loadRows (j := 7) (off21_eq k) (by decide)) $$ HD; iintro HD
  iapply (wp_loadRows (j := 7) (off21_eq k) (by decide)) $$ HC; iintro HC
  iapply (wp_storeRows (j := 7) (off21_eq k) (by decide) (chunk_codesB inv D 7 (by decide))) $$ HC; iintro HC
  iapply (wp_loadRows (j := 8) (off22_eq k) (by decide)) $$ HD; iintro HD
  iapply (le_wp_ret frame (wpE defs₀ 𝒱 (c : Thread nD τ) bd))
  iapply Hk
  isplitl [HD]
  · iexact HD
  · iexact HC

theorem part6_spec (k : Fin k0_t1_loop.trips) (inv : FVec F S8x256 .f32) (D : S768x256.Idx → Elt F .bf16)
    (X : S768x256.Idx → Elt F .fp8e5m2) (v107 : BitVec 32) (v294 : FVec F S8x256 .f32) (v297 : FVec F S8x256 .f32) {Q} :
    (iprop(Holds c (slotA arg12 k.val) D ∗ Holds c (slotA arg15 k.val) (upTo (codesB inv D) X 8)) : sProp 𝕄)
      ⊢ iprop((iprop(Holds c (slotA arg12 k.val) D ∗ Holds c (slotA arg15 k.val) (upTo (codesB inv D) X 10))
          -∗ Q ⟨k0_pay35 v294 (k0_pay31 (chunk D 8)) (chunk D 9), k0_pay36 v297 (k0_pay31 (chunk D 8)) (chunk D 9)⟩)
        -∗ wp frame (wpE defs₀ 𝒱 (c : Thread nD τ) bd) Set.univ (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v294 v297 (k0_pay31 (chunk D 8))) Q) := by
  rw [k0_part6_eq_skeleton]
  unfold k0_part6_skel
  iintro ⟨HD, HC⟩ Hk
  iapply (wp_loadRows (j := 8) (off22_eq k) (by decide)) $$ HC; iintro HC
  iapply (wp_storeRows (j := 8) (off22_eq k) (by decide) (chunk_codesB inv D 8 (by decide))) $$ HC; iintro HC
  iapply (wp_loadRows (j := 9) (off23_eq k) (by decide)) $$ HD; iintro HD
  iapply (wp_loadRows (j := 9) (off23_eq k) (by decide)) $$ HC; iintro HC
  iapply (wp_storeRows (j := 9) (off23_eq k) (by decide) (chunk_codesB inv D 9 (by decide))) $$ HC; iintro HC
  iapply (le_wp_ret frame (wpE defs₀ 𝒱 (c : Thread nD τ) bd))
  iapply Hk
  isplitl [HD]
  · iexact HD
  · iexact HC

theorem part7_spec (k : Fin k0_t1_loop.trips) (inv : FVec F S8x256 .f32) (D : S768x256.Idx → Elt F .bf16)
    (X : S768x256.Idx → Elt F .fp8e5m2) (v107 : BitVec 32) (v340 : FVec F S8x256 .f32) (v343 : FVec F S8x256 .f32) {Q} :
    (iprop(Holds c (slotA arg12 k.val) D ∗ Holds c (slotA arg15 k.val) (upTo (codesB inv D) X 10)) : sProp 𝕄)
      ⊢ iprop((iprop(Holds c (slotA arg12 k.val) D ∗ Holds c (slotA arg15 k.val) (upTo (codesB inv D) X 11))
          -∗ Q ⟨k0_pay41 v340 (chunk D 10) (chunk D 11), k0_pay42 v343 (chunk D 10) (chunk D 11), k0_pay43 inv (chunk D 11), (chunk (upTo (codesB inv D) X 11) 11)⟩)
        -∗ wp frame (wpE defs₀ 𝒱 (c : Thread nD τ) bd) Set.univ (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v340 v343) Q) := by
  rw [k0_part7_eq_skeleton]
  unfold k0_part7_skel
  iintro ⟨HD, HC⟩ Hk
  iapply (wp_loadRows (j := 10) (off24_eq k) (by decide)) $$ HD; iintro HD
  iapply (wp_loadRows (j := 10) (off24_eq k) (by decide)) $$ HC; iintro HC
  iapply (wp_storeRows (j := 10) (off24_eq k) (by decide) (chunk_codesB inv D 10 (by decide))) $$ HC; iintro HC
  iapply (wp_loadRows (j := 11) (off25_eq k) (by decide)) $$ HD; iintro HD
  iapply (wp_loadRows (j := 11) (off25_eq k) (by decide)) $$ HC; iintro HC
  iapply (le_wp_ret frame (wpE defs₀ 𝒱 (c : Thread nD τ) bd))
  iapply Hk
  isplitl [HD]
  · iexact HD
  · iexact HC

theorem part8_spec (k : Fin k0_t1_loop.trips) (inv : FVec F S8x256 .f32) (D : S768x256.Idx → Elt F .bf16)
    (X : S768x256.Idx → Elt F .fp8e5m2) (v107 : BitVec 32) (v386 : FVec F S8x256 .f32) (v389 : FVec F S8x256 .f32) (v400 : Vec F S1x32x256 .fp8e5m2) {Q} :
    (iprop(Holds c (slotA arg12 k.val) D ∗ Holds c (slotA arg15 k.val) (upTo (codesB inv D) X 11)) : sProp 𝕄)
      ⊢ iprop((iprop(Holds c (slotA arg12 k.val) D ∗ Holds c (slotA arg15 k.val) (upTo (codesB inv D) X 13))
          -∗ Q ⟨k0_pay48 v386 (chunk D 12) (chunk D 13), k0_pay49 v389 (chunk D 12) (chunk D 13), k0_pay50 inv (chunk D 13)⟩)
        -∗ wp frame (wpE defs₀ 𝒱 (c : Thread nD τ) bd) Set.univ (k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v386 v389 (k0_pay43 inv (chunk D 11)) v400) Q) := by
  rw [k0_part8_eq_skeleton]
  unfold k0_part8_skel
  iintro ⟨HD, HC⟩ Hk
  iapply (wp_storeRows (j := 11) (off25_eq k) (by decide) (chunk_codesB inv D 11 (by decide))) $$ HC; iintro HC
  iapply (wp_loadRows (j := 12) (off26_eq k) (by decide)) $$ HD; iintro HD
  iapply (wp_loadRows (j := 12) (off26_eq k) (by decide)) $$ HC; iintro HC
  iapply (wp_storeRows (j := 12) (off26_eq k) (by decide) (chunk_codesB inv D 12 (by decide))) $$ HC; iintro HC
  iapply (wp_loadRows (j := 13) (off27_eq k) (by decide)) $$ HD; iintro HD
  iapply (le_wp_ret frame (wpE defs₀ 𝒱 (c : Thread nD τ) bd))
  iapply Hk
  isplitl [HD]
  · iexact HD
  · iexact HC

theorem part9_spec (k : Fin k0_t1_loop.trips) (inv : FVec F S8x256 .f32) (D : S768x256.Idx → Elt F .bf16)
    (X : S768x256.Idx → Elt F .fp8e5m2) (v107 : BitVec 32) (v432 : FVec F S8x256 .f32) (v435 : FVec F S8x256 .f32) {Q} :
    (iprop(Holds c (slotA arg12 k.val) D ∗ Holds c (slotA arg15 k.val) (upTo (codesB inv D) X 13)) : sProp 𝕄)
      ⊢ iprop((iprop(Holds c (slotA arg12 k.val) D ∗ Holds c (slotA arg15 k.val) (upTo (codesB inv D) X 15))
          -∗ Q ⟨k0_pay55 v432 (chunk D 14) (chunk D 15), k0_pay56 v435 (chunk D 14) (chunk D 15), (Scalar.ofBits .f32 0x47600000#32), k0_pay57 inv (chunk D 15)⟩)
        -∗ wp frame (wpE defs₀ 𝒱 (c : Thread nD τ) bd) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v432 v435 (k0_pay50 inv (chunk D 13))) Q) := by
  rw [k0_part9_eq_skeleton]
  unfold k0_part9_skel
  iintro ⟨HD, HC⟩ Hk
  iapply (wp_loadRows (j := 13) (off27_eq k) (by decide)) $$ HC; iintro HC
  iapply (wp_storeRows (j := 13) (off27_eq k) (by decide) (chunk_codesB inv D 13 (by decide))) $$ HC; iintro HC
  iapply (wp_loadRows (j := 14) (off28_eq k) (by decide)) $$ HD; iintro HD
  iapply (wp_loadRows (j := 14) (off28_eq k) (by decide)) $$ HC; iintro HC
  iapply (wp_storeRows (j := 14) (off28_eq k) (by decide) (chunk_codesB inv D 14 (by decide))) $$ HC; iintro HC
  iapply (wp_loadRows (j := 15) (off29_eq k) (by decide)) $$ HD; iintro HD
  iapply (le_wp_ret frame (wpE defs₀ 𝒱 (c : Thread nD τ) bd))
  iapply Hk
  isplitl [HD]
  · iexact HD
  · iexact HC

theorem part10_spec (k : Fin k0_t1_loop.trips) (inv : FVec F S8x256 .f32) (D : S768x256.Idx → Elt F .bf16)
    (X : S768x256.Idx → Elt F .fp8e5m2) (v107 : BitVec 32) (v478 : FVec F S8x256 .f32) (v481 : FVec F S8x256 .f32) {Q} :
    (iprop(Holds c (slotA arg12 k.val) D ∗ Holds c (slotA arg15 k.val) (upTo (codesB inv D) X 15)) : sProp 𝕄)
      ⊢ iprop((iprop(Holds c (slotA arg12 k.val) D ∗ Holds c (slotA arg15 k.val) (upTo (codesB inv D) X 17))
          -∗ Q ⟨k0_pay62 v478 (chunk D 16) (chunk D 17), k0_pay63 v481 (chunk D 16) (chunk D 17), k0_pay64 inv (chunk D 17)⟩)
        -∗ wp frame (wpE defs₀ 𝒱 (c : Thread nD τ) bd) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v478 v481 (Scalar.ofBits .f32 0x47600000#32) (k0_pay57 inv (chunk D 15))) Q) := by
  rw [k0_part10_eq_skeleton]
  unfold k0_part10_skel
  iintro ⟨HD, HC⟩ Hk
  iapply (wp_loadRows (j := 15) (off29_eq k) (by decide)) $$ HC; iintro HC
  iapply (wp_storeRows (j := 15) (off29_eq k) (by decide) (chunk_codesB inv D 15 (by decide))) $$ HC; iintro HC
  iapply (wp_loadRows (j := 16) (off30_eq k) (by decide)) $$ HD; iintro HD
  iapply (wp_loadRows (j := 16) (off30_eq k) (by decide)) $$ HC; iintro HC
  iapply (wp_storeRows (j := 16) (off30_eq k) (by decide) (chunk_codesB inv D 16 (by decide))) $$ HC; iintro HC
  iapply (wp_loadRows (j := 17) (off31_eq k) (by decide)) $$ HD; iintro HD
  iapply (le_wp_ret frame (wpE defs₀ 𝒱 (c : Thread nD τ) bd))
  iapply Hk
  isplitl [HD]
  · iexact HD
  · iexact HC

theorem part11_spec (k : Fin k0_t1_loop.trips) (inv : FVec F S8x256 .f32) (D : S768x256.Idx → Elt F .bf16)
    (X : S768x256.Idx → Elt F .fp8e5m2) (v107 : BitVec 32) (v524 : FVec F S8x256 .f32) (v527 : FVec F S8x256 .f32) {Q} :
    (iprop(Holds c (slotA arg12 k.val) D ∗ Holds c (slotA arg15 k.val) (upTo (codesB inv D) X 17)) : sProp 𝕄)
      ⊢ iprop((iprop(Holds c (slotA arg12 k.val) D ∗ Holds c (slotA arg15 k.val) (upTo (codesB inv D) X 19))
          -∗ Q ⟨k0_pay67 v527 (chunk D 18), k0_pay69 (chunk D 19), k0_pay70 v524 (chunk D 18) (chunk D 19), k0_pay71 (chunk D 19)⟩)
        -∗ wp frame (wpE defs₀ 𝒱 (c : Thread nD τ) bd) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v524 v527 (k0_pay64 inv (chunk D 17))) Q) := by
  rw [k0_part11_eq_skeleton]
  unfold k0_part11_skel
  iintro ⟨HD, HC⟩ Hk
  iapply (wp_loadRows (j := 17) (off31_eq k) (by decide)) $$ HC; iintro HC
  iapply (wp_storeRows (j := 17) (off31_eq k) (by decide) (chunk_codesB inv D 17 (by decide))) $$ HC; iintro HC
  iapply (wp_loadRows (j := 18) (off32_eq k) (by decide)) $$ HD; iintro HD
  iapply (wp_loadRows (j := 18) (off32_eq k) (by decide)) $$ HC; iintro HC
  iapply (wp_storeRows (j := 18) (off32_eq k) (by decide) (chunk_codesB inv D 18 (by decide))) $$ HC; iintro HC
  iapply (wp_loadRows (j := 19) (off33_eq k) (by decide)) $$ HD; iintro HD
  iapply (le_wp_ret frame (wpE defs₀ 𝒱 (c : Thread nD τ) bd))
  iapply Hk
  isplitl [HD]
  · iexact HD
  · iexact HC

theorem part12_spec (k : Fin k0_t1_loop.trips) (inv : FVec F S8x256 .f32) (D : S768x256.Idx → Elt F .bf16)
    (X : S768x256.Idx → Elt F .fp8e5m2) (v107 : BitVec 32) (v550 : FVec F S8x256 .f32) (v570 : FVec F S8x256 .f32) {Q} :
    (iprop(Holds c (slotA arg12 k.val) D ∗ Holds c (slotA arg15 k.val) (upTo (codesB inv D) X 19)) : sProp 𝕄)
      ⊢ iprop((iprop(Holds c (slotA arg12 k.val) D ∗ Holds c (slotA arg15 k.val) (upTo (codesB inv D) X 21))
          -∗ Q ⟨k0_pay74 v570 (chunk D 20), k0_pay75 v550 (k0_pay71 (chunk D 19)) (chunk D 20), k0_pay77 (chunk D 21), k0_pay78 (chunk D 21)⟩)
        -∗ wp frame (wpE defs₀ 𝒱 (c : Thread nD τ) bd) Set.univ (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v550 (k0_pay69 (chunk D 19)) v570 (k0_pay71 (chunk D 19))) Q) := by
  rw [k0_part12_eq_skeleton]
  unfold k0_part12_skel
  iintro ⟨HD, HC⟩ Hk
  iapply (wp_loadRows (j := 19) (off33_eq k) (by decide)) $$ HC; iintro HC
  iapply (wp_storeRows (j := 19) (off33_eq k) (by decide) (chunk_codesB inv D 19 (by decide))) $$ HC; iintro HC
  iapply (wp_loadRows (j := 20) (off34_eq k) (by decide)) $$ HD; iintro HD
  iapply (wp_loadRows (j := 20) (off34_eq k) (by decide)) $$ HC; iintro HC
  iapply (wp_storeRows (j := 20) (off34_eq k) (by decide) (chunk_codesB inv D 20 (by decide))) $$ HC; iintro HC
  iapply (wp_loadRows (j := 21) (off35_eq k) (by decide)) $$ HD; iintro HD
  iapply (le_wp_ret frame (wpE defs₀ 𝒱 (c : Thread nD τ) bd))
  iapply Hk
  isplitl [HD]
  · iexact HD
  · iexact HC

theorem part13_spec (k : Fin k0_t1_loop.trips) (inv : FVec F S8x256 .f32) (D : S768x256.Idx → Elt F .bf16)
    (X : S768x256.Idx → Elt F .fp8e5m2) (v107 : BitVec 32) (v593 : FVec F S8x256 .f32) (v596 : FVec F S8x256 .f32) {Q} :
    (iprop(Holds c (slotA arg12 k.val) D ∗ Holds c (slotA arg15 k.val) (upTo (codesB inv D) X 21)) : sProp 𝕄)
      ⊢ iprop((iprop(Holds c (slotA arg12 k.val) D ∗ Holds c (slotA arg15 k.val) (upTo (codesB inv D) X 23))
          -∗ Q ⟨k0_pay81 v593 (k0_pay78 (chunk D 21)) (chunk D 22), k0_pay82 v596 (k0_pay77 (chunk D 21)) (chunk D 22), k0_pay84 (chunk D 23)⟩)
        -∗ wp frame (wpE defs₀ 𝒱 (c : Thread nD τ) bd) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 inv k v107 v593 v596 (k0_pay77 (chunk D 21)) (k0_pay78 (chunk D 21))) Q) := by
  rw [k0_part13_eq_skeleton]
  unfold k0_part13_skel
  iintro ⟨HD, HC⟩ Hk
  iapply (wp_loadRows (j := 21) (off35_eq k) (by decide)) $$ HC; iintro HC
  iapply (wp_storeRows (j := 21) (off35_eq k) (by decide) (chunk_codesB inv D 21 (by decide))) $$ HC; iintro HC
  iapply (wp_loadRows (j := 22) (off36_eq k) (by decide)) $$ HD; iintro HD
  iapply (wp_loadRows (j := 22) (off36_eq k) (by decide)) $$ HC; iintro HC
  iapply (wp_storeRows (j := 22) (off36_eq k) (by decide) (chunk_codesB inv D 22 (by decide))) $$ HC; iintro HC
  iapply (wp_loadRows (j := 23) (off37_eq k) (by decide)) $$ HD; iintro HD
  iapply (le_wp_ret frame (wpE defs₀ 𝒱 (c : Thread nD τ) bd))
  iapply Hk
  isplitl [HD]
  · iexact HD
  · iexact HC

end Cert.KernelIdeal.Hand
-- ==== Proof.KILoop.lean ====
/-
  One trip of the kernel's loop: what holds before a trip holds, one block further, after it.
-/
module

public import proofs.«01_k».proof.Proof.KITripEnd
public import proofs.«01_k».proof.Proof.KIChunks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

/-- The codes of block `n`. -/
abbrev codesN (c : Dev nD) (arg3 : Memref sig .tc .hbm S768x8960 .bf16) (f3 : Buf (Elt F) (arg3.view.loc (c : Thread nD τ)))
    (v72 : F .f32) (n : ℕ) : S768x256.Idx → Elt F .fp8e5m2 := codesB (k0_pay96 v72) (dyB c arg3 f3 n)
/-- The rows of the new master gradient that block `n` makes. -/
abbrev mgoN (c : Dev nD) (arg3 : Memref sig .tc .hbm S768x8960 .bf16) (f3 : Buf (Elt F) (arg3.view.loc (c : Thread nD τ)))
    (arg4 : Memref sig .tc .hbm S768x1536 .fp8e4m3) (f4 : Buf (Elt F) (arg4.view.loc (c : Thread nD τ)))
    (arg6 : Memref sig .tc .hbm S8960x1536 .f32) (f6 : Buf (Elt F) (arg6.view.loc (c : Thread nD τ)))
    (v72 v76 : F .f32) (n : ℕ) : S256x1536.Idx → Elt F .f32 :=
  mgoB v72 v76 (dyB c arg3 f3 n) (mgB c arg6 f6 n) (arg4.view.read (Elt F) f4)

section rings
variable (c)
variable (arg3 : Memref sig .tc .hbm S768x8960 .bf16) (arg5 : Memref sig .tc .hbm S8960x1536 .fp8e4m3)
variable (arg6 arg8 : Memref sig .tc .hbm S8960x1536 .f32) (arg11 : Memref sig .tc .hbm S768x8960 .fp8e5m2)
variable (arg12 : Memref sig .tc .vmem S6x768x256 .bf16) (arg13 : Memref sig .tc .vmem S6x256x1536 .fp8e4m3)
variable (arg14 : Memref sig .tc .vmem S6x256x1536 .f32) (arg15 : Memref sig .tc .vmem S6x768x256 .fp8e5m2)
variable (arg20 arg21 arg22 arg23 arg24 : DmaSems sig S6)
variable (f3 : Buf (Elt F) (arg3.view.loc (c : Thread nD τ))) (f5 : Buf (Elt F) (arg5.view.loc (c : Thread nD τ)))
variable (f6 : Buf (Elt F) (arg6.view.loc (c : Thread nD τ)))
variable (C : ℕ → S768x256.Idx → Elt F .fp8e5m2) (M : ℕ → S256x1536.Idx → Elt F .f32)

/-- The gradient's six slots before trip `i`: four blocks on their way in. -/
def DyRing (i : ℕ) : sProp 𝕄 := iprop(DyRead c arg3 arg12 arg20 f3 i ∗ DyRead c arg3 arg12 arg20 f3 (i + 1)
  ∗ DyRead c arg3 arg12 arg20 f3 (i + 2) ∗ DyRead c arg3 arg12 arg20 f3 (i + 3)
  ∗ DyFree c arg3 arg12 arg20 f3 (i + 4) ∗ DyFree c arg3 arg12 arg20 f3 (i + 5))
/-- The weights' six slots before trip `i`. -/
def WRing (i : ℕ) : sProp 𝕄 := iprop(WRead c arg5 arg13 arg21 f5 i ∗ WRead c arg5 arg13 arg21 f5 (i + 1)
  ∗ WRead c arg5 arg13 arg21 f5 (i + 2) ∗ WRead c arg5 arg13 arg21 f5 (i + 3)
  ∗ WFree c arg5 arg13 arg21 f5 (i + 4) ∗ WFree c arg5 arg13 arg21 f5 (i + 5))
/-- The master gradient's six slots before trip `i`: four blocks on their way in, two on their way out. -/
def MgRing (i : ℕ) : sProp 𝕄 := iprop(MgRead c arg6 arg14 arg22 arg23 f6 i ∗ MgRead c arg6 arg14 arg22 arg23 f6 (i + 1)
  ∗ MgRead c arg6 arg14 arg22 arg23 f6 (i + 2) ∗ MgRead c arg6 arg14 arg22 arg23 f6 (i + 3)
  ∗ MgW c arg6 arg8 arg14 arg22 arg23 f6 M i ∗ MgW c arg6 arg8 arg14 arg22 arg23 f6 M (i + 1))
/-- The codes' six slots before trip `i`: four at rest, two on their way out. -/
def CodesRing (i : ℕ) : sProp 𝕄 := iprop(CodesFree (F := F) c arg15 arg24 i ∗ CodesFree (F := F) c arg15 arg24 (i + 1)
  ∗ CodesFree (F := F) c arg15 arg24 (i + 2) ∗ CodesFree (F := F) c arg15 arg24 (i + 3)
  ∗ CodesW c arg11 arg15 arg24 C i ∗ CodesW c arg11 arg15 arg24 C (i + 1))
end rings

section inv
variable (c)
variable (arg2 : Memref sig .tc .smem S1 .f32)
variable (arg3 : Memref sig .tc .hbm S768x8960 .bf16) (arg4 : Memref sig .tc .hbm S768x1536 .fp8e4m3) (arg5 : Memref sig .tc .hbm S8960x1536 .fp8e4m3)
variable (arg6 : Memref sig .tc .hbm S8960x1536 .f32) (arg7 : Memref sig .tc .hbm S768x1536 .bf16) (arg8 : Memref sig .tc .hbm S8960x1536 .f32)
variable (arg9 : Memref sig .tc .vmem S70x128 .f32) (arg11 : Memref sig .tc .hbm S768x8960 .fp8e5m2)
variable (arg12 : Memref sig .tc .vmem S6x768x256 .bf16) (arg13 : Memref sig .tc .vmem S6x256x1536 .fp8e4m3)
variable (arg14 : Memref sig .tc .vmem S6x256x1536 .f32) (arg15 : Memref sig .tc .vmem S6x768x256 .fp8e5m2)
variable (arg16 : Memref sig .tc .vmem S768x1536 .fp8e4m3) (arg17 : Memref sig .tc .vmem S768x1536 .f32)
variable (arg18 : Memref sig .tc .vmem S768x1536 .bf16) (arg19 : Memref sig .tc .vmem S8x256 .f32)
variable (arg20 arg21 arg22 arg23 arg24 : DmaSems sig S6) (arg25 arg26 : DmaSems sig S_)
variable (f3 : Buf (Elt F) (arg3.view.loc (c : Thread nD τ))) (f4 : Buf (Elt F) (arg4.view.loc (c : Thread nD τ)))
variable (f5 : Buf (Elt F) (arg5.view.loc (c : Thread nD τ))) (f6 : Buf (Elt F) (arg6.view.loc (c : Thread nD τ)))
variable (G8 : Buf (Elt F) (arg8.view.loc (c : Thread nD τ))) (G11 : Buf (Elt F) (arg11.view.loc (c : Thread nD τ)))

/-- What holds before trip `i`. -/
def Inv (v72 v76 : F .f32) (s2 : S1.Idx → Elt F .f32) (Z : S70x128.Idx → Elt F .f32) (dx : S768x1536.Idx → Elt F .bf16) (i : ℕ) : sProp 𝕄 :=
  iprop(DyRing c arg3 arg12 arg20 f3 i ∗ WRing c arg5 arg13 arg21 f5 i
    ∗ MgRing c arg6 arg8 arg14 arg22 arg23 f6 (mgoN c arg3 f3 arg4 f4 arg6 f6 v72 v76) i
    ∗ CodesRing c arg11 arg15 arg24 (codesN c arg3 f3 v72) i
    ∗ Rest c arg11 1 (256 * i) ∗ Done c arg11 1 (256 * (i - 2)) G11
    ∗ Rest c arg8 0 (256 * i) ∗ Done c arg8 0 (256 * (i - 2)) G8
    ∗ XAt c arg4 arg16 arg25 f4 i ∗ DxAt c arg7 arg18 arg26 dx i
    ∗ Holds c arg17 (accV (k0_pay96 v72) (dyB c arg3 f3) (wB c arg5 f5) i)
    ∗ Holds c arg19 (amaxV (dyB c arg3 f3) i) ∗ Holds c arg9 (biasBuf (dyB c arg3 f3) Z i)
    ∗ Holds c arg2 s2 ∗ Owes c)
end inv

theorem wp_bindI {α β : Type} {p : Prog (TpuEff nD τ sig (Elt F) Λ₀ .tc) α} {kk : α → Prog (TpuEff nD τ sig (Elt F) Λ₀ .tc) β}
    {Q : β → sProp (MT nD τ sig Unit (Elt F) ℕ (Pipeline.UD sig nD τ) ℕ)} :
    wp frame (wpE defs₀ 𝒱 (c : Thread nD τ) bd) Set.univ p (fun a => wp frame (wpE defs₀ 𝒱 (c : Thread nD τ) bd) Set.univ (kk a) Q)
      ⊢ wp frame (wpE defs₀ 𝒱 (c : Thread nD τ) bd) Set.univ (p >>= kk) Q := by
  rw [wp_bind]

/-- The slot of the codes before its first rows are written. -/
theorem codes_start {b : ℕ} {Cn : S768x256.Idx → Elt F .fp8e5m2} {X : S768x256.Idx → Elt F .fp8e5m2} :
    (Holds c (slotA arg15 b) X : sProp 𝕄) ⊢ Holds c (slotA arg15 b) (upTo Cn X 0) := by
  rw [upTo_zero]

theorem xAt_succ {i : ℕ} : (XHeld c arg4 arg16 arg25 f4 : sProp 𝕄) ⊢ XAt c arg4 arg16 arg25 f4 (i + 1) := by
  unfold XAt; rw [if_neg (by omega)]

theorem mgW_in {M : ℕ → S256x1536.Idx → Elt F .f32} {i : ℕ} :
    (iprop(Putting c (slotB arg14 i) (rowBlk arg8 i) (cell arg23 i) (M i) ∗ Idle c (cell arg22 i) ∗ Tok c (rowBlk arg6 i) (qs i) f6) : sProp 𝕄)
      ⊢ MgW c arg6 arg8 arg14 arg22 arg23 f6 M (i + 2) := by
  rw [mgW_out]
theorem codesW_in {C : ℕ → S768x256.Idx → Elt F .fp8e5m2} {i : ℕ} :
    (Lending c (slotA arg15 i) (colBlk arg11 i) (cell arg24 i) (C i) : sProp 𝕄) ⊢ CodesW c arg11 arg15 arg24 C (i + 2) := by
  rw [codesW_out]
theorem dyFree_in {b : ℕ} : (DyFree c arg3 arg12 arg20 f3 b : sProp 𝕄) ⊢ DyFree c arg3 arg12 arg20 f3 (b + 6) := by rw [dyFree_add]
theorem wFree_in {b : ℕ} : (WFree c arg5 arg13 arg21 f5 b : sProp 𝕄) ⊢ WFree c arg5 arg13 arg21 f5 (b + 6) := by rw [wFree_add]

set_option maxHeartbeats 4000000 in
/-- One trip takes what holds before it to what holds before the next. -/
theorem trip (k : Fin k0_t1_loop.trips) (v72 v76 : F .f32) (s2 : S1.Idx → Elt F .f32) (Z : S70x128.Idx → Elt F .f32)
    (hG11 : ∀ n < 35, (colBlk arg11 n).view.read (Elt F) G11 = codesN c arg3 f3 v72 n)
    (hG8 : ∀ n < 35, (rowBlk arg8 n).view.read (Elt F) G8 = mgoN c arg3 f3 arg4 f4 arg6 f6 v72 v76 n)
    (dx : S768x1536.Idx → Elt F .bf16) (hdx : k0_pay92 v72 (accV (k0_pay96 v72) (dyB c arg3 f3) (wB c arg5 f5) 35) (one s2) = dx) :
    Inv c arg2 arg3 arg4 arg5 arg6 arg7 arg8 arg9 arg11 arg12 arg13 arg14 arg15 arg16 arg17 arg18 arg19 arg20 arg21 arg22 arg23 arg24 arg25 arg26 f3 f4 f5 f6 G8 G11 v72 v76 s2 Z dx k.val
      ⊢ wp frame (wpE defs₀ 𝒱 (c : Thread nD τ) bd) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26 v72 v76 k ())
        (fun _ => Inv c arg2 arg3 arg4 arg5 arg6 arg7 arg8 arg9 arg11 arg12 arg13 arg14 arg15 arg16 arg17 arg18 arg19 arg20 arg21 arg22 arg23 arg24 arg25 arg26 f3 f4 f5 f6 G8 G11 v72 v76 s2 Z dx (k.val + 1)) := by
  have hk := trip_lt k
  unfold k0_t1_body
  unfold Inv DyRing WRing MgRing CodesRing
  iintro ⟨⟨HD0, HD1, HD2, HD3, HD4, HD5⟩, ⟨HW0, HW1, HW2, HW3, HW4, HW5⟩, ⟨HM0, HM1, HM2, HM3, HM4, HM5⟩, ⟨HC0, HC1, HC2, HC3, HC4, HC5⟩,
    HR11, HG11, HR8, HG8, HX, HDx, H17, H19, H9, H2, HO⟩
  dsimp only
  iapply wp_bindI
  iapply (part1_spec (C := codesN c arg3 f3 v72) (M := mgoN c arg3 f3 arg4 f4 arg6 f6 v72 v76) (f3 := f3) (f5 := f5) (f6 := f6) (G8 := G8) (G11 := G11)
    k (k0_pay96 v72) (amaxV (dyB c arg3 f3) k.val) 0#32 1#32 hG11 hG8) $$ [HC4 HG11 HM4 HG8 HO HD4 HW4 HD0 H19]
  · isplitl [HC4]; · iexact HC4
    isplitl [HG11]; · iexact HG11
    isplitl [HM4]; · iexact HM4
    isplitl [HG8]; · iexact HG8
    isplitl [HO]; · iexact HO
    isplitl [HD4]; · iexact HD4
    isplitl [HW4]; · iexact HW4
    isplitl [HD0]; · iexact HD0
    iexact H19
  iintro ⟨HC4, HG11, HG8, HO, HD4, HW4, HM4, HD, Hv20, HT3, H19⟩
  unfold CodesFree
  icases HC0 with ⟨HC, Hv24⟩
  icases (own_holds) $$ HC with ⟨%X, HC⟩
  ihave HC := (codes_start (Cn := codesB (k0_pay96 v72) (dyB c arg3 f3 k.val))) $$ HC
  iapply wp_bindI
  iapply (part2_spec k (k0_pay96 v72) (dyB c arg3 f3 k.val) X _ _ _) $$ [HD HC]
  · isplitl [HD] <;> iassumption
  iintro ⟨HD, HC⟩
  iapply wp_bindI
  iapply (part3_spec k (k0_pay96 v72) (dyB c arg3 f3 k.val) X _ _ _) $$ [HD HC]
  · isplitl [HD] <;> iassumption
  iintro ⟨HD, HC⟩
  iapply wp_bindI
  iapply (part4_spec k (k0_pay96 v72) (dyB c arg3 f3 k.val) X _ _ _) $$ [HD HC]
  · isplitl [HD] <;> iassumption
  iintro ⟨HD, HC⟩
  iapply wp_bindI
  iapply (part5_spec k (k0_pay96 v72) (dyB c arg3 f3 k.val) X _ _ _) $$ [HD HC]
  · isplitl [HD] <;> iassumption
  iintro ⟨HD, HC⟩
  iapply wp_bindI
  iapply (part6_spec k (k0_pay96 v72) (dyB c arg3 f3 k.val) X _ _ _) $$ [HD HC]
  · isplitl [HD] <;> iassumption
  iintro ⟨HD, HC⟩
  iapply wp_bindI
  iapply (part7_spec k (k0_pay96 v72) (dyB c arg3 f3 k.val) X _ _ _) $$ [HD HC]
  · isplitl [HD] <;> iassumption
  iintro ⟨HD, HC⟩
  iapply wp_bindI
  iapply (part8_spec k (k0_pay96 v72) (dyB c arg3 f3 k.val) X _ _ _ _) $$ [HD HC]
  · isplitl [HD] <;> iassumption
  iintro ⟨HD, HC⟩
  iapply wp_bindI
  iapply (part9_spec k (k0_pay96 v72) (dyB c arg3 f3 k.val) X _ _ _) $$ [HD HC]
  · isplitl [HD] <;> iassumption
  iintro ⟨HD, HC⟩
  iapply wp_bindI
  iapply (part10_spec k (k0_pay96 v72) (dyB c arg3 f3 k.val) X _ _ _) $$ [HD HC]
  · isplitl [HD] <;> iassumption
  iintro ⟨HD, HC⟩
  iapply wp_bindI
  iapply (part11_spec k (k0_pay96 v72) (dyB c arg3 f3 k.val) X _ _ _) $$ [HD HC]
  · isplitl [HD] <;> iassumption
  iintro ⟨HD, HC⟩
  iapply wp_bindI
  iapply (part12_spec k (k0_pay96 v72) (dyB c arg3 f3 k.val) X _ _ _) $$ [HD HC]
  · isplitl [HD] <;> iassumption
  iintro ⟨HD, HC⟩
  iapply wp_bindI
  iapply (part13_spec k (k0_pay96 v72) (dyB c arg3 f3 k.val) X _ _ _) $$ [HD HC]
  · isplitl [HD] <;> iassumption
  iintro ⟨HD, HC⟩
  iapply wp_bindI
  iapply (part14_spec k (k0_pay96 v72) (dyB c arg3 f3) X Z (amaxV (dyB c arg3 f3) k.val) _ _ _ _ rfl) $$ [HD HC H19 H9]
  · isplitl [HD]; · iexact HD
    isplitl [HC]; · iexact HC
    isplitl [H19]; · iexact H19
    iexact H9
  iintro ⟨HD, HC, H19, H9⟩
  dsimp only
  iapply wp_bindI
  iapply (part15_spec (f4 := f4) (f5 := f5) (f6 := f6) k (codesN c arg3 f3 v72 k.val) (accV (k0_pay96 v72) (dyB c arg3 f3) (wB c arg5 f5) k.val) v72 s2 dx _ ?hdx)
    $$ [HC Hv24 HR11 HO HW0 H17 HX H2 HDx HM0]
  case hdx =>
    intro h
    rw [← hdx]
    rw [h]; rfl
  · isplitl [HC]; · iexact HC
    isplitl [Hv24]; · iexact Hv24
    isplitl [HR11]; · iexact HR11
    isplitl [HO]; · iexact HO
    isplitl [HW0]; · iexact HW0
    isplitl [H17]; · iexact H17
    isplitl [HX]; · iexact HX
    isplitl [H2]; · iexact H2
    isplitl [HDx]; · iexact HDx
    iexact HM0
  iintro ⟨HC, HR11, HO, HW, H17, HX, H2, HDx, HM, Hv22, HT6, Hv23⟩
  unfold XHeld
  icases HX with ⟨HX, Hv25, HT4⟩
  icases (row_take hk) $$ HR8 with ⟨HB, HR8⟩
  iapply (wp_loadLentA (off41_eq k)) $$ HC; iintro HC
  iapply (wp_loadWhole (load_whole2 _)) $$ HX; iintro HX
  iapply (wp_loadB (off42_eq k)) $$ HM; iintro HM
  iapply (wp_storeB (off42_eq k)) $$ HM; iintro HM
  iapply (wp_put' (c := c) (S := slotB arg14 k.val) (B := rowBlk arg8 k.val) (sm := cell arg23 k.val) (slotB_of arg14 (off39_eq k) _)
    (rowBlk_of arg8 (off40_eq k) hk _) (cell_of arg23 (off11_eq k) _) posB) $$ [HM Hv23 HB]
  · isplitl [HM]; · iexact HM
    isplitl [Hv23]; · iexact Hv23
    iexact HB
  iintro HP
  iapply (le_wp_ret frame (wpE defs₀ 𝒱 (c : Thread nD τ) bd))
  isplitl [HD1 HD2 HD3 HD4 HD5 HD Hv20 HT3]
  · isplitl [HD1]; · iexact HD1
    isplitl [HD2]; · iexact HD2
    isplitl [HD3]; · iexact HD3
    isplitl [HD4]; · iexact HD4
    isplitl [HD5]; · iexact HD5
    iapply dyFree_in
    unfold DyFree
    isplitl [HD]; · iapply Holds.own $$ HD
    isplitl [Hv20]; · iexact Hv20
    iexact HT3
  isplitl [HW1 HW2 HW3 HW4 HW5 HW]
  · isplitl [HW1]; · iexact HW1
    isplitl [HW2]; · iexact HW2
    isplitl [HW3]; · iexact HW3
    isplitl [HW4]; · iexact HW4
    isplitl [HW5]; · iexact HW5
    iapply wFree_in $$ HW
  isplitl [HM1 HM2 HM3 HM4 HM5 HP Hv22 HT6]
  · isplitl [HM1]; · iexact HM1
    isplitl [HM2]; · iexact HM2
    isplitl [HM3]; · iexact HM3
    isplitl [HM4]; · iexact HM4
    isplitl [HM5]; · iexact HM5
    iapply (mgW_in (M := mgoN c arg3 f3 arg4 f4 arg6 f6 v72 v76) (i := k.val))
    isplitl [HP]; · iexact HP
    isplitl [Hv22]; · iexact Hv22
    iexact HT6
  isplitl [HC1 HC2 HC3 HC4 HC5 HC]
  · isplitl [HC1]; · iexact HC1
    isplitl [HC2]; · iexact HC2
    isplitl [HC3]; · iexact HC3
    isplitl [HC4]; · iexact HC4
    isplitl [HC5]; · iexact HC5
    iapply (codesW_in (C := codesN c arg3 f3 v72) (i := k.val)) $$ HC
  isplitl [HR11]; · iexact HR11
  isplitl [HG11]; · iexact HG11
  isplitl [HR8]; · iexact HR8
  isplitl [HG8]; · iexact HG8
  isplitl [HX Hv25 HT4]
  · iapply xAt_succ
    unfold XHeld
    isplitl [HX]; · iexact HX
    isplitl [Hv25]; · iexact Hv25
    iexact HT4
  isplitl [HDx]; · iexact HDx
  isplitl [H17]; · iexact H17
  isplitl [H19]; · iexact H19
  isplitl [H9]; · iexact H9
  isplitl [H2]; · iexact H2
  iexact HO

end Cert.KernelIdeal.Hand
-- ==== Proof.KISix.lean ====
/-
  A ring of six slots as a whole: its buffer is its slots, its input array's share is six shares and a rest, and
  the ring at rest before the first trip and after the last.
-/
module

public import proofs.«01_k».proof.Proof.KILoop
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {c : Dev nD}

/-- One thing for each of a ring's six slots. -/
def six (P : ℕ → sProp 𝕄) : sProp 𝕄 := iprop(P 0 ∗ P 1 ∗ P 2 ∗ P 3 ∗ P 4 ∗ P 5)

theorem six_eq (P : ℕ → sProp (MT nD τ sig Unit (Elt F) ℕ (Pipeline.UD sig nD τ) ℕ)) : six P = bigSep (Finset.univ : Finset (Fin 6)) (fun b => P b.val) := by
  rw [bigSep_univ_eq_bigSepL [(0 : Fin 6), 1, 2, 3, 4, 5] (by decide) (by decide)]
  rfl

theorem six_mono {P Q : ℕ → sProp (MT nD τ sig Unit (Elt F) ℕ (Pipeline.UD sig nD τ) ℕ)} (h : ∀ b, P b ⊢ Q b) : six P ⊢ six Q :=
  BIClass.sep_mono (h 0) (BIClass.sep_mono (h 1) (BIClass.sep_mono (h 2) (BIClass.sep_mono (h 3) (BIClass.sep_mono (h 4) (h 5)))))

theorem six_sep {P Q : ℕ → sProp (MT nD τ sig Unit (Elt F) ℕ (Pipeline.UD sig nD τ) ℕ)} : iprop(six P ∗ six Q) ⊢ six (fun b => iprop(P b ∗ Q b)) := by
  unfold six
  iintro ⟨⟨P0, P1, P2, P3, P4, P5⟩, ⟨Q0, Q1, Q2, Q3, Q4, Q5⟩⟩
  isplitl [P0 Q0]
  · isplitl [P0] <;> iassumption
  isplitl [P1 Q1]
  · isplitl [P1] <;> iassumption
  isplitl [P2 Q2]
  · isplitl [P2] <;> iassumption
  isplitl [P3 Q3]
  · isplitl [P3] <;> iassumption
  isplitl [P4 Q4]
  · isplitl [P4] <;> iassumption
  isplitl [P5] <;> iassumption

theorem six_unsep {P Q : ℕ → sProp (MT nD τ sig Unit (Elt F) ℕ (Pipeline.UD sig nD τ) ℕ)} : six (fun b => iprop(P b ∗ Q b)) ⊢ iprop(six P ∗ six Q) := by
  unfold six
  iintro ⟨⟨P0, Q0⟩, ⟨P1, Q1⟩, ⟨P2, Q2⟩, ⟨P3, Q3⟩, ⟨P4, Q4⟩, ⟨P5, Q5⟩⟩
  isplitl [P0 P1 P2 P3 P4 P5]
  · isplitl [P0]; · iexact P0
    isplitl [P1]; · iexact P1
    isplitl [P2]; · iexact P2
    isplitl [P3]; · iexact P3
    isplitl [P4]; · iexact P4
    iexact P5
  isplitl [Q0]; · iexact Q0
  isplitl [Q1]; · iexact Q1
  isplitl [Q2]; · iexact Q2
  isplitl [Q3]; · iexact Q3
  isplitl [Q4]; · iexact Q4
  iexact Q5

/-- The slots' element sets are disjoint and make up the buffer's. -/
theorem ring_sets {sp : Space} {n a b : ℕ} {e : EltTy} (M : Memref sig .tc sp ⟨3, ![6, a, b]⟩ e) (R : ℕ → Finset (Shape.Idx ⟨3, ![6, a, b]⟩))
    (hR : ∀ n x, x ∈ R n ↔ (x 0).val = n % 6) (I : Fin 6 → Finset M.view.ty.Idx) (hI : ∀ i, I i = (R i.val).map M.view.emb) :
    (∀ i j : Fin 6, i ≠ j → Disjoint (I i) (I j)) ∧ (Finset.univ : Finset (Fin 6)).biUnion I = M.view.set := by
  obtain rfl : I = fun i => (R i.val).map M.view.emb := funext hI
  constructor
  · intro i j hij
    rw [Finset.disjoint_map, Finset.disjoint_left]
    intro x h1 h2
    rw [hR] at h1 h2
    exact hij (Fin.ext (by omega))
  · ext y
    simp only [Finset.mem_biUnion, Finset.mem_univ, true_and, Finset.mem_map]
    constructor
    · rintro ⟨i, x, -, rfl⟩
      exact Finset.mem_map_of_mem _ (Finset.mem_univ _)
    · intro hy
      obtain ⟨x, -, rfl⟩ := Finset.mem_map.mp hy
      refine ⟨⟨(x 0).val, (x 0).isLt⟩, x, ?_, rfl⟩
      rw [hR]
      have : (x 0).val < 6 := (x 0).isLt
      show (x 0).val = (x 0).val % 6
      omega

theorem mem_rectA (n : ℕ) (x : S6x768x256.Idx) : x ∈ (rectA n).set ↔ (x 0).val = n % 6 := by
  rw [Rect.mem_set_unit]
  constructor
  · intro h
    have := h 0
    change n % 6 ≤ (x 0).val ∧ (x 0).val < n % 6 + 1 at this
    omega
  · intro h a
    have h1 : (x 1).val < 768 := (x 1).isLt
    have h2 : (x 2).val < 256 := (x 2).isLt
    fin_cases a
    · show n % 6 ≤ (x 0).val ∧ (x 0).val < n % 6 + 1; omega
    · show 0 ≤ (x 1).val ∧ (x 1).val < 0 + 768; omega
    · show 0 ≤ (x 2).val ∧ (x 2).val < 0 + 256; omega
theorem mem_rectB (n : ℕ) (x : S6x256x1536.Idx) : x ∈ (rectB n).set ↔ (x 0).val = n % 6 := by
  rw [Rect.mem_set_unit]
  constructor
  · intro h
    have := h 0
    change n % 6 ≤ (x 0).val ∧ (x 0).val < n % 6 + 1 at this
    omega
  · intro h a
    have h1 : (x 1).val < 256 := (x 1).isLt
    have h2 : (x 2).val < 1536 := (x 2).isLt
    fin_cases a
    · show n % 6 ≤ (x 0).val ∧ (x 0).val < n % 6 + 1; omega
    · show 0 ≤ (x 1).val ∧ (x 1).val < 0 + 256; omega
    · show 0 ≤ (x 2).val ∧ (x 2).val < 0 + 1536; omega

/-- What is held on a set, cut into a family of six. -/
theorem own_cut {ℓ : Loc nD τ sig} {I : Fin 6 → Finset (Idx ℓ)} {S : Finset (Idx ℓ)} (hd : ∀ b b', b ≠ b' → Disjoint (I b) (I b'))
    (hS : Finset.univ.biUnion I = S) :
    (iprop(∃ f : Buf (Elt F) ℓ, (ℓ ↦[S]{fullShare} f)) : sProp 𝕄) ⊢ bigSep Finset.univ (fun b => iprop(∃ f : Buf (Elt F) ℓ, (ℓ ↦[I b]{fullShare} f))) := by
  iintro ⟨%f, H⟩
  have e3 : ∀ b, (ℓ ↦[I b]{fullShare} f : sProp 𝕄) ⊢ iprop(∃ f : Buf (Elt F) ℓ, (ℓ ↦[I b]{fullShare} f)) := by
    intro b
    iintro H
    iexists f
    iexact H
  have e2 : (ℓ ↦[S]{fullShare} f : sProp 𝕄) ⊢ bigSep Finset.univ (fun b => iprop(∃ f : Buf (Elt F) ℓ, (ℓ ↦[I b]{fullShare} f))) := by
    rw [Ring.pointsTo_sub_blocks I hd S hS f]
    exact bigSep_mono fun b _ => e3 b
  iapply e2 $$ H

theorem setsA {e : EltTy} (M : Memref sig .tc .vmem S6x768x256 e) :
    (∀ i j : Fin 6, i ≠ j → Disjoint (slotA M i.val).view.set (slotA M j.val).view.set)
      ∧ (Finset.univ : Finset (Fin 6)).biUnion (fun i => (slotA M i.val).view.set) = M.view.set := by
  exact ring_sets (n := 0) M (fun b => (rectA b).set) mem_rectA _ (fun i => part_set M (rectA i.val) (fun _ => rfl) _ _)
/-- A ring's buffer is its six slots. -/
theorem ringA_split {e : EltTy} {M : Memref sig .tc .vmem S6x768x256 e} : (Own c M : sProp 𝕄) ⊢ six (fun b => Own c (slotA M b)) := by
  rw [six_eq]
  exact own_cut (ℓ := M.view.loc (c : Thread nD τ)) (I := fun b => (slotA M b.val).view.set) (setsA M).1 (setsA M).2
theorem ringA_join {e : EltTy} {M : Memref sig .tc .vmem S6x768x256 e} : six (fun b => Own c (slotA M b)) ⊢ (Own c M : sProp 𝕄) := by
  rw [six_eq]
  exact Ring.pointsTo_sub_blocks_join_exists (ℓ := M.view.loc (c : Thread nD τ)) (fun b : Fin 6 => (slotA M b.val).view.set) (setsA M).1 M.view.set (setsA M).2 (q := fullShare) M.view.junk

theorem setsB {e : EltTy} (M : Memref sig .tc .vmem S6x256x1536 e) :
    (∀ i j : Fin 6, i ≠ j → Disjoint (slotB M i.val).view.set (slotB M j.val).view.set)
      ∧ (Finset.univ : Finset (Fin 6)).biUnion (fun i => (slotB M i.val).view.set) = M.view.set := by
  exact ring_sets (n := 0) M (fun b => (rectB b).set) mem_rectB _ (fun i => part_set M (rectB i.val) (fun _ => rfl) _ _)
/-- A ring's buffer is its six slots. -/
theorem ringB_split {e : EltTy} {M : Memref sig .tc .vmem S6x256x1536 e} : (Own c M : sProp 𝕄) ⊢ six (fun b => Own c (slotB M b)) := by
  rw [six_eq]
  exact own_cut (ℓ := M.view.loc (c : Thread nD τ)) (I := fun b => (slotB M b.val).view.set) (setsB M).1 (setsB M).2
theorem ringB_join {e : EltTy} {M : Memref sig .tc .vmem S6x256x1536 e} : six (fun b => Own c (slotB M b)) ⊢ (Own c M : sProp 𝕄) := by
  rw [six_eq]
  exact Ring.pointsTo_sub_blocks_join_exists (ℓ := M.view.loc (c : Thread nD τ)) (fun b : Fin 6 => (slotB M b.val).view.set) (setsB M).1 M.view.set (setsB M).2 (q := fullShare) M.view.junk

/-- The six cells of a ring count nothing. -/
def Cells (c : Dev nD) (a : DmaSems sig S6) : sProp 𝕄 := six (fun b => Idle c (cell a b))

/-- An input array's share is one for each slot, and a rest. -/
theorem toks_split {s : Shape} {e : EltTy} {B : Memref sig .tc .hbm s e} {f : Buf (Elt F) (B.view.loc (c : Thread nD τ))} :
    (Tok c B fullShare f : sProp 𝕄) ⊣⊢ iprop(Tok c B (Transfers.shareDrop fullShare 6) f ∗ six (fun b => Tok c B (qs b) f)) := by
  unfold Tok
  have h := Transfers.pointsTo_toks_range (Ix := Unit) (Val := Elt F) (Name := ℕ) (U := Pipeline.UD sig nD τ) (Lvl := ℕ)
    (ℓ := B.view.loc (c : Thread nD τ)) (S := Finset.univ) (f := f) fullShare 6
  rw [bigSep_eq_bigSepL_of_eq [0, 1, 2, 3, 4, 5] (by decide) (by decide)] at h
  exact h

end Cert.KernelIdeal.Hand
-- ==== Proof.KIStart.lean ====
/-
  The kernel before its loop and after it: the first copies in, the buffers set to zero; the last copies out.
-/
module

public import proofs.«01_k».proof.Proof.KISix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

section fetch
variable {α : Type} {Q : α → sProp (MT nD τ sig Unit (Elt F) ℕ (Pipeline.UD sig nD τ) ℕ)}

theorem dy_fetch {b : ℕ} (hb : b < 35) {B' : Memref sig .tc .hbm S768x256 .bf16} {D' : Memref sig .tc .vmem S768x256 .bf16} {sm' : DmaSem sig}
    {hsrc : B'.view.WordExact} {hdst : D'.view.WordExact} {hsem : (DmaTarget.here (nD := nD) (τ := τ) (p := .tc) D').Typed .hbm (.dma sm')}
    {k : PUnit → Prog (TpuEff nD τ sig (Elt F) Λ₀ .tc) α} (hB : B' = colBlk arg3 b) (hD : D' = slotA arg12 b) (hs : sm' = cell arg20 b) :
    (DyFree c arg3 arg12 arg20 f3 b : sProp 𝕄)
      ⊢ iprop((DyRead c arg3 arg12 arg20 f3 b -∗ wp frame (wpE defs₀ 𝒱 (c : Thread nD τ) bd) Set.univ (k ⟨⟩) Q)
          -∗ wp frame (wpE defs₀ 𝒱 (c : Thread nD τ) bd) Set.univ (.op (.enqueueDmaAs B' (.here D') .same (.dma sm') hsrc hdst hsem) k) Q) := by
  unfold DyFree DyRead
  rw [if_pos hb]
  iintro ⟨HS, Hv, HT⟩ Hk
  iapply (wp_fetch' (c := c) (B := colBlk arg3 b) (D := slotA arg12 b) (sm := cell arg20 b) (q := qs b) (fs := f3) hB hD hs posA) $$ [HS Hv HT]
  · isplitl [HS]; · iexact HS
    isplitl [Hv]; · iexact Hv
    iexact HT
  iintro HF
  iapply Hk
  iexact HF

theorem w_fetch {b : ℕ} (hb : b < 35) {B' : Memref sig .tc .hbm S256x1536 .fp8e4m3} {D' : Memref sig .tc .vmem S256x1536 .fp8e4m3} {sm' : DmaSem sig}
    {hsrc : B'.view.WordExact} {hdst : D'.view.WordExact} {hsem : (DmaTarget.here (nD := nD) (τ := τ) (p := .tc) D').Typed .hbm (.dma sm')}
    {k : PUnit → Prog (TpuEff nD τ sig (Elt F) Λ₀ .tc) α} (hB : B' = rowBlk arg5 b) (hD : D' = slotB arg13 b) (hs : sm' = cell arg21 b) :
    (WFree c arg5 arg13 arg21 f5 b : sProp 𝕄)
      ⊢ iprop((WRead c arg5 arg13 arg21 f5 b -∗ wp frame (wpE defs₀ 𝒱 (c : Thread nD τ) bd) Set.univ (k ⟨⟩) Q)
          -∗ wp frame (wpE defs₀ 𝒱 (c : Thread nD τ) bd) Set.univ (.op (.enqueueDmaAs B' (.here D') .same (.dma sm') hsrc hdst hsem) k) Q) := by
  unfold WFree WRead
  rw [if_pos hb]
  iintro ⟨HS, Hv, HT⟩ Hk
  iapply (wp_fetch' (c := c) (B := rowBlk arg5 b) (D := slotB arg13 b) (sm := cell arg21 b) (q := qs b) (fs := f5) hB hD hs posB) $$ [HS Hv HT]
  · isplitl [HS]; · iexact HS
    isplitl [Hv]; · iexact Hv
    iexact HT
  iintro HF
  iapply Hk
  iexact HF

theorem mg_fetch {b : ℕ} (hb : b < 35) {B' : Memref sig .tc .hbm S256x1536 .f32} {D' : Memref sig .tc .vmem S256x1536 .f32} {sm' : DmaSem sig}
    {hsrc : B'.view.WordExact} {hdst : D'.view.WordExact} {hsem : (DmaTarget.here (nD := nD) (τ := τ) (p := .tc) D').Typed .hbm (.dma sm')}
    {k : PUnit → Prog (TpuEff nD τ sig (Elt F) Λ₀ .tc) α} (hB : B' = rowBlk arg6 b) (hD : D' = slotB arg14 b) (hs : sm' = cell arg22 b) :
    (MgIdle c arg6 arg14 arg22 arg23 f6 b : sProp 𝕄)
      ⊢ iprop((MgRead c arg6 arg14 arg22 arg23 f6 b -∗ wp frame (wpE defs₀ 𝒱 (c : Thread nD τ) bd) Set.univ (k ⟨⟩) Q)
          -∗ wp frame (wpE defs₀ 𝒱 (c : Thread nD τ) bd) Set.univ (.op (.enqueueDmaAs B' (.here D') .same (.dma sm') hsrc hdst hsem) k) Q) := by
  unfold MgIdle MgRead
  rw [if_pos hb]
  iintro ⟨HS, Hv, HT, Hv2⟩ Hk
  iapply (wp_fetch' (c := c) (B := rowBlk arg6 b) (D := slotB arg14 b) (sm := cell arg22 b) (q := qs b) (fs := f6) hB hD hs posB) $$ [HS Hv HT]
  · isplitl [HS]; · iexact HS
    isplitl [Hv]; · iexact Hv
    iexact HT
  iintro HF
  iapply Hk
  isplitl [HF]; · iexact HF
  iexact Hv2

end fetch

/-- The activations' buffer before their copy in. -/
def XIdle (c : Dev nD) (arg4 : Memref sig .tc .hbm S768x1536 .fp8e4m3) (arg16 : Memref sig .tc .vmem S768x1536 .fp8e4m3) (arg25 : DmaSems sig S_)
    (f4 : Buf (Elt F) (arg4.view.loc (c : Thread nD τ))) : sProp 𝕄 := iprop(Own c arg16 ∗ Idle c arg25.sem ∗ Tok c arg4 fullShare f4)

/-- The first copies in. -/
theorem part16_spec {Q : PUnit → sProp (MT nD τ sig Unit (Elt F) ℕ (Pipeline.UD sig nD τ) ℕ)} :
    (iprop(DyFree c arg3 arg12 arg20 f3 0 ∗ WFree c arg5 arg13 arg21 f5 0 ∗ MgIdle c arg6 arg14 arg22 arg23 f6 0 ∗ XIdle c arg4 arg16 arg25 f4 ∗ DyFree c arg3 arg12 arg20 f3 1 ∗ WFree c arg5 arg13 arg21 f5 1) : sProp 𝕄)
      ⊢ iprop((iprop(DyRead c arg3 arg12 arg20 f3 0 ∗ WRead c arg5 arg13 arg21 f5 0 ∗ MgRead c arg6 arg14 arg22 arg23 f6 0 ∗ XAt c arg4 arg16 arg25 f4 0 ∗ DyRead c arg3 arg12 arg20 f3 1 ∗ WRead c arg5 arg13 arg21 f5 1) -∗ Q ⟨⟩)
          -∗ wp frame (wpE defs₀ 𝒱 (c : Thread nD τ) bd) Set.univ (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26) Q) := by
  rw [k0_part16_eq_skeleton]
  unfold k0_part16_skel XIdle
  iintro ⟨D0, W0, M0, ⟨H16, Hv, HT⟩, D1, W1⟩ Hk
  iapply (dy_fetch (b := 0) (by decide) (colBlk_of arg3 rfl (by decide) _) (slotA_of arg12 rfl _) (cell_of arg20 rfl _)) $$ D0; iintro D0
  iapply (w_fetch (b := 0) (by decide) (rowBlk_of arg5 rfl (by decide) _) (slotB_of arg13 rfl _) (cell_of arg21 rfl _)) $$ W0; iintro W0
  iapply (mg_fetch (b := 0) (by decide) (rowBlk_of arg6 rfl (by decide) _) (slotB_of arg14 rfl _) (cell_of arg22 rfl _)) $$ M0; iintro M0
  iapply (wp_fetch' (c := c) (B := arg4) (D := arg16) (sm := arg25.sem) (q := fullShare) (fs := f4) rfl rfl rfl posC) $$ [H16 Hv HT]
  · isplitl [H16]; · iexact H16
    isplitl [Hv]; · iexact Hv
    iexact HT
  iintro HX
  iapply (dy_fetch (b := 1) (by decide) (colBlk_of arg3 rfl (by decide) _) (slotA_of arg12 rfl _) (cell_of arg20 rfl _)) $$ D1; iintro D1
  iapply (w_fetch (b := 1) (by decide) (rowBlk_of arg5 rfl (by decide) _) (slotB_of arg13 rfl _) (cell_of arg21 rfl _)) $$ W1; iintro W1
  iapply (le_wp_ret frame (wpE defs₀ 𝒱 (c : Thread nD τ) bd))
  iapply Hk
  isplitl [D0]; · iexact D0
  isplitl [W0]; · iexact W0
  isplitl [M0]; · iexact M0
  isplitl [HX]; · unfold XAt; rw [if_pos rfl]; iexact HX
  isplitl [D1]; · iexact D1
  iexact W1

/-- The copies in of the next blocks. -/
theorem part17_spec {Q : PUnit → sProp (MT nD τ sig Unit (Elt F) ℕ (Pipeline.UD sig nD τ) ℕ)} :
    (iprop(MgIdle c arg6 arg14 arg22 arg23 f6 1 ∗ DyFree c arg3 arg12 arg20 f3 2 ∗ WFree c arg5 arg13 arg21 f5 2 ∗ MgIdle c arg6 arg14 arg22 arg23 f6 2 ∗ DyFree c arg3 arg12 arg20 f3 3) : sProp 𝕄)
      ⊢ iprop((iprop(MgRead c arg6 arg14 arg22 arg23 f6 1 ∗ DyRead c arg3 arg12 arg20 f3 2 ∗ WRead c arg5 arg13 arg21 f5 2 ∗ MgRead c arg6 arg14 arg22 arg23 f6 2 ∗ DyRead c arg3 arg12 arg20 f3 3) -∗ Q ⟨⟩)
          -∗ wp frame (wpE defs₀ 𝒱 (c : Thread nD τ) bd) Set.univ (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26) Q) := by
  rw [k0_part17_eq_skeleton]
  unfold k0_part17_skel
  iintro ⟨M1, D2, W2, M2, D3⟩ Hk
  iapply (mg_fetch (b := 1) (by decide) (rowBlk_of arg6 rfl (by decide) _) (slotB_of arg14 rfl _) (cell_of arg22 rfl _)) $$ M1; iintro M1
  iapply (dy_fetch (b := 2) (by decide) (colBlk_of arg3 rfl (by decide) _) (slotA_of arg12 rfl _) (cell_of arg20 rfl _)) $$ D2; iintro D2
  iapply (w_fetch (b := 2) (by decide) (rowBlk_of arg5 rfl (by decide) _) (slotB_of arg13 rfl _) (cell_of arg21 rfl _)) $$ W2; iintro W2
  iapply (mg_fetch (b := 2) (by decide) (rowBlk_of arg6 rfl (by decide) _) (slotB_of arg14 rfl _) (cell_of arg22 rfl _)) $$ M2; iintro M2
  iapply (dy_fetch (b := 3) (by decide) (colBlk_of arg3 rfl (by decide) _) (slotA_of arg12 rfl _) (cell_of arg20 rfl _)) $$ D3; iintro D3
  iapply (le_wp_ret frame (wpE defs₀ 𝒱 (c : Thread nD τ) bd))
  iapply Hk
  isplitl [M1]; · iexact M1
  isplitl [D2]; · iexact D2
  isplitl [W2]; · iexact W2
  isplitl [M2]; · iexact M2
  iexact D3

theorem acc_zero {inv : FVec F S8x256 .f32} {dy : ℕ → S768x256.Idx → Elt F .bf16} {w : ℕ → S256x1536.Idx → Elt F .fp8e4m3} :
    (Holds c arg17 (k0_pay94 (F := F)) : sProp 𝕄) ⊢ Holds c arg17 (accV inv dy w 0) := .rfl
theorem amax_zero {dy : ℕ → S768x256.Idx → Elt F .bf16} :
    (Holds c arg19 (k0_pay95 (F := F)) : sProp 𝕄) ⊢ Holds c arg19 (amaxV dy 0) := .rfl
theorem bias_zero {dy : ℕ → S768x256.Idx → Elt F .bf16} {Z : S70x128.Idx → Elt F .f32} :
    (Holds c arg9 Z : sProp 𝕄) ⊢ Holds c arg9 (biasBuf dy Z 0) := by
  rw [show biasBuf dy Z 0 = Z from by funext x; unfold biasBuf; rw [if_neg (by omega)]]

set_option maxHeartbeats 1000000 in
/-- The last of the first copies in, the sums set to zero, the scales read, and the loop. -/
theorem part18_spec (s0 s1 s2 : S1.Idx → Elt F .f32) (Z : S70x128.Idx → Elt F .f32)
    (hG11 : ∀ n < 35, (colBlk arg11 n).view.read (Elt F) G11 = codesN c arg3 f3 (one s0) n)
    (hG8 : ∀ n < 35, (rowBlk arg8 n).view.read (Elt F) G8 = mgoN c arg3 f3 arg4 f4 arg6 f6 (one s0) (one s1) n)
    (dx : S768x1536.Idx → Elt F .bf16) (hdx : k0_pay92 (one s0) (accV (k0_pay96 (one s0)) (dyB c arg3 f3) (wB c arg5 f5) 35) (one s2) = dx)
    {Q : F .f32 → sProp (MT nD τ sig Unit (Elt F) ℕ (Pipeline.UD sig nD τ) ℕ)} :
    (iprop((Holds c arg0 s0 ∗ Holds c arg1 s1 ∗ Holds c arg2 s2 ∗ Holds c arg9 Z ∗ Own c arg17 ∗ Own c arg19 ∗ Owes c)
      ∗ (DyRead c arg3 arg12 arg20 f3 0 ∗ DyRead c arg3 arg12 arg20 f3 1 ∗ DyRead c arg3 arg12 arg20 f3 2 ∗ DyRead c arg3 arg12 arg20 f3 3 ∗ DyFree c arg3 arg12 arg20 f3 4 ∗ DyFree c arg3 arg12 arg20 f3 5)
      ∗ (WRead c arg5 arg13 arg21 f5 0 ∗ WRead c arg5 arg13 arg21 f5 1 ∗ WRead c arg5 arg13 arg21 f5 2 ∗ WFree c arg5 arg13 arg21 f5 3 ∗ WFree c arg5 arg13 arg21 f5 4 ∗ WFree c arg5 arg13 arg21 f5 5)
      ∗ (MgRead c arg6 arg14 arg22 arg23 f6 0 ∗ MgRead c arg6 arg14 arg22 arg23 f6 1 ∗ MgRead c arg6 arg14 arg22 arg23 f6 2 ∗ MgIdle c arg6 arg14 arg22 arg23 f6 3 ∗ MgIdle c arg6 arg14 arg22 arg23 f6 4 ∗ MgIdle c arg6 arg14 arg22 arg23 f6 5)
      ∗ six (CodesFree (F := F) c arg15 arg24) ∗ Own c arg11 ∗ Own c arg8 ∗ XAt c arg4 arg16 arg25 f4 0 ∗ Own c arg18 ∗ Own c arg7 ∗ Idle c arg26.sem) : sProp 𝕄)
      ⊢ iprop((iprop(Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx 35 ∗ Holds c arg0 s0 ∗ Holds c arg1 s1) -∗ Q (k0_pay98 (amaxV (dyB c arg3 f3) 35)))
          -∗ wp frame (wpE defs₀ 𝒱 (c : Thread nD τ) bd) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26) Q) := by
  rw [k0_part18_eq_skeleton]
  unfold k0_part18_skel
  iintro ⟨⟨H0, H1, H2, H9, H17, H19, HO⟩, ⟨D0, D1, D2, D3, D4, D5⟩, ⟨W0, W1, W2, W3, W4, W5⟩, ⟨M0, M1, M2, M3, M4, M5⟩, HC, H11, H8, HX, H18, H7, Hv⟩ Hk
  iapply (w_fetch (b := 3) (by decide) (rowBlk_of arg5 rfl (by decide) _) (slotB_of arg13 rfl _) (cell_of arg21 rfl _)) $$ W3; iintro W3
  iapply (mg_fetch (b := 3) (by decide) (rowBlk_of arg6 rfl (by decide) _) (slotB_of arg14 rfl _) (cell_of arg22 rfl _)) $$ M3; iintro M3
  icases (own_holds) $$ H17 with ⟨%X17, H17⟩
  icases (own_holds) $$ H19 with ⟨%X19, H19⟩
  iapply (wp_loadWhole rfl) $$ H17; iintro H17
  iapply (wp_storeAll) $$ H17; iintro H17
  iapply (wp_loadWhole rfl) $$ H19; iintro H19
  iapply (wp_storeAll) $$ H19; iintro H19
  iapply (wp_loadWhole (load_whole2 s0)) $$ H0; iintro H0
  iapply (wp_loadWhole (load_whole2 s1)) $$ H1; iintro H1
  ihave H17 := (acc_zero (inv := k0_pay96 (one s0)) (dy := dyB c arg3 f3) (w := wB c arg5 f5)) $$ H17
  ihave H19 := (amax_zero (dy := dyB c arg3 f3)) $$ H19
  ihave H9 := (bias_zero (dy := dyB c arg3 f3)) $$ H9
  ihave H11 := (rest_zero (a := 1)) $$ H11
  ihave H8 := (rest_zero (a := 0)) $$ H8
  unfold six
  icases HC with ⟨C0, C1, C2, C3, C4, C5⟩
  iapply (Scf.wp_for_bind frame (wpE (defs₀ (F := F)) 𝒱 (c : Thread nD τ) bd) Set.univ _ _ _ k0_t1_ok _ _
    (fun i _ => Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx i) (fun k _ => trip k (one s0) (one s1) s2 Z hG11 hG8 dx hdx)) $$ [D0 D1 D2 D3 D4 D5 W0 W1 W2 W3 W4 W5 M0 M1 M2 M3 M4 M5 C0 C1 C2 C3 C4 C5 H11 H8 HX H18 H7 Hv H17 H19 H9 H2 HO]
  · unfold Inv DyRing WRing MgRing CodesRing
    isplitl [D0 D1 D2 D3 D4 D5]
    · isplitl [D0]; · iexact D0
      isplitl [D1]; · iexact D1
      isplitl [D2]; · iexact D2
      isplitl [D3]; · iexact D3
      isplitl [D4]; · iexact D4
      iexact D5
    isplitl [W0 W1 W2 W3 W4 W5]
    · isplitl [W0]; · iexact W0
      isplitl [W1]; · iexact W1
      isplitl [W2]; · iexact W2
      isplitl [W3]; · iexact W3
      isplitl [W4]; · iexact W4
      iexact W5
    isplitl [M0 M1 M2 M3 M4 M5]
    · isplitl [M0]; · iexact M0
      isplitl [M1]; · iexact M1
      isplitl [M2]; · iexact M2
      isplitl [M3]; · iexact M3
      isplitl [M4]; · unfold MgW; rw [if_neg (by omega)]; iexact M4
      unfold MgW; rw [if_neg (by omega)]; iexact M5
    isplitl [C0 C1 C2 C3 C4 C5]
    · isplitl [C0]; · iexact C0
      isplitl [C1]; · iexact C1
      isplitl [C2]; · iexact C2
      isplitl [C3]; · iexact C3
      isplitl [C4]; · unfold CodesW; rw [if_neg (by omega)]; iexact C4
      unfold CodesW; rw [if_neg (by omega)]; iexact C5
    isplitl [H11]; · iexact H11
    isplitl []; · iapply done_zero; itrivial
    isplitl [H8]; · iexact H8
    isplitl []; · iapply done_zero; itrivial
    isplitl [HX]; · iexact HX
    isplitl [H18 H7 Hv]
    · unfold DxAt
      rw [if_neg (by omega)]
      isplitl [H18]; · iexact H18
      isplitl [H7]; · iexact H7
      iexact Hv
    isplitl [H17]; · iexact H17
    isplitl [H19]; · iexact H19
    isplitl [H9]; · iexact H9
    isplitl [H2]; · iexact H2
    iexact HO
  iintro %acc HI
  have e : Scf.trips k0_t1_loop.lb k0_t1_loop.ub k0_t1_loop.st = 35 := trips_eq
  have e' : Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx (Scf.trips k0_t1_loop.lb k0_t1_loop.ub k0_t1_loop.st) ⊢ Inv c arg2 arg3 arg4 arg5 arg6 arg7 arg8 arg9 arg11 arg12 arg13 arg14 arg15 arg16 arg17 arg18 arg19 arg20 arg21 arg22 arg23 arg24 arg25 arg26 f3 f4 f5 f6 G8 G11 (one s0) (one s1) s2 Z dx 35 := by rw [e]
  ihave HI := e' $$ HI
  unfold Inv
  icases HI with ⟨A1, A2, A3, A4, A5, A6, A7, A8, A9, A10, A11, H19, A13⟩
  iapply (wp_loadWhole (load_whole2 _)) $$ H19; iintro H19
  iapply (le_wp_ret frame (wpE defs₀ 𝒱 (c : Thread nD τ) bd))
  iapply Hk
  isplitr [H0 H1]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [H19]; · iexact H19
    iexact A13
  isplitl [H0]; · iexact H0
  iexact H1

end Cert.KernelIdeal.Hand
-- ==== Proof.KIRun.lean ====
/-
  The whole kernel: from its buffers, its cells and its arrays to the five results.
-/
module

public import proofs.«01_k».proof.Proof.KIStart

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

/-- A slot at rest is named by its block or by its place in the ring. -/
theorem dyFree_mod (b : ℕ) : DyFree c arg3 arg12 arg20 f3 b = DyFree c arg3 arg12 arg20 f3 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, dyFree_add, ih]
theorem wFree_mod (b : ℕ) : WFree c arg5 arg13 arg21 f5 b = WFree c arg5 arg13 arg21 f5 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, wFree_add, ih]
theorem mgIdle_mod (b : ℕ) : MgIdle c arg6 arg14 arg22 arg23 f6 b = MgIdle c arg6 arg14 arg22 arg23 f6 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, mgIdle_add, ih]
theorem codesFree_mod (b : ℕ) : CodesFree (F := F) c arg15 arg24 b = CodesFree (F := F) c arg15 arg24 (b % 6) := by
  have h := Nat.div_add_mod b 6
  generalize b / 6 = n at h
  generalize b % 6 = r at h
  subst h
  induction n with
  | zero => rw [Nat.mul_zero, Nat.zero_add]
  | succ n ih => rw [show 6 * (n + 1) + r = 6 * n + r + 6 by omega, codesFree_add, ih]

/-- The gradient's ring after the loop is at rest. -/
theorem dyRing_end : (DyRing c arg3 arg12 arg20 f3 35 : sProp 𝕄) ⊢ six (DyFree c arg3 arg12 arg20 f3) := by
  unfold DyRing DyRead six
  rw [if_neg (by omega), if_neg (by omega), if_neg (by omega), if_neg (by omega),
    dyFree_mod 35, dyFree_mod (35 + 1), dyFree_mod (35 + 2), dyFree_mod (35 + 3), dyFree_mod (35 + 4), dyFree_mod (35 + 5)]
  iintro ⟨H5, H0, H1, H2, H3, H4⟩
  isplitl [H0]; · iexact H0
  isplitl [H1]; · iexact H1
  isplitl [H2]; · iexact H2
  isplitl [H3]; · iexact H3
  isplitl [H4]; · iexact H4
  iexact H5
/-- The weights' ring after the loop is at rest. -/
theorem wRing_end : (WRing c arg5 arg13 arg21 f5 35 : sProp 𝕄) ⊢ six (WFree c arg5 arg13 arg21 f5) := by
  unfold WRing WRead six
  rw [if_neg (by omega), if_neg (by omega), if_neg (by omega), if_neg (by omega),
    wFree_mod 35, wFree_mod (35 + 1), wFree_mod (35 + 2), wFree_mod (35 + 3), wFree_mod (35 + 4), wFree_mod (35 + 5)]
  iintro ⟨H5, H0, H1, H2, H3, H4⟩
  isplitl [H0]; · iexact H0
  isplitl [H1]; · iexact H1
  isplitl [H2]; · iexact H2
  isplitl [H3]; · iexact H3
  isplitl [H4]; · iexact H4
  iexact H5
/-- The master gradient's ring after the loop: two blocks on their way out. -/
theorem mgRing_end {M : ℕ → S256x1536.Idx → Elt F .f32} : (MgRing c arg6 arg8 arg14 arg22 arg23 f6 M 35 : sProp 𝕄) ⊢
    iprop(MgIdle c arg6 arg14 arg22 arg23 f6 5 ∗ MgIdle c arg6 arg14 arg22 arg23 f6 0 ∗ MgIdle c arg6 arg14 arg22 arg23 f6 1 ∗ MgIdle c arg6 arg14 arg22 arg23 f6 2
      ∗ (Putting c (slotB arg14 33) (rowBlk arg8 33) (cell arg23 33) (M 33) ∗ Idle c (cell arg22 33) ∗ Tok c (rowBlk arg6 33) (qs 33) f6)
      ∗ (Putting c (slotB arg14 34) (rowBlk arg8 34) (cell arg23 34) (M 34) ∗ Idle c (cell arg22 34) ∗ Tok c (rowBlk arg6 34) (qs 34) f6)) := by
  unfold MgRing MgRead
  rw [if_neg (by omega), if_neg (by omega), if_neg (by omega), if_neg (by omega),
    mgIdle_mod 35, mgIdle_mod (35 + 1), mgIdle_mod (35 + 2), mgIdle_mod (35 + 3), show MgW c arg6 arg8 arg14 arg22 arg23 f6 M 35 = _ from mgW_out c arg6 arg8 arg14 arg22 arg23 f6 M 33, show MgW c arg6 arg8 arg14 arg22 arg23 f6 M (35 + 1) = _ from mgW_out c arg6 arg8 arg14 arg22 arg23 f6 M 34]
/-- The codes' ring after the loop: two blocks on their way out. -/
theorem codesRing_end {C : ℕ → S768x256.Idx → Elt F .fp8e5m2} : (CodesRing c arg11 arg15 arg24 C 35 : sProp 𝕄) ⊢
    iprop(CodesFree c arg15 arg24 5 ∗ CodesFree c arg15 arg24 0 ∗ CodesFree c arg15 arg24 1 ∗ CodesFree c arg15 arg24 2
      ∗ Lending c (slotA arg15 33) (colBlk arg11 33) (cell arg24 33) (C 33) ∗ Lending c (slotA arg15 34) (colBlk arg11 34) (cell arg24 34) (C 34)) := by
  unfold CodesRing
  rw [codesFree_mod 35, codesFree_mod (35 + 1), codesFree_mod (35 + 2), codesFree_mod (35 + 3), show CodesW c arg11 arg15 arg24 C 35 = _ from codesW_out c arg11 arg15 arg24 C 33, show CodesW c arg11 arg15 arg24 C (35 + 1) = _ from codesW_out c arg11 arg15 arg24 C 34]
theorem xAt_end : (XAt c arg4 arg16 arg25 f4 35 : sProp 𝕄) ⊢ XHeld c arg4 arg16 arg25 f4 := by
  unfold XAt; rw [if_neg (by omega)]
theorem dxAt_end {dx : S768x1536.Idx → Elt F .bf16} : (DxAt c arg7 arg18 arg26 dx 35 : sProp 𝕄) ⊢ Putting c arg18 arg7 arg26.sem dx := by
  unfold DxAt; rw [if_pos rfl]
theorem xHeld_idle : (XHeld c arg4 arg16 arg25 f4 : sProp 𝕄) ⊢ XIdle c arg4 arg16 arg25 f4 := by
  unfold XHeld XIdle
  iintro ⟨H, Hv, HT⟩
  isplitl [H]; · iapply Holds.own $$ H
  isplitl [Hv]; · iexact Hv
  iexact HT
/-- A slot of the master gradient back at rest. -/
theorem mgIdle_back (b : ℕ) : (iprop(Own c (slotB arg14 b) ∗ Idle c (cell arg22 b) ∗ Tok c (rowBlk arg6 b) (qs b) f6 ∗ Idle c (cell arg23 b)) : sProp 𝕄)
    ⊢ MgIdle c arg6 arg14 arg22 arg23 f6 (b % 6) := by
  rw [← mgIdle_mod]; exact .rfl
/-- A slot of the codes back at rest. -/
theorem codesFree_back (b : ℕ) : (iprop(Own c (slotA arg15 b) ∗ Idle c (cell arg24 b)) : sProp 𝕄) ⊢ CodesFree c arg15 arg24 (b % 6) := by
  rw [← codesFree_mod]; exact .rfl

set_option maxHeartbeats 2000000 in
/-- The kernel takes its buffers, its cells and its arrays to the five results. -/
theorem kernel_spec (s0 s1 s2 : S1.Idx → Elt F .f32) (Z : S70x128.Idx → Elt F .f32)
    (hG11 : ∀ n < 35, (colBlk arg11 n).view.read (Elt F) G11 = codesN c arg3 f3 (one s0) n)
    (hG8 : ∀ n < 35, (rowBlk arg8 n).view.read (Elt F) G8 = mgoN c arg3 f3 arg4 f4 arg6 f6 (one s0) (one s1) n)
    (dx : S768x1536.Idx → Elt F .bf16) (hdx : k0_pay92 (one s0) (accV (k0_pay96 (one s0)) (dyB c arg3 f3) (wB c arg5 f5) 35) (one s2) = dx) :
    (iprop((Holds c arg0 s0 ∗ Holds c arg1 s1 ∗ Holds c arg2 s2 ∗ Holds c arg9 Z ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ Own c arg11 ∗ Own c arg8 ∗ XIdle c arg4 arg16 arg25 f4 ∗ Own c arg18 ∗ Own c arg7 ∗ Idle c arg26.sem ∗ Own c arg10) : sProp 𝕄)
      ⊢ wp frame (wpE defs₀ 𝒱 (c : Thread nD τ) bd) Set.univ (cc0_fp8_linear_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26)
        (fun _ => iprop((Holds c arg0 s0 ∗ Holds c arg1 s1 ∗ Holds c arg2 s2 ∗ Holds c arg9 (biasBuf (dyB c arg3 f3) Z 35) ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ (arg11.view.loc (c : Thread nD τ) ↦[arg11.view.set]{fullShare} G11) ∗ (arg8.view.loc (c : Thread nD τ) ↦[arg8.view.set]{fullShare} G8)
      ∗ XIdle c arg4 arg16 arg25 f4 ∗ Own c arg18 ∗ Holds c arg7 dx ∗ Idle c arg26.sem ∗ Holds c arg10 (fun _ => k0_pay98 (amaxV (dyB c arg3 f3) 35)))) := by
  rw [cc0_fp8_linear_bwd_eq_skeleton]
  unfold cc0_fp8_linear_bwd_skel
  conv => lhs; unfold six
  iintro ⟨H00, ⟨D0, D1, D2, D3, D4, D5⟩, ⟨W0, W1, W2, W3, W4, W5⟩, ⟨M0, M1, M2, M3, M4, M5⟩, HC, H11, H8, HX, H18, H7, Hv, H10⟩
  iapply wp_bindI
  iapply (part16_spec (f3 := f3) (f4 := f4) (f5 := f5) (f6 := f6)) $$ [D0 W0 M0 HX D1 W1]
  · isplitl [D0]; · iexact D0
    isplitl [W0]; · iexact W0
    isplitl [M0]; · iexact M0
    isplitl [HX]; · iexact HX
    isplitl [D1]; · iexact D1
    iexact W1
  iintro ⟨D0, W0, M0, HX, D1, W1⟩
  iapply wp_bindI
  iapply (part17_spec (f3 := f3) (f5 := f5) (f6 := f6)) $$ [M1 D2 W2 M2 D3]
  · isplitl [M1]; · iexact M1
    isplitl [D2]; · iexact D2
    isplitl [W2]; · iexact W2
    isplitl [M2]; · iexact M2
    iexact D3
  iintro ⟨M1, D2, W2, M2, D3⟩
  iapply wp_bindI
  iapply (part18_spec (f3 := f3) (f4 := f4) (f5 := f5) (f6 := f6) (G8 := G8) (G11 := G11) s0 s1 s2 Z hG11 hG8 dx hdx)
    $$ [H00 D0 D1 D2 D3 D4 D5 W0 W1 W2 W3 W4 W5 M0 M1 M2 M3 M4 M5 HC H11 H8 HX H18 H7 Hv]
  · isplitl [H00]; · iexact H00
    isplitl [D0 D1 D2 D3 D4 D5]
    · isplitl [D0]; · iexact D0
      isplitl [D1]; · iexact D1
      isplitl [D2]; · iexact D2
      isplitl [D3]; · iexact D3
      isplitl [D4]; · iexact D4
      iexact D5
    isplitl [W0 W1 W2 W3 W4 W5]
    · isplitl [W0]; · iexact W0
      isplitl [W1]; · iexact W1
      isplitl [W2]; · iexact W2
      isplitl [W3]; · iexact W3
      isplitl [W4]; · iexact W4
      iexact W5
    isplitl [M0 M1 M2 M3 M4 M5]
    · isplitl [M0]; · iexact M0
      isplitl [M1]; · iexact M1
      isplitl [M2]; · iexact M2
      isplitl [M3]; · iexact M3
      isplitl [M4]; · iexact M4
      iexact M5
    isplitl [HC]; · unfold six; iexact HC
    isplitl [H11]; · iexact H11
    isplitl [H8]; · iexact H8
    isplitl [HX]; · iexact HX
    isplitl [H18]; · iexact H18
    isplitl [H7]; · iexact H7
    iexact Hv
  iintro ⟨HI, H0, H1⟩
  unfold Inv
  icases HI with ⟨D, W, M, C, HR11, H11, HR8, H8, HX, HDx, H17, H19, H9, H2, HO⟩
  ihave D := (dyRing_end) $$ D
  ihave W := (wRing_end) $$ W
  icases (mgRing_end) $$ M with ⟨M5, M0, M1, M2, ⟨P3, V3, T3⟩, ⟨P4, V4, T4⟩⟩
  icases (codesRing_end) $$ C with ⟨C5, C0, C1, C2, L3, L4⟩
  ihave HX := (xAt_end) $$ HX
  ihave HDx := (dxAt_end) $$ HDx
  icases (own_holds) $$ H10 with ⟨%X10, H10⟩
  iapply (wp_loadWhole (load_whole2 X10)) $$ H10; iintro H10
  iapply (wp_storeAll) $$ H10; iintro H10
  iapply (wp_lent' (c := c) (S := slotA arg15 33) (B := colBlk arg11 33) (sm := cell arg24 33) (slotA_of arg15 rfl _) (colBlk_of arg11 rfl (by decide) _) (cell_of arg24 rfl _)) $$ [L3 HO]
  · isplitl [L3]; · iexact L3
    iexact HO
  iintro ⟨B3, S3, U3, HO⟩
  ihave H11 := (col_add (n := 33) (by decide) (hG11 33 (by decide))) $$ [H11 B3]
  · isplitl [H11]; · iexact H11
    iexact B3
  iapply (wp_landed' (c := c) (S := slotB arg14 33) (B := rowBlk arg8 33) (sm := cell arg23 33) (slotB_of arg14 rfl _) (rowBlk_of arg8 rfl (by decide) _) (cell_of arg23 rfl _)) $$ [P3 HO]
  · isplitl [P3]; · iexact P3
    iexact HO
  iintro ⟨B3, P3, O3, HO⟩
  ihave H8 := (row_add (n := 33) (by decide) (hG8 33 (by decide))) $$ [H8 B3]
  · isplitl [H8]; · iexact H8
    iexact B3
  iapply (wp_lent' (c := c) (S := slotA arg15 34) (B := colBlk arg11 34) (sm := cell arg24 34) (slotA_of arg15 rfl _) (colBlk_of arg11 rfl (by decide) _) (cell_of arg24 rfl _)) $$ [L4 HO]
  · isplitl [L4]; · iexact L4
    iexact HO
  iintro ⟨B4, S4, U4, HO⟩
  ihave H11 := (col_add (n := 34) (by decide) (hG11 34 (by decide))) $$ [H11 B4]
  · isplitl [H11]; · iexact H11
    iexact B4
  iapply (wp_landed' (c := c) (S := slotB arg14 34) (B := rowBlk arg8 34) (sm := cell arg23 34) (slotB_of arg14 rfl _) (rowBlk_of arg8 rfl (by decide) _) (cell_of arg23 rfl _)) $$ [P4 HO]
  · isplitl [P4]; · iexact P4
    iexact HO
  iintro ⟨B4, P4, O4, HO⟩
  ihave H8 := (row_add (n := 34) (by decide) (hG8 34 (by decide))) $$ [H8 B4]
  · isplitl [H8]; · iexact H8
    iexact B4
  iapply (wp_landed' (c := c) (S := arg18) (B := arg7) (sm := arg26.sem) rfl rfl rfl) $$ [HDx HO]
  · isplitl [HDx]; · iexact HDx
    iexact HO
  iintro ⟨H7, H18, Hv, HO⟩
  iapply (le_wp_ret frame (wpE defs₀ 𝒱 (c : Thread nD τ) bd))
  isplitl [H0 H1 H2 H9 H17 H19 HO]
  · isplitl [H0]; · iexact H0
    isplitl [H1]; · iexact H1
    isplitl [H2]; · iexact H2
    isplitl [H9]; · iexact H9
    isplitl [H17]; · iapply Holds.own $$ H17
    isplitl [H19]; · iapply Holds.own $$ H19
    iexact HO
  isplitl [D]; · iexact D
  isplitl [W]; · iexact W
  unfold six
  isplitl [M0 M1 M2 M5 P3 V3 T3 O3 P4 V4 T4 O4]
  · isplitl [M0]; · iexact M0
    isplitl [M1]; · iexact M1
    isplitl [M2]; · iexact M2
    isplitl [P3 V3 T3 O3]
    · iapply (mgIdle_back 33)
      isplitl [P3]; · iexact P3
      isplitl [V3]; · iexact V3
      isplitl [T3]; · iexact T3
      iexact O3
    isplitl [P4 V4 T4 O4]
    · iapply (mgIdle_back 34)
      isplitl [P4]; · iexact P4
      isplitl [V4]; · iexact V4
      isplitl [T4]; · iexact T4
      iexact O4
    iexact M5
  isplitl [C0 C1 C2 C5 S3 U3 S4 U4]
  · isplitl [C0]; · iexact C0
    isplitl [C1]; · iexact C1
    isplitl [C2]; · iexact C2
    isplitl [S3 U3]
    · iapply (codesFree_back 33)
      isplitl [S3]; · iexact S3
      iexact U3
    isplitl [S4 U4]
    · iapply (codesFree_back 34)
      isplitl [S4]; · iexact S4
      iexact U4
    iexact C5
  isplitl [H11]; · iapply (done_all (a := 1) (by decide)) $$ H11
  isplitl [H8]; · iapply (done_all (a := 0) (by decide)) $$ H8
  isplitl [HX]
  · iapply xHeld_idle $$ HX
  isplitl [H18]; · iexact H18
  isplitl [H7]; · iexact H7
  isplitl [Hv]; · iexact Hv
  iexact H10

end Cert.KernelIdeal.Hand
-- ==== Proof.KIMount.lean ====
/-
  The kernel from what it is given whole: buffers, cells and arrays, each in one piece, to the same with the results.
-/
module

public import proofs.«01_k».proof.Proof.KIRun

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

variable {𝒱 : Variants} {c : Dev nD} {bd : Option 𝒱.V}
variable {arg0 : Memref sig .tc .smem S1 .f32} {harg0 : arg0.IsWhole}
variable {arg1 : Memref sig .tc .smem S1 .f32} {harg1 : arg1.IsWhole}
variable {arg2 : Memref sig .tc .smem S1 .f32} {harg2 : arg2.IsWhole}
variable {arg3 : Memref sig .tc .hbm S768x8960 .bf16} {harg3 : arg3.IsWhole}
variable {arg4 : Memref sig .tc .hbm S768x1536 .fp8e4m3} {harg4 : arg4.IsWhole}
variable {arg5 : Memref sig .tc .hbm S8960x1536 .fp8e4m3} {harg5 : arg5.IsWhole}
variable {arg6 : Memref sig .tc .hbm S8960x1536 .f32} {harg6 : arg6.IsWhole}
variable {arg7 : Memref sig .tc .hbm S768x1536 .bf16} {harg7 : arg7.IsWhole}
variable {arg8 : Memref sig .tc .hbm S8960x1536 .f32} {harg8 : arg8.IsWhole}
variable {arg9 : Memref sig .tc .vmem S70x128 .f32} {harg9 : arg9.IsWhole}
variable {arg10 : Memref sig .tc .smem S1 .f32} {harg10 : arg10.IsWhole}
variable {arg11 : Memref sig .tc .hbm S768x8960 .fp8e5m2} {harg11 : arg11.IsWhole}
variable {arg12 : Memref sig .tc .vmem S6x768x256 .bf16} {harg12 : arg12.IsWhole}
variable {arg13 : Memref sig .tc .vmem S6x256x1536 .fp8e4m3} {harg13 : arg13.IsWhole}
variable {arg14 : Memref sig .tc .vmem S6x256x1536 .f32} {harg14 : arg14.IsWhole}
variable {arg15 : Memref sig .tc .vmem S6x768x256 .fp8e5m2} {harg15 : arg15.IsWhole}
variable {arg16 : Memref sig .tc .vmem S768x1536 .fp8e4m3} {harg16 : arg16.IsWhole}
variable {arg17 : Memref sig .tc .vmem S768x1536 .f32} {harg17 : arg17.IsWhole}
variable {arg18 : Memref sig .tc .vmem S768x1536 .bf16} {harg18 : arg18.IsWhole}
variable {arg19 : Memref sig .tc .vmem S8x256 .f32} {harg19 : arg19.IsWhole}
variable {arg20 : DmaSems sig S6}
variable {arg21 : DmaSems sig S6}
variable {arg22 : DmaSems sig S6}
variable {arg23 : DmaSems sig S6}
variable {arg24 : DmaSems sig S6}
variable {arg25 : DmaSems sig S_}
variable {arg26 : DmaSems sig S_}
variable {f3 : Buf (Elt F) (arg3.view.loc (c : Thread nD τ))} {f4 : Buf (Elt F) (arg4.view.loc (c : Thread nD τ))}
variable {f5 : Buf (Elt F) (arg5.view.loc (c : Thread nD τ))} {f6 : Buf (Elt F) (arg6.view.loc (c : Thread nD τ))}
variable {G8 : Buf (Elt F) (arg8.view.loc (c : Thread nD τ))} {G11 : Buf (Elt F) (arg11.view.loc (c : Thread nD τ))}

/-- The ring of a kind that only reads, at rest, from its buffer, its cells and its array. -/
theorem dy_mount : (iprop(Own c arg12 ∗ Cells c arg20 ∗ Tok c arg3 fullShare f3) : sProp 𝕄)
    ⊢ iprop(six (DyFree c arg3 arg12 arg20 f3) ∗ Tok c arg3 (Transfers.shareDrop fullShare 6) f3) := by
  unfold Cells
  iintro ⟨HB, HC, HT⟩
  ihave HS := ringA_split $$ HB
  ihave ⟨HR, HQ⟩ := toks_split.1 $$ HT
  isplitr [HR]
  · iapply six_sep (Q := fun b => iprop(Idle c (cell arg20 b) ∗ Tok c arg3 (qs b) f3))
    isplitl [HS]; · iexact HS
    iapply six_sep
    isplitl [HC]; · iexact HC
    iexact HQ
  · iexact HR
theorem dy_unmount : iprop(six (DyFree c arg3 arg12 arg20 f3) ∗ Tok c arg3 (Transfers.shareDrop fullShare 6) f3)
    ⊢ (iprop(Own c arg12 ∗ Cells c arg20 ∗ Tok c arg3 fullShare f3) : sProp 𝕄) := by
  unfold Cells
  iintro ⟨HS, HR⟩
  have e : six (DyFree c arg3 arg12 arg20 f3) ⊢ iprop(six (fun b => Own (F := F) c (slotA arg12 b)) ∗ six (fun b => iprop(Idle c (cell arg20 b) ∗ Tok c arg3 (qs b) f3))) := six_unsep
  ihave ⟨HB, HS⟩ := e $$ HS
  ihave ⟨HC, HQ⟩ := six_unsep $$ HS
  isplitl [HB]
  · iapply ringA_join $$ HB
  isplitl [HC]; · iexact HC
  iapply toks_split.2
  isplitl [HR]; · iexact HR
  iexact HQ

theorem w_mount : (iprop(Own c arg13 ∗ Cells c arg21 ∗ Tok c arg5 fullShare f5) : sProp 𝕄)
    ⊢ iprop(six (WFree c arg5 arg13 arg21 f5) ∗ Tok c arg5 (Transfers.shareDrop fullShare 6) f5) := by
  unfold Cells
  iintro ⟨HB, HC, HT⟩
  ihave HS := ringB_split $$ HB
  ihave ⟨HR, HQ⟩ := toks_split.1 $$ HT
  isplitr [HR]
  · iapply six_sep (Q := fun b => iprop(Idle c (cell arg21 b) ∗ Tok c arg5 (qs b) f5))
    isplitl [HS]; · iexact HS
    iapply six_sep
    isplitl [HC]; · iexact HC
    iexact HQ
  · iexact HR
theorem w_unmount : iprop(six (WFree c arg5 arg13 arg21 f5) ∗ Tok c arg5 (Transfers.shareDrop fullShare 6) f5)
    ⊢ (iprop(Own c arg13 ∗ Cells c arg21 ∗ Tok c arg5 fullShare f5) : sProp 𝕄) := by
  unfold Cells
  iintro ⟨HS, HR⟩
  have e : six (WFree c arg5 arg13 arg21 f5) ⊢ iprop(six (fun b => Own (F := F) c (slotB arg13 b)) ∗ six (fun b => iprop(Idle c (cell arg21 b) ∗ Tok c arg5 (qs b) f5))) := six_unsep
  ihave ⟨HB, HS⟩ := e $$ HS
  ihave ⟨HC, HQ⟩ := six_unsep $$ HS
  isplitl [HB]
  · iapply ringB_join $$ HB
  isplitl [HC]; · iexact HC
  iapply toks_split.2
  isplitl [HR]; · iexact HR
  iexact HQ

/-- The ring that reads and is written back from, at rest. -/
theorem mg_mount : (iprop(Own c arg14 ∗ Cells c arg22 ∗ Cells c arg23 ∗ Tok c arg6 fullShare f6) : sProp 𝕄)
    ⊢ iprop(six (MgIdle c arg6 arg14 arg22 arg23 f6) ∗ Tok c arg6 (Transfers.shareDrop fullShare 6) f6) := by
  unfold Cells
  iintro ⟨HB, HC, HE, HT⟩
  ihave HS := ringB_split $$ HB
  ihave ⟨HR, HQ⟩ := toks_split.1 $$ HT
  isplitr [HR]
  · iapply six_sep (Q := fun b => iprop(Idle c (cell arg22 b) ∗ Tok c arg6 (qs b) f6 ∗ Idle c (cell arg23 b)))
    isplitl [HS]; · iexact HS
    iapply six_sep (Q := fun b => iprop(Tok c arg6 (qs b) f6 ∗ Idle c (cell arg23 b)))
    isplitl [HC]; · iexact HC
    iapply six_sep
    isplitl [HQ]; · iexact HQ
    iexact HE
  · iexact HR
theorem mg_unmount : iprop(six (MgIdle c arg6 arg14 arg22 arg23 f6) ∗ Tok c arg6 (Transfers.shareDrop fullShare 6) f6)
    ⊢ (iprop(Own c arg14 ∗ Cells c arg22 ∗ Cells c arg23 ∗ Tok c arg6 fullShare f6) : sProp 𝕄) := by
  unfold Cells
  iintro ⟨HS, HR⟩
  have e : six (MgIdle c arg6 arg14 arg22 arg23 f6) ⊢ iprop(six (fun b => Own (F := F) c (slotB arg14 b)) ∗ six (fun b => iprop(Idle c (cell arg22 b) ∗ Tok c arg6 (qs b) f6 ∗ Idle c (cell arg23 b)))) := six_unsep
  ihave ⟨HB, HS⟩ := e $$ HS
  ihave ⟨HC, HS⟩ := (six_unsep (Q := fun b => iprop(Tok c arg6 (qs b) f6 ∗ Idle c (cell arg23 b)))) $$ HS
  ihave ⟨HQ, HE⟩ := six_unsep $$ HS
  isplitl [HB]
  · iapply ringB_join $$ HB
  isplitl [HC]; · iexact HC
  isplitl [HE]; · iexact HE
  iapply toks_split.2
  isplitl [HR]; · iexact HR
  iexact HQ

/-- The ring that only writes, at rest. -/
theorem codes_mount : (iprop(Own c arg15 ∗ Cells c arg24) : sProp 𝕄) ⊢ six (CodesFree (F := F) c arg15 arg24) := by
  unfold Cells
  iintro ⟨HB, HC⟩
  ihave HS := ringA_split $$ HB
  iapply six_sep
  isplitl [HS]; · iexact HS
  iexact HC
theorem codes_unmount : six (CodesFree (F := F) c arg15 arg24) ⊢ (iprop(Own c arg15 ∗ Cells c arg24) : sProp 𝕄) := by
  unfold Cells
  iintro HS
  have e : six (CodesFree (F := F) c arg15 arg24) ⊢ iprop(six (fun b => Own (F := F) c (slotA arg15 b)) ∗ six (fun b => Idle c (cell arg24 b))) := six_unsep
  ihave ⟨HB, HC⟩ := e $$ HS
  isplitl [HB]
  · iapply ringA_join $$ HB
  iexact HC

/-- All that the kernel is given, in the pieces it works with. -/
theorem mount (s0 s1 s2 : S1.Idx → Elt F .f32) (Z : S70x128.Idx → Elt F .f32) : (iprop((Holds c arg0 s0 ∗ Holds c arg1 s1 ∗ Holds c arg2 s2 ∗ Holds c arg9 Z ∗ Own c arg10)
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Own c arg7 ∗ Own c arg8 ∗ Own c arg11)) : sProp 𝕄)
    ⊢ iprop(((Holds c arg0 s0 ∗ Holds c arg1 s1 ∗ Holds c arg2 s2 ∗ Holds c arg9 Z ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ Own c arg11 ∗ Own c arg8 ∗ XIdle c arg4 arg16 arg25 f4 ∗ Own c arg18 ∗ Own c arg7 ∗ Idle c arg26.sem ∗ Own c arg10)
      ∗ Tok c arg3 (Transfers.shareDrop fullShare 6) f3 ∗ Tok c arg5 (Transfers.shareDrop fullShare 6) f5 ∗ Tok c arg6 (Transfers.shareDrop fullShare 6) f6) := by
  iintro ⟨⟨H0, H1, H2, H9, H10⟩, HO, ⟨H12, H13, H14, H15, H16, H17, H18, H19⟩, ⟨C0, C1, C2, C3, C4, C5, C6⟩, ⟨T3, T4, T5, T6⟩, ⟨H7, H8, H11⟩⟩
  ihave ⟨HD, R3⟩ := dy_mount $$ [H12 C0 T3]
  · isplitl [H12]; · iexact H12
    isplitl [C0]; · iexact C0
    iexact T3
  ihave ⟨HW, R5⟩ := w_mount $$ [H13 C1 T5]
  · isplitl [H13]; · iexact H13
    isplitl [C1]; · iexact C1
    iexact T5
  ihave ⟨HM, R6⟩ := mg_mount $$ [H14 C2 C3 T6]
  · isplitl [H14]; · iexact H14
    isplitl [C2]; · iexact C2
    isplitl [C3]; · iexact C3
    iexact T6
  ihave HC := codes_mount $$ [H15 C4]
  · isplitl [H15]; · iexact H15
    iexact C4
  isplitr [R3 R5 R6]
  · isplitl [H0 H1 H2 H9 H17 H19 HO]
    · isplitl [H0]; · iexact H0
      isplitl [H1]; · iexact H1
      isplitl [H2]; · iexact H2
      isplitl [H9]; · iexact H9
      isplitl [H17]; · iexact H17
      isplitl [H19]; · iexact H19
      iexact HO
    isplitl [HD]; · iexact HD
    isplitl [HW]; · iexact HW
    isplitl [HM]; · iexact HM
    isplitl [HC]; · iexact HC
    isplitl [H11]; · iexact H11
    isplitl [H8]; · iexact H8
    isplitl [H16 C5 T4]
    · unfold XIdle
      isplitl [H16]; · iexact H16
      isplitl [C5]; · iexact C5
      iexact T4
    isplitl [H18]; · iexact H18
    isplitl [H7]; · iexact H7
    isplitl [C6]; · iexact C6
    iexact H10
  · isplitl [R3]; · iexact R3
    isplitl [R5]; · iexact R5
    iexact R6

/-- And back, with the results in place. -/
theorem unmount (s0 s1 s2 : S1.Idx → Elt F .f32) (Z : S70x128.Idx → Elt F .f32) (dx : S768x1536.Idx → Elt F .bf16) : iprop(((Holds c arg0 s0 ∗ Holds c arg1 s1 ∗ Holds c arg2 s2 ∗ Holds c arg9 (biasBuf (dyB c arg3 f3) Z 35) ∗ Own c arg17 ∗ Own c arg19 ∗ Owes c)
      ∗ six (DyFree c arg3 arg12 arg20 f3) ∗ six (WFree c arg5 arg13 arg21 f5) ∗ six (MgIdle c arg6 arg14 arg22 arg23 f6) ∗ six (CodesFree (F := F) c arg15 arg24)
      ∗ (arg11.view.loc (c : Thread nD τ) ↦[arg11.view.set]{fullShare} G11) ∗ (arg8.view.loc (c : Thread nD τ) ↦[arg8.view.set]{fullShare} G8)
      ∗ XIdle c arg4 arg16 arg25 f4 ∗ Own c arg18 ∗ Holds c arg7 dx ∗ Idle c arg26.sem ∗ Holds c arg10 (fun _ => k0_pay98 (amaxV (dyB c arg3 f3) 35)))
      ∗ Tok c arg3 (Transfers.shareDrop fullShare 6) f3 ∗ Tok c arg5 (Transfers.shareDrop fullShare 6) f5 ∗ Tok c arg6 (Transfers.shareDrop fullShare 6) f6)
    ⊢ (iprop((Holds c arg0 s0 ∗ Holds c arg1 s1 ∗ Holds c arg2 s2 ∗ Holds c arg9 (biasBuf (dyB c arg3 f3) Z 35) ∗ Holds c arg10 (fun _ => k0_pay98 (amaxV (dyB c arg3 f3) 35)))
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Holds c arg7 dx ∗ (arg8.view.loc (c : Thread nD τ) ↦[arg8.view.set]{fullShare} G8)
        ∗ (arg11.view.loc (c : Thread nD τ) ↦[arg11.view.set]{fullShare} G11))) : sProp 𝕄) := by
  iintro ⟨⟨⟨H0, H1, H2, H9, H17, H19, HO⟩, HD, HW, HM, HC, H11, H8, HX, H18, H7, C6, H10⟩, ⟨R3, R5, R6⟩⟩
  ihave ⟨H12, C0, T3⟩ := dy_unmount $$ [HD R3]
  · isplitl [HD]; · iexact HD
    iexact R3
  ihave ⟨H13, C1, T5⟩ := w_unmount $$ [HW R5]
  · isplitl [HW]; · iexact HW
    iexact R5
  ihave ⟨H14, C2, C3, T6⟩ := mg_unmount $$ [HM R6]
  · isplitl [HM]; · iexact HM
    iexact R6
  ihave ⟨H15, C4⟩ := codes_unmount $$ HC
  unfold XIdle
  icases HX with ⟨H16, C5, T4⟩
  isplitl [H0 H1 H2 H9 H10]
  · isplitl [H0]; · iexact H0
    isplitl [H1]; · iexact H1
    isplitl [H2]; · iexact H2
    isplitl [H9]; · iexact H9
    iexact H10
  isplitl [HO]; · iexact HO
  isplitl [H12 H13 H14 H15 H16 H17 H18 H19]
  · isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [T3 T4 T5 T6]
  · isplitl [T3]; · iexact T3
    isplitl [T4]; · iexact T4
    isplitl [T5]; · iexact T5
    iexact T6
  isplitl [H7]; · iexact H7
  isplitl [H8]; · iexact H8
  iexact H11

/-- The kernel, from all it is given to the same with the five results. -/
theorem kernel_whole (s0 s1 s2 : S1.Idx → Elt F .f32) (Z : S70x128.Idx → Elt F .f32)
    (hG11 : ∀ n < 35, (colBlk arg11 n).view.read (Elt F) G11 = codesN c arg3 f3 (one s0) n)
    (hG8 : ∀ n < 35, (rowBlk arg8 n).view.read (Elt F) G8 = mgoN c arg3 f3 arg4 f4 arg6 f6 (one s0) (one s1) n)
    (dx : S768x1536.Idx → Elt F .bf16) (hdx : k0_pay92 (one s0) (accV (k0_pay96 (one s0)) (dyB c arg3 f3) (wB c arg5 f5) 35) (one s2) = dx) :
    (iprop((Holds c arg0 s0 ∗ Holds c arg1 s1 ∗ Holds c arg2 s2 ∗ Holds c arg9 Z ∗ Own c arg10)
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Own c arg7 ∗ Own c arg8 ∗ Own c arg11)) : sProp 𝕄)
      ⊢ wp frame (wpE defs₀ 𝒱 (c : Thread nD τ) bd) Set.univ (cc0_fp8_linear_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 arg24 arg25 arg26)
        (fun _ => iprop((Holds c arg0 s0 ∗ Holds c arg1 s1 ∗ Holds c arg2 s2 ∗ Holds c arg9 (biasBuf (dyB c arg3 f3) Z 35) ∗ Holds c arg10 (fun _ => k0_pay98 (amaxV (dyB c arg3 f3) 35)))
      ∗ Owes c
      ∗ (Own c arg12 ∗ Own c arg13 ∗ Own c arg14 ∗ Own c arg15 ∗ Own c arg16 ∗ Own c arg17 ∗ Own c arg18 ∗ Own c arg19)
      ∗ (Cells c arg20 ∗ Cells c arg21 ∗ Cells c arg22 ∗ Cells c arg23 ∗ Cells c arg24 ∗ Idle c arg25.sem ∗ Idle c arg26.sem)
      ∗ (Tok c arg3 fullShare f3 ∗ Tok c arg4 fullShare f4 ∗ Tok c arg5 fullShare f5 ∗ Tok c arg6 fullShare f6)
      ∗ (Holds c arg7 dx ∗ (arg8.view.loc (c : Thread nD τ) ↦[arg8.view.set]{fullShare} G8)
        ∗ (arg11.view.loc (c : Thread nD τ) ↦[arg11.view.set]{fullShare} G11)))) :=
  (mount s0 s1 s2 Z).trans ((BIClass.sep_mono (kernel_spec s0 s1 s2 Z hG11 hG8 dx hdx) .rfl).trans
    ((wp_frame_r frame (wpE defs₀ 𝒱 (c : Thread nD τ) bd) Set.univ).trans
      (wp_mono frame (wpE defs₀ 𝒱 (c : Thread nD τ) bd) Set.univ fun _ => unmount s0 s1 s2 Z dx)))

end Cert.KernelIdeal.Hand
-- ==== Proof.KIOut.lean ====
/-
  What the kernel leaves in its five results, as whole arrays, and the proof data of its one launch.
-/
module

public import proofs.«01_k».proof.Proof.KIMount
public import proofs.«01_k».proof.Proof.Gen.KernelIdeal.Frame
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The three scales, as the kernel reads them. -/
abbrev dyS (c : Dev nD) : F .f32 := one (iblk m c 0 t0_0 : S1.Idx → Elt F .f32)
abbrev xS (c : Dev nD) : F .f32 := one (iblk m c 1 t0_0 : S1.Idx → Elt F .f32)
abbrev wS (c : Dev nD) : F .f32 := one (iblk m c 2 t0_0 : S1.Idx → Elt F .f32)
/-- The blocks of its arrays. -/
abbrev dyN (c : Dev nD) : ℕ → S768x256.Idx → Elt F .bf16 := dyB c (Memref.whole main_v3) (V m c main_v3)
abbrev wN (c : Dev nD) : ℕ → S256x1536.Idx → Elt F .fp8e4m3 := wB c (Memref.whole main_arg4) (V m c main_arg4)
abbrev codesBlk (c : Dev nD) : ℕ → S768x256.Idx → Elt F .fp8e5m2 := codesN c (Memref.whole main_v3) (V m c main_v3) (dyS m c)
abbrev mgoBlk (c : Dev nD) : ℕ → S256x1536.Idx → Elt F .f32 :=
  mgoN c (Memref.whole main_v3) (V m c main_v3) (Memref.whole main_v4) (V m c main_v4) (Memref.whole main_arg6) (V m c main_arg6) (dyS m c) (xS m c)

/-- The codes of the whole gradient. -/
def codesG (c : Dev nD) : S768x8960.Idx → Elt F .fp8e5m2 := fun x =>
  codesBlk m c ((x 1).val / 256) (ix2 (x 0) (⟨(x 1).val % 256, Nat.mod_lt _ (by norm_num)⟩ : Fin 256))
/-- The whole new master gradient. -/
def mgoG (c : Dev nD) : S8960x1536.Idx → Elt F .f32 := fun x =>
  mgoBlk m c ((x 0).val / 256) (ix2 (⟨(x 0).val % 256, Nat.mod_lt _ (by norm_num)⟩ : Fin 256) (x 1))
/-- The gradient of the input. -/
def dxG (c : Dev nD) : S768x1536.Idx → Elt F .bf16 := k0_pay92 (dyS m c) (accV (k0_pay96 (dyS m c)) (dyN m c) (wN m c) 35) (wS m c)
/-- The sums, two rows a block. -/
def biasG (c : Dev nD) : S70x128.Idx → Elt F .f32 := fun x =>
  (if (x 0).val % 2 = 0 then sumLo (dyN m c ((x 0).val / 2)) else sumHi (dyN m c ((x 0).val / 2))) (ix2 (⟨0, Nat.one_pos⟩ : Fin 1) (x 1))
/-- The maximum. -/
def amaxG (c : Dev nD) : S1.Idx → Elt F .f32 := fun _ => k0_pay98 (amaxV (dyN m c) 35)

theorem biasBuf_all (c : Dev nD) (Z : S70x128.Idx → Elt F .f32) : biasBuf (dyN m c) Z 35 = biasG m c := by
  funext x
  have h : (x 0).val < 2 * 35 := (x 0).isLt
  unfold biasBuf biasG
  rw [if_pos h]

theorem codesG_blk (c : Dev nD) : ∀ n < 35, (colBlk (Memref.whole main_v5_4) n).view.read (Elt F) (codesG m c) = codesBlk m c n := by
  intro n hn
  funext x
  have h1 : (x 1).val < 256 := (x 1).isLt
  have e : 256 * (n % 35) + (x 1).val = 256 * n + (x 1).val := by rw [Nat.mod_eq_of_lt hn]
  have hx : ∀ q : Fin 768, ∀ k (hk : k < 8960), q = x 0 → k = 256 * n + (x 1).val → codesG m c (ix2 q (⟨k, hk⟩ : Fin 8960)) = codesBlk m c n x := by
    rintro q k hk rfl rfl
    show codesBlk m c ((256 * n + (x 1).val) / 256) (ix2 (x 0) (⟨(256 * n + (x 1).val) % 256, Nat.mod_lt _ (by norm_num)⟩ : Fin 256)) = codesBlk m c n x
    rw [show (256 * n + (x 1).val) / 256 = n by omega]
    congr 1
    funext a
    fin_cases a
    · rfl
    · apply Fin.ext
      show (256 * n + (x 1).val) % 256 = (x 1).val
      omega
  refine Eq.trans ?_ (hx (x 0) (256 * n + (x 1).val) (by omega) rfl rfl)
  show codesG m c _ = _
  congr 1
  funext a
  fin_cases a
  · apply Fin.ext
    show 0 + 1 * (x 0).val = (x 0).val
    omega
  · apply Fin.ext
    show 256 * (n % 35) + 1 * (x 1).val = 256 * n + (x 1).val
    omega

theorem mgoG_blk (c : Dev nD) : ∀ n < 35, (rowBlk (Memref.whole main_v5_1) n).view.read (Elt F) (mgoG m c) = mgoBlk m c n := by
  intro n hn
  funext x
  have h0 : (x 0).val < 256 := (x 0).isLt
  have e : 256 * (n % 35) + (x 0).val = 256 * n + (x 0).val := by rw [Nat.mod_eq_of_lt hn]
  have hx : ∀ q : Fin 1536, ∀ k (hk : k < 8960), q = x 1 → k = 256 * n + (x 0).val → mgoG m c (ix2 (⟨k, hk⟩ : Fin 8960) q) = mgoBlk m c n x := by
    rintro q k hk rfl rfl
    show mgoBlk m c ((256 * n + (x 0).val) / 256) (ix2 (⟨(256 * n + (x 0).val) % 256, Nat.mod_lt _ (by norm_num)⟩ : Fin 256) (x 1)) = mgoBlk m c n x
    rw [show (256 * n + (x 0).val) / 256 = n by omega]
    congr 1
    funext a
    fin_cases a
    · apply Fin.ext
      show (256 * n + (x 0).val) % 256 = (x 0).val
      omega
    · rfl
  refine Eq.trans ?_ (hx (x 1) (256 * n + (x 0).val) (by omega) rfl rfl)
  show mgoG m c _ = _
  congr 1
  funext a
  fin_cases a
  · apply Fin.ext
    show 256 * (n % 35) + 1 * (x 0).val = 256 * n + (x 0).val
    omega
  · apply Fin.ext
    show 0 + 1 * (x 1).val = (x 1).val
    omega

/-! ## The launch's proof data -/

/-- The cells the kernel uses itself. -/
abbrev osem0 : Fin 32 → SemLoc sig :=
  ![.dma 5, .dma 6, .dma 7, .dma 8, .dma 9, .dma 10, .dma 11, .dma 12, .dma 13, .dma 14, .dma 15, .dma 16, .dma 17, .dma 18, .dma 19, .dma 20,
    .dma 21, .dma 22, .dma 23, .dma 24, .dma 25, .dma 26, .dma 27, .dma 28, .dma 29, .dma 30, .dma 31, .dma 32, .dma 33, .dma 34, .dma 35, .dma 36]
theorem ownSemFacts0 : Pipeline.OwnSemFacts spec0 osem0 := by decide
/-- The arrays the kernel reads by its own copies, and those it writes. -/
def H0 : Finset (Ref sig .tc) := {main_v3, main_v4, main_arg4, main_arg6}
def R0 : Finset (Ref sig .tc) := {main_v5_0, main_v5_1, main_v5_4}
theorem H0_sub : H0 ⊆ Pipeline.restRefs sig spec0 := by decide
theorem R0_sub : R0 ⊆ Pipeline.restRefs sig spec0 \ H0 := by decide

/-- What the arrays it writes hold afterwards. -/
def G (c : Dev nD) : (b : Ref sig .tc) → Buf (Elt F) ((c.tc : Thread nD τ).loc b) :=
  Function.update (Function.update (Function.update (V m c) main_v5_0 (dxG m c)) main_v5_1 (mgoG m c)) main_v5_4 (codesG m c)
theorem G_dx (c : Dev nD) : G m c main_v5_0 = dxG m c := by
  unfold G
  rw [Function.update_of_ne (by decide), Function.update_of_ne (by decide), Function.update_self]
theorem G_mgo (c : Dev nD) : G m c main_v5_1 = mgoG m c := by
  unfold G
  rw [Function.update_of_ne (by decide), Function.update_self]
theorem G_codes (c : Dev nD) : G m c main_v5_4 = codesG m c := by
  unfold G
  rw [Function.update_self]

/-- All the kernel holds but its windows, the written arrays at `G`. -/
abbrev Held (Gc : (c : Dev nD) → (b : Ref sig .tc) → Buf (Elt F) ((c.tc : Thread nD τ).loc b)) (c : Dev nD) : sProp 𝕄 :=
  Pipeline.ΦDRV osem0 spec0 H0 R0 (V m) Gc c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => biasG m c
    | ⟨4, _⟩ => amaxG m c
  Φ t := if t.val = 0 then Held m (V m) c else Held m (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = biasG m c := by dsimp only [dats]
theorem after0_4 (c : Dev nD) (t : Fin cfg0.N) : (dats m 0 c).after 4 t = amaxG m c := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans (by unfold Dat.fetched Dat.blockOf iblk; rw [A_eq]; rfl)

end Cert.KernelIdeal.Hand
-- ==== Proof.KIFrame.lean ====
/-
  The kernel's one launch: the proof of its body at its one grid point, the run, the frame, and what the results hold.
-/
module

public import proofs.«01_k».proof.Proof.KIOut

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

theorem own_whole (c : Dev nD) (r : Ref sig .tc) : (Own c (Memref.whole r) : sProp 𝕄)
    = iprop(∃ f : Buf (Elt F) ((c : Thread nD τ).loc r), ((c : Thread nD τ).loc r) ↦{fullShare} f) := by
  unfold Own
  rw [(Memref.isWhole_whole r).set_eq_univ]

/-- The cells, one after the other. -/
theorem ownSems00_eq (c : Dev nD) : (Pipeline.ownSems0 (Ix := Unit) (Name := ℕ) (U := Pipeline.UD sig nD τ) (Lvl := ℕ) (Val := Elt F) (τ := τ) osem0 c : sProp 𝕄)
    = iprop(Idle (F := F) c (cell cc0_scratch8 0) ∗ Idle (F := F) c (cell cc0_scratch8 1) ∗ Idle (F := F) c (cell cc0_scratch8 2) ∗ Idle (F := F) c (cell cc0_scratch8 3) ∗ Idle (F := F) c (cell cc0_scratch8 4) ∗ Idle (F := F) c (cell cc0_scratch8 5) ∗ Idle (F := F) c (cell cc0_scratch9 0) ∗ Idle (F := F) c (cell cc0_scratch9 1) ∗ Idle (F := F) c (cell cc0_scratch9 2) ∗ Idle (F := F) c (cell cc0_scratch9 3) ∗ Idle (F := F) c (cell cc0_scratch9 4) ∗ Idle (F := F) c (cell cc0_scratch9 5) ∗ Idle (F := F) c (cell cc0_scratch10 0) ∗ Idle (F := F) c (cell cc0_scratch10 1) ∗ Idle (F := F) c (cell cc0_scratch10 2) ∗ Idle (F := F) c (cell cc0_scratch10 3) ∗ Idle (F := F) c (cell cc0_scratch10 4) ∗ Idle (F := F) c (cell cc0_scratch10 5) ∗ Idle (F := F) c (cell cc0_scratch11 0) ∗ Idle (F := F) c (cell cc0_scratch11 1) ∗ Idle (F := F) c (cell cc0_scratch11 2) ∗ Idle (F := F) c (cell cc0_scratch11 3) ∗ Idle (F := F) c (cell cc0_scratch11 4) ∗ Idle (F := F) c (cell cc0_scratch11 5) ∗ Idle (F := F) c (cell cc0_scratch12 0) ∗ Idle (F := F) c (cell cc0_scratch12 1) ∗ Idle (F := F) c (cell cc0_scratch12 2) ∗ Idle (F := F) c (cell cc0_scratch12 3) ∗ Idle (F := F) c (cell cc0_scratch12 4) ∗ Idle (F := F) c (cell cc0_scratch12 5) ∗ Idle c cc0_scratch13.sem ∗ Idle c cc0_scratch14.sem) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl
theorem cells_in (c : Dev nD) : (Pipeline.ownSems0 (Ix := Unit) (Name := ℕ) (U := Pipeline.UD sig nD τ) (Lvl := ℕ) (Val := Elt F) (τ := τ) osem0 c : sProp 𝕄)
    ⊢ iprop(Cells (F := F) c cc0_scratch8 ∗ Cells (F := F) c cc0_scratch9 ∗ Cells (F := F) c cc0_scratch10 ∗ Cells (F := F) c cc0_scratch11 ∗ Cells (F := F) c cc0_scratch12 ∗ Idle c cc0_scratch13.sem ∗ Idle c cc0_scratch14.sem) := by
  rw [ownSems00_eq]
  iintro ⟨A0, A1, A2, A3, A4, A5, A6, A7, A8, A9, A10, A11, A12, A13, A14, A15, A16, A17, A18, A19, A20, A21, A22, A23, A24, A25, A26, A27, A28, A29, A30, A31⟩
  isplitl [A0 A1 A2 A3 A4 A5]
  · unfold Cells six
    isplitl [A0]; · iexact A0
    isplitl [A1]; · iexact A1
    isplitl [A2]; · iexact A2
    isplitl [A3]; · iexact A3
    isplitl [A4]; · iexact A4
    iexact A5
  isplitl [A6 A7 A8 A9 A10 A11]
  · unfold Cells six
    isplitl [A6]; · iexact A6
    isplitl [A7]; · iexact A7
    isplitl [A8]; · iexact A8
    isplitl [A9]; · iexact A9
    isplitl [A10]; · iexact A10
    iexact A11
  isplitl [A12 A13 A14 A15 A16 A17]
  · unfold Cells six
    isplitl [A12]; · iexact A12
    isplitl [A13]; · iexact A13
    isplitl [A14]; · iexact A14
    isplitl [A15]; · iexact A15
    isplitl [A16]; · iexact A16
    iexact A17
  isplitl [A18 A19 A20 A21 A22 A23]
  · unfold Cells six
    isplitl [A18]; · iexact A18
    isplitl [A19]; · iexact A19
    isplitl [A20]; · iexact A20
    isplitl [A21]; · iexact A21
    isplitl [A22]; · iexact A22
    iexact A23
  isplitl [A24 A25 A26 A27 A28 A29]
  · unfold Cells six
    isplitl [A24]; · iexact A24
    isplitl [A25]; · iexact A25
    isplitl [A26]; · iexact A26
    isplitl [A27]; · iexact A27
    isplitl [A28]; · iexact A28
    iexact A29
  isplitl [A30]; · iexact A30
  iexact A31

theorem cells_out (c : Dev nD) : (iprop(Cells (F := F) c cc0_scratch8 ∗ Cells (F := F) c cc0_scratch9 ∗ Cells (F := F) c cc0_scratch10 ∗ Cells (F := F) c cc0_scratch11 ∗ Cells (F := F) c cc0_scratch12 ∗ Idle c cc0_scratch13.sem ∗ Idle c cc0_scratch14.sem) : sProp 𝕄)
    ⊢ Pipeline.ownSems0 (Ix := Unit) (Name := ℕ) (U := Pipeline.UD sig nD τ) (Lvl := ℕ) (Val := Elt F) (τ := τ) osem0 c := by
  rw [ownSems00_eq]
  unfold Cells six
  iintro ⟨⟨A0, A1, A2, A3, A4, A5⟩, ⟨A6, A7, A8, A9, A10, A11⟩, ⟨A12, A13, A14, A15, A16, A17⟩, ⟨A18, A19, A20, A21, A22, A23⟩, ⟨A24, A25, A26, A27, A28, A29⟩, A30, A31⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem hbm_eq (c : Dev nD) : (bigSep H0 fun b => ((c.tc : Thread nD τ).loc b) ↦{fullShare} V m c b : sProp 𝕄)
    = iprop(Tok c (Memref.whole main_v3) fullShare (V m c main_v3) ∗ Tok c (Memref.whole main_v4) fullShare (V m c main_v4) ∗ Tok c (Memref.whole main_arg4) fullShare (V m c main_arg4) ∗ Tok c (Memref.whole main_arg6) fullShare (V m c main_arg6)) := by
  rw [BI.bigSep_eq_bigSepL_of_eq [main_v3, main_v4, main_arg4, main_arg6] (by decide) (by decide)]; rfl
theorem out_eq (Gc : (c : Dev nD) → (b : Ref sig .tc) → Buf (Elt F) ((c.tc : Thread nD τ).loc b)) (c : Dev nD) :
    (bigSep R0 fun b => ((c.tc : Thread nD τ).loc b) ↦{fullShare} Gc c b : sProp 𝕄)
    = iprop((((c.tc : Thread nD τ).loc main_v5_0) ↦{fullShare} Gc c main_v5_0) ∗ (((c.tc : Thread nD τ).loc main_v5_1) ↦{fullShare} Gc c main_v5_1)
      ∗ (((c.tc : Thread nD τ).loc main_v5_4) ↦{fullShare} Gc c main_v5_4)) := by
  rw [BI.bigSep_eq_bigSepL_of_eq [main_v5_0, main_v5_1, main_v5_4] (by decide) (by decide)]; rfl

theorem scr_eq (c : Dev nD) : (Pipeline.scopedRest (Ix := Unit) (Name := ℕ) (U := Pipeline.UD sig nD τ) (Lvl := ℕ) (Val := Elt F) spec0 c : sProp 𝕄)
    = iprop(Own (F := F) c (Memref.whole cc0_scratch0) ∗ Own (F := F) c (Memref.whole cc0_scratch1) ∗ Own (F := F) c (Memref.whole cc0_scratch2) ∗ Own (F := F) c (Memref.whole cc0_scratch3) ∗ Own (F := F) c (Memref.whole cc0_scratch4) ∗ Own (F := F) c (Memref.whole cc0_scratch5) ∗ Own (F := F) c (Memref.whole cc0_scratch6) ∗ Own (F := F) c (Memref.whole cc0_scratch7)) := by
  rw [scopedRest0_eq]
  simp only [own_whole]

theorem own_of_pts (c : Dev nD) (r : Ref sig .tc) (f : Buf (Elt F) ((c : Thread nD τ).loc r)) :
    (((c : Thread nD τ).loc r) ↦{fullShare} f : sProp 𝕄) ⊢ Own c (Memref.whole r) := by
  rw [own_whole]
  iintro H
  iexists f
  iexact H
theorem pts_of_set (c : Dev nD) (r : Ref sig .tc) (f : Buf (Elt F) ((c : Thread nD τ).loc r)) :
    ((Memref.whole r).view.loc (c : Thread nD τ) ↦[(Memref.whole r).view.set]{fullShare} f : sProp 𝕄) ⊢ (((c : Thread nD τ).loc r) ↦{fullShare} f) := by
  rw [(Memref.isWhole_whole r).set_eq_univ]
theorem pts_of_dx (c : Dev nD) (X : S768x1536.Idx → Elt F .bf16) :
    (Holds c (Memref.whole main_v5_0) X : sProp 𝕄) ⊢ (((c : Thread nD τ).loc main_v5_0) ↦{fullShare} X) := by
  unfold Holds
  iintro ⟨%f, H, %hf⟩
  have e : f = X := hf
  subst e
  iapply pts_of_set $$ H

theorem holds_of_owns {sp : Space} {s : Shape} {e : EltTy} (c : Dev nD) (M : Memref sig .tc sp s e) (X : s.Idx → Elt F e) :
    (owns (c : Thread nD τ) M fullShare X : sProp 𝕄) ⊢ Holds c M X := by
  unfold owns Holds
  iintro ⟨%f, %hf, H⟩
  iexists f
  isplitl [H]; · iexact H
  ipureintro; exact hf
theorem owns_of_holds {sp : Space} {s : Shape} {e : EltTy} (c : Dev nD) (M : Memref sig .tc sp s e) (X : s.Idx → Elt F e) :
    (Holds c M X : sProp 𝕄) ⊢ owns (c : Thread nD τ) M fullShare X := by
  unfold owns Holds
  iintro ⟨%f, H, %hf⟩
  iexists f
  isplitr
  · ipureintro; exact hf
  iexact H
theorem own_of_holds {sp : Space} {s : Shape} {e : EltTy} (c : Dev nD) (M : Memref sig .tc sp s e) (X : s.Idx → Elt F e) :
    (Holds c M X : sProp 𝕄) ⊢ Own c M := by
  unfold Own Holds
  iintro ⟨%f, H, %hf⟩
  iexists f
  iexact H

theorem owes_out (c : Dev nD) : (Owes c : sProp 𝕄) ⊢ iprop(∃ W, owes (c : Thread nD τ) 0 W) := .rfl

abbrev ms0 (t : Fin cfg0.N) := (cfg0.win 0).stage (cfg0.slots t 0)
abbrev ms1 (t : Fin cfg0.N) := (cfg0.win 1).stage (cfg0.slots t 1)
abbrev ms2 (t : Fin cfg0.N) := (cfg0.win 2).stage (cfg0.slots t 2)
abbrev ms3 (t : Fin cfg0.N) := (cfg0.win 3).stage (cfg0.slots t 3)
abbrev ms4 (t : Fin cfg0.N) := (cfg0.win 4).stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The kernel's arguments and what it holds, in and out of the launch's terms. -/
abbrev Given (c : Dev nD) (Gc : (c : Dev nD) → (b : Ref sig .tc) → Buf (Elt F) ((c.tc : Thread nD τ).loc b)) : sProp 𝕄 :=
  iprop((Own (F := F) c (Memref.whole cc0_scratch0) ∗ Own (F := F) c (Memref.whole cc0_scratch1) ∗ Own (F := F) c (Memref.whole cc0_scratch2) ∗ Own (F := F) c (Memref.whole cc0_scratch3) ∗ Own (F := F) c (Memref.whole cc0_scratch4) ∗ Own (F := F) c (Memref.whole cc0_scratch5) ∗ Own (F := F) c (Memref.whole cc0_scratch6) ∗ Own (F := F) c (Memref.whole cc0_scratch7)) ∗ (Cells (F := F) c cc0_scratch8 ∗ Cells (F := F) c cc0_scratch9 ∗ Cells (F := F) c cc0_scratch10 ∗ Cells (F := F) c cc0_scratch11 ∗ Cells (F := F) c cc0_scratch12 ∗ Idle c cc0_scratch13.sem ∗ Idle c cc0_scratch14.sem)
    ∗ (Tok c (Memref.whole main_v3) fullShare (V m c main_v3) ∗ Tok c (Memref.whole main_v4) fullShare (V m c main_v4) ∗ Tok c (Memref.whole main_arg4) fullShare (V m c main_arg4) ∗ Tok c (Memref.whole main_arg6) fullShare (V m c main_arg6))
    ∗ ((((c.tc : Thread nD τ).loc main_v5_0) ↦{fullShare} Gc c main_v5_0) ∗ (((c.tc : Thread nD τ).loc main_v5_1) ↦{fullShare} Gc c main_v5_1)
      ∗ (((c.tc : Thread nD τ).loc main_v5_4) ↦{fullShare} Gc c main_v5_4)))
theorem held_in (c : Dev nD) (Gc : (c : Dev nD) → (b : Ref sig .tc) → Buf (Elt F) ((c.tc : Thread nD τ).loc b)) : Held m Gc c ⊢ Given m c Gc := by
  unfold Held Pipeline.ΦDRV
  rw [hbm_eq, out_eq, scr_eq]
  exact BIClass.sep_mono .rfl (BIClass.sep_mono (cells_in c) .rfl)
theorem held_out (c : Dev nD) (Gc : (c : Dev nD) → (b : Ref sig .tc) → Buf (Elt F) ((c.tc : Thread nD τ).loc b)) : Given m c Gc ⊢ Held m Gc c := by
  unfold Held Pipeline.ΦDRV
  rw [hbm_eq, out_eq, scr_eq]
  exact BIClass.sep_mono .rfl (BIClass.sep_mono (cells_out c) .rfl)

theorem Phi_in (c : Dev nD) : (dats m 0 c).Φ (t0_0 : Fin cfg0.N).castSucc = Held m (V m) c := by
  dsimp only [dats]
  exact if_pos rfl
theorem Phi_out (c : Dev nD) : (dats m 0 c).Φ (t0_0 : Fin cfg0.N).succ = Held m (G m) c := by
  dsimp only [dats]
  exact if_neg (by decide)

set_option maxHeartbeats 1000000 in
theorem sound_body0 (c : Dev nD) :
    bodyPre m c t0_0 ⊢ wp frame (wpE (defs₀ (F := F)) Variants.none c none) Set.univ (bodyAt0 t0_0) (fun _ => bodyPost m c t0_0) := by
  unfold bodyPre bodyPost bodyAt0
  rw [Phi_in, Phi_out, after0_0, after0_1, after0_2, after0_3, after0_4]
  simp only [before0_0, before0_1, before0_2]
  unfold Dat.owesAt Pipeline.owesWithin
  rw [show (dats m 0 c).owed (t0_0 : Fin cfg0.N).castSucc = 0 from rfl, show (dats m 0 c).owed (t0_0 : Fin cfg0.N).succ = 0 from rfl]
  iintro ⟨HK, ⟨%W, -, HW⟩, ⟨%d0, H0⟩, ⟨%d1, H1⟩, ⟨%d2, H2⟩, ⟨%d3, H3⟩, ⟨%d4, H4⟩⟩
  ihave ⟨HS, HC, HT, ⟨O0, O1, O2⟩⟩ := (held_in m c (V m)) $$ HK
  have HH := fun Z => kernel_whole (𝒱 := Variants.none) (c := c) (bd := none)
    (arg0 := win0_0.stage (cfg0.slots t0_0 0)) (harg0 := hstage0_0 0) (arg1 := win0_1.stage (cfg0.slots t0_0 1)) (harg1 := hstage0_1 0)
    (arg2 := win0_2.stage (cfg0.slots t0_0 2)) (harg2 := hstage0_2 0)
    (arg3 := Memref.whole main_v3) (harg3 := Memref.isWhole_whole main_v3)
    (arg4 := Memref.whole main_v4) (harg4 := Memref.isWhole_whole main_v4)
    (arg5 := Memref.whole main_arg4) (harg5 := Memref.isWhole_whole main_arg4)
    (arg6 := Memref.whole main_arg6) (harg6 := Memref.isWhole_whole main_arg6)
    (arg7 := Memref.whole main_v5_0) (harg7 := Memref.isWhole_whole main_v5_0)
    (arg8 := Memref.whole main_v5_1) (harg8 := Memref.isWhole_whole main_v5_1)
    (arg9 := win0_3.stage (cfg0.slots t0_0 3)) (harg9 := hstage0_3 0) (arg10 := win0_4.stage (cfg0.slots t0_0 4)) (harg10 := hstage0_4 0)
    (arg11 := Memref.whole main_v5_4) (harg11 := Memref.isWhole_whole main_v5_4)
    (arg12 := Memref.whole cc0_scratch0) (harg12 := Memref.isWhole_whole cc0_scratch0)
    (arg13 := Memref.whole cc0_scratch1) (harg13 := Memref.isWhole_whole cc0_scratch1)
    (arg14 := Memref.whole cc0_scratch2) (harg14 := Memref.isWhole_whole cc0_scratch2)
    (arg15 := Memref.whole cc0_scratch3) (harg15 := Memref.isWhole_whole cc0_scratch3)
    (arg16 := Memref.whole cc0_scratch4) (harg16 := Memref.isWhole_whole cc0_scratch4)
    (arg17 := Memref.whole cc0_scratch5) (harg17 := Memref.isWhole_whole cc0_scratch5)
    (arg18 := Memref.whole cc0_scratch6) (harg18 := Memref.isWhole_whole cc0_scratch6)
    (arg19 := Memref.whole cc0_scratch7) (harg19 := Memref.isWhole_whole cc0_scratch7)
    (arg20 := cc0_scratch8) (arg21 := cc0_scratch9) (arg22 := cc0_scratch10) (arg23 := cc0_scratch11) (arg24 := cc0_scratch12) (arg25 := cc0_scratch13) (arg26 := cc0_scratch14)
    (f3 := V m c main_v3) (f4 := V m c main_v4) (f5 := V m c main_arg4) (f6 := V m c main_arg6) (G8 := mgoG m c) (G11 := codesG m c)
    (iblk m c 0 t0_0) (iblk m c 1 t0_0) (iblk m c 2 t0_0) Z (codesG_blk m c) (mgoG_blk m c) (dxG m c) rfl
  iapply wp_wand_r frame (wpE (defs₀ (F := F)) Variants.none c none) Set.univ
  isplitl [HS HC HT O0 O1 O2 HW H0 H1 H2 H3 H4]
  · iapply (HH ((dats m 0 c).before 3 t0_0 d3))
    isplitl [H0 H1 H2 H3 H4]
    · isplitl [H0]; · iapply holds_of_owns $$ H0
      isplitl [H1]; · iapply holds_of_owns $$ H1
      isplitl [H2]; · iapply holds_of_owns $$ H2
      isplitl [H3]; · iapply holds_of_owns $$ H3
      ihave H4 := holds_of_owns $$ H4
      iapply own_of_holds $$ H4
    isplitl [HW]
    · unfold Move.Owes
      iexists W
      iexact HW
    isplitl [HS]; · iexact HS
    isplitl [HC]; · iexact HC
    isplitl [HT]; · iexact HT
    isplitl [O0]; · iapply own_of_pts $$ O0
    isplitl [O1]; · iapply own_of_pts $$ O1
    iapply own_of_pts $$ O2
  iintro %u ⟨⟨H0, H1, H2, H3, H4⟩, HO, HS, HC, HT, ⟨O0, O1, O2⟩⟩
  ihave ⟨%W', HW'⟩ := owes_out c $$ HO
  isplitl [HS HC HT O0 O1 O2]
  · iapply held_out m c (G m)
    isplitl [HS]; · iexact HS
    isplitl [HC]; · iexact HC
    isplitl [HT]; · iexact HT
    rw [G_dx, G_mgo, G_codes]
    isplitl [O0]; · iapply pts_of_dx $$ O0
    isplitl [O1]; · iapply pts_of_set $$ O1
    iapply pts_of_set $$ O2
  isplitl [HW']
  · iexists W'; isplitr; · ipureintro; exact fun _ _ => Or.inl trivial
    iexact HW'
  isplitl [H0]; · iapply owns_of_holds $$ H0
  isplitl [H1]; · iapply owns_of_holds $$ H1
  isplitl [H2]; · iapply owns_of_holds $$ H2
  rw [← biasBuf_all m c ((dats m 0 c).before 3 t0_0 d3)]
  isplitl [H3]; · iapply owns_of_holds $$ H3
  iapply owns_of_holds $$ H4

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  exact sound_body0 m c

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmain' (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What every buffer holds after the last line. -/
abbrev Wv (c : Dev nD) : Valuation τ sig (Elt F) :=
  StableHlo.after (List.flatten [hostOps1]) (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD, ∀ b ∈ Pipeline.restRefs sig spec0,
    r.2.mem ((c.tc : Thread nD τ).loc b) = Wv m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain' m Variants.none) (hA := A_eq m)
    (hin := fun c => by rw [show (dats m 0 c).Φ 0 = Held m (V m) c from Phi_in m c])
    (hout := fun c => by rw [show (dats m 0 c).Φ (Fin.last cfg0.N) = Held m (G m) c from Phi_out m c])
    (Q' := _) (hQ' := fun r h => ⟨fun c b hb => (h.1 c).2 b hb, h.2⟩)

/-- A buffer that no line after the launch writes, that is no window's and that the kernel does not write, holds what it held before. -/
theorem Wv_keeps (c : Dev nD) (b : Ref sig .tc) (h1 : (List.flatten [hostOps1 (F := F)]).Forall fun op => Proc.devRef .tc b ∉ op.writes)
    (h2 : ∀ w, Pipeline.arrRef spec0 w ≠ b) (h3 : b ∉ R0) : Wv m c (Proc.devRef .tc b) = V m c b := by
  unfold Wv
  rw [StableHlo.after_of_forall_not_mem (b := Proc.devRef .tc b) _ _ (List.forall_iff_forall_mem.mp h1),
    Pipeline.withArrays_of_ne _ c _ _ b h2, Pipeline.withR_of_not_mem _ _ _ _ b h3]

theorem Wv_main_arg0 (c : Dev nD) : Wv m c (Proc.devRef .tc main_arg0) = m ((c : Thread nD τ).loc main_arg0) :=
  (Wv_keeps m c main_arg0 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg0 m c)
theorem Wv_main_arg1 (c : Dev nD) : Wv m c (Proc.devRef .tc main_arg1) = m ((c : Thread nD τ).loc main_arg1) :=
  (Wv_keeps m c main_arg1 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg1 m c)
theorem Wv_main_arg2 (c : Dev nD) : Wv m c (Proc.devRef .tc main_arg2) = m ((c : Thread nD τ).loc main_arg2) :=
  (Wv_keeps m c main_arg2 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg2 m c)
theorem Wv_main_arg3 (c : Dev nD) : Wv m c (Proc.devRef .tc main_arg3) = m ((c : Thread nD τ).loc main_arg3) :=
  (Wv_keeps m c main_arg3 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg3 m c)
theorem Wv_main_arg4 (c : Dev nD) : Wv m c (Proc.devRef .tc main_arg4) = m ((c : Thread nD τ).loc main_arg4) :=
  (Wv_keeps m c main_arg4 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg4 m c)
theorem Wv_main_arg5 (c : Dev nD) : Wv m c (Proc.devRef .tc main_arg5) = m ((c : Thread nD τ).loc main_arg5) :=
  (Wv_keeps m c main_arg5 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg5 m c)
theorem Wv_main_arg6 (c : Dev nD) : Wv m c (Proc.devRef .tc main_arg6) = m ((c : Thread nD τ).loc main_arg6) :=
  (Wv_keeps m c main_arg6 (by
    simp only [hostOps1, List.flatten_cons, List.flatten_nil, List.append_nil, List.cons_append, List.nil_append, List.Forall, StableHlo.reshape_writes, Finset.mem_singleton]
    repeat' apply And.intro
    all_goals exact StableHlo.devRef_ne_of_ne (by decide)) (by decide) (by decide)).trans (V_main_arg6 m c)

/-- The program runs, its arguments end as they began, and nothing is left in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hz⟩ => ⟨fun c => ⟨
    (h c main_arg0 (Pipeline.mem_restRefs_of main_arg0 (by decide) (by decide))).trans (Wv_main_arg0 m c),
    (h c main_arg1 (Pipeline.mem_restRefs_of main_arg1 (by decide) (by decide))).trans (Wv_main_arg1 m c),
    (h c main_arg2 (Pipeline.mem_restRefs_of main_arg2 (by decide) (by decide))).trans (Wv_main_arg2 m c),
    (h c main_arg3 (Pipeline.mem_restRefs_of main_arg3 (by decide) (by decide))).trans (Wv_main_arg3 m c),
    (h c main_arg4 (Pipeline.mem_restRefs_of main_arg4 (by decide) (by decide))).trans (Wv_main_arg4 m c),
    (h c main_arg5 (Pipeline.mem_restRefs_of main_arg5 (by decide) (by decide))).trans (Wv_main_arg5 m c),
    (h c main_arg6 (Pipeline.mem_restRefs_of main_arg6 (by decide) (by decide))).trans (Wv_main_arg6 m c)⟩, hz⟩) (run_main m ρ)

end Cert.KernelIdeal.Hand
-- ==== Proof.Sums.lean ====
/-
  Sums over a range of numbers, cut into groups.
-/
module

public import Mathlib.Data.EReal.Basic
public import Mathlib.Algebra.BigOperators.Fin
public import Mathlib.Algebra.BigOperators.Intervals

@[expose] public section

namespace Sums

variable {M : Type*} [AddCommMonoid M]

/-- A sum over `m * n` numbers is the sum over `m` groups of `n`. -/
theorem groups (f : ℕ → M) (m n : ℕ) :
    ∑ i ∈ Finset.range m, ∑ j ∈ Finset.range n, f (n * i + j) = ∑ r ∈ Finset.range (m * n), f r := by
  induction m with
  | zero => simp
  | succ m ih =>
    rw [Finset.sum_range_succ, ih, Nat.succ_mul, Finset.sum_range_add]
    simp only [Nat.mul_comm n m]

/-- Eight lanes, each over 24 groups of 4 numbers eight apart, together cover 768 numbers. -/
theorem lanes (f : ℕ → M) :
    ∑ b : Fin 8, ∑ i ∈ Finset.range 24, ∑ a : Fin 4, f (32 * i + 8 * a.val + b.val) = ∑ r : Fin 768, f r.val := by
  rw [Finset.sum_comm, Fin.sum_univ_eq_sum_range f 768, show 768 = 24 * 32 from rfl, ← groups]
  refine Finset.sum_congr rfl fun i _ => ?_
  rw [Finset.sum_comm, show 32 = 4 * 8 from rfl, ← groups (fun r => f (4 * 8 * i + r)) 4 8, ← Fin.sum_univ_eq_sum_range (fun a => ∑ j ∈ Finset.range 8, f (4 * 8 * i + (8 * a + j))) 4]
  refine Finset.sum_congr rfl fun a _ => ?_
  rw [← Fin.sum_univ_eq_sum_range (fun j => f (4 * 8 * i + (8 * a.val + j))) 8]
  simp only [Nat.add_assoc]

/-- A sum over `m * n` places, each split into its group and its place there, is the double sum. -/
theorem pairs (m n : ℕ) (f : Fin m → Fin n → M) : ∑ r : Fin (m * n), f r.divNat r.modNat = ∑ a : Fin m, ∑ b : Fin n, f a b :=
  (Equiv.sum_comp (finProdFinEquiv (m := m) (n := n)).symm fun p => f p.1 p.2).trans (Fintype.sum_prod_type _)

/-- A double sum over groups and places there is the sum over all places. -/
theorem places (m n : ℕ) (f : Fin (m * n) → M) :
    ∑ a : Fin m, ∑ b : Fin n, f (finProdFinEquiv (a, b)) = ∑ r : Fin (m * n), f r :=
  (Fintype.sum_prod_type fun p => f (finProdFinEquiv p)).symm.trans (Equiv.sum_comp (finProdFinEquiv (m := m) (n := n)) f)

end Sums
-- ==== Proof.Reads.lean ====
/-
  Reading, at the extended reals, the value of an array operation at one index: a change of shape, a sum
  along axes, a maximum along axes.
-/
module

public import Idealize.ShloMosaic.PureOps.Ideal.Laws
public import Idealize.ShloMosaic.Lib.ValueIdxCore

@[expose] public section

namespace Reads

open Idealize.ShloMosaic Idealize.ShloMosaic.ValueIdx

/-- An array of another shape, read at an index, is the array read at the index of the same place in row-major order. -/
theorem cast_at {α : Type} {s : Shape} (t : Shape) (x : s.Idx → α) (h : s.ShapeCasts t) (j : t.Idx) (y : s.Idx)
    (e : (s.rowMajor y : Nat) = t.rowMajor j) : shapeCast t x h j = x y :=
  congrArg x (Shape.reshapeEquiv_eq_of_rowMajor h e)

variable {φ : FTy}

/-- A sum along several axes is the sum over every index that the reduction sends to the one read. -/
theorem add_at {s t : Shape} {axes : List (Fin s.rank)} (src : FVec Ideal s φ) (acc : BitVec φ.bits) (h : s.Reduces axes t)
    (hφ : FKind.Formats φ) (hacc : acc = FKind.add.neutral φ hφ) (j : t.Idx) :
    multiReduction .add axes t src acc h hφ hacc j = ∑ i ∈ Finset.univ.filter (fun i => h.drop i = j), src i := rfl

/-- One number's code: the number over the scale, kept between the two ends of the format. -/
noncomputable def code (x v : EReal) : EReal :=
  min (Ideal.ofBits .f32 0x47600000#32) (max (Ideal.ofBits .f32 0xC7600000#32) (x * Ideal.div (Ideal.ofBits .f32 0x3F800000#32) v))

/-- A change of format does not change a number. -/
theorem truncf_id {s : Shape} {φ' : FTy} (x : FVec Ideal s φ) (h : φ'.bits < φ.bits) : truncf φ' x h = (x : s.Idx → EReal) := rfl

theorem bot_f32 : (Scalar.ofBits .f32 0xFF800000#32 : Ideal .f32) = (⊥ : EReal) := by
  show Ideal.ofBits .f32 0xFF800000#32 = ⊥
  simp [Ideal.ofBits, Ideal.ieee]

theorem zero_f32 : (Scalar.ofBits .f32 0x00000000#32 : Ideal .f32) = (0 : EReal) := Ideal.ofBits_zero_f32

/-- A maximum along several axes lies below a bound exactly when every entry it takes does. -/
theorem max_le {s t : Shape} {axes : List (Fin s.rank)} (src : FVec Ideal s .f32) (h : s.Reduces axes t)
    (hφ : FKind.Formats .f32) (hacc : 0xFF800000#32 = FKind.maximumf.neutral .f32 hφ) (j : t.Idx) (c : EReal) :
    (multiReduction .maximumf axes t src 0xFF800000#32 h hφ hacc j : EReal) ≤ c ↔ ∀ i, h.drop i = j → (src i : EReal) ≤ c := by
  have e := multiReduction_maximumf_eq_fold (F := Ideal) src 0xFF800000#32 h hφ hacc j
  rw [e]
  have := Finset.fold_max_le (f := (src : s.Idx → EReal)) (b := (Scalar.ofBits .f32 0xFF800000#32 : Ideal .f32)) (s := Finset.univ.filter fun i => h.drop i = j) c
  refine Iff.trans this ?_
  rw [bot_f32]
  simp

/-- The absolute value is not negative. -/
theorem zero_le_abs (x : EReal) : 0 ≤ max x (-x) := by
  rcases le_total 0 x with h | h
  · exact le_max_of_le_left h
  · exact le_max_of_le_right (by simpa using EReal.neg_le_neg_iff.mpr h)

/-- A product that contracts two axes sums over the pairs of their positions. -/
def contrEquiv2 {sl sr so : Shape} (D : DotDims sl sr so) (n0 n1 : ℕ) (hr : D.contr.rank = 2)
    (h0 : D.contr.size ⟨0, by omega⟩ = n0) (h1 : D.contr.size ⟨1, by omega⟩ = n1) : D.contr.Idx ≃ Fin n0 × Fin n1 where
  toFun q := ((q ⟨0, by omega⟩).cast h0, (q ⟨1, by omega⟩).cast h1)
  invFun p := fun a =>
    if h : a.val = 0 then p.1.cast (h0.symm.trans (congrArg D.contr.size (Fin.ext h.symm)))
    else p.2.cast (h1.symm.trans (congrArg D.contr.size (Fin.ext (show 1 = a.val by have := a.isLt; omega))))
  left_inv q := by
    funext a
    apply Fin.ext
    by_cases h : a.val = 0
    · have e : (⟨0, hr ▸ Nat.two_pos⟩ : Fin D.contr.rank) = a := Fin.ext h.symm
      subst e; simp
    · have e : (⟨1, hr ▸ Nat.one_lt_two⟩ : Fin D.contr.rank) = a := Fin.ext (show 1 = a.val by have := a.isLt; omega)
      subst e; simp
  right_inv p := by simp

/-- The coordinates of the index a pair stands for. -/
theorem contrEquiv2_symm_fst {sl sr so : Shape} (D : DotDims sl sr so) (n0 n1 : ℕ) (hr : D.contr.rank = 2)
    (h0 : D.contr.size ⟨0, by omega⟩ = n0) (h1 : D.contr.size ⟨1, by omega⟩ = n1) (p : Fin n0 × Fin n1) :
    (((contrEquiv2 D n0 n1 hr h0 h1).symm p) ⟨0, by omega⟩ : ℕ) = p.1.val := by
  simp [contrEquiv2]
theorem contrEquiv2_symm_snd {sl sr so : Shape} (D : DotDims sl sr so) (n0 n1 : ℕ) (hr : D.contr.rank = 2)
    (h0 : D.contr.size ⟨0, by omega⟩ = n0) (h1 : D.contr.size ⟨1, by omega⟩ = n1) (p : Fin n0 × Fin n1) :
    (((contrEquiv2 D n0 n1 hr h0 h1).symm p) ⟨1, by omega⟩ : ℕ) = p.2.val := by
  simp [contrEquiv2]

/-- A sum over a three-axis array's indices is the sum over its three coordinates. -/
theorem sum_ix3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    ⟨fun i => (i 0, i 1, i 2), fun p => ix3 p.1 p.2.1 p.2.2, fun i => (eq_ix3 i).symm, fun _ => rfl⟩
  rw [← Equiv.sum_comp e.symm f, Fintype.sum_prod_type]
  refine Finset.sum_congr rfl fun a _ => ?_
  rw [Fintype.sum_prod_type]
  rfl

end Reads
-- ==== Proof.KIBlock.lean ====
/-
  What the idealized kernel computes from one block of 256 columns, entry by entry, over the extended reals:
  the codes, the column sums, the running maximum and the two products.
-/
module

public import proofs.«01_k».proof.Proof.KIVals
public import proofs.«01_k».proof.Proof.Sums
public import proofs.«01_k».proof.Proof.Reads
public import Idealize.ShloMosaic.Lib.MatmulPlain

@[expose] public section

noncomputable section

namespace Cert.KernelIdeal.Hand

open Cert.KernelIdeal Cert.KernelIdeal.Gen
open Idealize.ShloMosaic Idealize.ShloMosaic.TcCoe Idealize.ShloMosaic.Tactic
open Move Idealize.ShloMosaic.ValueIdx Reads

local notation "E" => EReal

/-- Row `r` of a block (rows are counted around), column `k`. -/
def at2 {n : ℕ} [NeZero n] {p : ℕ} (D : (⟨2, ![n, p]⟩ : Shape).Idx → E) (r : ℕ) (k : Fin p) : E := D (ix2 (Fin.ofNat n r) k)

/-- 32 rows as 4 groups of 8: entry `(a, b, k)` is row `8 a + b`, column `k`. -/
theorem pay6_at (v : S1x32x256.Idx → E) (a : Fin 4) (b : Fin 8) (k : Fin 256) :
    (k0_pay6 (F := Ideal) v (ix3 a b k) : E) = v (ix3 (⟨0, Nat.one_pos⟩ : Fin 1) (⟨8 * a.val + b.val, by omega⟩ : Fin 32) k) := by
  unfold k0_pay6
  refine (cast_at _ _ _ (ix3 a b k) (ix2 (⟨8 * a.val + b.val, by omega⟩ : Fin 32) k) ?_).trans ?_
  · rw [Shape.rowMajor_val_two, Shape.rowMajor_val_three]
    show (8 * a.val + b.val) * 256 + k.val = (a.val * 8 + b.val) * 256 + k.val
    omega
  · refine cast_at _ v _ (ix2 (⟨8 * a.val + b.val, by omega⟩ : Fin 32) k) (ix3 (⟨0, Nat.one_pos⟩ : Fin 1) (⟨8 * a.val + b.val, by omega⟩ : Fin 32) k) ?_
    rw [Shape.rowMajor_val_two, Shape.rowMajor_val_three]
    show (0 * 32 + (8 * a.val + b.val)) * 256 + k.val = (8 * a.val + b.val) * 256 + k.val
    omega

/-- The same of the rows of group `j` of a block. -/
theorem pay6_chunk (D : S768x256.Idx → E) (j : ℕ) (a : Fin 4) (b : Fin 8) (k : Fin 256) :
    (k0_pay6 (F := Ideal) (chunk D j) (ix3 a b k) : E) = at2 D (32 * j + 8 * a.val + b.val) k := by
  rw [pay6_at]
  show D _ = D _
  congr 1
  funext i
  fin_cases i
  · apply Fin.ext
    show (32 * j + (8 * a.val + b.val)) % 768 = (32 * j + 8 * a.val + b.val) % 768
    rw [Nat.add_assoc]
  · rfl

/-- The codes of a block. -/
theorem codesB_at (v : E) (D : S768x256.Idx → E) (r : Fin 768) (k : Fin 256) :
    (codesB (F := Ideal) (k0_pay96 (F := Ideal) v) D (ix2 r k) : E) = code (D (ix2 r k)) v := by
  unfold codesB quant k0_pay7
  show shapeCast S1x32x256 _ _ (ix3 (⟨0, Nat.one_pos⟩ : Fin 1) (⟨r.val % 32, Nat.mod_lt _ (by norm_num)⟩ : Fin 32) k) = _
  have hi : r.val % 32 < 32 := Nat.mod_lt _ (by norm_num)
  refine (cast_at _ _ _ _ (ix2 (⟨r.val % 32, hi⟩ : Fin 32) k) ?_).trans ?_
  · rw [Shape.rowMajor_val_two, Shape.rowMajor_val_three]
    show (r.val % 32) * 256 + k.val = (0 * 32 + r.val % 32) * 256 + k.val
    omega
  refine (congrFun (truncf_id (φ' := .fp8e5m2) _ bitsLt_fp8e5m2_f32) (ix2 (⟨r.val % 32, hi⟩ : Fin 32) k)).trans ?_
  refine (cast_at _ _ _ (ix2 (⟨r.val % 32, hi⟩ : Fin 32) k) (ix3 (⟨r.val % 32 / 8, by omega⟩ : Fin 4) (⟨r.val % 32 % 8, by omega⟩ : Fin 8) k) ?_).trans ?_
  · rw [Shape.rowMajor_val_two, Shape.rowMajor_val_three]
    show (r.val % 32 / 8 * 8 + r.val % 32 % 8) * 256 + k.val = (r.val % 32) * 256 + k.val
    omega
  refine (congrArg (fun z : E => code z v) (pay6_chunk D (r.val / 32) (⟨r.val % 32 / 8, by omega⟩ : Fin 4) (⟨r.val % 32 % 8, by omega⟩ : Fin 8) k)).trans ?_
  congr 1
  show D _ = D _
  congr 1
  funext i
  fin_cases i
  · apply Fin.ext
    show (32 * (r.val / 32) + 8 * (r.val % 32 / 8) + r.val % 32 % 8) % 768 = r.val
    have := r.isLt
    omega
  · rfl

/-- The eight partial sums of a column, after `j` groups of 32 rows. -/
theorem biasV_at (D : S768x256.Idx → E) (b : Fin 8) (k : Fin 256) : ∀ j : ℕ,
    (biasV (F := Ideal) D j (ix2 b k) : E) = ∑ i ∈ Finset.range j, ∑ a : Fin 4, at2 D (32 * i + 8 * a.val + b.val) k
  | 0 => by rw [Finset.sum_range_zero]; exact zero_f32
  | j + 1 => by
    rw [Finset.sum_range_succ, ← biasV_at D b k j]
    show (biasV (F := Ideal) D j (ix2 b k) : E) + multiReduction .add [0] S8x256 (k0_pay6 (F := Ideal) (chunk D j)) 0x00000000#32 reduces_S4x8x256_S8x256 (.inl rfl) rfl (ix2 b k) = _
    congr 1
    refine (Ideal.multiReduction_add_single _ _ _ _ _ _).trans ?_
    refine Finset.sum_congr rfl fun a _ => ?_
    refine Eq.trans ?_ (pay6_chunk D j a b k)
    congr 1
    funext i
    fin_cases i <;> rfl

/-- The sum of a column of a block. -/
theorem sumV_at (D : S768x256.Idx → E) (k : Fin 256) :
    (sumV (F := Ideal) D (ix2 (⟨0, Nat.one_pos⟩ : Fin 1) k) : E) = ∑ r : Fin 768, D (ix2 r k) := by
  unfold sumV
  refine (cast_at _ _ _ _ (ix1 k) ?_).trans ?_
  · rw [Shape.rowMajor_val_two, Shape.rowMajor_val_one]
    show k.val = 0 * 256 + k.val
    omega
  refine (Ideal.multiReduction_add_single _ _ _ _ _ _).trans ?_
  refine Eq.trans (b := ∑ b : Fin 8, ∑ i ∈ Finset.range 24, ∑ a : Fin 4, at2 D (32 * i + 8 * a.val + b.val) k) ?_ ?_
  · refine Finset.sum_congr rfl fun b _ => ?_
    refine Eq.trans ?_ (biasV_at D b k 24)
    congr 1
    funext i
    fin_cases i <;> rfl
  · rw [Sums.lanes (fun r => at2 D r k)]
    refine Finset.sum_congr rfl fun r _ => ?_
    show D _ = D _
    congr 1
    funext i
    fin_cases i
    · apply Fin.ext
      exact Nat.mod_eq_of_lt r.isLt
    · rfl

/-- The first half of the sums, and the second. -/
theorem sumLo_at (D : S768x256.Idx → E) (l : Fin 128) :
    (sumLo (F := Ideal) D (ix2 (⟨0, Nat.one_pos⟩ : Fin 1) l) : E) = ∑ r : Fin 768, D (ix2 r (⟨l.val, by omega⟩ : Fin 256)) := by
  rw [← sumV_at]
  unfold sumLo
  show sumV (F := Ideal) D _ = _
  congr 1
  funext i
  fin_cases i
  · rfl
  · apply Fin.ext
    show 0 + l.val = l.val
    omega
theorem sumHi_at (D : S768x256.Idx → E) (l : Fin 128) :
    (sumHi (F := Ideal) D (ix2 (⟨0, Nat.one_pos⟩ : Fin 1) l) : E) = ∑ r : Fin 768, D (ix2 r (⟨128 + l.val, by omega⟩ : Fin 256)) := by
  rw [← sumV_at]
  unfold sumHi
  show sumV (F := Ideal) D _ = _
  congr 1
  funext i
  fin_cases i
  · rfl
  · rfl

/-- The running maximum lies below a bound exactly when what it started from and every absolute value so far do. -/
theorem maxV_le (m : S8x256.Idx → E) (D : S768x256.Idx → E) (b : Fin 8) (k : Fin 256) (c : E) : ∀ j : ℕ,
    (maxV (F := Ideal) m D j (ix2 b k) : E) ≤ c ↔ m (ix2 b k) ≤ c ∧ ∀ i < j, ∀ a : Fin 4,
      max (at2 D (32 * i + 8 * a.val + b.val) k) (-(at2 D (32 * i + 8 * a.val + b.val) k)) ≤ c
  | 0 => by
    constructor
    · intro h; exact ⟨h, fun i hi => absurd hi (Nat.not_lt_zero i)⟩
    · intro h; exact h.1
  | j + 1 => by
    have step : (maxV (F := Ideal) m D (j + 1) (ix2 b k) : E) ≤ c ↔ (maxV (F := Ideal) m D j (ix2 b k) : E) ≤ c ∧
        (multiReduction .maximumf [0] S8x256 (absf (k0_pay6 (F := Ideal) (chunk D j))) 0xFF800000#32 reduces_S4x8x256_S8x256 (.inl rfl) rfl (ix2 b k) : E) ≤ c :=
      sup_le_iff
    refine step.trans ((and_congr (maxV_le m D b k c j) (Reads.max_le _ _ _ _ _ c)).trans ?_)
    rw [and_assoc]
    refine and_congr_right fun _ => ?_
    have abs_at : ∀ a : Fin 4, (absf (k0_pay6 (F := Ideal) (chunk D j)) (ix3 a b k) : E)
        = max (at2 D (32 * j + 8 * a.val + b.val) k) (-(at2 D (32 * j + 8 * a.val + b.val) k)) := fun a =>
      congrArg (fun z : E => max z (-z)) (pay6_chunk D j a b k)
    constructor
    · rintro ⟨h1, h2⟩ i hi a
      rcases Nat.lt_succ_iff_lt_or_eq.mp hi with hi | rfl
      · exact h1 i hi a
      · rw [← abs_at]
        refine h2 _ ?_
        funext x
        fin_cases x
        · exact Fin.ext (Shape.Reduces.drop_apply_val_of_eq reduces_S4x8x256_S8x256 (ix3 a b k) (0 : Fin 2) (1 : Fin 3) (by decide) (by decide))
        · exact Fin.ext (Shape.Reduces.drop_apply_val_of_eq reduces_S4x8x256_S8x256 (ix3 a b k) (1 : Fin 2) (2 : Fin 3) (by decide) (by decide))
    · intro h
      refine ⟨fun i hi a => h i (Nat.lt_succ_of_lt hi) a, fun i hi => ?_⟩
      have e1 := Shape.Reduces.drop_apply_val_of_eq reduces_S4x8x256_S8x256 i (0 : Fin 2) (1 : Fin 3) (by decide) (by decide)
      have e2 := Shape.Reduces.drop_apply_val_of_eq reduces_S4x8x256_S8x256 i (1 : Fin 2) (2 : Fin 3) (by decide) (by decide)
      rw [hi] at e1 e2
      have ei : i = ix3 (n0 := 4) (n1 := 8) (n2 := 256) (i 0) b k := by
        funext x
        fin_cases x
        · rfl
        · exact Fin.ext e1.symm
        · exact Fin.ext e2.symm
      rw [ei, abs_at (i 0)]
      exact h j (Nat.lt_succ_self j) (i 0)

theorem cast_up3A {β : Type} (X : S768x256.Idx → β) : shapeCast S768x256 (up3A X) shapeCasts_S1x768x256_S768x256 = X := by
  funext x
  refine (shapeCast_dropUnit_apply ![768, 256] (up3A X) shapeCasts_S1x768x256_S768x256 x).trans ?_
  exact congrArg X (eq_ix2 x).symm
theorem cast_up3B {β : Type} (X : S256x1536.Idx → β) : shapeCast S256x1536 (up3B X) shapeCasts_S1x256x1536_S256x1536 = X := by
  funext x
  refine (shapeCast_dropUnit_apply ![256, 1536] (up3B X) shapeCasts_S1x256x1536_S256x1536 x).trans ?_
  exact congrArg X (eq_ix2 x).symm

/-- One block more: to the sums so far, the block's codes times its weight rows. -/
theorem pay91_at (acc : S768x1536.Idx → E) (X : S768x256.Idx → E) (Y : S256x1536.Idx → E) (r : Fin 768) (q : Fin 1536) :
    (k0_pay91 (F := Ideal) acc (up3A X) (up3B Y) (ix2 r q) : E) = acc (ix2 r q) + ∑ k : Fin 256, X (ix2 r k) * Y (ix2 k q) := by
  unfold k0_pay91
  rw [cast_up3A, cast_up3B]
  refine (congrFun (shapeCast_self _ _) (ix2 r q)).trans ?_
  refine congrArg (fun z : E => acc (ix2 r q) + z) ?_
  refine (Ideal.matmul_plain_apply (M := 768) (K := 256) (N := 1536) (φ₁ := .fp8e5m2) (φ₂ := .fp8e4m3) none X Y _ r q).trans ?_
  exact (congrArg (fun z : E => z + _) zero_f32).trans (zero_add _)

/-- The products of the first `n` blocks. -/
theorem accV_at (v : E) (dy : ℕ → S768x256.Idx → E) (w : ℕ → S256x1536.Idx → E) (r : Fin 768) (q : Fin 1536) : ∀ n : ℕ,
    (accV (F := Ideal) (k0_pay96 (F := Ideal) v) dy w n (ix2 r q) : E)
      = ∑ i ∈ Finset.range n, ∑ k : Fin 256, code (dy i (ix2 r k)) v * w i (ix2 k q)
  | 0 => by
    rw [Finset.sum_range_zero]
    unfold accV k0_pay94
    refine (congrFun (shapeCast_self _ _) (ix2 r q)).trans ?_
    exact zero_f32
  | n + 1 => by
    rw [Finset.sum_range_succ, ← accV_at v dy w r q n]
    refine (pay91_at _ _ _ r q).trans ?_
    congr 1
    refine Finset.sum_congr rfl fun k _ => ?_
    congr 1
    exact codesB_at v (dy n) r k

/-- A block's rows of the new master gradient: the old ones, and the scaled product of the block's codes with the input. -/
theorem mgoB_at (v u : E) (D : S768x256.Idx → E) (m : S256x1536.Idx → E) (x : S768x1536.Idx → E) (k : Fin 256) (q : Fin 1536) :
    (mgoB (F := Ideal) v u D m x (ix2 k q) : E)
      = m (ix2 k q) + (∑ r : Fin 768, code (D (ix2 r k)) v * x (ix2 r q)) * (v * u) := by
  unfold mgoB down3B k0_pay97 k0_pay93
  rw [cast_up3A, cast_up3B]
  refine (shapeCast_addUnit_apply ![256, 1536] _ _ _).trans ?_
  have ei : (fun a : Fin 2 => (ix3 (⟨0, Nat.one_pos⟩ : Fin 1) ((ix2 k q : S256x1536.Idx) 0) ((ix2 k q : S256x1536.Idx) 1) : S1x256x1536.Idx) a.succ) = (ix2 k q : S256x1536.Idx) := by
    funext a; fin_cases a <;> rfl
  refine (congrArg _ ei).trans ?_
  refine congrArg (fun z : E => m (ix2 k q) + z * (v * u)) ?_
  let d := dot_S768x256_S768x1536_S256x1536_0_0_1_1_n_n
  refine (Ideal.matmul_constant_zero_apply (φ₁ := .fp8e5m2) (φ₂ := .fp8e4m3) d none _ x (ix2 k q)).trans ?_
  refine (Equiv.sum_comp (contrEquiv1 d 768 rfl rfl).symm _).symm.trans ?_
  refine Finset.sum_congr rfl fun r _ => ?_
  have hr := contrEquiv1_symm_val d 768 rfl rfl r
  have el : d.lhsIdx (ix2 k q) ((contrEquiv1 d 768 rfl rfl).symm r) = ix2 r k := by
    funext a; apply Fin.ext
    match a with
    | ⟨0, _⟩ => exact hr
    | ⟨1, _⟩ => rfl
  have er : d.rhsIdx (ix2 k q) ((contrEquiv1 d 768 rfl rfl).symm r) = ix2 r q := by
    funext a; apply Fin.ext
    match a with
    | ⟨0, _⟩ => exact hr
    | ⟨1, _⟩ => rfl
  rw [el, er]
  congr 1
  exact codesB_at v D r k

end Cert.KernelIdeal.Hand
-- ==== Proof.Whole.lean ====
/-
A window of a call without a grid is its whole array: its block reads the array, and covers it.
-/
module

public import Idealize.ShloMosaic.Lib.Pipeline.Value

@[expose] public section

noncomputable section

namespace Whole

open Idealize.ShloMosaic Idealize.ShloMosaic.Pipeline

variable {sig : RefSig} {s : Shape} {e : EltTy} {cs : CoreSpace}
  (arr : Memref sig .tc .hbm s e) (isOut sync : Bool) (stage : Memref sig .tc (.core cs) ⟨s.rank, s.size⟩ e) (sem : DmaSem sig)
  (harr : arr.IsWhole) (hstage : stage.IsWhole) (t : Fin Grid.none.N)

/-- An index of the block is that index of the array. -/
theorem emb_blk (y : s.Idx) :
    ((Window.whole arr isOut sync stage sem harr hstage).blk t).view.emb y = arr.view.emb y := by
  show arr.view.emb _ = arr.view.emb y
  congr 1
  funext a
  apply Fin.ext
  show 0 * s.size a + 1 * (y a).val = (y a).val
  rw [Nat.zero_mul, Nat.zero_add, Nat.one_mul]

/-- The block reads the array. -/
theorem read_blk (Val : EltTy → Type) (G : arr.view.ty.Contents Val) :
    ((Window.whole arr isOut sync stage sem harr hstage).blk t).view.read Val G = arr.view.read Val G :=
  funext fun y => congrArg (fun i => _root_.cast (congrArg Val arr.view.elt_eq) (G i))
    (emb_blk arr isOut sync stage sem harr hstage t y)

/-- The block covers the array. -/
theorem mem_blk (y : s.Idx) :
    arr.view.emb y ∈ ((Window.whole arr isOut sync stage sem harr hstage).blk t).view.set := by
  rw [← emb_blk arr isOut sync stage sem harr hstage t y]
  exact View.emb_mem_set _ _

end Whole
end
-- ==== Proof.KIFinal.lean ====
/-
  What the kernel's five results hold after the run, and what its call finds in the arrays it reads.
-/
module

public import proofs.«01_k».proof.Proof.KIFrame
public import proofs.«01_k».proof.Proof.Whole

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Move Idealize.ShloMosaic.ValueIdx

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The scale argument of rank zero, as the number it is. -/
def num (x : S_.Idx → Elt F .f32) : Elt F .f32 := x fun a => a.elim0

/-! What the call finds: the host's reshapes of the arguments. -/

theorem V_main_v0 (c : Dev nD) : V m c main_v0 = fun _ => num (m ((c : Thread nD τ).loc main_arg1)) := by
  change StableHlo.after hostOps0 (fun b => m (c, b)) (Proc.devRef .tc main_v0) = _
  after_results
  funext x
  exact congrArg (m ((c : Thread nD τ).loc main_arg1) : S_.Idx → Elt F .f32) (funext fun a => a.elim0)

theorem dyS_eq (c : Dev nD) : dyS m c = num (m ((c : Thread nD τ).loc main_arg1)) := by
  have e : (iblk m c 0 t0_0 : S1.Idx → Elt F .f32) = V m c main_v0 :=
    Whole.read_blk (Memref.whole main_v0) _ _ _ _ (Memref.isWhole_whole _) (hstage0_0 0) t0_0 (Elt F) (V m c main_v0)
  unfold dyS
  rw [e, V_main_v0]; rfl

theorem V_main_v1 (c : Dev nD) : V m c main_v1 = fun _ => num (m ((c : Thread nD τ).loc main_arg3)) := by
  change StableHlo.after hostOps0 (fun b => m (c, b)) (Proc.devRef .tc main_v1) = _
  after_results
  funext x
  exact congrArg (m ((c : Thread nD τ).loc main_arg3) : S_.Idx → Elt F .f32) (funext fun a => a.elim0)

theorem xS_eq (c : Dev nD) : xS m c = num (m ((c : Thread nD τ).loc main_arg3)) := by
  have e : (iblk m c 1 t0_0 : S1.Idx → Elt F .f32) = V m c main_v1 :=
    Whole.read_blk (Memref.whole main_v1) _ _ _ _ (Memref.isWhole_whole _) (hstage0_1 0) t0_0 (Elt F) (V m c main_v1)
  unfold xS
  rw [e, V_main_v1]; rfl

theorem V_main_v2 (c : Dev nD) : V m c main_v2 = fun _ => num (m ((c : Thread nD τ).loc main_arg5)) := by
  change StableHlo.after hostOps0 (fun b => m (c, b)) (Proc.devRef .tc main_v2) = _
  after_results
  funext x
  exact congrArg (m ((c : Thread nD τ).loc main_arg5) : S_.Idx → Elt F .f32) (funext fun a => a.elim0)

theorem wS_eq (c : Dev nD) : wS m c = num (m ((c : Thread nD τ).loc main_arg5)) := by
  have e : (iblk m c 2 t0_0 : S1.Idx → Elt F .f32) = V m c main_v2 :=
    Whole.read_blk (Memref.whole main_v2) _ _ _ _ (Memref.isWhole_whole _) (hstage0_2 0) t0_0 (Elt F) (V m c main_v2)
  unfold wS
  rw [e, V_main_v2]; rfl

theorem V_main_v3 (c : Dev nD) : V m c main_v3 = shapeCast S768x8960 (m ((c : Thread nD τ).loc main_arg0)) shapeCasts_S3x256x8960_S768x8960 := by
  change StableHlo.after hostOps0 (fun b => m (c, b)) (Proc.devRef .tc main_v3) = _
  after_results
  rfl

theorem V_main_v4 (c : Dev nD) : V m c main_v4 = shapeCast S768x1536 (m ((c : Thread nD τ).loc main_arg2)) shapeCasts_S3x256x1536_S768x1536 := by
  change StableHlo.after hostOps0 (fun b => m (c, b)) (Proc.devRef .tc main_v4) = _
  after_results
  rfl

/-! What the two windowed results hold. -/

theorem arr_bias (c : Dev nD) : (dats m 0 c).arrAt 3 cfg0.N = biasG m c := by
  refine (dats m 0 c).arrAt_eq_of_cover 3 _ (fun t _ => ?_) (fun i => ⟨t0_0, flush0_3 _, Whole.mem_blk (Memref.whole main_v5_2) _ _ _ _ (Memref.isWhole_whole _) (hstage0_3 0) t0_0 i⟩)
  obtain rfl : t = t0_0 := fin_N0 t
  refine Eq.trans ?_ (Whole.read_blk (Memref.whole main_v5_2) _ _ _ _ (Memref.isWhole_whole _) (hstage0_3 0) t0_0 (Elt F) _).symm
  unfold Dat.flushed
  rw [after0_3]
  generalize biasG m c = X
  rfl

theorem arr_amax (c : Dev nD) : (dats m 0 c).arrAt 4 cfg0.N = amaxG m c := by
  refine (dats m 0 c).arrAt_eq_of_cover 4 _ (fun t _ => ?_) (fun i => ⟨t0_0, flush0_4 _, Whole.mem_blk (Memref.whole main_v5_3) _ _ _ _ (Memref.isWhole_whole _) (hstage0_4 0) t0_0 i⟩)
  obtain rfl : t = t0_0 := fin_N0 t
  refine Eq.trans ?_ (Whole.read_blk (Memref.whole main_v5_3) _ _ _ _ (Memref.isWhole_whole _) (hstage0_4 0) t0_0 (Elt F) _).symm
  unfold Dat.flushed
  rw [after0_4]
  generalize amaxG m c = X
  rfl

/-- The buffers as the call leaves them. -/
abbrev Wr (c : Dev nD) : Valuation τ sig (Elt F) :=
  Pipeline.withArrays spec0 c (Pipeline.withR (V0 m c) R0 c (G m c)) fun w => (dats m 0 c).arrAt w cfg0.N

theorem Wr_dx (c : Dev nD) : Wr m c (Proc.devRef .tc main_v5_0) = dxG m c :=
  (Pipeline.withArrays_of_ne spec0 c _ _ main_v5_0 (by decide)).trans
    ((Pipeline.withR_of_mem _ _ _ _ main_v5_0 (by decide)).trans (G_dx m c))
theorem Wr_mgo (c : Dev nD) : Wr m c (Proc.devRef .tc main_v5_1) = mgoG m c :=
  (Pipeline.withArrays_of_ne spec0 c _ _ main_v5_1 (by decide)).trans
    ((Pipeline.withR_of_mem _ _ _ _ main_v5_1 (by decide)).trans (G_mgo m c))
theorem Wr_codes (c : Dev nD) : Wr m c (Proc.devRef .tc main_v5_4) = codesG m c :=
  (Pipeline.withArrays_of_ne spec0 c _ _ main_v5_4 (by decide)).trans
    ((Pipeline.withR_of_mem _ _ _ _ main_v5_4 (by decide)).trans (G_codes m c))
theorem Wr_bias (c : Dev nD) : Wr m c (Proc.devRef .tc main_v5_2) = biasG m c :=
  (Pipeline.withArrays_arr spec0 launch0.win.arr_inj c _ _ 3).trans (arr_bias m c)
theorem Wr_amax (c : Dev nD) : Wr m c (Proc.devRef .tc main_v5_3) = amaxG m c :=
  (Pipeline.withArrays_arr spec0 launch0.win.arr_inj c _ _ 4).trans (arr_amax m c)

/-! The results. -/

theorem Wv_main_v6 (c : Dev nD) : Wv m c (Proc.devRef .tc main_v6) = shapeCast S3x256x1536 (dxG m c) shapeCasts_S768x1536_S3x256x1536 := by
  change StableHlo.after hostOps1 (Wr m c) (Proc.devRef .tc main_v6) = _
  after_results
  rw [← Wr_dx m c]
  rfl
theorem Wv_main_v7 (c : Dev nD) : Wv m c (Proc.devRef .tc main_v7) = shapeCast S8960 (biasG m c) shapeCasts_S70x128_S8960 := by
  change StableHlo.after hostOps1 (Wr m c) (Proc.devRef .tc main_v7) = _
  after_results
  rw [← Wr_bias m c]
  rfl
theorem Wv_main_v8 (c : Dev nD) : Wv m c (Proc.devRef .tc main_v8) = shapeCast S_ (amaxG m c) shapeCasts_S1_S_ := by
  change StableHlo.after hostOps1 (Wr m c) (Proc.devRef .tc main_v8) = _
  after_results
  rw [← Wr_amax m c]
  rfl
theorem Wv_main_v9 (c : Dev nD) : Wv m c (Proc.devRef .tc main_v9) = shapeCast S3x256x8960 (codesG m c) shapeCasts_S768x8960_S3x256x8960 := by
  change StableHlo.after hostOps1 (Wr m c) (Proc.devRef .tc main_v9) = _
  after_results
  rw [← Wr_codes m c]
  rfl
theorem Wv_main_v5_1 (c : Dev nD) : Wv m c (Proc.devRef .tc main_v5_1) = mgoG m c := by
  change StableHlo.after hostOps1 (Wr m c) (Proc.devRef .tc main_v5_1) = _
  after_results
  exact Wr_mgo m c

/-- The run: the five results and the arguments. -/
theorem run : θ_run defs (onTc (τ := τ) (main (F := F))) ⟨m, fun _ => 0, ρ⟩ (fun r => ∀ c : Dev nD,
      r.2.mem ((c.tc : Thread nD τ).loc main_v6) = shapeCast S3x256x1536 (dxG m c) shapeCasts_S768x1536_S3x256x1536
      ∧ r.2.mem ((c.tc : Thread nD τ).loc main_v5_1) = mgoG m c
      ∧ r.2.mem ((c.tc : Thread nD τ).loc main_v7) = shapeCast S8960 (biasG m c) shapeCasts_S70x128_S8960
      ∧ r.2.mem ((c.tc : Thread nD τ).loc main_v8) = shapeCast S_ (amaxG m c) shapeCasts_S1_S_
      ∧ r.2.mem ((c.tc : Thread nD τ).loc main_v9) = shapeCast S3x256x8960 (codesG m c) shapeCasts_S768x8960_S3x256x8960
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h.1 c main_v6 (Pipeline.mem_restRefs_of main_v6 (by decide) (by decide))).trans (Wv_main_v6 m c),
    (h.1 c main_v5_1 (Pipeline.mem_restRefs_of main_v5_1 (by decide) (by decide))).trans (Wv_main_v5_1 m c),
    (h.1 c main_v7 (Pipeline.mem_restRefs_of main_v7 (by decide) (by decide))).trans (Wv_main_v7 m c),
    (h.1 c main_v8 (Pipeline.mem_restRefs_of main_v8 (by decide) (by decide))).trans (Wv_main_v8 m c),
    (h.1 c main_v9 (Pipeline.mem_restRefs_of main_v9 (by decide) (by decide))).trans (Wv_main_v9 m c),
    (h.1 c main_arg0 (Pipeline.mem_restRefs_of main_arg0 (by decide) (by decide))).trans (Wv_main_arg0 m c),
    (h.1 c main_arg1 (Pipeline.mem_restRefs_of main_arg1 (by decide) (by decide))).trans (Wv_main_arg1 m c),
    (h.1 c main_arg2 (Pipeline.mem_restRefs_of main_arg2 (by decide) (by decide))).trans (Wv_main_arg2 m c),
    (h.1 c main_arg3 (Pipeline.mem_restRefs_of main_arg3 (by decide) (by decide))).trans (Wv_main_arg3 m c),
    (h.1 c main_arg4 (Pipeline.mem_restRefs_of main_arg4 (by decide) (by decide))).trans (Wv_main_arg4 m c),
    (h.1 c main_arg5 (Pipeline.mem_restRefs_of main_arg5 (by decide) (by decide))).trans (Wv_main_arg5 m c),
    (h.1 c main_arg6 (Pipeline.mem_restRefs_of main_arg6 (by decide) (by decide))).trans (Wv_main_arg6 m c)⟩) (run_main m ρ)

end Cert.KernelIdeal.Hand
end
-- ==== Proof.KIWhole.lean ====
/-
  The five results of the idealized kernel, entry by entry, as sums and maxima over the whole arguments.
-/
module

public import proofs.«01_k».proof.Proof.KIBlock
public import proofs.«01_k».proof.Proof.KIFinal

@[expose] public section

noncomputable section

namespace Cert.KernelIdeal.Hand

open Cert.KernelIdeal Cert.KernelIdeal.Gen
open Idealize.ShloMosaic Idealize.ShloMosaic.TcCoe Idealize.ShloMosaic.Tactic
open Move Idealize.ShloMosaic.ValueIdx Reads

local notation "E" => EReal

variable (m : (ℓ : Loc nD τ sig) → Buf (Elt Ideal) ℓ) (c : Dev nD)

/-- The output gradient, its scale, the input, its scale, the weights, their scale and the old master gradient. -/
abbrev a0 : S3x256x8960.Idx → E := m ((c : Thread nD τ).loc main_arg0)
abbrev a1 : E := num (F := Ideal) (m ((c : Thread nD τ).loc main_arg1))
abbrev a2 : S3x256x1536.Idx → E := m ((c : Thread nD τ).loc main_arg2)
abbrev a3 : E := num (F := Ideal) (m ((c : Thread nD τ).loc main_arg3))
abbrev a4 : S8960x1536.Idx → E := m ((c : Thread nD τ).loc main_arg4)
abbrev a5 : E := num (F := Ideal) (m ((c : Thread nD τ).loc main_arg5))
abbrev a6 : S8960x1536.Idx → E := m ((c : Thread nD τ).loc main_arg6)

/-- Row `r` of 768, as a place in the first two axes of extents 3 and 256. -/
abbrev hi3 (r : Fin 768) : Fin 3 := Fin.divNat (m := 3) (n := 256) r
abbrev lo3 (r : Fin 768) : Fin 256 := Fin.modNat (m := 3) (n := 256) r
/-- Column `k` of block `n`. -/
abbrev col (n : Fin 35) (k : Fin 256) : Fin 8960 := finProdFinEquiv (m := 35) (n := 256) (n, k)

/-- The blocks of the output gradient. -/
theorem dyN_at (n : Fin 35) (r : Fin 768) (k : Fin 256) :
    (dyN m c n.val (ix2 r k) : E) = a0 m c (ix3 (hi3 r) (lo3 r) (col n k)) := by
  show V m c main_v3 _ = _
  rw [V_main_v3]
  refine cast_at (s := S3x256x8960) S768x8960 (a0 m c) _ _ (ix3 (hi3 r) (lo3 r) (col n k)) ?_
  rw [Shape.rowMajor_val_three, Shape.rowMajor_val_two]
  have hn := n.isLt
  show (r.val / 256 * 256 + r.val % 256) * 8960 + (k.val + 256 * n.val) = (0 + 1 * r.val) * 8960 + (256 * (n.val % 35) + 1 * k.val)
  rw [Nat.mod_eq_of_lt hn]
  omega

/-- The blocks of the weights. -/
theorem wN_at (n : Fin 35) (k : Fin 256) (q : Fin 1536) : (wN m c n.val (ix2 k q) : E) = a4 m c (ix2 (col n k) q) := by
  show V m c main_arg4 _ = _
  rw [V_main_arg4]
  show a4 m c _ = _
  congr 1
  have hn := n.isLt
  funext a
  fin_cases a
  · apply Fin.ext
    show 256 * (n.val % 35) + 1 * k.val = k.val + 256 * n.val
    rw [Nat.mod_eq_of_lt hn]
    omega
  · apply Fin.ext
    show 0 + 1 * q.val = q.val
    omega

/-- The blocks of the old master gradient. -/
theorem mgN_at (n : Fin 35) (k : Fin 256) (q : Fin 1536) :
    (mgB c (Memref.whole main_arg6) (V m c main_arg6) n.val (ix2 k q) : E) = a6 m c (ix2 (col n k) q) := by
  show V m c main_arg6 _ = _
  rw [V_main_arg6]
  show a6 m c _ = _
  congr 1
  have hn := n.isLt
  funext a
  fin_cases a
  · apply Fin.ext
    show 256 * (n.val % 35) + 1 * k.val = k.val + 256 * n.val
    rw [Nat.mod_eq_of_lt hn]
    omega
  · apply Fin.ext
    show 0 + 1 * q.val = q.val
    omega

/-- The input. -/
theorem xN_at (r : Fin 768) (q : Fin 1536) :
    ((Memref.whole main_v4).view.read (Elt Ideal) (V m c main_v4) (ix2 r q) : E) = a2 m c (ix3 (hi3 r) (lo3 r) q) := by
  show V m c main_v4 _ = _
  rw [V_main_v4]
  refine cast_at (s := S3x256x1536) S768x1536 (a2 m c) _ _ (ix3 (hi3 r) (lo3 r) q) ?_
  rw [Shape.rowMajor_val_three, Shape.rowMajor_val_two]
  show (r.val / 256 * 256 + r.val % 256) * 1536 + q.val = r.val * 1536 + q.val
  omega

/-- Row `256 a + i`. -/
abbrev row (a : Fin 3) (i : Fin 256) : Fin 768 := finProdFinEquiv (m := 3) (n := 256) (a, i)
theorem hi3_row (a : Fin 3) (i : Fin 256) : hi3 (row a i) = a := congrArg Prod.fst (finProdFinEquiv.symm_apply_apply (a, i))
theorem lo3_row (a : Fin 3) (i : Fin 256) : lo3 (row a i) = i := congrArg Prod.snd (finProdFinEquiv.symm_apply_apply (a, i))
/-- The block of a column, and its place there. -/
abbrev blk (K : Fin 8960) : Fin 35 := Fin.divNat (m := 35) (n := 256) K
abbrev lane (K : Fin 8960) : Fin 256 := Fin.modNat (m := 35) (n := 256) K
theorem col_blk (K : Fin 8960) : col (blk K) (lane K) = K :=
  Fin.ext (show K.val % 256 + 256 * (K.val / 256) = K.val by omega)

/-- The codes. -/
theorem codes_at (a : Fin 3) (i : Fin 256) (K : Fin 8960) :
    (shapeCast S3x256x8960 (codesG m c) shapeCasts_S768x8960_S3x256x8960 (ix3 a i K) : E) = code (a0 m c (ix3 a i K)) (a1 m c) := by
  refine (cast_at _ _ _ (ix3 a i K) (ix2 (row a i) K) ?_).trans ?_
  · rw [Shape.rowMajor_val_three, Shape.rowMajor_val_two]
    show (i.val + 256 * a.val) * 8960 + K.val = (a.val * 256 + i.val) * 8960 + K.val
    omega
  show (codesB (F := Ideal) (k0_pay96 (F := Ideal) (dyS m c)) (dyN m c (blk K).val) (ix2 (row a i) (lane K)) : E) = _
  rw [dyS_eq]
  refine (codesB_at _ _ _ _).trans ?_
  rw [dyN_at m c (blk K), col_blk, hi3_row, lo3_row]

/-- The gradient of the input. -/
theorem dx_at (a : Fin 3) (i : Fin 256) (q : Fin 1536) :
    (shapeCast S3x256x1536 (dxG m c) shapeCasts_S768x1536_S3x256x1536 (ix3 a i q) : E)
      = (∑ K : Fin 8960, code (a0 m c (ix3 a i K)) (a1 m c) * a4 m c (ix2 K q)) * (a1 m c * a5 m c) := by
  refine (cast_at _ _ _ (ix3 a i q) (ix2 (row a i) q) ?_).trans ?_
  · rw [Shape.rowMajor_val_three, Shape.rowMajor_val_two]
    show (i.val + 256 * a.val) * 1536 + q.val = (a.val * 256 + i.val) * 1536 + q.val
    omega
  unfold dxG k0_pay92
  rw [dyS_eq, wS_eq]
  refine (congrFun (shapeCast_self _ _) _).trans ?_
  refine congrArg (fun z : E => z * (a1 m c * a5 m c)) ?_
  refine (accV_at _ _ _ _ _ 35).trans ?_
  rw [Finset.sum_range, ← Sums.places 35 256 (fun K => code (a0 m c (ix3 a i K)) (a1 m c) * a4 m c (ix2 K q))]
  refine Finset.sum_congr rfl fun n _ => Finset.sum_congr rfl fun k _ => ?_
  rw [dyN_at m c n, wN_at m c n, hi3_row, lo3_row]

/-- The new master gradient. -/
theorem mgo_at (K : Fin 8960) (q : Fin 1536) :
    (mgoG m c (ix2 K q) : E) = a6 m c (ix2 K q)
      + (∑ a : Fin 3, ∑ i : Fin 256, code (a0 m c (ix3 a i K)) (a1 m c) * a2 m c (ix3 a i q)) * (a1 m c * a3 m c) := by
  show (mgoB (F := Ideal) (dyS m c) (xS m c) (dyN m c (blk K).val) (mgB c (Memref.whole main_arg6) (V m c main_arg6) (blk K).val)
    ((Memref.whole main_v4).view.read (Elt Ideal) (V m c main_v4)) (ix2 (lane K) q) : E) = _
  rw [dyS_eq, xS_eq]
  refine (mgoB_at _ _ _ _ _ _ _).trans ?_
  rw [mgN_at m c (blk K), col_blk, ← Sums.pairs 3 256 (fun a i => code (a0 m c (ix3 a i K)) (a1 m c) * a2 m c (ix3 a i q))]
  refine congrArg (fun z : E => a6 m c (ix2 K q) + z * (a1 m c * a3 m c)) ?_
  refine Finset.sum_congr rfl fun r _ => ?_
  rw [dyN_at m c (blk K), col_blk, xN_at]

/-- The sums over the rows. -/
theorem bias_at (K : Fin 8960) :
    (shapeCast S8960 (biasG m c) shapeCasts_S70x128_S8960 (ix1 K) : E) = ∑ a : Fin 3, ∑ i : Fin 256, a0 m c (ix3 a i K) := by
  have hK := K.isLt
  have hl : K.val % 128 < 128 := Nat.mod_lt _ (by norm_num)
  refine (cast_at _ _ _ (ix1 K) (ix2 (⟨K.val / 128, by omega⟩ : Fin 70) (⟨K.val % 128, hl⟩ : Fin 128)) ?_).trans ?_
  · rw [Shape.rowMajor_val_one, Shape.rowMajor_val_two]
    show K.val / 128 * 128 + K.val % 128 = K.val
    omega
  have hb : K.val / 128 / 2 = (blk K).val := by
    show K.val / 128 / 2 = K.val / 256
    omega
  rw [← Sums.pairs 3 256 (fun a i => a0 m c (ix3 a i K))]
  have hsum : ∑ r : Fin 768, (dyN m c (blk K).val (ix2 r (lane K)) : E) = ∑ r : Fin 768, a0 m c (ix3 (hi3 r) (lo3 r) K) :=
    Finset.sum_congr rfl fun r _ => by rw [dyN_at m c (blk K), col_blk]
  refine Eq.trans ?_ hsum
  show ((if K.val / 128 % 2 = 0 then sumLo (F := Ideal) (dyN m c (K.val / 128 / 2)) else sumHi (F := Ideal) (dyN m c (K.val / 128 / 2)))
    (ix2 (⟨0, Nat.one_pos⟩ : Fin 1) (⟨K.val % 128, hl⟩ : Fin 128)) : E) = _
  rw [hb]
  split
  · next h =>
    refine (sumLo_at _ _).trans (Finset.sum_congr rfl fun r _ => ?_)
    have e : (⟨K.val % 128, by omega⟩ : Fin 256) = lane K := Fin.ext (show K.val % 128 = K.val % 256 by omega)
    rw [← e]
  · next h =>
    refine (sumHi_at _ _).trans (Finset.sum_congr rfl fun r _ => ?_)
    have e : (⟨128 + K.val % 128, by omega⟩ : Fin 256) = lane K := Fin.ext (show 128 + K.val % 128 = K.val % 256 by omega)
    rw [← e]

/-- The running maximum after `n` blocks lies below a bound exactly when zero and every absolute value of those blocks do. -/
theorem amaxV_le (dy : ℕ → S768x256.Idx → E) (b : Fin 8) (k : Fin 256) (t : E) : ∀ n : ℕ,
    (amaxV (F := Ideal) dy n (ix2 b k) : E) ≤ t ↔ 0 ≤ t ∧ ∀ n' < n, ∀ i < 24, ∀ a : Fin 4,
      max (at2 (dy n') (32 * i + 8 * a.val + b.val) k) (-(at2 (dy n') (32 * i + 8 * a.val + b.val) k)) ≤ t
  | 0 => by
    have e : (amaxV (F := Ideal) dy 0 (ix2 b k) : E) = 0 := by
      unfold amaxV k0_pay95
      refine (congrFun (shapeCast_self _ _) (ix2 b k)).trans ?_
      exact zero_f32
    rw [e]
    exact ⟨fun h => ⟨h, fun n hn => absurd hn (Nat.not_lt_zero n)⟩, fun h => h.1⟩
  | n + 1 => by
    have e : (amaxV (F := Ideal) dy (n + 1) (ix2 b k) : E) = maxV (F := Ideal) (amaxV (F := Ideal) dy n) (dy n) 24 (ix2 b k) := by
      rw [amaxV]
      exact congrFun (shapeCast_self _ _) (ix2 b k)
    rw [e]
    refine (maxV_le _ _ _ _ _ _).trans ((and_congr_left fun _ => amaxV_le dy b k t n).trans ?_)
    rw [and_assoc]
    refine and_congr_right fun _ => ?_
    constructor
    · rintro ⟨h1, h2⟩ n' hn'
      rcases Nat.lt_succ_iff_lt_or_eq.mp hn' with hn' | rfl
      · exact h1 n' hn'
      · exact h2
    · exact fun h => ⟨fun n' hn' => h n' (Nat.lt_succ_of_lt hn'), h n (Nat.lt_succ_self n)⟩

theorem one_place (a b : S1.Idx) : a = b := by
  funext x
  fin_cases x
  exact Fin.ext ((Nat.lt_one_iff.mp (a 0).isLt).trans (Nat.lt_one_iff.mp (b 0).isLt).symm)

/-- The maximum of the eight rows lies below a bound exactly when every entry does. -/
theorem pay98_le (w : S8x256.Idx → E) (t : E) : (k0_pay98 (F := Ideal) w : E) ≤ t ↔ ∀ b k, w (ix2 b k) ≤ t := by
  unfold k0_pay98 extractAt shapeCast
  refine Iff.trans (Reads.max_le _ reduces_S1x8x256_S1 (.inl rfl) rfl _ t) ?_
  constructor
  · intro h b k
    refine le_trans (le_of_eq ?_) (h (ix3 (⟨0, Nat.one_pos⟩ : Fin 1) b k) (one_place _ _))
    refine congrArg w (Shape.reshapeEquiv_eq_of_rowMajor _ ?_).symm
    rw [Shape.rowMajor_val_three, Shape.rowMajor_val_two]
    show b.val * 256 + k.val = (0 * 8 + b.val) * 256 + k.val
    omega
  · intro h i _
    rw [eq_ix2 (Shape.reshapeEquiv _ i)]
    exact h _ _

/-- The largest absolute value lies below a bound exactly when every absolute value does. -/
theorem amax_le (x : S_.Idx) (t : E) :
    (shapeCast S_ (amaxG m c) shapeCasts_S1_S_ x : E) ≤ t ↔ ∀ x, max (a0 m c x) (-(a0 m c x)) ≤ t := by
  show (k0_pay98 (F := Ideal) (amaxV (F := Ideal) (dyN m c) 35) : E) ≤ t ↔ _
  refine (pay98_le _ t).trans ?_
  have at2_eq : ∀ (n : Fin 35) (r : Fin 768) (p : ℕ) (k : Fin 256), p = r.val →
      at2 (dyN m c n.val) p k = a0 m c (ix3 (hi3 r) (lo3 r) (col n k)) := by
    rintro n r p k rfl
    refine Eq.trans ?_ (dyN_at m c n r k)
    unfold at2
    congr 1
    funext a
    fin_cases a
    · exact Fin.ext (Nat.mod_eq_of_lt r.isLt)
    · rfl
  constructor
  · intro h
    have all : ∀ (a : Fin 3) (i : Fin 256) (K : Fin 8960), max (a0 m c (ix3 a i K)) (-(a0 m c (ix3 a i K))) ≤ t := by
      intro a i K
      have hr : (row a i).val < 768 := (row a i).isLt
      have h2 := ((amaxV_le _ _ _ t 35).mp (h (⟨(row a i).val % 8, by omega⟩ : Fin 8) (lane K))).2 (blk K).val (blk K).isLt
        ((row a i).val / 32) (by omega) (⟨(row a i).val % 32 / 8, by omega⟩ : Fin 4)
      have hp : 32 * ((row a i).val / 32) + 8 * ((row a i).val % 32 / 8) + (row a i).val % 8 = (row a i).val := by omega
      rw [at2_eq (blk K) (row a i) _ _ hp, col_blk, hi3_row, lo3_row] at h2
      exact h2
    intro x
    have e : x = ix3 (x 0) (x 1) (x 2) := eq_ix3 x
    rw [e]
    exact all (x 0) (x 1) (x 2)
  · intro h b k
    refine (amaxV_le _ _ _ t 35).mpr ⟨le_trans (zero_le_abs _) (h (ix3 (⟨0, by norm_num⟩ : Fin 3) (⟨0, by norm_num⟩ : Fin 256) (⟨0, by norm_num⟩ : Fin 8960))), ?_⟩
    intro n hn i hi a
    have hb := b.isLt
    have ha := a.isLt
    have hp : 32 * i + 8 * a.val + b.val < 768 := by omega
    rw [at2_eq ⟨n, hn⟩ ⟨32 * i + 8 * a.val + b.val, hp⟩ _ k rfl]
    exact h _

end Cert.KernelIdeal.Hand
-- ==== Proof.RIdeal.lean ====
/-
  What the reference computes, entry by entry, over the extended reals.
-/
module

public import proofs.«01_k».proof.Proof.Gen.ReferenceIdeal.Skeleton
public import proofs.«01_k».proof.Proof.Reads

@[expose] public section

noncomputable section

namespace Cert.ReferenceIdeal.Hand

open Cert.ReferenceIdeal Cert.ReferenceIdeal.Gen
open Idealize.ShloMosaic Idealize.ShloMosaic.TcCoe Idealize.ShloMosaic.Tactic
open Idealize.ShloMosaic.ValueIdx Reads

local notation "E" => EReal

variable (A : S3x256x8960.Idx → E) (v : E)

/-- The codes. -/
theorem codes_at (x : S3x256x8960.Idx) : (k0_pay4 (F := Ideal) A v x : E) = code (A x) v := rfl

/-- The sums over the rows. -/
theorem bias_at (K : Fin 8960) : (k0_pay5 (F := Ideal) A (ix1 K) : E) = ∑ a : Fin 3, ∑ i : Fin 256, A (ix3 a i K) := by
  unfold k0_pay5
  refine (add_at _ _ _ _ _ _).trans ?_
  rw [Finset.sum_filter]
  refine (sum_ix3 _).trans ?_
  refine Finset.sum_congr rfl fun a _ => Finset.sum_congr rfl fun i _ => ?_
  have h : ∀ k : Fin 8960, reduces_S3x256x8960_S8960.drop (ix3 a i k) = ix1 K ↔ k = K := by
    intro k
    have e := Shape.Reduces.drop_apply_val_of_eq reduces_S3x256x8960_S8960 (ix3 a i k) (0 : Fin 1) (2 : Fin 3) (by decide) (by decide)
    constructor
    · intro hk; rw [hk] at e; exact Fin.ext e.symm
    · rintro rfl
      funext x
      fin_cases x
      exact Fin.ext e
  refine (Finset.sum_eq_single K (fun k _ hk => if_neg fun hk' => hk ((h k).mp hk')) (fun hK => absurd (Finset.mem_univ K) hK)).trans ?_
  exact if_pos ((h K).mpr rfl)

theorem one_place (a b : S1.Idx) : a = b := by
  funext x
  fin_cases x
  exact Fin.ext ((Nat.lt_one_iff.mp (a 0).isLt).trans (Nat.lt_one_iff.mp (b 0).isLt).symm)

/-- The maximum of a whole array lies below a bound exactly when every entry does. -/
theorem whole_max_le (w : S1x3x256x8960.Idx → E) (c : E) :
    (extractAt ![0, 0, 0, 0] (shapeCast S1x1x1x1 (multiReduction (F := Ideal) (φ := .f32) .maximumf [1, 2, 3] S1 w 0xFF800000#32 reduces_S1x3x256x8960_S1 (.inl rfl) rfl) shapeCasts_S1_S1x1x1x1) inpos_S1x1x1x1_p0_0_0_0 : E) ≤ c
      ↔ ∀ i, w i ≤ c := by
  unfold extractAt shapeCast
  refine Iff.trans (Reads.max_le w reduces_S1x3x256x8960_S1 (.inl rfl) rfl _ c) ?_
  exact ⟨fun h i => h i (one_place _ _), fun h i _ => h i⟩

/-- The largest absolute value lies below a bound exactly when every absolute value does. -/
theorem amax_le (c : E) : (k0_pay3 (F := Ideal) A : E) ≤ c ↔ ∀ x, max (A x) (-(A x)) ≤ c := by
  unfold k0_pay3
  refine (whole_max_le _ c).trans ?_
  have h : ∀ i, (shapeCast S1x3x256x8960 (absf (k0_pay2 (F := Ideal) A)) shapeCasts_S3x256x8960_S1x3x256x8960 i : E)
      = max (A (Shape.reshapeEquiv shapeCasts_S3x256x8960_S1x3x256x8960 i)) (-(A (Shape.reshapeEquiv shapeCasts_S3x256x8960_S1x3x256x8960 i))) :=
    fun i => rfl
  constructor
  · intro hw x
    have h1 := hw ((Shape.reshapeEquiv shapeCasts_S3x256x8960_S1x3x256x8960).symm x)
    rw [h, Equiv.apply_symm_apply] at h1
    exact h1
  · intro hx i
    rw [h]
    exact hx _

/-- The first product, scaled. -/
theorem dx_at (W : S8960x1536.Idx → E) (u : E) (a : Fin 3) (i : Fin 256) (q : Fin 1536) :
    (k0_pay7 (F := Ideal) A v W u (ix3 a i q) : E)
      = (∑ K : Fin 8960, code (A (ix3 a i K)) v * W (ix2 K q)) * (v * u) := by
  unfold k0_pay7
  refine congrArg (fun z : E => z * (v * u)) ?_
  let d := dot_S3x256x8960_S8960x1536_S3x256x1536_2_0_01_1_n_n
  refine (Ideal.matmul_constant_zero_apply (φ₁ := .bf16) (φ₂ := .bf16) d none (k0_pay6 (F := Ideal) A v) W (ix3 a i q)).trans ?_
  refine (Equiv.sum_comp (contrEquiv1 d 8960 rfl rfl).symm _).symm.trans ?_
  refine Finset.sum_congr rfl fun K _ => ?_
  have hK := contrEquiv1_symm_val d 8960 rfl rfl K
  have el : d.lhsIdx (ix3 a i q) ((contrEquiv1 d 8960 rfl rfl).symm K) = ix3 a i K := by
    funext x; apply Fin.ext
    match x with
    | ⟨0, _⟩ => rfl
    | ⟨1, _⟩ => rfl
    | ⟨2, _⟩ => exact hK
  have er : d.rhsIdx (ix3 a i q) ((contrEquiv1 d 8960 rfl rfl).symm K) = ix2 K q := by
    funext x; apply Fin.ext
    match x with
    | ⟨0, _⟩ => exact hK
    | ⟨1, _⟩ => rfl
  rw [el, er]
  rfl

/-- The new master gradient: the old one and the second product, scaled. -/
theorem mgo_at (X : S3x256x1536.Idx → E) (G : S8960x1536.Idx → E) (u : E) (K : Fin 8960) (q : Fin 1536) :
    (k0_pay1 (F := Ideal) v (k0_pay6 (F := Ideal) A v) (k0_pay8 (F := Ideal) X) G u (ix2 K q) : E)
      = G (ix2 K q) + (∑ a : Fin 3, ∑ i : Fin 256, code (A (ix3 a i K)) v * X (ix3 a i q)) * (v * u) := by
  unfold k0_pay1
  refine congrArg (fun z : E => G (ix2 K q) + z * (v * u)) ?_
  let d := dot_S3x256x8960_S3x256x1536_S8960x1536_01_01_2_2_n_n
  refine (Ideal.matmul_constant_zero_apply (φ₁ := .bf16) (φ₂ := .bf16) d none (k0_pay6 (F := Ideal) A v) X (ix2 K q)).trans ?_
  refine (Equiv.sum_comp (contrEquiv2 d 3 256 rfl rfl rfl).symm _).symm.trans ?_
  refine (Fintype.sum_prod_type _).trans ?_
  refine Finset.sum_congr rfl fun a _ => Finset.sum_congr rfl fun i _ => ?_
  have h0 := contrEquiv2_symm_fst d 3 256 rfl rfl rfl (a, i)
  have h1 := contrEquiv2_symm_snd d 3 256 rfl rfl rfl (a, i)
  have el : d.lhsIdx (ix2 K q) ((contrEquiv2 d 3 256 rfl rfl rfl).symm (a, i)) = ix3 a i K := by
    funext x; apply Fin.ext
    match x with
    | ⟨0, _⟩ => exact h0
    | ⟨1, _⟩ => exact h1
    | ⟨2, _⟩ => rfl
  have er : d.rhsIdx (ix2 K q) ((contrEquiv2 d 3 256 rfl rfl rfl).symm (a, i)) = ix3 a i q := by
    funext x; apply Fin.ext
    match x with
    | ⟨0, _⟩ => exact h0
    | ⟨1, _⟩ => exact h1
    | ⟨2, _⟩ => rfl
  rw [el, er]
  rfl

end Cert.ReferenceIdeal.Hand
-- ==== Proof.RValue.lean ====
/-
The values of the reference: what its five results hold once it has run.
-/
module

public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.Sem
open Idealize.ShloMosaic.Pipeline (Dat Cfg Window)

/-- The one element of a vector of one element. -/
def one {β : Type} (s : S1.Idx → β) : β := s (Shape.Idx.first (by decide))

variable {F : FTy → Type} [FloatOps F]
variable (m : (ℓ : Loc nD τ sig) → Buf (Elt F) ℓ) (ρ : Dev nD → PrngReg)

theorem z1 : (![0] : Fin 1 → ℕ) = fun _ => 0 := by decide
theorem z2 : (![0, 0] : Fin 2 → ℕ) = fun _ => 0 := by decide
theorem z3 : (![0, 0, 0] : Fin 3 → ℕ) = fun _ => 0 := by decide

/-! A load or a store through the whole rectangle of a buffer is of all of it. -/

theorem ld_S3x256x8960 {e : EltTy} (X : S3x256x8960.Idx → Elt F e) :
    View.ld X (Rect.unit (s := S3x256x8960) ![0, 0, 0] ![3, 256, 8960] inb_S3x256x8960_S3x256x8960_0_0_0) = X := View.ld_unit_zero (S := S3x256x8960) z3 _ X
theorem cn_S3x256x8960 {e : EltTy} (X : S3x256x8960.Idx → Elt F e) :
    View.canon [(⟨Rect.unit (s := S3x256x8960) ![0, 0, 0] ![3, 256, 8960] inb_S3x256x8960_S3x256x8960_0_0_0, X⟩ : View.Piece (Elt F) S3x256x8960 e)] = X := View.canon_unit_zero (S := S3x256x8960) z3 _ X

theorem ld_S3x256x1536 {e : EltTy} (X : S3x256x1536.Idx → Elt F e) :
    View.ld X (Rect.unit (s := S3x256x1536) ![0, 0, 0] ![3, 256, 1536] inb_S3x256x1536_S3x256x1536_0_0_0) = X := View.ld_unit_zero (S := S3x256x1536) z3 _ X
theorem cn_S3x256x1536 {e : EltTy} (X : S3x256x1536.Idx → Elt F e) :
    View.canon [(⟨Rect.unit (s := S3x256x1536) ![0, 0, 0] ![3, 256, 1536] inb_S3x256x1536_S3x256x1536_0_0_0, X⟩ : View.Piece (Elt F) S3x256x1536 e)] = X := View.canon_unit_zero (S := S3x256x1536) z3 _ X

theorem ld_S8960x1536 {e : EltTy} (X : S8960x1536.Idx → Elt F e) :
    View.ld X (Rect.unit (s := S8960x1536) ![0, 0] ![8960, 1536] inb_S8960x1536_S8960x1536_0_0) = X := View.ld_unit_zero (S := S8960x1536) z2 _ X
theorem cn_S8960x1536 {e : EltTy} (X : S8960x1536.Idx → Elt F e) :
    View.canon [(⟨Rect.unit (s := S8960x1536) ![0, 0] ![8960, 1536] inb_S8960x1536_S8960x1536_0_0, X⟩ : View.Piece (Elt F) S8960x1536 e)] = X := View.canon_unit_zero (S := S8960x1536) z2 _ X

theorem ld_S8960 {e : EltTy} (X : S8960.Idx → Elt F e) :
    View.ld X (Rect.unit (s := S8960) ![0] ![8960] inb_S8960_S8960_0) = X := View.ld_unit_zero (S := S8960) z1 _ X
theorem cn_S8960 {e : EltTy} (X : S8960.Idx → Elt F e) :
    View.canon [(⟨Rect.unit (s := S8960) ![0] ![8960] inb_S8960_S8960_0, X⟩ : View.Piece (Elt F) S8960 e)] = X := View.canon_unit_zero (S := S8960) z1 _ X

theorem ld_S1 {e : EltTy} (X : S1.Idx → Elt F e) :
    View.ld X (Rect.unit (s := S1) ![0] ![1] inb_S1_S1_0) = X := View.ld_unit_zero (S := S1) z1 _ X
theorem cn_S1 {e : EltTy} (X : S1.Idx → Elt F e) :
    View.canon [(⟨Rect.unit (s := S1) ![0] ![1] inb_S1_S1_0, X⟩ : View.Piece (Elt F) S1 e)] = X := View.canon_unit_zero (S := S1) z1 _ X

/-! What the one point leaves in each output's buffer: the payload of the inputs' blocks. -/

theorem outs_dx (c : Dev nD) (t : Fin cfg0.N) :
    (outsAt0 m c t).1 = (k0_pay7 (iblk m c 3 t) (one (iblk m c 0 t : S1.Idx → Elt F .f32)) (iblk m c 5 t) (one (iblk m c 2 t : S1.Idx → Elt F .f32)) : S3x256x1536.Idx → Elt F .bf16) := by
  unfold outsAt0 out0_A_7
  dsimp only
  rw [View.read_writes_eq_canon _ _ _ (cover0_A_7 c _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  refine (cn_S3x256x1536 _).trans ?_
  simp only [ld_S3x256x8960, ld_S3x256x1536, ld_S8960x1536]
  try rfl

theorem outs_mgo (c : Dev nD) (t : Fin cfg0.N) :
    (outsAt0 m c t).2.1 = (k0_pay1 (one (iblk m c 0 t : S1.Idx → Elt F .f32)) (k0_pay6 (iblk m c 3 t) (one (iblk m c 0 t : S1.Idx → Elt F .f32))) (k0_pay8 (iblk m c 4 t)) (iblk m c 6 t) (one (iblk m c 1 t : S1.Idx → Elt F .f32)) : S8960x1536.Idx → Elt F .f32) := by
  unfold outsAt0 out0_A_8
  dsimp only
  rw [View.read_writes_eq_canon _ _ _ (cover0_A_8 c _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  refine (cn_S8960x1536 _).trans ?_
  simp only [ld_S3x256x8960, ld_S3x256x1536, ld_S8960x1536]
  try rfl

theorem outs_bias (c : Dev nD) (t : Fin cfg0.N) :
    (outsAt0 m c t).2.2.1 = (k0_pay5 (iblk m c 3 t) : S8960.Idx → Elt F .f32) := by
  unfold outsAt0 out0_A_9
  dsimp only
  rw [View.read_writes_eq_canon _ _ _ (cover0_A_9 c _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  refine (cn_S8960 _).trans ?_
  simp only [ld_S3x256x8960, ld_S3x256x1536, ld_S8960x1536]
  try rfl

theorem outs_amax (c : Dev nD) (t : Fin cfg0.N) :
    (outsAt0 m c t).2.2.2.1 = (fun _ => k0_pay3 (iblk m c 3 t) : S1.Idx → Elt F .f32) := by
  unfold outsAt0 out0_A_10
  dsimp only
  rw [View.read_writes_eq_canon _ _ _ (cover0_A_10 c _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  refine (cn_S1 _).trans ?_
  simp only [ld_S3x256x8960, ld_S3x256x1536, ld_S8960x1536]
  try rfl

theorem outs_codes (c : Dev nD) (t : Fin cfg0.N) :
    (outsAt0 m c t).2.2.2.2 = (k0_pay4 (iblk m c 3 t) (one (iblk m c 0 t : S1.Idx → Elt F .f32)) : S3x256x8960.Idx → Elt F .fp8e5m2) := by
  unfold outsAt0 out0_A_11
  dsimp only
  rw [View.read_writes_eq_canon _ _ _ (cover0_A_11 c _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  refine (cn_S3x256x8960 _).trans ?_
  simp only [ld_S3x256x8960, ld_S3x256x1536, ld_S8960x1536]
  try rfl

end Cert.ReferenceIdeal.Hand
end
-- ==== Proof.RArr.lean ====
/-
The reference's arrays: what its call finds in them, and what they hold once it has run.
-/
module

public import proofs.«01_k».proof.Proof.RValue
public import proofs.«01_k».proof.Proof.Whole

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F]
variable (m : (ℓ : Loc nD τ sig) → Buf (Elt F) ℓ) (ρ : Dev nD → PrngReg)

/-! The inputs' blocks are their whole arrays, and the scales are the launch's. -/

theorem blk_3 (c : Dev nD) (t : Fin cfg0.N) :
    (iblk m c 3 t : S3x256x8960.Idx → Elt F .bf16) = m ((c : Thread nD τ).loc main_arg0) :=
  (Whole.read_blk (Memref.whole main_arg0) _ _ _ _ (Memref.isWhole_whole _) (hstage0_3 0) t (Elt F) (V m c main_arg0)).trans (V_main_arg0 m c)

theorem blk_4 (c : Dev nD) (t : Fin cfg0.N) :
    (iblk m c 4 t : S3x256x1536.Idx → Elt F .fp8e4m3) = m ((c : Thread nD τ).loc main_arg2) :=
  (Whole.read_blk (Memref.whole main_arg2) _ _ _ _ (Memref.isWhole_whole _) (hstage0_4 0) t (Elt F) (V m c main_arg2)).trans (V_main_arg2 m c)

theorem blk_5 (c : Dev nD) (t : Fin cfg0.N) :
    (iblk m c 5 t : S8960x1536.Idx → Elt F .fp8e4m3) = m ((c : Thread nD τ).loc main_arg4) :=
  (Whole.read_blk (Memref.whole main_arg4) _ _ _ _ (Memref.isWhole_whole _) (hstage0_5 0) t (Elt F) (V m c main_arg4)).trans (V_main_arg4 m c)

theorem blk_6 (c : Dev nD) (t : Fin cfg0.N) :
    (iblk m c 6 t : S8960x1536.Idx → Elt F .f32) = m ((c : Thread nD τ).loc main_arg6) :=
  (Whole.read_blk (Memref.whole main_arg6) _ _ _ _ (Memref.isWhole_whole _) (hstage0_6 0) t (Elt F) (V m c main_arg6)).trans (V_main_arg6 m c)

theorem V_main_v0 (c : Dev nD) : V m c main_v0 = fun _ => (m ((c : Thread nD τ).loc main_arg1) : S_.Idx → Elt F .f32) (fun a => a.elim0) := by
  change StableHlo.after hostOps0 (fun b => m (c, b)) (Proc.devRef .tc main_v0) = _
  after_results
  funext x
  exact congrArg (m ((c : Thread nD τ).loc main_arg1) : S_.Idx → Elt F .f32) (funext fun a => a.elim0)

theorem blk_0 (c : Dev nD) (t : Fin cfg0.N) :
    one (iblk m c 0 t : S1.Idx → Elt F .f32) = (m ((c : Thread nD τ).loc main_arg1) : S_.Idx → Elt F .f32) (fun a => a.elim0) := by
  have e : (iblk m c 0 t : S1.Idx → Elt F .f32) = V m c main_v0 :=
    Whole.read_blk (Memref.whole main_v0) _ _ _ _ (Memref.isWhole_whole _) (hstage0_0 0) t (Elt F) (V m c main_v0)
  rw [e, V_main_v0]; rfl

theorem V_main_v1 (c : Dev nD) : V m c main_v1 = fun _ => (m ((c : Thread nD τ).loc main_arg3) : S_.Idx → Elt F .f32) (fun a => a.elim0) := by
  change StableHlo.after hostOps0 (fun b => m (c, b)) (Proc.devRef .tc main_v1) = _
  after_results
  funext x
  exact congrArg (m ((c : Thread nD τ).loc main_arg3) : S_.Idx → Elt F .f32) (funext fun a => a.elim0)

theorem blk_1 (c : Dev nD) (t : Fin cfg0.N) :
    one (iblk m c 1 t : S1.Idx → Elt F .f32) = (m ((c : Thread nD τ).loc main_arg3) : S_.Idx → Elt F .f32) (fun a => a.elim0) := by
  have e : (iblk m c 1 t : S1.Idx → Elt F .f32) = V m c main_v1 :=
    Whole.read_blk (Memref.whole main_v1) _ _ _ _ (Memref.isWhole_whole _) (hstage0_1 0) t (Elt F) (V m c main_v1)
  rw [e, V_main_v1]; rfl

theorem V_main_v2 (c : Dev nD) : V m c main_v2 = fun _ => (m ((c : Thread nD τ).loc main_arg5) : S_.Idx → Elt F .f32) (fun a => a.elim0) := by
  change StableHlo.after hostOps0 (fun b => m (c, b)) (Proc.devRef .tc main_v2) = _
  after_results
  funext x
  exact congrArg (m ((c : Thread nD τ).loc main_arg5) : S_.Idx → Elt F .f32) (funext fun a => a.elim0)

theorem blk_2 (c : Dev nD) (t : Fin cfg0.N) :
    one (iblk m c 2 t : S1.Idx → Elt F .f32) = (m ((c : Thread nD τ).loc main_arg5) : S_.Idx → Elt F .f32) (fun a => a.elim0) := by
  have e : (iblk m c 2 t : S1.Idx → Elt F .f32) = V m c main_v2 :=
    Whole.read_blk (Memref.whole main_v2) _ _ _ _ (Memref.isWhole_whole _) (hstage0_2 0) t (Elt F) (V m c main_v2)
  rw [e, V_main_v2]; rfl

/-! The five arrays after the run. -/

theorem arr_dx (c : Dev nD) : (dats m 0 c).arrAt 7 cfg0.N = (outsAt0 m c t0_0).1 := by
  refine (dats m 0 c).arrAt_eq_of_cover 7 _ (fun t _ => ?_) (fun i => ⟨t0_0, flush0_7 _, Whole.mem_blk (Memref.whole main_v3_0) _ _ _ _ (Memref.isWhole_whole _) (hstage0_7 0) t0_0 i⟩)
  obtain rfl : t = t0_0 := fin_N0 t
  refine Eq.trans ?_ (Whole.read_blk (Memref.whole main_v3_0) _ _ _ _ (Memref.isWhole_whole _) (hstage0_7 0) t0_0 (Elt F) _).symm
  unfold Dat.flushed
  rw [after0_7]
  rfl

theorem arr_mgo (c : Dev nD) : (dats m 0 c).arrAt 8 cfg0.N = (outsAt0 m c t0_0).2.1 := by
  refine (dats m 0 c).arrAt_eq_of_cover 8 _ (fun t _ => ?_) (fun i => ⟨t0_0, flush0_8 _, Whole.mem_blk (Memref.whole main_v3_1) _ _ _ _ (Memref.isWhole_whole _) (hstage0_8 0) t0_0 i⟩)
  obtain rfl : t = t0_0 := fin_N0 t
  refine Eq.trans ?_ (Whole.read_blk (Memref.whole main_v3_1) _ _ _ _ (Memref.isWhole_whole _) (hstage0_8 0) t0_0 (Elt F) _).symm
  unfold Dat.flushed
  rw [after0_8]
  rfl

theorem arr_bias (c : Dev nD) : (dats m 0 c).arrAt 9 cfg0.N = (outsAt0 m c t0_0).2.2.1 := by
  refine (dats m 0 c).arrAt_eq_of_cover 9 _ (fun t _ => ?_) (fun i => ⟨t0_0, flush0_9 _, Whole.mem_blk (Memref.whole main_v3_2) _ _ _ _ (Memref.isWhole_whole _) (hstage0_9 0) t0_0 i⟩)
  obtain rfl : t = t0_0 := fin_N0 t
  refine Eq.trans ?_ (Whole.read_blk (Memref.whole main_v3_2) _ _ _ _ (Memref.isWhole_whole _) (hstage0_9 0) t0_0 (Elt F) _).symm
  unfold Dat.flushed
  rw [after0_9]
  rfl

theorem arr_amax (c : Dev nD) : (dats m 0 c).arrAt 10 cfg0.N = (outsAt0 m c t0_0).2.2.2.1 := by
  refine (dats m 0 c).arrAt_eq_of_cover 10 _ (fun t _ => ?_) (fun i => ⟨t0_0, flush0_10 _, Whole.mem_blk (Memref.whole main_v3_3) _ _ _ _ (Memref.isWhole_whole _) (hstage0_10 0) t0_0 i⟩)
  obtain rfl : t = t0_0 := fin_N0 t
  refine Eq.trans ?_ (Whole.read_blk (Memref.whole main_v3_3) _ _ _ _ (Memref.isWhole_whole _) (hstage0_10 0) t0_0 (Elt F) _).symm
  unfold Dat.flushed
  rw [after0_10]
  rfl

theorem arr_codes (c : Dev nD) : (dats m 0 c).arrAt 11 cfg0.N = (outsAt0 m c t0_0).2.2.2.2 := by
  refine (dats m 0 c).arrAt_eq_of_cover 11 _ (fun t _ => ?_) (fun i => ⟨t0_0, flush0_11 _, Whole.mem_blk (Memref.whole main_v3_4) _ _ _ _ (Memref.isWhole_whole _) (hstage0_11 0) t0_0 i⟩)
  obtain rfl : t = t0_0 := fin_N0 t
  refine Eq.trans ?_ (Whole.read_blk (Memref.whole main_v3_4) _ _ _ _ (Memref.isWhole_whole _) (hstage0_11 0) t0_0 (Elt F) _).symm
  unfold Dat.flushed
  rw [after0_11]
  rfl

/-! The run: the five results and the arguments. -/

/-- The scale argument of rank zero, as the number it is. -/
def num (x : S_.Idx → Elt F .f32) : Elt F .f32 := x fun a => a.elim0

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v3_0) = k0_pay7 (m ((c.tc : Thread nD τ).loc main_arg0)) (num (m ((c.tc : Thread nD τ).loc main_arg1))) (m ((c.tc : Thread nD τ).loc main_arg4)) (num (m ((c.tc : Thread nD τ).loc main_arg5)))
      ∧ r.2.mem ((c.tc : Thread nD τ).loc main_v3_1) = k0_pay1 (num (m ((c.tc : Thread nD τ).loc main_arg1))) (k0_pay6 (m ((c.tc : Thread nD τ).loc main_arg0)) (num (m ((c.tc : Thread nD τ).loc main_arg1)))) (k0_pay8 (m ((c.tc : Thread nD τ).loc main_arg2))) (m ((c.tc : Thread nD τ).loc main_arg6)) (num (m ((c.tc : Thread nD τ).loc main_arg3)))
      ∧ r.2.mem ((c.tc : Thread nD τ).loc main_v3_2) = k0_pay5 (m ((c.tc : Thread nD τ).loc main_arg0))
      ∧ r.2.mem ((c.tc : Thread nD τ).loc main_v4) = (fun _ => k0_pay3 (m ((c.tc : Thread nD τ).loc main_arg0)))
      ∧ r.2.mem ((c.tc : Thread nD τ).loc main_v3_4) = k0_pay4 (m ((c.tc : Thread nD τ).loc main_arg0)) (num (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  have h0 := (h c).1
  refine ⟨(h0 7).trans ?_, (h0 8).trans ?_, (h0 9).trans ?_, ?_, (h0 11).trans ?_,
    (h0 3).trans (((dats m 0 c).arrAt_in 3 rfl _).trans ((A_eq m c 3).trans (V_main_arg0 m c))),
    ((h c).2 main_arg1 (Pipeline.mem_restRefs_of main_arg1 (by decide) (by decide))).trans (W_main_arg1 m (dats m) c),
    (h0 4).trans (((dats m 0 c).arrAt_in 4 rfl _).trans ((A_eq m c 4).trans (V_main_arg2 m c))),
    ((h c).2 main_arg3 (Pipeline.mem_restRefs_of main_arg3 (by decide) (by decide))).trans (W_main_arg3 m (dats m) c),
    (h0 5).trans (((dats m 0 c).arrAt_in 5 rfl _).trans ((A_eq m c 5).trans (V_main_arg4 m c))),
    ((h c).2 main_arg5 (Pipeline.mem_restRefs_of main_arg5 (by decide) (by decide))).trans (W_main_arg5 m (dats m) c),
    (h0 6).trans (((dats m 0 c).arrAt_in 6 rfl _).trans ((A_eq m c 6).trans (V_main_arg6 m c)))⟩
  · rw [arr_dx, outs_dx, blk_3, blk_0, blk_5, blk_2]; rfl
  · rw [arr_mgo, outs_mgo, blk_3, blk_0, blk_4, blk_6, blk_1]; rfl
  · rw [arr_bias, outs_bias, blk_3]
  · refine ((h c).2 main_v4 (Pipeline.mem_restRefs_of main_v4 (by decide) (by decide))).trans ?_
    unfold Pipeline.afterTail₀
    change StableHlo.after hostOps1 _ (Proc.devRef .tc main_v4) = _
    after_results
    have e : Pipeline.withArrays spec0 c (V0 m c) (fun w => (dats m 0 c).arrAt w cfg0.N) (Proc.devRef .tc main_v3_3) = (dats m 0 c).arrAt 10 cfg0.N :=
      Pipeline.withArrays_arr spec0 launch0.win.arr_inj c (V0 m c) _ 10
    rw [arr_amax, outs_amax, blk_3] at e
    exact funext fun i => congrFun e _
  · rw [arr_codes, outs_codes, blk_3, blk_0]; rfl

end Cert.ReferenceIdeal.Hand
end
-- ==== Proof.Algebraic.lean ====
/-
  The idealized kernel and the reference, run from the same arguments over the extended reals, leave the same
  five results.
-/
module

public import proofs.«01_k».proof.Defs
public import proofs.«01_k».proof.Proof.KIWhole
public import proofs.«01_k».proof.Proof.RIdeal
public import proofs.«01_k».proof.Proof.RArr

@[expose] public section

noncomputable section

namespace Cert.Proof

open Idealize.ShloMosaic Idealize.ShloMosaic.TcCoe Idealize.SL.Sem Idealize.ShloMosaic.ValueIdx
open Cert.KernelIdeal.Hand (a0 a1 a2 a3 a4 a5 a6 dxG mgoG biasG amaxG codesG)

local notation "E" => EReal

variable (m : (ℓ : Loc Cert.KernelIdeal.nD Cert.KernelIdeal.τ Cert.KernelIdeal.sig) → Buf (Elt Ideal) ℓ) (c : Dev Cert.KernelIdeal.nD)

/-- The kernel's five results: the gradient of the input, the new master gradient, the sums over the rows, the largest
    absolute value and the codes. -/
abbrev dxK : Cert.KernelIdeal.S3x256x1536.Idx → E := shapeCast Cert.KernelIdeal.S3x256x1536 (dxG m c) Cert.KernelIdeal.Facts₀.shapeCasts_S768x1536_S3x256x1536
abbrev biasK : Cert.KernelIdeal.S8960.Idx → E := shapeCast Cert.KernelIdeal.S8960 (biasG m c) Cert.KernelIdeal.Facts₀.shapeCasts_S70x128_S8960
abbrev amaxK : Cert.KernelIdeal.S_.Idx → E := shapeCast Cert.KernelIdeal.S_ (amaxG m c) Cert.KernelIdeal.Facts₀.shapeCasts_S1_S_
abbrev codesK : Cert.KernelIdeal.S3x256x8960.Idx → E := shapeCast Cert.KernelIdeal.S3x256x8960 (codesG m c) Cert.KernelIdeal.Facts₀.shapeCasts_S768x8960_S3x256x8960

/-- The gradient of the input is the reference's. -/
theorem dx_eq : Cert.ReferenceIdeal.Gen.k0_pay7 (F := Ideal) (a0 m c) (a1 m c) (a4 m c) (a5 m c) = dxK m c := by
  funext x
  have e : x = ix3 (n0 := 3) (n1 := 256) (n2 := 1536) (x 0) (x 1) (x 2) := eq_ix3 x
  rw [e]
  exact (Cert.ReferenceIdeal.Hand.dx_at (a0 m c) (a1 m c) (a4 m c) (a5 m c) (x 0) (x 1) (x 2)).trans
    (Cert.KernelIdeal.Hand.dx_at m c (x 0) (x 1) (x 2)).symm

/-- The new master gradient is the reference's. -/
theorem mgo_eq : Cert.ReferenceIdeal.Gen.k0_pay1 (F := Ideal) (a1 m c) (Cert.ReferenceIdeal.Gen.k0_pay6 (F := Ideal) (a0 m c) (a1 m c))
    (Cert.ReferenceIdeal.Gen.k0_pay8 (F := Ideal) (a2 m c)) (a6 m c) (a3 m c) = mgoG m c := by
  funext x
  have e : x = ix2 (n0 := 8960) (n1 := 1536) (x 0) (x 1) := eq_ix2 x
  rw [e]
  exact (Cert.ReferenceIdeal.Hand.mgo_at (a0 m c) (a1 m c) (a2 m c) (a6 m c) (a3 m c) (x 0) (x 1)).trans
    (Cert.KernelIdeal.Hand.mgo_at m c (x 0) (x 1)).symm

/-- The sums over the rows are the reference's. -/
theorem bias_eq : Cert.ReferenceIdeal.Gen.k0_pay5 (F := Ideal) (a0 m c) = biasK m c := by
  funext x
  have e : x = ix1 (n := 8960) (x 0) := eq_ix1 x
  rw [e]
  exact (Cert.ReferenceIdeal.Hand.bias_at (a0 m c) (x 0)).trans (Cert.KernelIdeal.Hand.bias_at m c (x 0)).symm

/-- The largest absolute value is the reference's: both have the same upper bounds. -/
theorem amax_eq : (fun _ => Cert.ReferenceIdeal.Gen.k0_pay3 (F := Ideal) (a0 m c)) = amaxK m c := by
  funext x
  have h : ∀ t : E, (Cert.ReferenceIdeal.Gen.k0_pay3 (F := Ideal) (a0 m c) : E) ≤ t ↔ amaxK m c x ≤ t := fun t =>
    (Cert.ReferenceIdeal.Hand.amax_le (a0 m c) t).trans (Cert.KernelIdeal.Hand.amax_le m c x t).symm
  exact le_antisymm (α := E) ((h _).mpr le_rfl) ((h _).mp le_rfl)

/-- The codes are the reference's. -/
theorem codes_eq : Cert.ReferenceIdeal.Gen.k0_pay4 (F := Ideal) (a0 m c) (a1 m c) = codesK m c := by
  funext x
  have e : x = ix3 (n0 := 3) (n1 := 256) (n2 := 8960) (x 0) (x 1) (x 2) := eq_ix3 x
  rw [e]
  exact (Cert.ReferenceIdeal.Hand.codes_at (a0 m c) (a1 m c) _).trans (Cert.KernelIdeal.Hand.codes_at m c (x 0) (x 1) (x 2)).symm

/-- From the same arguments, both programs run, leave the kernel's five results and keep their arguments. -/
theorem algebraic : Cert.algebraic_KernelIdeal_ReferenceIdeal := by
  intro m g m' g' _ hagree
  refine ⟨dxK m, mgoG m, biasK m, amaxK m, codesK m, Cert.KernelIdeal.Hand.run m g, ?_⟩
  refine (θ_run _ _ _).mono (fun r h c => ?_) (Cert.ReferenceIdeal.Hand.run m' g')
  obtain ⟨r0, r1, r2, r3, r4, rest⟩ := h c
  obtain ⟨h0, h1, h2, h3, h4, h5, h6⟩ := hagree c
  refine ⟨r0.trans ?_, r1.trans ?_, r2.trans ?_, r3.trans ?_, r4.trans ?_, rest⟩
  · rw [h0, h1, h4, h5]; exact dx_eq m c
  · rw [h0, h1, h2, h3, h6]; exact mgo_eq m c
  · rw [h0]; exact bias_eq m c
  · rw [h0]; exact amax_eq m c
  · rw [h0, h1]; exact codes_eq m c

end Cert.Proof

end
-- ==== Proof.lean ====
/-
  The claims of this certificate, proved. The kernel's runs are `Proof.KFrame` (as printed) and `Proof.KIFrame`
  (its idealization); the reference's run is generated; `Proof.Algebraic` shows the results equal.
-/
module

public import proofs.«01_k».proof.Defs
public import proofs.«01_k».proof.Proof.KFrame
public import proofs.«01_k».proof.Proof.KIFrame
public import proofs.«01_k».proof.Proof.Algebraic
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The kernel as printed, its idealization and the reference each run to the end and keep their arguments; the
    idealization changes nothing else; and the idealized kernel's five results are the reference's. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial, algebraic⟩

end Cert.Proof

end
